-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "softmax_scale" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x16384x4096 : Shape := ⟨3, ![2, 16384, 4096]⟩
abbrev S2x16384x1024 : Shape := ⟨3, ![2, 16384, 1024]⟩
abbrev S2x17 : Shape := ⟨2, ![2, 17]⟩
abbrev S_ : Shape := ⟨0, ![]⟩

class Facts : Prop where
  bitsLt_bf16_f32 : FTy.bits .bf16 < FTy.bits .f32
  bcast_S_S2x16384x4096 : S_.BroadcastsInDim S2x16384x4096 (![] : Fin 0 → Fin S2x16384x4096.rank)
  bcast_S_S2x16384x1024 : S_.BroadcastsInDim S2x16384x1024 (![] : Fin 0 → Fin S2x16384x1024.rank)

variable [Facts]

def fn {F : FTy → Type} [FloatOps F] (main_arg0 : FVec F S2x16384x4096 .bf16) (main_arg1 : FVec F S2x16384x1024 .bf16) (main_arg2 : FVec F S2x16384x1024 .bf16) (main_arg3 : IVec S2x17 32) : IVec S2x16384x4096 1 × IVec S2x16384x1024 1 × IVec S2x16384x1024 1 :=
  let main_v0 : FVec F S2x16384x4096 .f32 := (extf .f32 · bitsLt_bf16_f32) main_arg0
  let main_v1 : FVec F S2x16384x4096 .f32 := Host.absf main_v0
  let main_cst : FVec F S_ .f32 := constant S_ .f32 0x7F7F0000#32
  let main_v2 : FVec F S2x16384x4096 .f32 := broadcastInDim S2x16384x4096 ![] bcast_S_S2x16384x4096 main_cst
  let main_v3 : IVec S2x16384x4096 1 := cmpf .ole main_v1 main_v2
  let main_v4 : FVec F S2x16384x1024 .f32 := (extf .f32 · bitsLt_bf16_f32) main_arg1
  let main_v5 : FVec F S2x16384x1024 .f32 := Host.absf main_v4
  let main_cst_0 : FVec F S_ .f32 := constant S_ .f32 0x7F7F0000#32
  let main_v6 : FVec F S2x16384x1024 .f32 := broadcastInDim S2x16384x1024 ![] bcast_S_S2x16384x1024 main_cst_0
  let main_v7 : IVec S2x16384x1024 1 := cmpf .ole main_v5 main_v6
  let main_v8 : FVec F S2x16384x1024 .f32 := (extf .f32 · bitsLt_bf16_f32) main_arg2
  let main_v9 : FVec F S2x16384x1024 .f32 := Host.absf main_v8
  let main_cst_1 : FVec F S_ .f32 := constant S_ .f32 0x7F7F0000#32
  let main_v10 : FVec F S2x16384x1024 .f32 := broadcastInDim S2x16384x1024 ![] bcast_S_S2x16384x1024 main_cst_1
  let main_v11 : IVec S2x16384x1024 1 := cmpf .ole main_v9 main_v10
  (main_v3, main_v7, main_v11)
-- ==== Kernel.lean ====
abbrev S2x16384x4096 : Shape := ⟨3, ![2, 16384, 4096]⟩
abbrev S2x16384x1024 : Shape := ⟨3, ![2, 16384, 1024]⟩
abbrev S2x17 : Shape := ⟨2, ![2, 17]⟩
abbrev S2x8x4x16384 : Shape := ⟨4, ![2, 8, 4, 16384]⟩
abbrev S2x8x128x128 : Shape := ⟨4, ![2, 8, 128, 128]⟩
abbrev S2x8x1x128 : Shape := ⟨4, ![2, 8, 1, 128]⟩
abbrev S1x128x512 : Shape := ⟨3, ![1, 128, 512]⟩
abbrev S1x16384x128 : Shape := ⟨3, ![1, 16384, 128]⟩
abbrev S1x1x4x128 : Shape := ⟨4, ![1, 1, 4, 128]⟩
abbrev S1x1x128x128 : Shape := ⟨4, ![1, 1, 128, 128]⟩
abbrev S1x1x1x128 : Shape := ⟨4, ![1, 1, 1, 128]⟩
abbrev S16384x128 : Shape := ⟨2, ![16384, 128]⟩
abbrev S128x128x128 : Shape := ⟨3, ![128, 128, 128]⟩
abbrev S128x128 : Shape := ⟨2, ![128, 128]⟩
abbrev S512x128 : Shape := ⟨2, ![512, 128]⟩
abbrev S1x128 : Shape := ⟨2, ![1, 128]⟩
abbrev S1x128x128 : Shape := ⟨3, ![1, 128, 128]⟩
abbrev S128 : Shape := ⟨1, ![128]⟩
abbrev S128x1 : Shape := ⟨2, ![128, 1]⟩
abbrev S4x128 : Shape := ⟨2, ![4, 128]⟩
abbrev S1x512 : Shape := ⟨2, ![1, 512]⟩
abbrev S1x1 : Shape := ⟨2, ![1, 1]⟩
abbrev S128x512 : Shape := ⟨2, ![128, 512]⟩
abbrev S512 : Shape := ⟨1, ![512]⟩

abbrev nBuf : Space → Nat
  | .hbm => 10
  | .vmem => 24
  | .smem => 1
  | _ => 0

abbrev bufTy : (tb : Table) → Fin (tcTables nBuf tb) → BufTy
  | .hbm, ⟨0, _⟩ => ⟨S2x16384x4096, .bf16⟩
  | .hbm, ⟨1, _⟩ => ⟨S2x16384x1024, .bf16⟩
  | .hbm, ⟨2, _⟩ => ⟨S2x16384x1024, .bf16⟩
  | .hbm, ⟨3, _⟩ => ⟨S2x16384x4096, .bf16⟩
  | .hbm, ⟨4, _⟩ => ⟨S2x16384x4096, .fp8e4m3⟩
  | .hbm, ⟨5, _⟩ => ⟨S2x8x4x16384, .f32⟩
  | .hbm, ⟨6, _⟩ => ⟨S2x16384x1024, .fp8e4m3⟩
  | .hbm, ⟨7, _⟩ => ⟨S2x8x128x128, .f32⟩
  | .hbm, ⟨8, _⟩ => ⟨S2x16384x1024, .fp8e4m3⟩
  | .hbm, ⟨9, _⟩ => ⟨S2x8x1x128, .f32⟩
  | .local _ .vmem, ⟨0, _⟩ => ⟨S1x128x512, .bf16⟩
  | .local _ .vmem, ⟨1, _⟩ => ⟨S1x128x512, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .fp8e4m3⟩
  | .local _ .vmem, ⟨9, _⟩ => ⟨S1x128x512, .fp8e4m3⟩
  | .local _ .vmem, ⟨10, _⟩ => ⟨S1x1x4x128, .f32⟩
  | .local _ .vmem, ⟨11, _⟩ => ⟨S1x1x4x128, .f32⟩
  | .local _ .vmem, ⟨12, _⟩ => ⟨S1x16384x128, .fp8e4m3⟩
  | .local _ .vmem, ⟨13, _⟩ => ⟨S1x16384x128, .fp8e4m3⟩
  | .local _ .vmem, ⟨14, _⟩ => ⟨S1x1x128x128, .f32⟩
  | .local _ .vmem, ⟨15, _⟩ => ⟨S1x1x128x128, .f32⟩
  | .local _ .vmem, ⟨16, _⟩ => ⟨S1x16384x128, .fp8e4m3⟩
  | .local _ .vmem, ⟨17, _⟩ => ⟨S1x16384x128, .fp8e4m3⟩
  | .local _ .vmem, ⟨18, _⟩ => ⟨S1x1x1x128, .f32⟩
  | .local _ .vmem, ⟨19, _⟩ => ⟨S1x1x1x128, .f32⟩
  | .local _ .vmem, ⟨20, _⟩ => ⟨S16384x128, .f32⟩
  | .local _ .vmem, ⟨21, _⟩ => ⟨S128x128x128, .fp8e4m3⟩
  | .local _ .vmem, ⟨22, _⟩ => ⟨S128x128, .f32⟩
  | .local _ .vmem, ⟨23, _⟩ => ⟨S512x128, .fp8e4m3⟩
  | .local _ .smem, ⟨0, _⟩ => ⟨S2x17, .i32⟩
  | _, _ => ⟨S2x16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 8, 128], ![false, false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_220 : BitVec 32 := 0#32
  let c128_i32_221 : BitVec 32 := 128#32
  let v740 : BitVec 32 := Scalar.addi c0_i32_220 c128_i32_221
  let c1_i32_222 : BitVec 32 := 1#32
  ⟨c0_i32_220, v740, c1_i32_222⟩
def k0_mult1 (k0_t1 : Fin k0_t1_loop.trips) : BitVec 32 :=
  let c0_i32_220 : BitVec 32 := 0#32
  let c1_i32_222 : BitVec 32 := 1#32
  let arg18 : BitVec 32 := Scf.iv c0_i32_220 c1_i32_222 k0_t1
  let c128_i32_271 : BitVec 32 := 128#32
  let v848 : BitVec 32 := Scalar.muli arg18 c128_i32_271
  v848
def k0_off1 (k0_t1 : Fin k0_t1_loop.trips) : Fin 3 → Nat :=
  let c0_272 : Index := 0#32
  let c0_i32_220 : BitVec 32 := 0#32
  let c1_i32_222 : BitVec 32 := 1#32
  let arg18 : BitVec 32 := Scf.iv c0_i32_220 c1_i32_222 k0_t1
  let c128_i32_271 : BitVec 32 := 128#32
  let v848 : BitVec 32 := Scalar.muli arg18 c128_i32_271
  let v849 : BitVec 32 := v848
  let v850 : Index := Scalar.indexCast v849
  let c0_273 : Index := 0#32
  ![0, v850.toNat, 0]
def k0_off2 (k0_t1 : Fin k0_t1_loop.trips) : Fin 2 → Nat :=
  let c0_i32_220 : BitVec 32 := 0#32
  let c1_i32_222 : BitVec 32 := 1#32
  let arg18 : BitVec 32 := Scf.iv c0_i32_220 c1_i32_222 k0_t1
  let c128_i32_271 : BitVec 32 := 128#32
  let v848 : BitVec 32 := Scalar.muli arg18 c128_i32_271
  let v849 : BitVec 32 := v848
  let v951 : Index := Scalar.indexCast v849
  let c0_309 : Index := 0#32
  ![v951.toNat, 0]
@[reducible] def k0_t2_loop : Scf.Loop 32 :=
  let c0_i32_267 : BitVec 32 := 0#32
  let c128_i32_268 : BitVec 32 := 128#32
  let v847 : BitVec 32 := Scalar.addi c0_i32_267 c128_i32_268
  let c1_i32_269 : BitVec 32 := 1#32
  ⟨c0_i32_267, v847, c1_i32_269⟩
def k0_mult2 (k0_t2 : Fin k0_t2_loop.trips) : BitVec 32 :=
  let c0_i32_267 : BitVec 32 := 0#32
  let c1_i32_269 : BitVec 32 := 1#32
  let arg18 : BitVec 32 := Scf.iv c0_i32_267 c1_i32_269 k0_t2
  let c128_i32_271 : BitVec 32 := 128#32
  let v848 : BitVec 32 := Scalar.muli arg18 c128_i32_271
  v848
def k0_off3 (k0_t2 : Fin k0_t2_loop.trips) : Fin 3 → Nat :=
  let c0_272 : Index := 0#32
  let c0_i32_267 : BitVec 32 := 0#32
  let c1_i32_269 : BitVec 32 := 1#32
  let arg18 : BitVec 32 := Scf.iv c0_i32_267 c1_i32_269 k0_t2
  let c128_i32_271 : BitVec 32 := 128#32
  let v848 : BitVec 32 := Scalar.muli arg18 c128_i32_271
  let v849 : BitVec 32 := v848
  let v850 : Index := Scalar.indexCast v849
  let c0_273 : Index := 0#32
  ![0, v850.toNat, 0]
def k0_off4 (k0_t2 : Fin k0_t2_loop.trips) : Fin 3 → Nat :=
  let c0_i32_267 : BitVec 32 := 0#32
  let c1_i32_269 : BitVec 32 := 1#32
  let arg18 : BitVec 32 := Scf.iv c0_i32_267 c1_i32_269 k0_t2
  let v873 : Index := Scalar.indexCast arg18
  let c0_280 : Index := 0#32
  let c0_281 : Index := 0#32
  ![v873.toNat, 0, 0]
def k0_off5 (i : grid0.Coords) : Fin 2 → Nat :=
  let arg0 : BitVec 32 := BitVec.ofNat 32 (i 0).val
  let v482 : Index := Scalar.indexCast arg0
  let c0_176 : Index := 0#32
  ![v482.toNat, 0]
def k0_off6 (i : grid0.Coords) : Fin 2 → Nat :=
  let arg0 : BitVec 32 := BitVec.ofNat 32 (i 0).val
  let v492 : Index := Scalar.indexCast arg0
  let c1 : Index := 1#32
  ![v492.toNat, 1]
def k0_off7 (i : grid0.Coords) : Fin 2 → Nat :=
  let arg0 : BitVec 32 := BitVec.ofNat 32 (i 0).val
  let v502 : Index := Scalar.indexCast arg0
  let c2 : Index := 2#32
  ![v502.toNat, 2]
def k0_off8 (i : grid0.Coords) : Fin 2 → Nat :=
  let arg0 : BitVec 32 := BitVec.ofNat 32 (i 0).val
  let v512 : Index := Scalar.indexCast arg0
  let c3 : Index := 3#32
  ![v512.toNat, 3]
def k0_off9 (i : grid0.Coords) : Fin 2 → Nat :=
  let arg0 : BitVec 32 := BitVec.ofNat 32 (i 0).val
  let v522 : Index := Scalar.indexCast arg0
  let c4 : Index := 4#32
  ![v522.toNat, 4]
def k0_off10 (i : grid0.Coords) : Fin 2 → Nat :=
  let arg0 : BitVec 32 := BitVec.ofNat 32 (i 0).val
  let v532 : Index := Scalar.indexCast arg0
  let c5 : Index := 5#32
  ![v532.toNat, 5]
def k0_off11 (i : grid0.Coords) : Fin 2 → Nat :=
  let arg0 : BitVec 32 := BitVec.ofNat 32 (i 0).val
  let v542 : Index := Scalar.indexCast arg0
  let c6 : Index := 6#32
  ![v542.toNat, 6]
def k0_off12 (i : grid0.Coords) : Fin 2 → Nat :=
  let arg0 : BitVec 32 := BitVec.ofNat 32 (i 0).val
  let v552 : Index := Scalar.indexCast arg0
  let c7 : Index := 7#32
  ![v552.toNat, 7]
def k0_off13 (i : grid0.Coords) : Fin 2 → Nat :=
  let arg0 : BitVec 32 := BitVec.ofNat 32 (i 0).val
  let v562 : Index := Scalar.indexCast arg0
  let c8 : Index := 8#32
  ![v562.toNat, 8]
def k0_off14 (i : grid0.Coords) : Fin 2 → Nat :=
  let arg0 : BitVec 32 := BitVec.ofNat 32 (i 0).val
  let v572 : Index := Scalar.indexCast arg0
  let c9 : Index := 9#32
  ![v572.toNat, 9]
def k0_off15 (i : grid0.Coords) : Fin 2 → Nat :=
  let arg0 : BitVec 32 := BitVec.ofNat 32 (i 0).val
  let v582 : Index := Scalar.indexCast arg0
  let c10 : Index := 10#32
  ![v582.toNat, 10]
def k0_off16 (i : grid0.Coords) : Fin 2 → Nat :=
  let arg0 : BitVec 32 := BitVec.ofNat 32 (i 0).val
  let v592 : Index := Scalar.indexCast arg0
  let c11 : Index := 11#32
  ![v592.toNat, 11]
def k0_off17 (i : grid0.Coords) : Fin 2 → Nat :=
  let arg0 : BitVec 32 := BitVec.ofNat 32 (i 0).val
  let v602 : Index := Scalar.indexCast arg0
  let c12 : Index := 12#32
  ![v602.toNat, 12]
def k0_off18 (i : grid0.Coords) : Fin 2 → Nat :=
  let arg0 : BitVec 32 := BitVec.ofNat 32 (i 0).val
  let v612 : Index := Scalar.indexCast arg0
  let c13 : Index := 13#32
  ![v612.toNat, 13]
def k0_off19 (i : grid0.Coords) : Fin 2 → Nat :=
  let arg0 : BitVec 32 := BitVec.ofNat 32 (i 0).val
  let v622 : Index := Scalar.indexCast arg0
  let c14 : Index := 14#32
  ![v622.toNat, 14]
def k0_off20 (i : grid0.Coords) : Fin 2 → Nat :=
  let arg0 : BitVec 32 := BitVec.ofNat 32 (i 0).val
  let v632 : Index := Scalar.indexCast arg0
  let c15 : Index := 15#32
  ![v632.toNat, 15]
def k0_off21 (i : grid0.Coords) : Fin 2 → Nat :=
  let arg0 : BitVec 32 := BitVec.ofNat 32 (i 0).val
  let v642 : Index := Scalar.indexCast arg0
  let c16 : Index := 16#32
  ![v642.toNat, 16]
@[reducible] def k0_t3_loop (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) : Scf.Loop 32 :=
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_186 : BitVec 32 := 1#32
  let v671 : BitVec 32 := Scalar.addi arg2 c1_i32_186
  let v673 : BitVec 32 := Scalar.subi v671 v670
  let c1_i32_188 : BitVec 32 := 1#32
  let v675 : BitVec 32 := Scalar.divsi v673 c1_i32_188
  let v676 : BitVec 32 := Scalar.muli v675 c1_i32_188
  let v677 : BitVec 32 := Scalar.addi v670 v676
  let c1_i32_189 : BitVec 32 := 1#32
  ⟨v670, v677, c1_i32_189⟩

def k0_mult3 (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_t3 : Fin (k0_t3_loop i v483 v493 v503 v513 v523 v533 v543 v553 v563 v573 v583 v593 v603 v613 v623 v633 v643).trips) : BitVec 32 :=
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_189 : BitVec 32 := 1#32
  let arg18 : BitVec 32 := Scf.iv v670 c1_i32_189 k0_t3
  let c128_i32_218 : BitVec 32 := 128#32
  let v737 : BitVec 32 := Scalar.muli arg18 c128_i32_218
  v737
def k0_off22 (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_t3 : Fin (k0_t3_loop i v483 v493 v503 v513 v523 v533 v543 v553 v563 v573 v583 v593 v603 v613 v623 v633 v643).trips) : Fin 3 → Nat :=
  let c0_219 : Index := 0#32
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_189 : BitVec 32 := 1#32
  let arg18 : BitVec 32 := Scf.iv v670 c1_i32_189 k0_t3
  let c128_i32_218 : BitVec 32 := 128#32
  let v737 : BitVec 32 := Scalar.muli arg18 c128_i32_218
  let v738 : BitVec 32 := v737
  let v739 : Index := Scalar.indexCast v738
  let c0_220 : Index := 0#32
  ![0, v739.toNat, 0]
def k0_off23 (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_t3 : Fin (k0_t3_loop i v483 v493 v503 v513 v523 v533 v543 v553 v563 v573 v583 v593 v603 v613 v623 v633 v643).trips) : Fin 2 → Nat :=
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_189 : BitVec 32 := 1#32
  let arg18 : BitVec 32 := Scf.iv v670 c1_i32_189 k0_t3
  let c128_i32_218 : BitVec 32 := 128#32
  let v737 : BitVec 32 := Scalar.muli arg18 c128_i32_218
  let v738 : BitVec 32 := v737
  let v744 : Index := Scalar.indexCast v738
  let c0_224 : Index := 0#32
  ![v744.toNat, 0]
@[reducible] def k0_t4_loop (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) : Scf.Loop 32 :=
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_186 : BitVec 32 := 1#32
  let v671 : BitVec 32 := Scalar.addi arg2 c1_i32_186
  let v673 : BitVec 32 := Scalar.subi v671 v670
  let c1_i32_188 : BitVec 32 := 1#32
  let v675 : BitVec 32 := Scalar.divsi v673 c1_i32_188
  let v676 : BitVec 32 := Scalar.muli v675 c1_i32_188
  let v677 : BitVec 32 := Scalar.addi v670 v676
  let v674 : BitVec 32 := Scalar.addi v670 v673
  let c1_i32_190 : BitVec 32 := 1#32
  ⟨v677, v674, c1_i32_190⟩
def k0_mult4 (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_t4 : Fin (k0_t4_loop i v483 v493 v503 v513 v523 v533 v543 v553 v563 v573 v583 v593 v603 v613 v623 v633 v643).trips) : BitVec 32 :=
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_186 : BitVec 32 := 1#32
  let v671 : BitVec 32 := Scalar.addi arg2 c1_i32_186
  let v673 : BitVec 32 := Scalar.subi v671 v670
  let c1_i32_188 : BitVec 32 := 1#32
  let v675 : BitVec 32 := Scalar.divsi v673 c1_i32_188
  let v676 : BitVec 32 := Scalar.muli v675 c1_i32_188
  let v677 : BitVec 32 := Scalar.addi v670 v676
  let c1_i32_190 : BitVec 32 := 1#32
  let arg18 : BitVec 32 := Scf.iv v677 c1_i32_190 k0_t4
  let c128_i32_218 : BitVec 32 := 128#32
  let v737 : BitVec 32 := Scalar.muli arg18 c128_i32_218
  v737
def k0_off24 (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_t4 : Fin (k0_t4_loop i v483 v493 v503 v513 v523 v533 v543 v553 v563 v573 v583 v593 v603 v613 v623 v633 v643).trips) : Fin 3 → Nat :=
  let c0_219 : Index := 0#32
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_186 : BitVec 32 := 1#32
  let v671 : BitVec 32 := Scalar.addi arg2 c1_i32_186
  let v673 : BitVec 32 := Scalar.subi v671 v670
  let c1_i32_188 : BitVec 32 := 1#32
  let v675 : BitVec 32 := Scalar.divsi v673 c1_i32_188
  let v676 : BitVec 32 := Scalar.muli v675 c1_i32_188
  let v677 : BitVec 32 := Scalar.addi v670 v676
  let c1_i32_190 : BitVec 32 := 1#32
  let arg18 : BitVec 32 := Scf.iv v677 c1_i32_190 k0_t4
  let c128_i32_218 : BitVec 32 := 128#32
  let v737 : BitVec 32 := Scalar.muli arg18 c128_i32_218
  let v738 : BitVec 32 := v737
  let v739 : Index := Scalar.indexCast v738
  let c0_220 : Index := 0#32
  ![0, v739.toNat, 0]
def k0_off25 (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_t4 : Fin (k0_t4_loop i v483 v493 v503 v513 v523 v533 v543 v553 v563 v573 v583 v593 v603 v613 v623 v633 v643).trips) : Fin 2 → Nat :=
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_186 : BitVec 32 := 1#32
  let v671 : BitVec 32 := Scalar.addi arg2 c1_i32_186
  let v673 : BitVec 32 := Scalar.subi v671 v670
  let c1_i32_188 : BitVec 32 := 1#32
  let v675 : BitVec 32 := Scalar.divsi v673 c1_i32_188
  let v676 : BitVec 32 := Scalar.muli v675 c1_i32_188
  let v677 : BitVec 32 := Scalar.addi v670 v676
  let c1_i32_190 : BitVec 32 := 1#32
  let arg18 : BitVec 32 := Scf.iv v677 c1_i32_190 k0_t4
  let c128_i32_218 : BitVec 32 := 128#32
  let v737 : BitVec 32 := Scalar.muli arg18 c128_i32_218
  let v738 : BitVec 32 := v737
  let v744 : Index := Scalar.indexCast v738
  let c0_224 : Index := 0#32
  ![v744.toNat, 0]
@[reducible] def k0_t5_loop (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) : Scf.Loop 32 :=
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_192 : BitVec 32 := 1#32
  let v683 : BitVec 32 := Scalar.addi arg2 c1_i32_192
  let v686 : BitVec 32 := Scalar.subi v683 v670
  let c1_i32_195 : BitVec 32 := 1#32
  let v688 : BitVec 32 := Scalar.divsi v686 c1_i32_195
  let v689 : BitVec 32 := Scalar.muli v688 c1_i32_195
  let v690 : BitVec 32 := Scalar.addi v670 v689
  let c1_i32_196 : BitVec 32 := 1#32
  ⟨v670, v690, c1_i32_196⟩
def k0_mult5 (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_t5 : Fin (k0_t5_loop i v483 v493 v503 v513 v523 v533 v543 v553 v563 v573 v583 v593 v603 v613 v623 v633 v643).trips) : BitVec 32 :=
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_196 : BitVec 32 := 1#32
  let arg18 : BitVec 32 := Scf.iv v670 c1_i32_196 k0_t5
  let c128_i32_218 : BitVec 32 := 128#32
  let v737 : BitVec 32 := Scalar.muli arg18 c128_i32_218
  v737
def k0_off26 (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_t5 : Fin (k0_t5_loop i v483 v493 v503 v513 v523 v533 v543 v553 v563 v573 v583 v593 v603 v613 v623 v633 v643).trips) : Fin 3 → Nat :=
  let c0_219 : Index := 0#32
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_196 : BitVec 32 := 1#32
  let arg18 : BitVec 32 := Scf.iv v670 c1_i32_196 k0_t5
  let c128_i32_218 : BitVec 32 := 128#32
  let v737 : BitVec 32 := Scalar.muli arg18 c128_i32_218
  let v738 : BitVec 32 := v737
  let v739 : Index := Scalar.indexCast v738
  let c0_220 : Index := 0#32
  ![0, v739.toNat, 0]
def k0_off27 (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_t5 : Fin (k0_t5_loop i v483 v493 v503 v513 v523 v533 v543 v553 v563 v573 v583 v593 v603 v613 v623 v633 v643).trips) : Fin 2 → Nat :=
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_196 : BitVec 32 := 1#32
  let arg18 : BitVec 32 := Scf.iv v670 c1_i32_196 k0_t5
  let c128_i32_218 : BitVec 32 := 128#32
  let v737 : BitVec 32 := Scalar.muli arg18 c128_i32_218
  let v738 : BitVec 32 := v737
  let v744 : Index := Scalar.indexCast v738
  let c0_224 : Index := 0#32
  ![v744.toNat, 0]
def k0_off28 (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_t5 : Fin (k0_t5_loop i v483 v493 v503 v513 v523 v533 v543 v553 v563 v573 v583 v593 v603 v613 v623 v633 v643).trips) : Fin 3 → Nat :=
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_196 : BitVec 32 := 1#32
  let arg18 : BitVec 32 := Scf.iv v670 c1_i32_196 k0_t5
  let v771 : Index := Scalar.indexCast arg18
  let c0_229 : Index := 0#32
  let c0_230 : Index := 0#32
  ![v771.toNat, 0, 0]
@[reducible] def k0_t6_loop (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) : Scf.Loop 32 :=
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_192 : BitVec 32 := 1#32
  let v683 : BitVec 32 := Scalar.addi arg2 c1_i32_192
  let v686 : BitVec 32 := Scalar.subi v683 v670
  let c1_i32_195 : BitVec 32 := 1#32
  let v688 : BitVec 32 := Scalar.divsi v686 c1_i32_195
  let v689 : BitVec 32 := Scalar.muli v688 c1_i32_195
  let v690 : BitVec 32 := Scalar.addi v670 v689
  let v687 : BitVec 32 := Scalar.addi v670 v686
  let c1_i32_197 : BitVec 32 := 1#32
  ⟨v690, v687, c1_i32_197⟩
def k0_mult6 (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_t6 : Fin (k0_t6_loop i v483 v493 v503 v513 v523 v533 v543 v553 v563 v573 v583 v593 v603 v613 v623 v633 v643).trips) : BitVec 32 :=
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_192 : BitVec 32 := 1#32
  let v683 : BitVec 32 := Scalar.addi arg2 c1_i32_192
  let v686 : BitVec 32 := Scalar.subi v683 v670
  let c1_i32_195 : BitVec 32 := 1#32
  let v688 : BitVec 32 := Scalar.divsi v686 c1_i32_195
  let v689 : BitVec 32 := Scalar.muli v688 c1_i32_195
  let v690 : BitVec 32 := Scalar.addi v670 v689
  let c1_i32_197 : BitVec 32 := 1#32
  let arg18 : BitVec 32 := Scf.iv v690 c1_i32_197 k0_t6
  let c128_i32_218 : BitVec 32 := 128#32
  let v737 : BitVec 32 := Scalar.muli arg18 c128_i32_218
  v737
def k0_off29 (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_t6 : Fin (k0_t6_loop i v483 v493 v503 v513 v523 v533 v543 v553 v563 v573 v583 v593 v603 v613 v623 v633 v643).trips) : Fin 3 → Nat :=
  let c0_219 : Index := 0#32
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_192 : BitVec 32 := 1#32
  let v683 : BitVec 32 := Scalar.addi arg2 c1_i32_192
  let v686 : BitVec 32 := Scalar.subi v683 v670
  let c1_i32_195 : BitVec 32 := 1#32
  let v688 : BitVec 32 := Scalar.divsi v686 c1_i32_195
  let v689 : BitVec 32 := Scalar.muli v688 c1_i32_195
  let v690 : BitVec 32 := Scalar.addi v670 v689
  let c1_i32_197 : BitVec 32 := 1#32
  let arg18 : BitVec 32 := Scf.iv v690 c1_i32_197 k0_t6
  let c128_i32_218 : BitVec 32 := 128#32
  let v737 : BitVec 32 := Scalar.muli arg18 c128_i32_218
  let v738 : BitVec 32 := v737
  let v739 : Index := Scalar.indexCast v738
  let c0_220 : Index := 0#32
  ![0, v739.toNat, 0]
def k0_off30 (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_t6 : Fin (k0_t6_loop i v483 v493 v503 v513 v523 v533 v543 v553 v563 v573 v583 v593 v603 v613 v623 v633 v643).trips) : Fin 2 → Nat :=
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_192 : BitVec 32 := 1#32
  let v683 : BitVec 32 := Scalar.addi arg2 c1_i32_192
  let v686 : BitVec 32 := Scalar.subi v683 v670
  let c1_i32_195 : BitVec 32 := 1#32
  let v688 : BitVec 32 := Scalar.divsi v686 c1_i32_195
  let v689 : BitVec 32 := Scalar.muli v688 c1_i32_195
  let v690 : BitVec 32 := Scalar.addi v670 v689
  let c1_i32_197 : BitVec 32 := 1#32
  let arg18 : BitVec 32 := Scf.iv v690 c1_i32_197 k0_t6
  let c128_i32_218 : BitVec 32 := 128#32
  let v737 : BitVec 32 := Scalar.muli arg18 c128_i32_218
  let v738 : BitVec 32 := v737
  let v744 : Index := Scalar.indexCast v738
  let c0_224 : Index := 0#32
  ![v744.toNat, 0]
def k0_off31 (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_t6 : Fin (k0_t6_loop i v483 v493 v503 v513 v523 v533 v543 v553 v563 v573 v583 v593 v603 v613 v623 v633 v643).trips) : Fin 3 → Nat :=
  let arg2 : BitVec 32 := BitVec.ofNat 32 (i 2).val
  let c128_i32 : BitVec 32 := 128#32
  let v3 : BitVec 32 := Scalar.muli arg2 c128_i32
  let v649 : BitVec 1 := Scalar.cmpi .sle v643 v3
  let v639 : BitVec 1 := Scalar.cmpi .sle v633 v3
  let v629 : BitVec 1 := Scalar.cmpi .sle v623 v3
  let v619 : BitVec 1 := Scalar.cmpi .sle v613 v3
  let v609 : BitVec 1 := Scalar.cmpi .sle v603 v3
  let v599 : BitVec 1 := Scalar.cmpi .sle v593 v3
  let v589 : BitVec 1 := Scalar.cmpi .sle v583 v3
  let v579 : BitVec 1 := Scalar.cmpi .sle v573 v3
  let v569 : BitVec 1 := Scalar.cmpi .sle v563 v3
  let v559 : BitVec 1 := Scalar.cmpi .sle v553 v3
  let v549 : BitVec 1 := Scalar.cmpi .sle v543 v3
  let v539 : BitVec 1 := Scalar.cmpi .sle v533 v3
  let v529 : BitVec 1 := Scalar.cmpi .sle v523 v3
  let v519 : BitVec 1 := Scalar.cmpi .sle v513 v3
  let v509 : BitVec 1 := Scalar.cmpi .sle v503 v3
  let v499 : BitVec 1 := Scalar.cmpi .sle v493 v3
  let v489 : BitVec 1 := Scalar.cmpi .sle v483 v3
  let c0_i32_177 : BitVec 32 := 0#32
  let v490 : BitVec 32 := Scalar.maxsi c0_i32_177 v483
  let c0_i32_178 : BitVec 32 := 0#32
  let v491 : BitVec 32 := Scalar.select v489 v490 c0_i32_178
  let v500 : BitVec 32 := Scalar.maxsi v491 v493
  let v501 : BitVec 32 := Scalar.select v499 v500 v491
  let v510 : BitVec 32 := Scalar.maxsi v501 v503
  let v511 : BitVec 32 := Scalar.select v509 v510 v501
  let v520 : BitVec 32 := Scalar.maxsi v511 v513
  let v521 : BitVec 32 := Scalar.select v519 v520 v511
  let v530 : BitVec 32 := Scalar.maxsi v521 v523
  let v531 : BitVec 32 := Scalar.select v529 v530 v521
  let v540 : BitVec 32 := Scalar.maxsi v531 v533
  let v541 : BitVec 32 := Scalar.select v539 v540 v531
  let v550 : BitVec 32 := Scalar.maxsi v541 v543
  let v551 : BitVec 32 := Scalar.select v549 v550 v541
  let v560 : BitVec 32 := Scalar.maxsi v551 v553
  let v561 : BitVec 32 := Scalar.select v559 v560 v551
  let v570 : BitVec 32 := Scalar.maxsi v561 v563
  let v571 : BitVec 32 := Scalar.select v569 v570 v561
  let v580 : BitVec 32 := Scalar.maxsi v571 v573
  let v581 : BitVec 32 := Scalar.select v579 v580 v571
  let v590 : BitVec 32 := Scalar.maxsi v581 v583
  let v591 : BitVec 32 := Scalar.select v589 v590 v581
  let v600 : BitVec 32 := Scalar.maxsi v591 v593
  let v601 : BitVec 32 := Scalar.select v599 v600 v591
  let v610 : BitVec 32 := Scalar.maxsi v601 v603
  let v611 : BitVec 32 := Scalar.select v609 v610 v601
  let v620 : BitVec 32 := Scalar.maxsi v611 v613
  let v621 : BitVec 32 := Scalar.select v619 v620 v611
  let v630 : BitVec 32 := Scalar.maxsi v621 v623
  let v631 : BitVec 32 := Scalar.select v629 v630 v621
  let v640 : BitVec 32 := Scalar.maxsi v631 v633
  let v641 : BitVec 32 := Scalar.select v639 v640 v631
  let v650 : BitVec 32 := Scalar.maxsi v641 v643
  let v651 : BitVec 32 := Scalar.select v649 v650 v641
  let c0_i32_180 : BitVec 32 := 0#32
  let v655 : BitVec 1 := Scalar.cmpi .sgt v651 c0_i32_180
  let v656 : BitVec 32 := Scalar.extui v655
  let c0_i32_181 : BitVec 32 := 0#32
  let v657 : BitVec 1 := Scalar.cmpi .slt v651 c0_i32_181
  let v658 : BitVec 32 := Scalar.extui v657
  let v659 : BitVec 32 := Scalar.subi v656 v658
  let c128_i32_179 : BitVec 32 := 128#32
  let c0_i32_182 : BitVec 32 := 0#32
  let v660 : BitVec 1 := Scalar.cmpi .sgt c128_i32_179 c0_i32_182
  let v661 : BitVec 32 := Scalar.extui v660
  let c0_i32_183 : BitVec 32 := 0#32
  let v662 : BitVec 1 := Scalar.cmpi .slt c128_i32_179 c0_i32_183
  let v663 : BitVec 32 := Scalar.extui v662
  let v664 : BitVec 32 := Scalar.subi v661 v663
  let v665 : BitVec 1 := Scalar.cmpi .ne v659 v664
  let v666 : BitVec 32 := Scalar.remsi v651 c128_i32_179
  let c0_i32_184 : BitVec 32 := 0#32
  let v667 : BitVec 1 := Scalar.cmpi .ne v666 c0_i32_184
  let v668 : BitVec 1 := Scalar.andi v665 v667
  let v654 : BitVec 32 := Scalar.divsi v651 c128_i32_179
  let c1_i32_185 : BitVec 32 := 1#32
  let v669 : BitVec 32 := Scalar.subi v654 c1_i32_185
  let v670 : BitVec 32 := Scalar.select v668 v669 v654
  let c1_i32_192 : BitVec 32 := 1#32
  let v683 : BitVec 32 := Scalar.addi arg2 c1_i32_192
  let v686 : BitVec 32 := Scalar.subi v683 v670
  let c1_i32_195 : BitVec 32 := 1#32
  let v688 : BitVec 32 := Scalar.divsi v686 c1_i32_195
  let v689 : BitVec 32 := Scalar.muli v688 c1_i32_195
  let v690 : BitVec 32 := Scalar.addi v670 v689
  let c1_i32_197 : BitVec 32 := 1#32
  let arg18 : BitVec 32 := Scf.iv v690 c1_i32_197 k0_t6
  let v771 : Index := Scalar.indexCast arg18
  let c0_229 : Index := 0#32
  let c0_230 : Index := 0#32
  ![v771.toNat, 0, 0]

def k0_chk1 (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) : Prop :=
  ((k0_t3_loop i v483 v493 v503 v513 v523 v533 v543 v553 v563 v573 v583 v593 v603 v613 v623 v633 v643).OK) ∧
  (∀ k0_t3 : Fin (k0_t3_loop i v483 v493 v503 v513 v523 v533 v543 v553 v563 v573 v583 v593 v603 v613 v623 v633 v643).trips, 128 ∣ (k0_mult3 i v483 v493 v503 v513 v523 v533 v543 v553 v563 v573 v583 v593 v603 v613 v623 v633 v643 k0_t3).toNat) ∧
  (∀ k0_t3 : Fin (k0_t3_loop i v483 v493 v503 v513 v523 v533 v543 v553 v563 v573 v583 v593 v603 v613 v623 v633 v643).trips, ∀ a, (k0_off22 i v483 v493 v503 v513 v523 v533 v543 v553 v563 v573 v583 v593 v603 v613 v623 v633 v643 k0_t3) a + S1x128x128.size a ≤ S1x16384x128.size a) ∧
  (∀ k0_t3 : Fin (k0_t3_loop i v483 v493 v503 v513 v523 v533 v543 v553 v563 v573 v583 v593 v603 v613 v623 v633 v643).trips, ∀ a, (k0_off23 i v483 v493 v503 v513 v523 v533 v543 v553 v563 v573 v583 v593 v603 v613 v623 v633 v643 k0_t3) a + S128x128.size a ≤ S16384x128.size a) ∧
  ((k0_t4_loop i v483 v493 v503 v513 v523 v533 v543 v553 v563 v573 v583 v593 v603 v613 v623 v633 v643).OK) ∧
  (∀ k0_t4 : Fin (k0_t4_loop i v483 v493 v503 v513 v523 v533 v543 v553 v563 v573 v583 v593 v603 v613 v623 v633 v643).trips, 128 ∣ (k0_mult4 i v483 v493 v503 v513 v523 v533 v543 v553 v563 v573 v583 v593 v603 v613 v623 v633 v643 k0_t4).toNat) ∧
  (∀ k0_t4 : Fin (k0_t4_loop i v483 v493 v503 v513 v523 v533 v543 v553 v563 v573 v583 v593 v603 v613 v623 v633 v643).trips, ∀ a, (k0_off24 i v483 v493 v503 v513 v523 v533 v543 v553 v563 v573 v583 v593 v603 v613 v623 v633 v643 k0_t4) a + S1x128x128.size a ≤ S1x16384x128.size a) ∧
  (∀ k0_t4 : Fin (k0_t4_loop i v483 v493 v503 v513 v523 v533 v543 v553 v563 v573 v583 v593 v603 v613 v623 v633 v643).trips, ∀ a, (k0_off25 i v483 v493 v503 v513 v523 v533 v543 v553 v563 v573 v583 v593 v603 v613 v623 v633 v643 k0_t4) a + S128x128.size a ≤ S16384x128.size a) ∧
  ((k0_t5_loop i v483 v493 v503 v513 v523 v533 v543 v553 v563 v573 v583 v593 v603 v613 v623 v633 v643).OK) ∧
  (∀ k0_t5 : Fin (k0_t5_loop i v483 v493 v503 v513 v523 v533 v543 v553 v563 v573 v583 v593 v603 v613 v623 v633 v643).trips, 128 ∣ (k0_mult5 i v483 v493 v503 v513 v523 v533 v543 v553 v563 v573 v583 v593 v603 v613 v623 v633 v643 k0_t5).toNat) ∧
  (∀ k0_t5 : Fin (k0_t5_loop i v483 v493 v503 v513 v523 v533 v543 v553 v563 v573 v583 v593 v603 v613 v623 v633 v643).trips, ∀ a, (k0_off26 i v483 v493 v503 v513 v523 v533 v543 v553 v563 v573 v583 v593 v603 v613 v623 v633 v643 k0_t5) a + S1x128x128.size a ≤ S1x16384x128.size a) ∧
  (∀ k0_t5 : Fin (k0_t5_loop i v483 v493 v503 v513 v523 v533 v543 v553 v563 v573 v583 v593 v603 v613 v623 v633 v643).trips, ∀ a, (k0_off27 i v483 v493 v503 v513 v523 v533 v543 v553 v563 v573 v583 v593 v603 v613 v623 v633 v643 k0_t5) a + S128x128.size a ≤ S16384x128.size a) ∧
  (∀ k0_t5 : Fin (k0_t5_loop i v483 v493 v503 v513 v523 v533 v543 v553 v563 v573 v583 v593 v603 v613 v623 v633 v643).trips, ∀ a, (k0_off28 i v483 v493 v503 v513 v523 v533 v543 v553 v563 v573 v583 v593 v603 v613 v623 v633 v643 k0_t5) a + S1x128x128.size a ≤ S128x128x128.size a) ∧
  ((k0_t6_loop i v483 v493 v503 v513 v523 v533 v543 v553 v563 v573 v583 v593 v603 v613 v623 v633 v643).OK) ∧
  (∀ k0_t6 : Fin (k0_t6_loop i v483 v493 v503 v513 v523 v533 v543 v553 v563 v573 v583 v593 v603 v613 v623 v633 v643).trips, 128 ∣ (k0_mult6 i v483 v493 v503 v513 v523 v533 v543 v553 v563 v573 v583 v593 v603 v613 v623 v633 v643 k0_t6).toNat) ∧
  (∀ k0_t6 : Fin (k0_t6_loop i v483 v493 v503 v513 v523 v533 v543 v553 v563 v573 v583 v593 v603 v613 v623 v633 v643).trips, ∀ a, (k0_off29 i v483 v493 v503 v513 v523 v533 v543 v553 v563 v573 v583 v593 v603 v613 v623 v633 v643 k0_t6) a + S1x128x128.size a ≤ S1x16384x128.size a) ∧
  (∀ k0_t6 : Fin (k0_t6_loop i v483 v493 v503 v513 v523 v533 v543 v553 v563 v573 v583 v593 v603 v613 v623 v633 v643).trips, ∀ a, (k0_off30 i v483 v493 v503 v513 v523 v533 v543 v553 v563 v573 v583 v593 v603 v613 v623 v633 v643 k0_t6) a + S128x128.size a ≤ S16384x128.size a) ∧
  (∀ k0_t6 : Fin (k0_t6_loop i v483 v493 v503 v513 v523 v533 v543 v553 v563 v573 v583 v593 v603 v613 v623 v633 v643).trips, ∀ a, (k0_off31 i v483 v493 v503 v513 v523 v533 v543 v553 v563 v573 v583 v593 v603 v613 v623 v633 v643 k0_t6) a + S1x128x128.size a ≤ S128x128x128.size a)
theorem k0_t3_ok : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643), (k0_t3_loop i v483 v493 v503 v513 v523 v533 v543 v553 v563 v573 v583 v593 v603 v613 v623 v633 v643).OK := fun i v483 v493 v503 v513 v523 v533 v543 v553 v563 v573 v583 v593 v603 v613 v623 v633 v643 k0_hw1 => k0_hw1.1
theorem k0_mult3_dvd : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643) (k0_t3 : Fin (k0_t3_loop i v483 v493 v503 v513 v523 v533 v543 v553 v563 v573 v583 v593 v603 v613 v623 v633 v643).trips), 128 ∣ (k0_mult3 i v483 v493 v503 v513 v523 v533 v543 v553 v563 v573 v583 v593 v603 v613 v623 v633 v643 k0_t3).toNat := fun i v483 v493 v503 v513 v523 v533 v543 v553 v563 v573 v583 v593 v603 v613 v623 v633 v643 k0_hw1 k0_t3 => k0_hw1.2.1 k0_t3
theorem k0_off22_inb : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643) (k0_t3 : Fin (k0_t3_loop i v483 v493 v503 v513 v523 v533 v543 v553 v563 v573 v583 v593 v603 v613 v623 v633 v643).trips), ∀ a, (k0_off22 i v483 v493 v503 v513 v523 v533 v543 v553 v563 v573 v583 v593 v603 v613 v623 v633 v643 k0_t3) a + S1x128x128.size a ≤ S1x16384x128.size a := fun i v483 v493 v503 v513 v523 v533 v543 v553 v563 v573 v583 v593 v603 v613 v623 v633 v643 k0_hw1 k0_t3 => k0_hw1.2.2.1 k0_t3
theorem k0_off23_inb : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643) (k0_t3 : Fin (k0_t3_loop i v483 v493 v503 v513 v523 v533 v543 v553 v563 v573 v583 v593 v603 v613 v623 v633 v643).trips), ∀ a, (k0_off23 i v483 v493 v503 v513 v523 v533 v543 v553 v563 v573 v583 v593 v603 v613 v623 v633 v643 k0_t3) a + S128x128.size a ≤ S16384x128.size a := fun i v483 v493 v503 v513 v523 v533 v543 v553 v563 v573 v583 v593 v603 v613 v623 v633 v643 k0_hw1 k0_t3 => k0_hw1.2.2.2.1 k0_t3
theorem k0_t4_ok : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643), (k0_t4_loop i v483 v493 v503 v513 v523 v533 v543 v553 v563 v573 v583 v593 v603 v613 v623 v633 v643).OK := fun i v483 v493 v503 v513 v523 v533 v543 v553 v563 v573 v583 v593 v603 v613 v623 v633 v643 k0_hw1 => k0_hw1.2.2.2.2.1
theorem k0_mult4_dvd : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643) (k0_t4 : Fin (k0_t4_loop i v483 v493 v503 v513 v523 v533 v543 v553 v563 v573 v583 v593 v603 v613 v623 v633 v643).trips), 128 ∣ (k0_mult4 i v483 v493 v503 v513 v523 v533 v543 v553 v563 v573 v583 v593 v603 v613 v623 v633 v643 k0_t4).toNat := fun i v483 v493 v503 v513 v523 v533 v543 v553 v563 v573 v583 v593 v603 v613 v623 v633 v643 k0_hw1 k0_t4 => k0_hw1.2.2.2.2.2.1 k0_t4
theorem k0_off24_inb : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643) (k0_t4 : Fin (k0_t4_loop i v483 v493 v503 v513 v523 v533 v543 v553 v563 v573 v583 v593 v603 v613 v623 v633 v643).trips), ∀ a, (k0_off24 i v483 v493 v503 v513 v523 v533 v543 v553 v563 v573 v583 v593 v603 v613 v623 v633 v643 k0_t4) a + S1x128x128.size a ≤ S1x16384x128.size a := fun i v483 v493 v503 v513 v523 v533 v543 v553 v563 v573 v583 v593 v603 v613 v623 v633 v643 k0_hw1 k0_t4 => k0_hw1.2.2.2.2.2.2.1 k0_t4
theorem k0_off25_inb : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643) (k0_t4 : Fin (k0_t4_loop i v483 v493 v503 v513 v523 v533 v543 v553 v563 v573 v583 v593 v603 v613 v623 v633 v643).trips), ∀ a, (k0_off25 i v483 v493 v503 v513 v523 v533 v543 v553 v563 v573 v583 v593 v603 v613 v623 v633 v643 k0_t4) a + S128x128.size a ≤ S16384x128.size a := fun i v483 v493 v503 v513 v523 v533 v543 v553 v563 v573 v583 v593 v603 v613 v623 v633 v643 k0_hw1 k0_t4 => k0_hw1.2.2.2.2.2.2.2.1 k0_t4
theorem k0_t5_ok : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643), (k0_t5_loop i v483 v493 v503 v513 v523 v533 v543 v553 v563 v573 v583 v593 v603 v613 v623 v633 v643).OK := fun i v483 v493 v503 v513 v523 v533 v543 v553 v563 v573 v583 v593 v603 v613 v623 v633 v643 k0_hw1 => k0_hw1.2.2.2.2.2.2.2.2.1
theorem k0_mult5_dvd : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643) (k0_t5 : Fin (k0_t5_loop i v483 v493 v503 v513 v523 v533 v543 v553 v563 v573 v583 v593 v603 v613 v623 v633 v643).trips), 128 ∣ (k0_mult5 i v483 v493 v503 v513 v523 v533 v543 v553 v563 v573 v583 v593 v603 v613 v623 v633 v643 k0_t5).toNat := fun i v483 v493 v503 v513 v523 v533 v543 v553 v563 v573 v583 v593 v603 v613 v623 v633 v643 k0_hw1 k0_t5 => k0_hw1.2.2.2.2.2.2.2.2.2.1 k0_t5
theorem k0_off26_inb : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643) (k0_t5 : Fin (k0_t5_loop i v483 v493 v503 v513 v523 v533 v543 v553 v563 v573 v583 v593 v603 v613 v623 v633 v643).trips), ∀ a, (k0_off26 i v483 v493 v503 v513 v523 v533 v543 v553 v563 v573 v583 v593 v603 v613 v623 v633 v643 k0_t5) a + S1x128x128.size a ≤ S1x16384x128.size a := fun i v483 v493 v503 v513 v523 v533 v543 v553 v563 v573 v583 v593 v603 v613 v623 v633 v643 k0_hw1 k0_t5 => k0_hw1.2.2.2.2.2.2.2.2.2.2.1 k0_t5
theorem k0_off27_inb : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643) (k0_t5 : Fin (k0_t5_loop i v483 v493 v503 v513 v523 v533 v543 v553 v563 v573 v583 v593 v603 v613 v623 v633 v643).trips), ∀ a, (k0_off27 i v483 v493 v503 v513 v523 v533 v543 v553 v563 v573 v583 v593 v603 v613 v623 v633 v643 k0_t5) a + S128x128.size a ≤ S16384x128.size a := fun i v483 v493 v503 v513 v523 v533 v543 v553 v563 v573 v583 v593 v603 v613 v623 v633 v643 k0_hw1 k0_t5 => k0_hw1.2.2.2.2.2.2.2.2.2.2.2.1 k0_t5
theorem k0_off28_inb : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643) (k0_t5 : Fin (k0_t5_loop i v483 v493 v503 v513 v523 v533 v543 v553 v563 v573 v583 v593 v603 v613 v623 v633 v643).trips), ∀ a, (k0_off28 i v483 v493 v503 v513 v523 v533 v543 v553 v563 v573 v583 v593 v603 v613 v623 v633 v643 k0_t5) a + S1x128x128.size a ≤ S128x128x128.size a := fun i v483 v493 v503 v513 v523 v533 v543 v553 v563 v573 v583 v593 v603 v613 v623 v633 v643 k0_hw1 k0_t5 => k0_hw1.2.2.2.2.2.2.2.2.2.2.2.2.1 k0_t5
theorem k0_t6_ok : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643), (k0_t6_loop i v483 v493 v503 v513 v523 v533 v543 v553 v563 v573 v583 v593 v603 v613 v623 v633 v643).OK := fun i v483 v493 v503 v513 v523 v533 v543 v553 v563 v573 v583 v593 v603 v613 v623 v633 v643 k0_hw1 => k0_hw1.2.2.2.2.2.2.2.2.2.2.2.2.2.1
theorem k0_mult6_dvd : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643) (k0_t6 : Fin (k0_t6_loop i v483 v493 v503 v513 v523 v533 v543 v553 v563 v573 v583 v593 v603 v613 v623 v633 v643).trips), 128 ∣ (k0_mult6 i v483 v493 v503 v513 v523 v533 v543 v553 v563 v573 v583 v593 v603 v613 v623 v633 v643 k0_t6).toNat := fun i v483 v493 v503 v513 v523 v533 v543 v553 v563 v573 v583 v593 v603 v613 v623 v633 v643 k0_hw1 k0_t6 => k0_hw1.2.2.2.2.2.2.2.2.2.2.2.2.2.2.1 k0_t6
theorem k0_off29_inb : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643) (k0_t6 : Fin (k0_t6_loop i v483 v493 v503 v513 v523 v533 v543 v553 v563 v573 v583 v593 v603 v613 v623 v633 v643).trips), ∀ a, (k0_off29 i v483 v493 v503 v513 v523 v533 v543 v553 v563 v573 v583 v593 v603 v613 v623 v633 v643 k0_t6) a + S1x128x128.size a ≤ S1x16384x128.size a := fun i v483 v493 v503 v513 v523 v533 v543 v553 v563 v573 v583 v593 v603 v613 v623 v633 v643 k0_hw1 k0_t6 => k0_hw1.2.2.2.2.2.2.2.2.2.2.2.2.2.2.2.1 k0_t6
theorem k0_off30_inb : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643) (k0_t6 : Fin (k0_t6_loop i v483 v493 v503 v513 v523 v533 v543 v553 v563 v573 v583 v593 v603 v613 v623 v633 v643).trips), ∀ a, (k0_off30 i v483 v493 v503 v513 v523 v533 v543 v553 v563 v573 v583 v593 v603 v613 v623 v633 v643 k0_t6) a + S128x128.size a ≤ S16384x128.size a := fun i v483 v493 v503 v513 v523 v533 v543 v553 v563 v573 v583 v593 v603 v613 v623 v633 v643 k0_hw1 k0_t6 => k0_hw1.2.2.2.2.2.2.2.2.2.2.2.2.2.2.2.2.1 k0_t6
theorem k0_off31_inb : ∀ (i : grid0.Coords) (v483 : BitVec 32) (v493 : BitVec 32) (v503 : BitVec 32) (v513 : BitVec 32) (v523 : BitVec 32) (v533 : BitVec 32) (v543 : BitVec 32) (v553 : BitVec 32) (v563 : BitVec 32) (v573 : BitVec 32) (v583 : BitVec 32) (v593 : BitVec 32) (v603 : BitVec 32) (v613 : BitVec 32) (v623 : BitVec 32) (v633 : BitVec 32) (v643 : BitVec 32) (k0_hw1 : k0_chk1 i v483 v493 v503 v513 v523 v533 v543 v553 v563 v573 v583 v593 v603 v613 v623 v633 v643) (k0_t6 : Fin (k0_t6_loop i v483 v493 v503 v513 v523 v533 v543 v553 v563 v573 v583 v593 v603 v613 v623 v633 v643).trips), ∀ a, (k0_off31 i v483 v493 v503 v513 v523 v533 v543 v553 v563 v573 v583 v593 v603 v613 v623 v633 v643 k0_t6) a + S1x128x128.size a ≤ S128x128x128.size a := fun i v483 v493 v503 v513 v523 v533 v543 v553 v563 v573 v583 v593 v603 v613 v623 v633 v643 k0_hw1 k0_t6 => k0_hw1.2.2.2.2.2.2.2.2.2.2.2.2.2.2.2.2.2 k0_t6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x16384x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x16384x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "softmax_scale" => some (((Real.sqrt 128)⁻¹ * (Real.log 2)⁻¹ : ℝ) : EReal)
  | _ => none
-- ==== ReferenceIdeal.lean ====
abbrev S2x16384x4096 : Shape := ⟨3, ![2, 16384, 4096]⟩
abbrev S2x16384x1024 : Shape := ⟨3, ![2, 16384, 1024]⟩
abbrev S2x17 : Shape := ⟨2, ![2, 17]⟩
abbrev S2x8x4x16384 : Shape := ⟨4, ![2, 8, 4, 16384]⟩
abbrev S2x8x128x128 : Shape := ⟨4, ![2, 8, 128, 128]⟩
abbrev S2x8x1x128 : Shape := ⟨4, ![2, 8, 1, 128]⟩
abbrev S2x16384x8x4x128 : Shape := ⟨5, ![2, 16384, 8, 4, 128]⟩
abbrev S2x16384x8x4 : Shape := ⟨4, ![2, 16384, 8, 4]⟩
abbrev S2x16384x8x4x1 : Shape := ⟨5, ![2, 16384, 8, 4, 1]⟩
abbrev S2x16384x8x128 : Shape := ⟨4, ![2, 16384, 8, 128]⟩
abbrev S2x16384x8 : Shape := ⟨3, ![2, 16384, 8]⟩
abbrev S2x16384x8x1 : Shape := ⟨4, ![2, 16384, 8, 1]⟩
abbrev S2x8x128 : Shape := ⟨3, ![2, 8, 128]⟩
abbrev S2x1x8x128 : Shape := ⟨4, ![2, 1, 8, 128]⟩
abbrev S2x16384x17 : Shape := ⟨3, ![2, 16384, 17]⟩
abbrev S2x1x17 : Shape := ⟨3, ![2, 1, 17]⟩
abbrev S2x16384 : Shape := ⟨2, ![2, 16384]⟩
abbrev S2x8x16384x16384x4 : Shape := ⟨5, ![2, 8, 16384, 16384, 4]⟩
abbrev S2x8x4x16384x16384 : Shape := ⟨5, ![2, 8, 4, 16384, 16384]⟩
abbrev S2x8x16384 : Shape := ⟨3, ![2, 8, 16384]⟩
abbrev S2x8x4x16384x1 : Shape := ⟨5, ![2, 8, 4, 16384, 1]⟩
abbrev S2x8x1x1x16384 : Shape := ⟨5, ![2, 8, 1, 1, 16384]⟩
abbrev S16384x16384 : Shape := ⟨2, ![16384, 16384]⟩
abbrev S2x1x16384 : Shape := ⟨3, ![2, 1, 16384]⟩
abbrev S2x16384x1 : Shape := ⟨3, ![2, 16384, 1]⟩
abbrev S2x16384x16384 : Shape := ⟨3, ![2, 16384, 16384]⟩
abbrev S1x16384x16384 : Shape := ⟨3, ![1, 16384, 16384]⟩
abbrev S2x1x1x16384x16384 : Shape := ⟨5, ![2, 1, 1, 16384, 16384]⟩
abbrev S2x8x128x4x16384 : Shape := ⟨5, ![2, 8, 128, 4, 16384]⟩
abbrev S2x1x8x1x128 : Shape := ⟨5, ![2, 1, 8, 1, 128]⟩

abbrev nBuf : Space → Nat
  | .hbm => 11
  | .vmem => 11
  | .smem => 0
  | _ => 0

abbrev bufTy : (tb : Table) → Fin (tcTables nBuf tb) → BufTy
  | .hbm, ⟨0, _⟩ => ⟨S2x16384x4096, .bf16⟩
  | .hbm, ⟨1, _⟩ => ⟨S2x16384x1024, .bf16⟩
  | .hbm, ⟨2, _⟩ => ⟨S2x16384x1024, .bf16⟩
  | .hbm, ⟨3, _⟩ => ⟨S2x17, .i32⟩
  | .hbm, ⟨4, _⟩ => ⟨S2x16384x4096, .bf16⟩
  | .hbm, ⟨5, _⟩ => ⟨S2x16384x4096, .fp8e4m3⟩
  | .hbm, ⟨6, _⟩ => ⟨S2x8x4x16384, .f32⟩
  | .hbm, ⟨7, _⟩ => ⟨S2x16384x1024, .fp8e4m3⟩
  | .hbm, ⟨8, _⟩ => ⟨S2x8x128x128, .f32⟩
  | .hbm, ⟨9, _⟩ => ⟨S2x16384x1024, .fp8e4m3⟩
  | .hbm, ⟨10, _⟩ => ⟨S2x8x1x128, .f32⟩
  | .local _ .vmem, ⟨0, _⟩ => ⟨S2x17, .i32⟩
  | .local _ .vmem, ⟨1, _⟩ => ⟨S2x16384x4096, .bf16⟩
  | .local _ .vmem, ⟨2, _⟩ => ⟨S2x16384x1024, .bf16⟩
  | .local _ .vmem, ⟨3, _⟩ => ⟨S2x16384x1024, .bf16⟩
  | .local _ .vmem, ⟨4, _⟩ => ⟨S2x16384x4096, .bf16⟩
  | .local _ .vmem, ⟨5, _⟩ => ⟨S2x16384x4096, .fp8e4m3⟩
  | .local _ .vmem, ⟨6, _⟩ => ⟨S2x8x4x16384, .f32⟩
  | .local _ .vmem, ⟨7, _⟩ => ⟨S2x16384x1024, .fp8e4m3⟩
  | .local _ .vmem, ⟨8, _⟩ => ⟨S2x8x128x128, .f32⟩
  | .local _ .vmem, ⟨9, _⟩ => ⟨S2x16384x1024, .fp8e4m3⟩
  | .local _ .vmem, ⟨10, _⟩ => ⟨S2x8x1x128, .f32⟩
  | _, _ => ⟨S2x16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x17 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16384x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16384x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x16384x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8x4x16384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x16384x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x16384x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.PFrame.Points.lean ====
/- When each window is fetched and written back over the grid of `Kernel`, in closed form, and the staging buffers and the body
   of each point. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 2 (by decide) (by decide) (Pipeline.Window.sep_of_coord cc0_transform_0 2 1 (fun _ => rfl) (by decide)) (P := 1) (by decide) t).mpr (Nat.mod_one _) : ∀ t : Fin grid0.N, Pipeline.Window.fetchOf grid0 false cc0_transform_0 t = true)
/-- Window 1 (operand 2 (%arg1)) is fetched at the points ≡ 0 (mod 128), at any contents of the tables (its index map reads none). -/
theorem fetch0_1 (a : (pcfg0 (F := F)).Adm) : ∀ t : Fin (cfg0 a).N, ((cfg0 a).win 1).fetch t = true ↔ t.val % 128 = 0 :=
  (fun t => Pipeline.Window.fetchOf_reads cc0_transform_1 reads0_1 hreads0_1 1 (by decide) (by decide) (Pipeline.Window.sep_of_coord cc0_transform_1 1 2 (fun _ => rfl) (by decide)) (P := 128) (by decide) t : ∀ t : Fin grid0.N, Pipeline.Window.fetchOf grid0 false cc0_transform_1 t = true ↔ t.val % 128 = 0)
/-- Window 2 (operand 3 (%arg2)) is fetched at the points ≡ 0 (mod 128), at any contents of the tables (its index map reads none). -/
theorem fetch0_2 (a : (pcfg0 (F := F)).Adm) : ∀ t : Fin (cfg0 a).N, ((cfg0 a).win 2).fetch t = true ↔ t.val % 128 = 0 :=
  (fun t => Pipeline.Window.fetchOf_reads cc0_transform_2 reads0_2 hreads0_2 1 (by decide) (by decide) (Pipeline.Window.sep_of_coord cc0_transform_2 1 2 (fun _ => rfl) (by decide)) (P := 128) (by decide) t : ∀ t : Fin grid0.N, Pipeline.Window.fetchOf grid0 false cc0_transform_2 t = true ↔ t.val % 128 = 0)
/-- Window 3 (result 0 (%0#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 2 (by decide) (by decide) (Pipeline.Window.sep_of_coord cc0_transform_3 2 1 (fun _ => rfl) (by decide)) (P := 1) (m := 0) (by decide) rfl t).mpr (Nat.mod_one _) : ∀ t : Fin grid0.N, Pipeline.Window.flushOf grid0 true cc0_transform_3 t = true)
/-- Window 4 (result 1 (%0#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 2 (by decide) (by decide) (Pipeline.Window.sep_of_coord cc0_transform_4 2 1 (fun _ => rfl) (by decide)) (P := 1) (m := 0) (by decide) rfl t).mpr (Nat.mod_one _) : ∀ t : Fin grid0.N, Pipeline.Window.flushOf grid0 true cc0_transform_4 t = true)
/-- Window 5 (result 2 (%0#2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 2 (by decide) (by decide) (Pipeline.Window.sep_of_coord cc0_transform_5 2 3 (fun _ => rfl) (by decide)) (P := 1) (m := 0) (by decide) rfl t).mpr (Nat.mod_one _) : ∀ t : Fin grid0.N, Pipeline.Window.flushOf grid0 true cc0_transform_5 t = true)
/-- Window 6 (result 3 (%0#3)) is written back at the points ≡ 127 (mod 128), at any contents of the tables (its index map reads none). -/
theorem flush0_6 (a : (pcfg0 (F := F)).Adm) : ∀ t : Fin (cfg0 a).N, ((cfg0 a).win 6).flush t = true ↔ t.val % 128 = 127 :=
  (fun t => Pipeline.Window.flushOf_reads cc0_transform_6 reads0_6 hreads0_6 1 (by decide) (by decide) (Pipeline.Window.sep_of_coord cc0_transform_6 1 2 (fun _ => rfl) (by decide)) (P := 128) (m := 127) (by decide) rfl t : ∀ t : Fin grid0.N, Pipeline.Window.flushOf grid0 true cc0_transform_6 t = true ↔ t.val % 128 = 127)
/-- Window 7 (result 4 (%0#4)) is written back at the points ≡ 127 (mod 128), at any contents of the tables (its index map reads none). -/
theorem flush0_7 (a : (pcfg0 (F := F)).Adm) : ∀ t : Fin (cfg0 a).N, ((cfg0 a).win 7).flush t = true ↔ t.val % 128 = 127 :=
  (fun t => Pipeline.Window.flushOf_reads cc0_transform_7 reads0_7 hreads0_7 1 (by decide) (by decide) (Pipeline.Window.sep_of_coord cc0_transform_7 1 1 (fun _ => rfl) (by decide)) (P := 128) (m := 127) (by decide) rfl t : ∀ t : Fin grid0.N, Pipeline.Window.flushOf grid0 true cc0_transform_7 t = true ↔ t.val % 128 = 127)
/-- Window 8 (result 5 (%0#5)) is written back at the points ≡ 127 (mod 128), at any contents of the tables (its index map reads none). -/
theorem flush0_8 (a : (pcfg0 (F := F)).Adm) : ∀ t : Fin (cfg0 a).N, ((cfg0 a).win 8).flush t = true ↔ t.val % 128 = 127 :=
  (fun t => Pipeline.Window.flushOf_reads cc0_transform_8 reads0_8 hreads0_8 1 (by decide) (by decide) (Pipeline.Window.sep_of_coord cc0_transform_8 1 2 (fun _ => rfl) (by decide)) (P := 128) (m := 127) (by decide) rfl t : ∀ t : Fin grid0.N, Pipeline.Window.flushOf grid0 true cc0_transform_8 t = true ↔ t.val % 128 = 127)
/-- Window 9 (result 6 (%0#6)) is written back at the points ≡ 127 (mod 128), at any contents of the tables (its index map reads none). -/
theorem flush0_9 (a : (pcfg0 (F := F)).Adm) : ∀ t : Fin (cfg0 a).N, ((cfg0 a).win 9).flush t = true ↔ t.val % 128 = 127 :=
  (fun t => Pipeline.Window.flushOf_reads cc0_transform_9 reads0_9 hreads0_9 1 (by decide) (by decide) (Pipeline.Window.sep_of_coord cc0_transform_9 1 1 (fun _ => rfl) (by decide)) (P := 128) (m := 127) (by decide) rfl t : ∀ t : Fin grid0.N, Pipeline.Window.flushOf grid0 true cc0_transform_9 t = true ↔ t.val % 128 = 127)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_packed_attention (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.Kernel.Gen

end
-- ==== Proof.PFrame.Runs.lean ====
/- What the runs of the body of `Kernel` share: the branch conditions in closed form, where windows idle, the staging and scratch
   buffers, and the side condition of the words the body reads. -/
module

public import proofs.«01_k».proof.Proof.Gen.Kernel.Launch
public import proofs.«01_k».proof.Proof.Gen.Kernel.Skeleton
public import proofs.«01_k».proof.Proof.Gen.Kernel.Loops
public import proofs.«01_k».proof.Proof.PFrame.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle recurses once per coordinate of its long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2x17 .i32 := Memref.whole main_arg3
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (by decide : main_arg3 ∈ Pipeline.restRefs sig spec0)).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 128) — by arithmetic of the point. -/
theorem hcond0_0 : ∀ t : Fin grid0.N, cond0_0 (grid0.coords t) ↔ t.val % 128 = 0 :=
  (fun t => by
    have ht : t.val < 2048 := Nat.lt_of_lt_of_eq t.isLt N_0
    have e0 : (grid0.coords t 0).val = t.val / 1024 % 2 := Pipeline.Grid.coords_val t 0 (by decide) rfl
    have e1 : (grid0.coords t 1).val = t.val / 128 % 8 := Pipeline.Grid.coords_val t 1 (by decide) rfl
    have e2 : (grid0.coords t 2).val = t.val / 1 % 128 := Pipeline.Grid.coords_val t 2 (by decide) rfl
    simp only [cond0_0, k0_cond1, e0, e1, e2]
    word_cmp
   : ∀ t : Fin grid0.N, cond0_0 (grid0.coords t) ↔ t.val % 128 = 0)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x128x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x16384x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x16384x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x128x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x128x512 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x4x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x16384x128 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x128x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x16384x128 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1x1x128 .f32 := spec0_9.stage ((cfgM m hO).slots t 9)
abbrev hs0_9 (hO : Ok m) (t : Fin (cfgM m hO).N) : (ms0_9 m hO t).IsWhole := hstage0_9 (((cfgM m hO).slots t 9).cast nbuf0_9)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S2x17) (k0_off5 (grid0.coords t)) S1x1.size (k0_off5_inb (grid0.coords t))).toLoadRect (tbl m 0) (Shape.Idx.first (numel1_S1x1.symm ▸ Nat.one_pos))) (tbM0_0.view.readAt (Elt F) (Rect.unit (s := S2x17) (k0_off6 (grid0.coords t)) S1x1.size (k0_off6_inb (grid0.coords t))).toLoadRect (tbl m 0) (Shape.Idx.first (numel1_S1x1.symm ▸ Nat.one_pos))) (tbM0_0.view.readAt (Elt F) (Rect.unit (s := S2x17) (k0_off7 (grid0.coords t)) S1x1.size (k0_off7_inb (grid0.coords t))).toLoadRect (tbl m 0) (Shape.Idx.first (numel1_S1x1.symm ▸ Nat.one_pos))) (tbM0_0.view.readAt (Elt F) (Rect.unit (s := S2x17) (k0_off8 (grid0.coords t)) S1x1.size (k0_off8_inb (grid0.coords t))).toLoadRect (tbl m 0) (Shape.Idx.first (numel1_S1x1.symm ▸ Nat.one_pos))) (tbM0_0.view.readAt (Elt F) (Rect.unit (s := S2x17) (k0_off9 (grid0.coords t)) S1x1.size (k0_off9_inb (grid0.coords t))).toLoadRect (tbl m 0) (Shape.Idx.first (numel1_S1x1.symm ▸ Nat.one_pos))) (tbM0_0.view.readAt (Elt F) (Rect.unit (s := S2x17) (k0_off10 (grid0.coords t)) S1x1.size (k0_off10_inb (grid0.coords t))).toLoadRect (tbl m 0) (Shape.Idx.first (numel1_S1x1.symm ▸ Nat.one_pos))) (tbM0_0.view.readAt (Elt F) (Rect.unit (s := S2x17) (k0_off11 (grid0.coords t)) S1x1.size (k0_off11_inb (grid0.coords t))).toLoadRect (tbl m 0) (Shape.Idx.first (numel1_S1x1.symm ▸ Nat.one_pos))) (tbM0_0.view.readAt (Elt F) (Rect.unit (s := S2x17) (k0_off12 (grid0.coords t)) S1x1.size (k0_off12_inb (grid0.coords t))).toLoadRect (tbl m 0) (Shape.Idx.first (numel1_S1x1.symm ▸ Nat.one_pos))) (tbM0_0.view.readAt (Elt F) (Rect.unit (s := S2x17) (k0_off13 (grid0.coords t)) S1x1.size (k0_off13_inb (grid0.coords t))).toLoadRect (tbl m 0) (Shape.Idx.first (numel1_S1x1.symm ▸ Nat.one_pos))) (tbM0_0.view.readAt (Elt F) (Rect.unit (s := S2x17) (k0_off14 (grid0.coords t)) S1x1.size (k0_off14_inb (grid0.coords t))).toLoadRect (tbl m 0) (Shape.Idx.first (numel1_S1x1.symm ▸ Nat.one_pos))) (tbM0_0.view.readAt (Elt F) (Rect.unit (s := S2x17) (k0_off15 (grid0.coords t)) S1x1.size (k0_off15_inb (grid0.coords t))).toLoadRect (tbl m 0) (Shape.Idx.first (numel1_S1x1.symm ▸ Nat.one_pos))) (tbM0_0.view.readAt (Elt F) (Rect.unit (s := S2x17) (k0_off16 (grid0.coords t)) S1x1.size (k0_off16_inb (grid0.coords t))).toLoadRect (tbl m 0) (Shape.Idx.first (numel1_S1x1.symm ▸ Nat.one_pos))) (tbM0_0.view.readAt (Elt F) (Rect.unit (s := S2x17) (k0_off17 (grid0.coords t)) S1x1.size (k0_off17_inb (grid0.coords t))).toLoadRect (tbl m 0) (Shape.Idx.first (numel1_S1x1.symm ▸ Nat.one_pos))) (tbM0_0.view.readAt (Elt F) (Rect.unit (s := S2x17) (k0_off18 (grid0.coords t)) S1x1.size (k0_off18_inb (grid0.coords t))).toLoadRect (tbl m 0) (Shape.Idx.first (numel1_S1x1.symm ▸ Nat.one_pos))) (tbM0_0.view.readAt (Elt F) (Rect.unit (s := S2x17) (k0_off19 (grid0.coords t)) S1x1.size (k0_off19_inb (grid0.coords t))).toLoadRect (tbl m 0) (Shape.Idx.first (numel1_S1x1.symm ▸ Nat.one_pos))) (tbM0_0.view.readAt (Elt F) (Rect.unit (s := S2x17) (k0_off20 (grid0.coords t)) S1x1.size (k0_off20_inb (grid0.coords t))).toLoadRect (tbl m 0) (Shape.Idx.first (numel1_S1x1.symm ▸ Nat.one_pos))) (tbM0_0.view.readAt (Elt F) (Rect.unit (s := S2x17) (k0_off21 (grid0.coords t)) S1x1.size (k0_off21_inb (grid0.coords t))).toLoadRect (tbl m 0) (Shape.Idx.first (numel1_S1x1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_0.view.readAt (Elt F) (Rect.unit (s := S2x17) (k0_off5 (grid0.coords t)) S1x1.size (k0_off5_inb (grid0.coords t))).toLoadRect (tbl m 0) (Shape.Idx.first (numel1_S1x1.symm ▸ Nat.one_pos))) (tbM0_0.view.readAt (Elt F) (Rect.unit (s := S2x17) (k0_off6 (grid0.coords t)) S1x1.size (k0_off6_inb (grid0.coords t))).toLoadRect (tbl m 0) (Shape.Idx.first (numel1_S1x1.symm ▸ Nat.one_pos))) (tbM0_0.view.readAt (Elt F) (Rect.unit (s := S2x17) (k0_off7 (grid0.coords t)) S1x1.size (k0_off7_inb (grid0.coords t))).toLoadRect (tbl m 0) (Shape.Idx.first (numel1_S1x1.symm ▸ Nat.one_pos))) (tbM0_0.view.readAt (Elt F) (Rect.unit (s := S2x17) (k0_off8 (grid0.coords t)) S1x1.size (k0_off8_inb (grid0.coords t))).toLoadRect (tbl m 0) (Shape.Idx.first (numel1_S1x1.symm ▸ Nat.one_pos))) (tbM0_0.view.readAt (Elt F) (Rect.unit (s := S2x17) (k0_off9 (grid0.coords t)) S1x1.size (k0_off9_inb (grid0.coords t))).toLoadRect (tbl m 0) (Shape.Idx.first (numel1_S1x1.symm ▸ Nat.one_pos))) (tbM0_0.view.readAt (Elt F) (Rect.unit (s := S2x17) (k0_off10 (grid0.coords t)) S1x1.size (k0_off10_inb (grid0.coords t))).toLoadRect (tbl m 0) (Shape.Idx.first (numel1_S1x1.symm ▸ Nat.one_pos))) (tbM0_0.view.readAt (Elt F) (Rect.unit (s := S2x17) (k0_off11 (grid0.coords t)) S1x1.size (k0_off11_inb (grid0.coords t))).toLoadRect (tbl m 0) (Shape.Idx.first (numel1_S1x1.symm ▸ Nat.one_pos))) (tbM0_0.view.readAt (Elt F) (Rect.unit (s := S2x17) (k0_off12 (grid0.coords t)) S1x1.size (k0_off12_inb (grid0.coords t))).toLoadRect (tbl m 0) (Shape.Idx.first (numel1_S1x1.symm ▸ Nat.one_pos))) (tbM0_0.view.readAt (Elt F) (Rect.unit (s := S2x17) (k0_off13 (grid0.coords t)) S1x1.size (k0_off13_inb (grid0.coords t))).toLoadRect (tbl m 0) (Shape.Idx.first (numel1_S1x1.symm ▸ Nat.one_pos))) (tbM0_0.view.readAt (Elt F) (Rect.unit (s := S2x17) (k0_off14 (grid0.coords t)) S1x1.size (k0_off14_inb (grid0.coords t))).toLoadRect (tbl m 0) (Shape.Idx.first (numel1_S1x1.symm ▸ Nat.one_pos))) (tbM0_0.view.readAt (Elt F) (Rect.unit (s := S2x17) (k0_off15 (grid0.coords t)) S1x1.size (k0_off15_inb (grid0.coords t))).toLoadRect (tbl m 0) (Shape.Idx.first (numel1_S1x1.symm ▸ Nat.one_pos))) (tbM0_0.view.readAt (Elt F) (Rect.unit (s := S2x17) (k0_off16 (grid0.coords t)) S1x1.size (k0_off16_inb (grid0.coords t))).toLoadRect (tbl m 0) (Shape.Idx.first (numel1_S1x1.symm ▸ Nat.one_pos))) (tbM0_0.view.readAt (Elt F) (Rect.unit (s := S2x17) (k0_off17 (grid0.coords t)) S1x1.size (k0_off17_inb (grid0.coords t))).toLoadRect (tbl m 0) (Shape.Idx.first (numel1_S1x1.symm ▸ Nat.one_pos))) (tbM0_0.view.readAt (Elt F) (Rect.unit (s := S2x17) (k0_off18 (grid0.coords t)) S1x1.size (k0_off18_inb (grid0.coords t))).toLoadRect (tbl m 0) (Shape.Idx.first (numel1_S1x1.symm ▸ Nat.one_pos))) (tbM0_0.view.readAt (Elt F) (Rect.unit (s := S2x17) (k0_off19 (grid0.coords t)) S1x1.size (k0_off19_inb (grid0.coords t))).toLoadRect (tbl m 0) (Shape.Idx.first (numel1_S1x1.symm ▸ Nat.one_pos))) (tbM0_0.view.readAt (Elt F) (Rect.unit (s := S2x17) (k0_off20 (grid0.coords t)) S1x1.size (k0_off20_inb (grid0.coords t))).toLoadRect (tbl m 0) (Shape.Idx.first (numel1_S1x1.symm ▸ Nat.one_pos))) (tbM0_0.view.readAt (Elt F) (Rect.unit (s := S2x17) (k0_off21 (grid0.coords t)) S1x1.size (k0_off21_inb (grid0.coords t))).toLoadRect (tbl m 0) (Shape.Idx.first (numel1_S1x1.symm ▸ Nat.one_pos)))
variable {m} in
theorem Hyps.c0 {hO : Ok m} (hH : Hyps m hO) (c : Dev nD) (t : Fin (cfgM m hO).N) :
    k0_chk1 (grid0.coords t) (tbM0_0.view.readAt (Elt F) (Rect.unit (s := S2x17) (k0_off5 (grid0.coords t)) S1x1.size (k0_off5_inb (grid0.coords t))).toLoadRect (tbl m 0) (Shape.Idx.first (numel1_S1x1.symm ▸ Nat.one_pos))) (tbM0_0.view.readAt (Elt F) (Rect.unit (s := S2x17) (k0_off6 (grid0.coords t)) S1x1.size (k0_off6_inb (grid0.coords t))).toLoadRect (tbl m 0) (Shape.Idx.first (numel1_S1x1.symm ▸ Nat.one_pos))) (tbM0_0.view.readAt (Elt F) (Rect.unit (s := S2x17) (k0_off7 (grid0.coords t)) S1x1.size (k0_off7_inb (grid0.coords t))).toLoadRect (tbl m 0) (Shape.Idx.first (numel1_S1x1.symm ▸ Nat.one_pos))) (tbM0_0.view.readAt (Elt F) (Rect.unit (s := S2x17) (k0_off8 (grid0.coords t)) S1x1.size (k0_off8_inb (grid0.coords t))).toLoadRect (tbl m 0) (Shape.Idx.first (numel1_S1x1.symm ▸ Nat.one_pos))) (tbM0_0.view.readAt (Elt F) (Rect.unit (s := S2x17) (k0_off9 (grid0.coords t)) S1x1.size (k0_off9_inb (grid0.coords t))).toLoadRect (tbl m 0) (Shape.Idx.first (numel1_S1x1.symm ▸ Nat.one_pos))) (tbM0_0.view.readAt (Elt F) (Rect.unit (s := S2x17) (k0_off10 (grid0.coords t)) S1x1.size (k0_off10_inb (grid0.coords t))).toLoadRect (tbl m 0) (Shape.Idx.first (numel1_S1x1.symm ▸ Nat.one_pos))) (tbM0_0.view.readAt (Elt F) (Rect.unit (s := S2x17) (k0_off11 (grid0.coords t)) S1x1.size (k0_off11_inb (grid0.coords t))).toLoadRect (tbl m 0) (Shape.Idx.first (numel1_S1x1.symm ▸ Nat.one_pos))) (tbM0_0.view.readAt (Elt F) (Rect.unit (s := S2x17) (k0_off12 (grid0.coords t)) S1x1.size (k0_off12_inb (grid0.coords t))).toLoadRect (tbl m 0) (Shape.Idx.first (numel1_S1x1.symm ▸ Nat.one_pos))) (tbM0_0.view.readAt (Elt F) (Rect.unit (s := S2x17) (k0_off13 (grid0.coords t)) S1x1.size (k0_off13_inb (grid0.coords t))).toLoadRect (tbl m 0) (Shape.Idx.first (numel1_S1x1.symm ▸ Nat.one_pos))) (tbM0_0.view.readAt (Elt F) (Rect.unit (s := S2x17) (k0_off14 (grid0.coords t)) S1x1.size (k0_off14_inb (grid0.coords t))).toLoadRect (tbl m 0) (Shape.Idx.first (numel1_S1x1.symm ▸ Nat.one_pos))) (tbM0_0.view.readAt (Elt F) (Rect.unit (s := S2x17) (k0_off15 (grid0.coords t)) S1x1.size (k0_off15_inb (grid0.coords t))).toLoadRect (tbl m 0) (Shape.Idx.first (numel1_S1x1.symm ▸ Nat.one_pos))) (tbM0_0.view.readAt (Elt F) (Rect.unit (s := S2x17) (k0_off16 (grid0.coords t)) S1x1.size (k0_off16_inb (grid0.coords t))).toLoadRect (tbl m 0) (Shape.Idx.first (numel1_S1x1.symm ▸ Nat.one_pos))) (tbM0_0.view.readAt (Elt F) (Rect.unit (s := S2x17) (k0_off17 (grid0.coords t)) S1x1.size (k0_off17_inb (grid0.coords t))).toLoadRect (tbl m 0) (Shape.Idx.first (numel1_S1x1.symm ▸ Nat.one_pos))) (tbM0_0.view.readAt (Elt F) (Rect.unit (s := S2x17) (k0_off18 (grid0.coords t)) S1x1.size (k0_off18_inb (grid0.coords t))).toLoadRect (tbl m 0) (Shape.Idx.first (numel1_S1x1.symm ▸ Nat.one_pos))) (tbM0_0.view.readAt (Elt F) (Rect.unit (s := S2x17) (k0_off19 (grid0.coords t)) S1x1.size (k0_off19_inb (grid0.coords t))).toLoadRect (tbl m 0) (Shape.Idx.first (numel1_S1x1.symm ▸ Nat.one_pos))) (tbM0_0.view.readAt (Elt F) (Rect.unit (s := S2x17) (k0_off20 (grid0.coords t)) S1x1.size (k0_off20_inb (grid0.coords t))).toLoadRect (tbl m 0) (Shape.Idx.first (numel1_S1x1.symm ▸ Nat.one_pos))) (tbM0_0.view.readAt (Elt F) (Rect.unit (s := S2x17) (k0_off21 (grid0.coords t)) S1x1.size (k0_off21_inb (grid0.coords t))).toLoadRect (tbl m 0) (Shape.Idx.first (numel1_S1x1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S16384x128 .f32 := Memref.whole cc0_scratch0
abbrev scM0_1 : Memref sig .tc .vmem S128x128x128 .fp8e4m3 := Memref.whole cc0_scratch1
abbrev scM0_2 : Memref sig .tc .vmem S128x128 .f32 := Memref.whole cc0_scratch2
abbrev scM0_3 : Memref sig .tc .vmem S512x128 .fp8e4m3 := Memref.whole cc0_scratch3
/-- The scratch `arg14` the kernel carries between points, as a view: what it holds is stated through it. -/
abbrev VS0_0 : View sig .tc .vmem S16384x128 .f32 := scM0_0.view
/-- The scratch `arg15` the kernel carries between points, as a view: what it holds is stated through it. -/
abbrev VS0_1 : View sig .tc .vmem S128x128x128 .fp8e4m3 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.PFrame.RunA.lean ====
/- The body of `Kernel` run once at a point that prepares the keys and the values of a group (the third coordinate is 0). -/
module

public import proofs.«01_k».proof.Proof.PFrame.Runs

@[expose] public section

-- membership in a rectangle recurses once per coordinate of its long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1268000 in
/-- What the body's stores leave in each output's staging memref, as pieces (last first) IN CASE A (`scf.if` 0 taken: points 0, 128, … 1920: 16 of 2048), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7, 8, 9) at anything, handed back at some contents nothing names. -/
noncomputable def kernelRun0_A (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : cond0_0 i)
    (x0 : Vec F S1x128x512 .bf16) (x1 : Vec F S1x16384x128 .bf16) (x2 : Vec F S1x16384x128 .bf16) (xt0 : TbBuf0 (F := F) c tbM0_0) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) :
    Σ' (LS0 : List (View.Piece (Elt F) S16384x128 .f32)), { LS1 : List (View.Piece (Elt F) S128x128x128 .fp8e4m3) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0
            ∗ (iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ d, owns (c : Thread nD τ) arg16 fullShare d) ∗ (∃ d, owns (c : Thread nD τ) arg17 fullShare d) ∗ tbPt0 c tbM0_0 xt0) -∗ K ⟨⟩))
          ⊢ wp frame (wpE (defs₀ (F := F)) Variants.none c none) E (cc0_packed_attention i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_packed_attention_eq_skeleton]; unfold cc0_packed_attention_skel
    simp only [k0_part21_eq_skeleton, k0_part5_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, HT0, Hk⟩
    obtain rfl := harg4.eq_unread hf0; obtain rfl := harg5.eq_unread hf1; obtain rfl := harg6.eq_unread hf2
    sl_exec (disch := first | sl_exact hc0 | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    iexact HT0

end Cert.Kernel.Gen

end
-- ==== Proof.PFrame.RunB.lean ====
/- The body of `Kernel` run once at a point that finds the keys and the values prepared. -/
module

public import proofs.«01_k».proof.Proof.PFrame.RunA

@[expose] public section

-- membership in a rectangle recurses once per coordinate of its long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1048000 in
/-- What the body's stores leave in each output's staging memref, as pieces (last first) IN CASE B (`scf.if` 0 not taken: points 1, 2, … 2047: 2032 of 2048), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7, 8, 9) at anything, handed back at some contents nothing names. -/
noncomputable def kernelRun0_B (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : ¬cond0_0 i)
    (x0 : Vec F S1x128x512 .bf16) (x1 : Vec F S1x16384x128 .bf16) (x2 : Vec F S1x16384x128 .bf16) (xt0 : TbBuf0 (F := F) c tbM0_0) (xs0 : Vec F S16384x128 .f32) (xs1 : Vec F S128x128x128 .fp8e4m3) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) :
    Σ' (LS0 : List (View.Piece (Elt F) S16384x128 .f32)), { LS1 : List (View.Piece (Elt F) S128x128x128 .fp8e4m3) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ (∃ d, owns (c : Thread nD τ) arg16 fullShare d) ∗ (∃ d, owns (c : Thread nD τ) arg17 fullShare d) ∗ tbPt0 c tbM0_0 xt0
            ∗ (iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ (∃ d, owns (c : Thread nD τ) arg16 fullShare d) ∗ (∃ d, owns (c : Thread nD τ) arg17 fullShare d) ∗ tbPt0 c tbM0_0 xt0) -∗ K ⟨⟩))
          ⊢ wp frame (wpE (defs₀ (F := F)) Variants.none c none) E (cc0_packed_attention i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], fun E K => ?run⟩
  case run =>
    simp only [cc0_packed_attention_eq_skeleton]; unfold cc0_packed_attention_skel
    simp only [k0_part21_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, ⟨%ds2, %fs2, -, HS2⟩, ⟨%ds3, %fs3, -, HS3⟩, HT0, Hk⟩
    obtain rfl := harg4.eq_unread hf0; obtain rfl := harg5.eq_unread hf1; obtain rfl := harg6.eq_unread hf2; obtain rfl := harg14.eq_unread hfs0; obtain rfl := harg15.eq_unread hfs1
    sl_exec (disch := first | sl_exact hc0 | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _; isplitr; · ipureintro; exact harg14.read_unread _
      iexact HS0
    isplitl [HS1]
    · iexists _; isplitr; · ipureintro; exact harg15.read_unread _
      iexact HS1
    isplitl [HS2]
    · iexists _, _; isplitr; swap; · iexact HS2
      ipureintro; rfl
    isplitl [HS3]
    · iexists _, _; isplitr; swap; · iexact HS3
      ipureintro; rfl
    iexact HT0

end Cert.Kernel.Gen

end
-- ==== Proof.PFrame.Frame.lean ====
/- The frame of `Kernel`: every run ends, faults nowhere, leaves the arguments unchanged and every semaphore at zero. The codes
   of the queries and the scales held in scratch are carried from point to point; nothing is said here of the outputs. -/
module

public import proofs.«01_k».proof.Proof.PFrame.RunB
public import Idealize.ShloMosaic.Lib.Claim

@[expose] public section

-- membership in a rectangle recurses once per coordinate of its long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg14`, which the kernel carries between points, cover it: 128 pieces of `S128x128` tiling it (Lib/Ring.lean `Piece.tiledL`). -/
theorem scover0_A_0 (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : cond0_0 i)
    (x0 : Vec F S1x128x512 .bf16) (x1 : Vec F S1x16384x128 .bf16) (x2 : Vec F S1x16384x128 .bf16) (xt0 : TbBuf0 (F := F) c tbM0_0) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) (y : S16384x128.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 xt0 k0_hw1).1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 xt0 k0_hw1).1 S128x128.size (by sl_kernel_rfl) y

/-- What case A leaves in scratch `arg14`: its pieces read back over junk. -/
def sout0_A_0 (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : cond0_0 i)
    (x0 : Vec F S1x128x512 .bf16) (x1 : Vec F S1x16384x128 .bf16) (x2 : Vec F S1x16384x128 .bf16) (xt0 : TbBuf0 (F := F) c tbM0_0) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) : Vec F S16384x128 .f32 :=
  VS0_0.read (Elt F) (VS0_0.writes (Elt F) VS0_0.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 xt0 k0_hw1).1)

/-- Case A's pieces for scratch `arg15`, which the kernel carries between points, cover it: 128 pieces of `S1x128x128` tiling it (Lib/Ring.lean `Piece.tiledL`). -/
theorem scover0_A_1 (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : cond0_0 i)
    (x0 : Vec F S1x128x512 .bf16) (x1 : Vec F S1x16384x128 .bf16) (x2 : Vec F S1x16384x128 .bf16) (xt0 : TbBuf0 (F := F) c tbM0_0) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) (y : S128x128x128.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 xt0 k0_hw1).2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 xt0 k0_hw1).2.1 S1x128x128.size (by sl_kernel_rfl) y

/-- What case A leaves in scratch `arg15`: its pieces read back over junk. -/
def sout0_A_1 (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : cond0_0 i)
    (x0 : Vec F S1x128x512 .bf16) (x1 : Vec F S1x16384x128 .bf16) (x2 : Vec F S1x16384x128 .bf16) (xt0 : TbBuf0 (F := F) c tbM0_0) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) : Vec F S128x128x128 .fp8e4m3 :=
  VS0_1.read (Elt F) (VS0_1.writes (Elt F) VS0_1.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 xt0 k0_hw1).2.1)

/-- Case B stores nothing into scratch `arg14`: it holds what the point before left. -/
def sout0_B_0 (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : ¬cond0_0 i)
    (x0 : Vec F S1x128x512 .bf16) (x1 : Vec F S1x16384x128 .bf16) (x2 : Vec F S1x16384x128 .bf16) (xt0 : TbBuf0 (F := F) c tbM0_0) (xs0 : Vec F S16384x128 .f32) (xs1 : Vec F S128x128x128 .fp8e4m3) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) : Vec F S16384x128 .f32 := xs0

/-- Case B stores nothing into scratch `arg15`: it holds what the point before left. -/
def sout0_B_1 (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : ¬cond0_0 i)
    (x0 : Vec F S1x128x512 .bf16) (x1 : Vec F S1x16384x128 .bf16) (x2 : Vec F S1x16384x128 .bf16) (xt0 : TbBuf0 (F := F) c tbM0_0) (xs0 : Vec F S16384x128 .f32) (xs1 : Vec F S128x128x128 .fp8e4m3) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) : Vec F S128x128x128 .fp8e4m3 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (hH : Hyps m hO) (c : Dev nD) : (n : ℕ) → n < (cfgM m hO).N → Vec F S16384x128 .f32 × Vec F S128x128x128 .fp8e4m3
  | 0, hn => (sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m hO c 0 ⟨0, hn⟩) (iblk m hO c 1 ⟨0, hn⟩) (iblk m hO c 2 ⟨0, hn⟩) (tbl m 0) (Hyps.c0 hH c ⟨0, hn⟩), sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m hO c 0 ⟨0, hn⟩) (iblk m hO c 1 ⟨0, hn⟩) (iblk m hO c 2 ⟨0, hn⟩) (tbl m 0) (Hyps.c0 hH c ⟨0, hn⟩))
  | n + 1, hn =>
    if h0 : (n + 1) % 128 = 0 then
      (sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m hO c 0 ⟨n + 1, hn⟩) (iblk m hO c 1 ⟨n + 1, hn⟩) (iblk m hO c 2 ⟨n + 1, hn⟩) (tbl m 0) (Hyps.c0 hH c ⟨n + 1, hn⟩), sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m hO c 0 ⟨n + 1, hn⟩) (iblk m hO c 1 ⟨n + 1, hn⟩) (iblk m hO c 2 ⟨n + 1, hn⟩) (tbl m 0) (Hyps.c0 hH c ⟨n + 1, hn⟩))
    else
      (sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (tbl m 0) (outsAt0 hO hH c n (Nat.lt_of_succ_lt hn)).1 (outsAt0 hO hH c n (Nat.lt_of_succ_lt hn)).2 (Hyps.c0 hH c ⟨n + 1, hn⟩), sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (tbl m 0) (outsAt0 hO hH c n (Nat.lt_of_succ_lt hn)).1 (outsAt0 hO hH c n (Nat.lt_of_succ_lt hn)).2 (Hyps.c0 hH c ⟨n + 1, hn⟩))

/-- `outsAt0` at a point of case A: that case's contents. -/
theorem outsAt0_A (hO : Ok m) (hH : Hyps m hO) (c : Dev nD) (t : Fin (cfgM m hO).N) (h0 : t.val % 128 = 0) :
    outsAt0 m hO hH c t.val t.isLt = (sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (tbl m 0) (Hyps.c0 hH c t), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (tbl m 0) (Hyps.c0 hH c t)) := by
  obtain ⟨n, hn⟩ := t
  cases n with
  | zero => exact rfl
  | succ n => exact (dif_pos h0).trans rfl

/-- `outsAt0` at a point of case B: that case's contents, over what the point before left. -/
theorem outsAt0_B (hO : Ok m) (hH : Hyps m hO) (c : Dev nD) (t : Fin (cfgM m hO).N) (h0 : ¬t.val % 128 = 0) :
    outsAt0 m hO hH c t.val t.isLt = (sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (tbl m 0) (outsAt0 m hO hH c (t.val - 1) (Nat.lt_of_le_of_lt (Nat.sub_le _ _) t.isLt)).1 (outsAt0 m hO hH c (t.val - 1) (Nat.lt_of_le_of_lt (Nat.sub_le _ _) t.isLt)).2 (Hyps.c0 hH c t), sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (tbl m 0) (outsAt0 m hO hH c (t.val - 1) (Nat.lt_of_le_of_lt (Nat.sub_le _ _) t.isLt)).1 (outsAt0 m hO hH c (t.val - 1) (Nat.lt_of_le_of_lt (Nat.sub_le _ _) t.isLt)).2 (Hyps.c0 hH c t)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (hH : Hyps m hO) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO hH c n hn).1) ∗ owns (c : Thread nD τ) scM0_1 fullShare ((outsAt0 m hO hH c n hn).2) ∗ (∃ d, owns (c : Thread nD τ) scM0_2 fullShare d) ∗ (∃ d, owns (c : Thread nD τ) scM0_3 fullShare d)) ∗ (∃ r, prngReg c r)) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦA spec0 c ∗ Pipeline.ΦT pre0 (tbl m) c) := by
  subst hz; rfl

/-- After point `n` (before point `n + 1`): the carried scratch at that point's contents. -/
theorem PhiS_succ (hO : Ok m) (hH : Hyps m hO) (c : Dev nD) (n : ℕ) (hn : n < (cfgM m hO).N) :
    PhiS m hO hH c (n + 1) hn = iprop(iprop(iprop(owns (c : Thread nD τ) scM0_0 fullShare ((outsAt0 m hO hH c n hn).1) ∗ owns (c : Thread nD τ) scM0_1 fullShare ((outsAt0 m hO hH c n hn).2) ∗ (∃ d, owns (c : Thread nD τ) scM0_2 fullShare d) ∗ (∃ d, owns (c : Thread nD τ) scM0_3 fullShare d)) ∗ (∃ r, prngReg c r)) ∗ Pipeline.ΦT pre0 (tbl m) c) := rfl

/-- Before a point that is not the first: the carried scratch at what the point before left. -/
theorem PhiS_pos (hO : Ok m) (hH : Hyps m hO) (c : Dev nD) (n : ℕ) (h : n ≤ (cfgM m hO).N) (hz : n ≠ 0) :
    PhiS m hO hH c n h = iprop(iprop(iprop(owns (c : Thread nD τ) scM0_0 fullShare ((outsAt0 m hO hH c (n - 1) (by omega)).1) ∗ owns (c : Thread nD τ) scM0_1 fullShare ((outsAt0 m hO hH c (n - 1) (by omega)).2) ∗ (∃ d, owns (c : Thread nD τ) scM0_2 fullShare d) ∗ (∃ d, owns (c : Thread nD τ) scM0_3 fullShare d)) ∗ (∃ r, prngReg c r)) ∗ Pipeline.ΦT pre0 (tbl m) c) := by
  cases n with
  | zero => exact absurd rfl hz
  | succ n => rfl

/-! ## The pipeline's proof data -/

/-- The output windows this certificate FORGETS (3, 4, 5, 6, 7, 8, 9): nothing reads what the kernel leaves in them, so nothing
    of it is named (Lib/Pipeline/Dat.lean `Dat.toRForget`). -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
    | ⟨4, h⟩ => Pipeline.Dat.unnamed (cfg := (cfgM m hO)) ⟨4, h⟩ t
    | ⟨5, h⟩ => Pipeline.Dat.unnamed (cfg := (cfgM m hO)) ⟨5, h⟩ t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
  Φ t := PhiS m hO hH c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- The invariant at a point's start (the proof data at `t.castSucc`), restated at `t.val`. -/
theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ (dats m hO hH 0 c).leavesExact 0 t
    ∗ (dats m hO hH 0 c).leavesExact 1 t
    ∗ (dats m hO hH 0 c).leavesExact 2 t
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2]
  rw [show (dats m hO hH 0 c).owesAt () t.succ = (dats m hO hH 0 c).owesAt () t.castSucc from rfl]
  rw [show (dats m hO hH 0 c).Φ t.succ = PhiS m hO hH c (t.val + 1) t.isLt from rfl, PhiS_succ, PhiT0_eq]
  have hN : t.val < 2048 := lt_of_lt_of_eq t.isLt (show (cfgM m hO).N = 2048 from N_0)
  by_cases h0 : t.val % 128 = 0
  · rw [show (dats m hO hH 0 c).leavesExact 0 t = owns (c : Thread nD τ) (ms0_0 m hO t) fullShare ((dats m hO hH 0 c).after 0 t) from by
      unfold Dat.leavesExact; rw [liveAt0_0 m hO t]; try rfl, after0_0]
    rw [show (dats m hO hH 0 c).leavesExact 1 t = owns (c : Thread nD τ) (ms0_1 m hO t) fullShare ((dats m hO hH 0 c).after 1 t) from by
      unfold Dat.leavesExact; rw [liveAt0_1 m hO t]; try rfl, after0_1]
    rw [show (dats m hO hH 0 c).leavesExact 2 t = owns (c : Thread nD τ) (ms0_2 m hO t) fullShare ((dats m hO hH 0 c).after 2 t) from by
      unfold Dat.leavesExact; rw [liveAt0_2 m hO t]; try rfl, after0_2]
    by_cases hz : t.val = 0
    · rw [PhiS_castSucc m hO hH c t, PhiS_zero m hO hH c _ _ hz, PhiT0_eq, PhiA0_eq]
      rw [outsAt0_A m hO hH c t h0]
      unfold sout0_A_0 sout0_A_1; (try dsimp only)
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ _ _ ((hcond0_0 t).mpr h0) (iblk m hO c 0 t) (iblk m hO c 1 t) (iblk m hO c 2 t) (tbl m 0) (Hyps.c0 hH c t)).2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      isplitl [HT0]; · iexact HT0
      iintro ⟨H0, H1, H2, H3, H4, H5, H6, H7, H8, H9, ⟨%es0, HS0⟩, ⟨%es1, HS1⟩, HS2, HS3, HT0⟩
      isplitl [HS0 HS1 HS2 HS3 Hg HT0]
      · isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _)
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [PhiS_castSucc m hO hH c t, PhiS_pos m hO hH c _ _ hz, PhiT0_eq]
      rw [outsAt0_A m hO hH c t h0]
      unfold sout0_A_0 sout0_A_1; (try dsimp only)
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ _ _ ((hcond0_0 t).mpr h0) (iblk m hO c 0 t) (iblk m hO c 1 t) (iblk m hO c 2 t) (tbl m 0) (Hyps.c0 hH c t)).2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexists _; iexact HS0
      isplitl [HS1]; · iexists _; iexact HS1
      isplitl [HS2]; · iexact HS2
      isplitl [HS3]; · iexact HS3
      isplitl [HT0]; · iexact HT0
      iintro ⟨H0, H1, H2, H3, H4, H5, H6, H7, H8, H9, ⟨%es0, HS0⟩, ⟨%es1, HS1⟩, HS2, HS3, HT0⟩
      isplitl [HS0 HS1 HS2 HS3 Hg HT0]
      · isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _)
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · rw [show (dats m hO hH 0 c).leavesExact 0 t = owns (c : Thread nD τ) (ms0_0 m hO t) fullShare ((dats m hO hH 0 c).after 0 t) from by
      unfold Dat.leavesExact; rw [liveAt0_0 m hO t]; try rfl, after0_0]
    rw [show (dats m hO hH 0 c).leavesExact 1 t = owns (c : Thread nD τ) (ms0_1 m hO t) fullShare ((dats m hO hH 0 c).after 1 t) from by
      unfold Dat.leavesExact; rw [liveAt0_1 m hO t]; try rfl, after0_1]
    rw [show (dats m hO hH 0 c).leavesExact 2 t = owns (c : Thread nD τ) (ms0_2 m hO t) fullShare ((dats m hO hH 0 c).after 2 t) from by
      unfold Dat.leavesExact; rw [liveAt0_2 m hO t]; try rfl, after0_2]
    by_cases hz : t.val = 0
    · exfalso; have hN : t.val < 2048 := lt_of_lt_of_eq t.isLt (show (cfgM m hO).N = 2048 from N_0); omega
    · rw [PhiS_castSucc m hO hH c t, PhiS_pos m hO hH c _ _ hz, PhiT0_eq]
      rw [outsAt0_B m hO hH c t h0]
      unfold sout0_B_0 sout0_B_1; (try dsimp only)
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ _ _ (fun h => h0 ((hcond0_0 t).mp h)) (iblk m hO c 0 t) (iblk m hO c 1 t) (iblk m hO c 2 t) (tbl m 0) _ _ (Hyps.c0 hH c t)).2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      isplitl [HT0]; · iexact HT0
      iintro ⟨H0, H1, H2, H3, H4, H5, H6, H7, H8, H9, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-- What the launch hands the region (`ΦA`, the tables beside it) is the invariant before the first point. -/
theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

/-- After any point but the first the invariant gives `ΦA` back: the carried scratch's named contents are forgotten (and the tables' halves dropped). -/
theorem Phi_out (hO : Ok m) (hH : Hyps m hO) (c : Dev nD) (t : Fin ((cfgM m hO).N + 1)) (ht : t.val ≠ 0) : (dats m hO hH 0 c).Φ t ⊢ Pipeline.ΦA spec0 c := by
  rw [show (dats m hO hH 0 c).Φ t = PhiS m hO hH c t.val (Nat.le_of_lt_succ t.isLt) from rfl, PhiS_pos m hO hH c _ _ ht, PhiA0_eq]
  iintro ⟨⟨⟨HS0, HS1, HS2, HS3⟩, Hg⟩, -⟩
  isplitl [HS0 HS1 HS2 HS3]
  · isplitl [HS0]
    · iexists _; iexact HS0
    isplitl [HS1]
    · iexists _; iexact HS1
    isplitl [HS2]
    · iexact HS2
    iexact HS3
  iexact Hg

/-- The same after the last point. -/
theorem hout (hO : Ok m) (hH : Hyps m hO) (c : Dev nD) : (dats m hO hH 0 c).Φ (Fin.last (cfgM m hO).N) ⊢ Pipeline.ΦA spec0 c :=
  Phi_out m hO hH c _ (by rw [Fin.val_last]; have : (cfgM m hO).N = 2048 := N_0; omega)

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_track_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hin := hin m hO hH) (hout := hout m hO hH)

/-- At the compiled mesh, for any values, from any memory with zero counters: every weakly fair execution of @main on the
    TensorCores terminates, and every final state has every INPUT array of the pipeline unchanged, nothing stated of the
    FORGOTTEN outputs (windows 3, 4, 5, 6, 7, 8, 9) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO hH) ((θ_run defs _ _).mono (fun _ h => h.2) (run_main_quiescent m ρ hO hH))

end Cert.Kernel.Gen

end
-- ==== Proof.Words.lean ====
/- The words of the kernel's key-block loops, over no program: the running first key `stepW`, the first block `loW` and
   the four loop bounds, each in closed form. -/
module

public import Idealize.ShloMosaic.Lib.Scf
public import Idealize.ShloMosaic.Lib.WordCmp
public import Idealize.ShloMosaic.PureOps

@[expose] public section

set_option maxRecDepth 65536

namespace Cert.Words

open Idealize.ShloMosaic

/-- One step of the running maximum of the boundaries not past `p`. -/
def stepW (p acc v : BitVec 32) : BitVec 32 := Scalar.select (Scalar.cmpi .sle v p) (Scalar.maxsi acc v) acc

/-- The floor division by 128 as the kernel spells it. -/
def loW (W : BitVec 32) : BitVec 32 :=
  Scalar.select
    (Scalar.andi
      (Scalar.cmpi .ne
        (Scalar.subi (Scalar.extui (Scalar.cmpi .sgt W 0#32)) (Scalar.extui (Scalar.cmpi .slt W 0#32)))
        (Scalar.subi (Scalar.extui (Scalar.cmpi .sgt 128#32 0#32)) (Scalar.extui (Scalar.cmpi .slt 128#32 0#32))))
      (Scalar.cmpi .ne (Scalar.remsi W 128#32) 0#32))
    (Scalar.subi (Scalar.divsi W 128#32) 1#32) (Scalar.divsi W 128#32)

/-- The point's first row. -/
def rowW (t : Nat) : BitVec 32 := Scalar.muli (BitVec.ofNat 32 t) 128#32

/-- The end of the whole part of the loop from `L` to `t + 1`. -/
def midW (t : Nat) (L : BitVec 32) : BitVec 32 :=
  Scalar.addi L (Scalar.muli (Scalar.divsi (Scalar.subi (Scalar.addi (BitVec.ofNat 32 t) 1#32) L) 1#32) 1#32)

/-- The end of the loop from `L` to `t + 1`. -/
def endW (t : Nat) (L : BitVec 32) : BitVec 32 :=
  Scalar.addi L (Scalar.subi (Scalar.addi (BitVec.ofNat 32 t) 1#32) L)

theorem stepW_eq (p acc v : BitVec 32) :
    stepW p acc v = if v.toInt ≤ p.toInt then (if v.toInt < acc.toInt then acc else v) else acc := by
  unfold stepW
  by_cases h : v.toInt ≤ p.toInt
  · rw [if_pos h, WordCmp.select_of_eq_one (by
      show IntOp.cmpi .sle v p = 1#1
      rw [WordCmp.cmpi_sle_eq]; simp [h])]
    show IntOp.maxsi acc v = _
    unfold IntOp.maxsi
    simp only [BitVec.slt, decide_eq_true_eq]
  · rw [if_neg h, WordCmp.select_of_eq_zero (by
      show IntOp.cmpi .sle v p = 0#1
      rw [WordCmp.cmpi_sle_eq]; simp [h])]

theorem stepW_bounds {p acc v : BitVec 32} (h : 0 ≤ acc.toInt ∧ acc.toInt ≤ p.toInt) :
    0 ≤ (stepW p acc v).toInt ∧ (stepW p acc v).toInt ≤ p.toInt := by
  rw [stepW_eq]; split_ifs <;> omega

theorem sdiv_ofNat (w : Nat) (h : w < 2 ^ 30) : (BitVec.ofNat 32 w).sdiv 128#32 = BitVec.ofNat 32 (w / 128) := by
  rw [BitVec.sdiv_eq, show (128#32).msb = false from by decide]
  rw [show (BitVec.ofNat 32 w).msb = false from by
    rw [BitVec.msb_eq_decide]; simp; omega]
  apply BitVec.eq_of_toNat_eq
  simp
  omega

theorem corner_128 (x : BitVec 32) : ¬ IntOp.SDivCorner x 128#32 := by
  rintro (h | ⟨_, h⟩) <;> exact absurd h (by decide)

theorem corner_one (x : BitVec 32) : ¬ IntOp.SDivCorner x 1#32 := by
  rintro (h | ⟨_, h⟩) <;> exact absurd h (by decide)

theorem loW_ofNat (w : Nat) (h : w < 2 ^ 30) : loW (BitVec.ofNat 32 w) = BitVec.ofNat 32 (w / 128) := by
  have hd : Scalar.divsi (BitVec.ofNat 32 w) 128#32 = BitVec.ofNat 32 (w / 128) := by
    unfold Scalar.divsi IntOp.divsi
    rw [if_neg (corner_128 _), sdiv_ofNat w h]
  unfold loW
  rw [hd]
  rcases Nat.eq_zero_or_pos w with h0 | h0
  · subst h0
    decide +kernel
  · apply WordCmp.select_of_eq_zero
    rw [show Scalar.cmpi .sgt (BitVec.ofNat 32 w) 0#32 = 1#1 from by
      show IntOp.cmpi .sgt _ _ = _
      rw [WordCmp.cmpi_sgt_ofNat_eq_one_iff (by omega) (by omega)]; exact h0]
    rw [show Scalar.cmpi .slt (BitVec.ofNat 32 w) 0#32 = 0#1 from by
      show IntOp.cmpi .slt _ _ = _
      rw [WordCmp.cmpi_slt_ofNat_eq_zero_iff (by omega) (by omega)]; omega]
    show BitVec.and _ _ = _
    rw [show Scalar.cmpi .ne
        (Scalar.subi (Scalar.extui 1#1) (Scalar.extui 0#1))
        (Scalar.subi (Scalar.extui (Scalar.cmpi .sgt 128#32 0#32)) (Scalar.extui (Scalar.cmpi .slt 128#32 0#32))) = 0#1
      from by decide]
    exact BitVec.zero_and

theorem divsi_one (x : BitVec 32) : Scalar.divsi x 1#32 = x := by
  unfold Scalar.divsi IntOp.divsi
  rw [if_neg (corner_one x), BitVec.sdiv_one]

theorem endW_ofNat (t : Nat) (L : BitVec 32) : endW t L = BitVec.ofNat 32 (t + 1) := by
  show L + (BitVec.ofNat 32 t + 1#32 - L) = _
  rw [BitVec.add_comm, BitVec.sub_add_cancel, BitVec.ofNat_add]

theorem midW_ofNat (t : Nat) (L : BitVec 32) : midW t L = BitVec.ofNat 32 (t + 1) := by
  unfold midW
  rw [divsi_one, show Scalar.muli (Scalar.subi (Scalar.addi (BitVec.ofNat 32 t) 1#32) L) 1#32 =
    (Scalar.subi (Scalar.addi (BitVec.ofNat 32 t) 1#32) L) from BitVec.mul_one _]
  exact endW_ofNat t L

theorem toInt_small (a : Nat) (h : a < 2 ^ 31) : (BitVec.ofNat 32 a).toInt = a := by
  rw [WordCmp.toInt_eq_toNat_of_lt_half (by simp; omega)]; simp; omega

theorem rowW_toInt : ∀ t : Fin 128, (rowW t.val).toInt = 128 * t.val := by
  decide +kernel

/-- A word between zero and a point's first row, as a natural. -/
theorem exists_ofNat {t : Fin 128} {W : BitVec 32} (h : 0 ≤ W.toInt ∧ W.toInt ≤ (rowW t.val).toInt) :
    ∃ w : Nat, w ≤ 128 * t.val ∧ W = BitVec.ofNat 32 w := by
  rw [rowW_toInt] at h
  have ht := t.isLt
  refine ⟨W.toInt.toNat, by omega, ?_⟩
  apply BitVec.eq_of_toInt_eq
  rw [toInt_small _ (by omega)]; omega

theorem trips_ofNat (a b : Nat) (ha : a < 2 ^ 30) (hb : b < 2 ^ 30) :
    Scf.trips (BitVec.ofNat 32 a) (BitVec.ofNat 32 b) 1#32 = b - a := by
  unfold Scf.trips
  rw [toInt_small _ (by omega), toInt_small _ (by omega)]
  have : (1#32).toInt = 1 := by decide
  rw [this]
  omega

theorem ok_ofNat (a b : Nat) (ha : a < 2 ^ 29) (hb : b < 2 ^ 29) :
    Scf.OK (BitVec.ofNat 32 a) (BitVec.ofNat 32 b) 1#32 := by
  refine ⟨by decide, ?_⟩
  rw [trips_ofNat a b (by omega) (by omega), toInt_small _ (by omega)]
  have : (1#32).toInt = 1 := by decide
  rw [this]
  omega

theorem iv_ofNat (a k : Nat) : Scf.iv (BitVec.ofNat 32 a) 1#32 k = BitVec.ofNat 32 (a + k) := by
  unfold Scf.iv
  rw [BitVec.mul_one, ← BitVec.ofNat_add]

/-- The largest of the seventeen boundaries not past the point's first row, from zero. -/
def firstW (p v1 v2 v3 v4 v5 v6 v7 v8 v9 v10 v11 v12 v13 v14 v15 v16 v17 : BitVec 32) : BitVec 32 :=
  stepW p (stepW p (stepW p (stepW p (stepW p (stepW p (stepW p (stepW p (stepW p (stepW p (stepW p (stepW p (stepW p (stepW p
    (stepW p (stepW p (stepW p 0#32 v1) v2) v3) v4) v5) v6) v7) v8) v9) v10) v11) v12) v13) v14) v15) v16) v17

theorem firstW_bounds (p v1 v2 v3 v4 v5 v6 v7 v8 v9 v10 v11 v12 v13 v14 v15 v16 v17 : BitVec 32) (hp : 0 ≤ p.toInt) :
    0 ≤ (firstW p v1 v2 v3 v4 v5 v6 v7 v8 v9 v10 v11 v12 v13 v14 v15 v16 v17).toInt ∧
      (firstW p v1 v2 v3 v4 v5 v6 v7 v8 v9 v10 v11 v12 v13 v14 v15 v16 v17).toInt ≤ p.toInt := by
  unfold firstW
  iterate 17 apply stepW_bounds
  exact ⟨by decide, hp⟩

end Cert.Words
-- ==== Proof.PFrame.Hyps.lean ====
/- The side condition of the body holds at every point, whatever words the table of boundaries holds: the four key-block
   loops stay inside the keys. -/
module

public import proofs.«01_k».proof.Proof.PFrame.Runs
public import proofs.«01_k».proof.Proof.Words

@[expose] public section

set_option maxRecDepth 65536

namespace Cert.Kernel.Gen

open Idealize Idealize.ShloMosaic Cert.Words

/-- The side condition at any words. -/
theorem chk1 (i : grid0.Coords) (v483 v493 v503 v513 v523 v533 v543 v553 v563 v573 v583 v593 v603 v613 v623 v633 v643 : BitVec 32) :
    k0_chk1 i v483 v493 v503 v513 v523 v533 v543 v553 v563 v573 v583 v593 v603 v613 v623 v633 v643 := by
  obtain ⟨w, hw, hW⟩ := exists_ofNat (t := ⟨(i 2).val, (i 2).isLt⟩) (firstW_bounds (rowW (i 2).val) v483 v493 v503 v513 v523 v533 v543 v553 v563 v573 v583 v593 v603 v613 v623 v633 v643
    (by rw [rowW_toInt ⟨(i 2).val, (i 2).isLt⟩]; exact Int.natCast_nonneg _))
  have ht : (i 2).val < 128 := (i 2).isLt
  have hL := loW_ofNat w (by omega)
  simp only at hw hW
  have bnd : ∀ k : Nat, k < Scf.trips (loW (firstW (rowW (i 2).val) v483 v493 v503 v513 v523 v533 v543 v553 v563 v573 v583 v593 v603 v613 v623 v633 v643)) (midW (i 2).val (loW (firstW (rowW (i 2).val) v483 v493 v503 v513 v523 v533 v543 v553 v563 v573 v583 v593 v603 v613 v623 v633 v643))) 1#32 → w / 128 + k < 128 := by
    intro k hk
    rw [hW, hL, midW_ofNat, trips_ofNat _ _ (by omega) (by omega)] at hk
    omega
  have bnd' : ∀ k : Nat, k < Scf.trips (midW (i 2).val (loW (firstW (rowW (i 2).val) v483 v493 v503 v513 v523 v533 v543 v553 v563 v573 v583 v593 v603 v613 v623 v633 v643))) (endW (i 2).val (loW (firstW (rowW (i 2).val) v483 v493 v503 v513 v523 v533 v543 v553 v563 v573 v583 v593 v603 v613 v623 v633 v643))) 1#32 → False := by
    intro k hk
    rw [midW_ofNat, endW_ofNat, trips_ofNat _ _ (by omega) (by omega)] at hk
    omega
  have ok : Scf.OK (loW (firstW (rowW (i 2).val) v483 v493 v503 v513 v523 v533 v543 v553 v563 v573 v583 v593 v603 v613 v623 v633 v643)) (midW (i 2).val (loW (firstW (rowW (i 2).val) v483 v493 v503 v513 v523 v533 v543 v553 v563 v573 v583 v593 v603 v613 v623 v633 v643))) 1#32 := by
    rw [hW, hL, midW_ofNat]; exact ok_ofNat _ _ (by omega) (by omega)
  have ok' : Scf.OK (midW (i 2).val (loW (firstW (rowW (i 2).val) v483 v493 v503 v513 v523 v533 v543 v553 v563 v573 v583 v593 v603 v613 v623 v633 v643))) (endW (i 2).val (loW (firstW (rowW (i 2).val) v483 v493 v503 v513 v523 v533 v543 v553 v563 v573 v583 v593 v603 v613 v623 v633 v643))) 1#32 := by
    rw [midW_ofNat, endW_ofNat]; exact ok_ofNat _ _ (by omega) (by omega)
  have iv : ∀ k : Nat, w / 128 + k < 128 → (Scf.iv (loW (firstW (rowW (i 2).val) v483 v493 v503 v513 v523 v533 v543 v553 v563 v573 v583 v593 v603 v613 v623 v633 v643)) 1#32 k).toNat = w / 128 + k := by
    intro k hk
    rw [hW, hL, iv_ofNat, BitVec.toNat_ofNat]; omega
  have mu : ∀ k : Nat, w / 128 + k < 128 → (Scalar.muli (Scf.iv (loW (firstW (rowW (i 2).val) v483 v493 v503 v513 v523 v533 v543 v553 v563 v573 v583 v593 v603 v613 v623 v633 v643)) 1#32 k) 128#32).toNat = 128 * (w / 128 + k) := by
    intro k hk
    show (BitVec.mul _ _).toNat = _
    rw [BitVec.mul_eq, BitVec.toNat_mul, iv k hk, BitVec.toNat_ofNat]; omega
  exact ⟨
    ok,
    fun k => by
      have hk := bnd k.val k.isLt
      show 128 ∣ (Scalar.muli (Scf.iv (loW (firstW (rowW (i 2).val) v483 v493 v503 v513 v523 v533 v543 v553 v563 v573 v583 v593 v603 v613 v623 v633 v643)) 1#32 k.val) 128#32).toNat
      rw [mu k.val hk]; exact Dvd.intro _ rfl,
    fun k a => by
      have hk := bnd k.val k.isLt
      show (![0, (Scalar.muli (Scf.iv (loW (firstW (rowW (i 2).val) v483 v493 v503 v513 v523 v533 v543 v553 v563 v573 v583 v593 v603 v613 v623 v633 v643)) 1#32 k.val) 128#32).toNat, 0] : Fin 3 → Nat) a + _ ≤ _
      rw [mu k.val hk]
      match a with
      | 0 => exact (by decide : 0 + 1 ≤ 1)
      | 1 => show 128 * (w / 128 + k.val) + 128 ≤ 16384; omega
      | 2 => exact (by decide : 0 + 128 ≤ 128),
    fun k a => by
      have hk := bnd k.val k.isLt
      show (![(Scalar.muli (Scf.iv (loW (firstW (rowW (i 2).val) v483 v493 v503 v513 v523 v533 v543 v553 v563 v573 v583 v593 v603 v613 v623 v633 v643)) 1#32 k.val) 128#32).toNat, 0] : Fin 2 → Nat) a + _ ≤ _
      rw [mu k.val hk]
      match a with
      | 0 => show 128 * (w / 128 + k.val) + 128 ≤ 16384; omega
      | 1 => exact (by decide : 0 + 128 ≤ 128),
    ok',
    fun k => (bnd' k.val k.isLt).elim,
    fun k => (bnd' k.val k.isLt).elim,
    fun k => (bnd' k.val k.isLt).elim,
    ok,
    fun k => by
      have hk := bnd k.val k.isLt
      show 128 ∣ (Scalar.muli (Scf.iv (loW (firstW (rowW (i 2).val) v483 v493 v503 v513 v523 v533 v543 v553 v563 v573 v583 v593 v603 v613 v623 v633 v643)) 1#32 k.val) 128#32).toNat
      rw [mu k.val hk]; exact Dvd.intro _ rfl,
    fun k a => by
      have hk := bnd k.val k.isLt
      show (![0, (Scalar.muli (Scf.iv (loW (firstW (rowW (i 2).val) v483 v493 v503 v513 v523 v533 v543 v553 v563 v573 v583 v593 v603 v613 v623 v633 v643)) 1#32 k.val) 128#32).toNat, 0] : Fin 3 → Nat) a + _ ≤ _
      rw [mu k.val hk]
      match a with
      | 0 => exact (by decide : 0 + 1 ≤ 1)
      | 1 => show 128 * (w / 128 + k.val) + 128 ≤ 16384; omega
      | 2 => exact (by decide : 0 + 128 ≤ 128),
    fun k a => by
      have hk := bnd k.val k.isLt
      show (![(Scalar.muli (Scf.iv (loW (firstW (rowW (i 2).val) v483 v493 v503 v513 v523 v533 v543 v553 v563 v573 v583 v593 v603 v613 v623 v633 v643)) 1#32 k.val) 128#32).toNat, 0] : Fin 2 → Nat) a + _ ≤ _
      rw [mu k.val hk]
      match a with
      | 0 => show 128 * (w / 128 + k.val) + 128 ≤ 16384; omega
      | 1 => exact (by decide : 0 + 128 ≤ 128),
    fun k a => by
      have hk := bnd k.val k.isLt
      show (![(Scf.iv (loW (firstW (rowW (i 2).val) v483 v493 v503 v513 v523 v533 v543 v553 v563 v573 v583 v593 v603 v613 v623 v633 v643)) 1#32 k.val).toNat, 0, 0] : Fin 3 → Nat) a + _ ≤ _
      rw [iv k.val hk]
      match a with
      | 0 => show (w / 128 + k.val) + 1 ≤ 128; omega
      | 1 => exact (by decide : 0 + 128 ≤ 128)
      | 2 => exact (by decide : 0 + 128 ≤ 128),
    ok',
    fun k => (bnd' k.val k.isLt).elim,
    fun k => (bnd' k.val k.isLt).elim,
    fun k => (bnd' k.val k.isLt).elim,
    fun k => (bnd' k.val k.isLt).elim⟩

variable {F : FTy → Type} [FloatOps F]

/-- No index map reads the table. -/
theorem ok (m : (ℓ : Loc nD τ sig) → Buf (Elt F) ℓ) : Ok m := trivial

/-- The body's side condition at every point of a run. -/
theorem hyps (m : (ℓ : Loc nD τ sig) → Buf (Elt F) ℓ) : Hyps m (ok m) :=
  Hyps.of fun _ t => chk1 (grid0.coords t) _ _ _ _ _ _ _ _ _ _ _ _ _ _ _ _ _

end Cert.Kernel.Gen
-- ==== Proof.IFrame.Points.lean ====
/- When each window is fetched and written back over the grid of `KernelIdeal`, in closed form, and the staging buffers and the body
   of each point. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 2 (by decide) (by decide) (Pipeline.Window.sep_of_coord cc0_transform_0 2 1 (fun _ => rfl) (by decide)) (P := 1) (by decide) t).mpr (Nat.mod_one _) : ∀ t : Fin grid0.N, Pipeline.Window.fetchOf grid0 false cc0_transform_0 t = true)
/-- Window 1 (operand 2 (%arg1)) is fetched at the points ≡ 0 (mod 128), at any contents of the tables (its index map reads none). -/
theorem fetch0_1 (a : (pcfg0 (F := F)).Adm) : ∀ t : Fin (cfg0 a).N, ((cfg0 a).win 1).fetch t = true ↔ t.val % 128 = 0 :=
  (fun t => Pipeline.Window.fetchOf_reads cc0_transform_1 reads0_1 hreads0_1 1 (by decide) (by decide) (Pipeline.Window.sep_of_coord cc0_transform_1 1 2 (fun _ => rfl) (by decide)) (P := 128) (by decide) t : ∀ t : Fin grid0.N, Pipeline.Window.fetchOf grid0 false cc0_transform_1 t = true ↔ t.val % 128 = 0)
/-- Window 2 (operand 3 (%arg2)) is fetched at the points ≡ 0 (mod 128), at any contents of the tables (its index map reads none). -/
theorem fetch0_2 (a : (pcfg0 (F := F)).Adm) : ∀ t : Fin (cfg0 a).N, ((cfg0 a).win 2).fetch t = true ↔ t.val % 128 = 0 :=
  (fun t => Pipeline.Window.fetchOf_reads cc0_transform_2 reads0_2 hreads0_2 1 (by decide) (by decide) (Pipeline.Window.sep_of_coord cc0_transform_2 1 2 (fun _ => rfl) (by decide)) (P := 128) (by decide) t : ∀ t : Fin grid0.N, Pipeline.Window.fetchOf grid0 false cc0_transform_2 t = true ↔ t.val % 128 = 0)
/-- Window 3 (result 0 (%0#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 2 (by decide) (by decide) (Pipeline.Window.sep_of_coord cc0_transform_3 2 1 (fun _ => rfl) (by decide)) (P := 1) (m := 0) (by decide) rfl t).mpr (Nat.mod_one _) : ∀ t : Fin grid0.N, Pipeline.Window.flushOf grid0 true cc0_transform_3 t = true)
/-- Window 4 (result 1 (%0#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 2 (by decide) (by decide) (Pipeline.Window.sep_of_coord cc0_transform_4 2 1 (fun _ => rfl) (by decide)) (P := 1) (m := 0) (by decide) rfl t).mpr (Nat.mod_one _) : ∀ t : Fin grid0.N, Pipeline.Window.flushOf grid0 true cc0_transform_4 t = true)
/-- Window 5 (result 2 (%0#2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 2 (by decide) (by decide) (Pipeline.Window.sep_of_coord cc0_transform_5 2 3 (fun _ => rfl) (by decide)) (P := 1) (m := 0) (by decide) rfl t).mpr (Nat.mod_one _) : ∀ t : Fin grid0.N, Pipeline.Window.flushOf grid0 true cc0_transform_5 t = true)
/-- Window 6 (result 3 (%0#3)) is written back at the points ≡ 127 (mod 128), at any contents of the tables (its index map reads none). -/
theorem flush0_6 (a : (pcfg0 (F := F)).Adm) : ∀ t : Fin (cfg0 a).N, ((cfg0 a).win 6).flush t = true ↔ t.val % 128 = 127 :=
  (fun t => Pipeline.Window.flushOf_reads cc0_transform_6 reads0_6 hreads0_6 1 (by decide) (by decide) (Pipeline.Window.sep_of_coord cc0_transform_6 1 2 (fun _ => rfl) (by decide)) (P := 128) (m := 127) (by decide) rfl t : ∀ t : Fin grid0.N, Pipeline.Window.flushOf grid0 true cc0_transform_6 t = true ↔ t.val % 128 = 127)
/-- Window 7 (result 4 (%0#4)) is written back at the points ≡ 127 (mod 128), at any contents of the tables (its index map reads none). -/
theorem flush0_7 (a : (pcfg0 (F := F)).Adm) : ∀ t : Fin (cfg0 a).N, ((cfg0 a).win 7).flush t = true ↔ t.val % 128 = 127 :=
  (fun t => Pipeline.Window.flushOf_reads cc0_transform_7 reads0_7 hreads0_7 1 (by decide) (by decide) (Pipeline.Window.sep_of_coord cc0_transform_7 1 1 (fun _ => rfl) (by decide)) (P := 128) (m := 127) (by decide) rfl t : ∀ t : Fin grid0.N, Pipeline.Window.flushOf grid0 true cc0_transform_7 t = true ↔ t.val % 128 = 127)
/-- Window 8 (result 5 (%0#5)) is written back at the points ≡ 127 (mod 128), at any contents of the tables (its index map reads none). -/
theorem flush0_8 (a : (pcfg0 (F := F)).Adm) : ∀ t : Fin (cfg0 a).N, ((cfg0 a).win 8).flush t = true ↔ t.val % 128 = 127 :=
  (fun t => Pipeline.Window.flushOf_reads cc0_transform_8 reads0_8 hreads0_8 1 (by decide) (by decide) (Pipeline.Window.sep_of_coord cc0_transform_8 1 2 (fun _ => rfl) (by decide)) (P := 128) (m := 127) (by decide) rfl t : ∀ t : Fin grid0.N, Pipeline.Window.flushOf grid0 true cc0_transform_8 t = true ↔ t.val % 128 = 127)
/-- Window 9 (result 6 (%0#6)) is written back at the points ≡ 127 (mod 128), at any contents of the tables (its index map reads none). -/
theorem flush0_9 (a : (pcfg0 (F := F)).Adm) : ∀ t : Fin (cfg0 a).N, ((cfg0 a).win 9).flush t = true ↔ t.val % 128 = 127 :=
  (fun t => Pipeline.Window.flushOf_reads cc0_transform_9 reads0_9 hreads0_9 1 (by decide) (by decide) (Pipeline.Window.sep_of_coord cc0_transform_9 1 1 (fun _ => rfl) (by decide)) (P := 128) (m := 127) (by decide) rfl t : ∀ t : Fin grid0.N, Pipeline.Window.flushOf grid0 true cc0_transform_9 t = true ↔ t.val % 128 = 127)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_packed_attention (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.KernelIdeal.Gen

end
-- ==== Proof.IFrame.Runs.lean ====
/- What the runs of the body of `KernelIdeal` share: the branch conditions in closed form, where windows idle, the staging and scratch
   buffers, and the side condition of the words the body reads. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.IFrame.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle recurses once per coordinate of its long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2x17 .i32 := Memref.whole main_arg3
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (by decide : main_arg3 ∈ Pipeline.restRefs sig spec0)).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 128) — by arithmetic of the point. -/
theorem hcond0_0 : ∀ t : Fin grid0.N, cond0_0 (grid0.coords t) ↔ t.val % 128 = 0 :=
  (fun t => by
    have ht : t.val < 2048 := Nat.lt_of_lt_of_eq t.isLt N_0
    have e0 : (grid0.coords t 0).val = t.val / 1024 % 2 := Pipeline.Grid.coords_val t 0 (by decide) rfl
    have e1 : (grid0.coords t 1).val = t.val / 128 % 8 := Pipeline.Grid.coords_val t 1 (by decide) rfl
    have e2 : (grid0.coords t 2).val = t.val / 1 % 128 := Pipeline.Grid.coords_val t 2 (by decide) rfl
    simp only [cond0_0, k0_cond1, e0, e1, e2]
    word_cmp
   : ∀ t : Fin grid0.N, cond0_0 (grid0.coords t) ↔ t.val % 128 = 0)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x128x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x16384x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x16384x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x128x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x128x512 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x4x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x16384x128 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x128x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x16384x128 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1x1x128 .f32 := spec0_9.stage ((cfgM m hO).slots t 9)
abbrev hs0_9 (hO : Ok m) (t : Fin (cfgM m hO).N) : (ms0_9 m hO t).IsWhole := hstage0_9 (((cfgM m hO).slots t 9).cast nbuf0_9)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S2x17) (k0_off5 (grid0.coords t)) S1x1.size (k0_off5_inb (grid0.coords t))).toLoadRect (tbl m 0) (Shape.Idx.first (numel1_S1x1.symm ▸ Nat.one_pos))) (tbM0_0.view.readAt (Elt F) (Rect.unit (s := S2x17) (k0_off6 (grid0.coords t)) S1x1.size (k0_off6_inb (grid0.coords t))).toLoadRect (tbl m 0) (Shape.Idx.first (numel1_S1x1.symm ▸ Nat.one_pos))) (tbM0_0.view.readAt (Elt F) (Rect.unit (s := S2x17) (k0_off7 (grid0.coords t)) S1x1.size (k0_off7_inb (grid0.coords t))).toLoadRect (tbl m 0) (Shape.Idx.first (numel1_S1x1.symm ▸ Nat.one_pos))) (tbM0_0.view.readAt (Elt F) (Rect.unit (s := S2x17) (k0_off8 (grid0.coords t)) S1x1.size (k0_off8_inb (grid0.coords t))).toLoadRect (tbl m 0) (Shape.Idx.first (numel1_S1x1.symm ▸ Nat.one_pos))) (tbM0_0.view.readAt (Elt F) (Rect.unit (s := S2x17) (k0_off9 (grid0.coords t)) S1x1.size (k0_off9_inb (grid0.coords t))).toLoadRect (tbl m 0) (Shape.Idx.first (numel1_S1x1.symm ▸ Nat.one_pos))) (tbM0_0.view.readAt (Elt F) (Rect.unit (s := S2x17) (k0_off10 (grid0.coords t)) S1x1.size (k0_off10_inb (grid0.coords t))).toLoadRect (tbl m 0) (Shape.Idx.first (numel1_S1x1.symm ▸ Nat.one_pos))) (tbM0_0.view.readAt (Elt F) (Rect.unit (s := S2x17) (k0_off11 (grid0.coords t)) S1x1.size (k0_off11_inb (grid0.coords t))).toLoadRect (tbl m 0) (Shape.Idx.first (numel1_S1x1.symm ▸ Nat.one_pos))) (tbM0_0.view.readAt (Elt F) (Rect.unit (s := S2x17) (k0_off12 (grid0.coords t)) S1x1.size (k0_off12_inb (grid0.coords t))).toLoadRect (tbl m 0) (Shape.Idx.first (numel1_S1x1.symm ▸ Nat.one_pos))) (tbM0_0.view.readAt (Elt F) (Rect.unit (s := S2x17) (k0_off13 (grid0.coords t)) S1x1.size (k0_off13_inb (grid0.coords t))).toLoadRect (tbl m 0) (Shape.Idx.first (numel1_S1x1.symm ▸ Nat.one_pos))) (tbM0_0.view.readAt (Elt F) (Rect.unit (s := S2x17) (k0_off14 (grid0.coords t)) S1x1.size (k0_off14_inb (grid0.coords t))).toLoadRect (tbl m 0) (Shape.Idx.first (numel1_S1x1.symm ▸ Nat.one_pos))) (tbM0_0.view.readAt (Elt F) (Rect.unit (s := S2x17) (k0_off15 (grid0.coords t)) S1x1.size (k0_off15_inb (grid0.coords t))).toLoadRect (tbl m 0) (Shape.Idx.first (numel1_S1x1.symm ▸ Nat.one_pos))) (tbM0_0.view.readAt (Elt F) (Rect.unit (s := S2x17) (k0_off16 (grid0.coords t)) S1x1.size (k0_off16_inb (grid0.coords t))).toLoadRect (tbl m 0) (Shape.Idx.first (numel1_S1x1.symm ▸ Nat.one_pos))) (tbM0_0.view.readAt (Elt F) (Rect.unit (s := S2x17) (k0_off17 (grid0.coords t)) S1x1.size (k0_off17_inb (grid0.coords t))).toLoadRect (tbl m 0) (Shape.Idx.first (numel1_S1x1.symm ▸ Nat.one_pos))) (tbM0_0.view.readAt (Elt F) (Rect.unit (s := S2x17) (k0_off18 (grid0.coords t)) S1x1.size (k0_off18_inb (grid0.coords t))).toLoadRect (tbl m 0) (Shape.Idx.first (numel1_S1x1.symm ▸ Nat.one_pos))) (tbM0_0.view.readAt (Elt F) (Rect.unit (s := S2x17) (k0_off19 (grid0.coords t)) S1x1.size (k0_off19_inb (grid0.coords t))).toLoadRect (tbl m 0) (Shape.Idx.first (numel1_S1x1.symm ▸ Nat.one_pos))) (tbM0_0.view.readAt (Elt F) (Rect.unit (s := S2x17) (k0_off20 (grid0.coords t)) S1x1.size (k0_off20_inb (grid0.coords t))).toLoadRect (tbl m 0) (Shape.Idx.first (numel1_S1x1.symm ▸ Nat.one_pos))) (tbM0_0.view.readAt (Elt F) (Rect.unit (s := S2x17) (k0_off21 (grid0.coords t)) S1x1.size (k0_off21_inb (grid0.coords t))).toLoadRect (tbl m 0) (Shape.Idx.first (numel1_S1x1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_0.view.readAt (Elt F) (Rect.unit (s := S2x17) (k0_off5 (grid0.coords t)) S1x1.size (k0_off5_inb (grid0.coords t))).toLoadRect (tbl m 0) (Shape.Idx.first (numel1_S1x1.symm ▸ Nat.one_pos))) (tbM0_0.view.readAt (Elt F) (Rect.unit (s := S2x17) (k0_off6 (grid0.coords t)) S1x1.size (k0_off6_inb (grid0.coords t))).toLoadRect (tbl m 0) (Shape.Idx.first (numel1_S1x1.symm ▸ Nat.one_pos))) (tbM0_0.view.readAt (Elt F) (Rect.unit (s := S2x17) (k0_off7 (grid0.coords t)) S1x1.size (k0_off7_inb (grid0.coords t))).toLoadRect (tbl m 0) (Shape.Idx.first (numel1_S1x1.symm ▸ Nat.one_pos))) (tbM0_0.view.readAt (Elt F) (Rect.unit (s := S2x17) (k0_off8 (grid0.coords t)) S1x1.size (k0_off8_inb (grid0.coords t))).toLoadRect (tbl m 0) (Shape.Idx.first (numel1_S1x1.symm ▸ Nat.one_pos))) (tbM0_0.view.readAt (Elt F) (Rect.unit (s := S2x17) (k0_off9 (grid0.coords t)) S1x1.size (k0_off9_inb (grid0.coords t))).toLoadRect (tbl m 0) (Shape.Idx.first (numel1_S1x1.symm ▸ Nat.one_pos))) (tbM0_0.view.readAt (Elt F) (Rect.unit (s := S2x17) (k0_off10 (grid0.coords t)) S1x1.size (k0_off10_inb (grid0.coords t))).toLoadRect (tbl m 0) (Shape.Idx.first (numel1_S1x1.symm ▸ Nat.one_pos))) (tbM0_0.view.readAt (Elt F) (Rect.unit (s := S2x17) (k0_off11 (grid0.coords t)) S1x1.size (k0_off11_inb (grid0.coords t))).toLoadRect (tbl m 0) (Shape.Idx.first (numel1_S1x1.symm ▸ Nat.one_pos))) (tbM0_0.view.readAt (Elt F) (Rect.unit (s := S2x17) (k0_off12 (grid0.coords t)) S1x1.size (k0_off12_inb (grid0.coords t))).toLoadRect (tbl m 0) (Shape.Idx.first (numel1_S1x1.symm ▸ Nat.one_pos))) (tbM0_0.view.readAt (Elt F) (Rect.unit (s := S2x17) (k0_off13 (grid0.coords t)) S1x1.size (k0_off13_inb (grid0.coords t))).toLoadRect (tbl m 0) (Shape.Idx.first (numel1_S1x1.symm ▸ Nat.one_pos))) (tbM0_0.view.readAt (Elt F) (Rect.unit (s := S2x17) (k0_off14 (grid0.coords t)) S1x1.size (k0_off14_inb (grid0.coords t))).toLoadRect (tbl m 0) (Shape.Idx.first (numel1_S1x1.symm ▸ Nat.one_pos))) (tbM0_0.view.readAt (Elt F) (Rect.unit (s := S2x17) (k0_off15 (grid0.coords t)) S1x1.size (k0_off15_inb (grid0.coords t))).toLoadRect (tbl m 0) (Shape.Idx.first (numel1_S1x1.symm ▸ Nat.one_pos))) (tbM0_0.view.readAt (Elt F) (Rect.unit (s := S2x17) (k0_off16 (grid0.coords t)) S1x1.size (k0_off16_inb (grid0.coords t))).toLoadRect (tbl m 0) (Shape.Idx.first (numel1_S1x1.symm ▸ Nat.one_pos))) (tbM0_0.view.readAt (Elt F) (Rect.unit (s := S2x17) (k0_off17 (grid0.coords t)) S1x1.size (k0_off17_inb (grid0.coords t))).toLoadRect (tbl m 0) (Shape.Idx.first (numel1_S1x1.symm ▸ Nat.one_pos))) (tbM0_0.view.readAt (Elt F) (Rect.unit (s := S2x17) (k0_off18 (grid0.coords t)) S1x1.size (k0_off18_inb (grid0.coords t))).toLoadRect (tbl m 0) (Shape.Idx.first (numel1_S1x1.symm ▸ Nat.one_pos))) (tbM0_0.view.readAt (Elt F) (Rect.unit (s := S2x17) (k0_off19 (grid0.coords t)) S1x1.size (k0_off19_inb (grid0.coords t))).toLoadRect (tbl m 0) (Shape.Idx.first (numel1_S1x1.symm ▸ Nat.one_pos))) (tbM0_0.view.readAt (Elt F) (Rect.unit (s := S2x17) (k0_off20 (grid0.coords t)) S1x1.size (k0_off20_inb (grid0.coords t))).toLoadRect (tbl m 0) (Shape.Idx.first (numel1_S1x1.symm ▸ Nat.one_pos))) (tbM0_0.view.readAt (Elt F) (Rect.unit (s := S2x17) (k0_off21 (grid0.coords t)) S1x1.size (k0_off21_inb (grid0.coords t))).toLoadRect (tbl m 0) (Shape.Idx.first (numel1_S1x1.symm ▸ Nat.one_pos)))
variable {m} in
theorem Hyps.c0 {hO : Ok m} (hH : Hyps m hO) (c : Dev nD) (t : Fin (cfgM m hO).N) :
    k0_chk1 (grid0.coords t) (tbM0_0.view.readAt (Elt F) (Rect.unit (s := S2x17) (k0_off5 (grid0.coords t)) S1x1.size (k0_off5_inb (grid0.coords t))).toLoadRect (tbl m 0) (Shape.Idx.first (numel1_S1x1.symm ▸ Nat.one_pos))) (tbM0_0.view.readAt (Elt F) (Rect.unit (s := S2x17) (k0_off6 (grid0.coords t)) S1x1.size (k0_off6_inb (grid0.coords t))).toLoadRect (tbl m 0) (Shape.Idx.first (numel1_S1x1.symm ▸ Nat.one_pos))) (tbM0_0.view.readAt (Elt F) (Rect.unit (s := S2x17) (k0_off7 (grid0.coords t)) S1x1.size (k0_off7_inb (grid0.coords t))).toLoadRect (tbl m 0) (Shape.Idx.first (numel1_S1x1.symm ▸ Nat.one_pos))) (tbM0_0.view.readAt (Elt F) (Rect.unit (s := S2x17) (k0_off8 (grid0.coords t)) S1x1.size (k0_off8_inb (grid0.coords t))).toLoadRect (tbl m 0) (Shape.Idx.first (numel1_S1x1.symm ▸ Nat.one_pos))) (tbM0_0.view.readAt (Elt F) (Rect.unit (s := S2x17) (k0_off9 (grid0.coords t)) S1x1.size (k0_off9_inb (grid0.coords t))).toLoadRect (tbl m 0) (Shape.Idx.first (numel1_S1x1.symm ▸ Nat.one_pos))) (tbM0_0.view.readAt (Elt F) (Rect.unit (s := S2x17) (k0_off10 (grid0.coords t)) S1x1.size (k0_off10_inb (grid0.coords t))).toLoadRect (tbl m 0) (Shape.Idx.first (numel1_S1x1.symm ▸ Nat.one_pos))) (tbM0_0.view.readAt (Elt F) (Rect.unit (s := S2x17) (k0_off11 (grid0.coords t)) S1x1.size (k0_off11_inb (grid0.coords t))).toLoadRect (tbl m 0) (Shape.Idx.first (numel1_S1x1.symm ▸ Nat.one_pos))) (tbM0_0.view.readAt (Elt F) (Rect.unit (s := S2x17) (k0_off12 (grid0.coords t)) S1x1.size (k0_off12_inb (grid0.coords t))).toLoadRect (tbl m 0) (Shape.Idx.first (numel1_S1x1.symm ▸ Nat.one_pos))) (tbM0_0.view.readAt (Elt F) (Rect.unit (s := S2x17) (k0_off13 (grid0.coords t)) S1x1.size (k0_off13_inb (grid0.coords t))).toLoadRect (tbl m 0) (Shape.Idx.first (numel1_S1x1.symm ▸ Nat.one_pos))) (tbM0_0.view.readAt (Elt F) (Rect.unit (s := S2x17) (k0_off14 (grid0.coords t)) S1x1.size (k0_off14_inb (grid0.coords t))).toLoadRect (tbl m 0) (Shape.Idx.first (numel1_S1x1.symm ▸ Nat.one_pos))) (tbM0_0.view.readAt (Elt F) (Rect.unit (s := S2x17) (k0_off15 (grid0.coords t)) S1x1.size (k0_off15_inb (grid0.coords t))).toLoadRect (tbl m 0) (Shape.Idx.first (numel1_S1x1.symm ▸ Nat.one_pos))) (tbM0_0.view.readAt (Elt F) (Rect.unit (s := S2x17) (k0_off16 (grid0.coords t)) S1x1.size (k0_off16_inb (grid0.coords t))).toLoadRect (tbl m 0) (Shape.Idx.first (numel1_S1x1.symm ▸ Nat.one_pos))) (tbM0_0.view.readAt (Elt F) (Rect.unit (s := S2x17) (k0_off17 (grid0.coords t)) S1x1.size (k0_off17_inb (grid0.coords t))).toLoadRect (tbl m 0) (Shape.Idx.first (numel1_S1x1.symm ▸ Nat.one_pos))) (tbM0_0.view.readAt (Elt F) (Rect.unit (s := S2x17) (k0_off18 (grid0.coords t)) S1x1.size (k0_off18_inb (grid0.coords t))).toLoadRect (tbl m 0) (Shape.Idx.first (numel1_S1x1.symm ▸ Nat.one_pos))) (tbM0_0.view.readAt (Elt F) (Rect.unit (s := S2x17) (k0_off19 (grid0.coords t)) S1x1.size (k0_off19_inb (grid0.coords t))).toLoadRect (tbl m 0) (Shape.Idx.first (numel1_S1x1.symm ▸ Nat.one_pos))) (tbM0_0.view.readAt (Elt F) (Rect.unit (s := S2x17) (k0_off20 (grid0.coords t)) S1x1.size (k0_off20_inb (grid0.coords t))).toLoadRect (tbl m 0) (Shape.Idx.first (numel1_S1x1.symm ▸ Nat.one_pos))) (tbM0_0.view.readAt (Elt F) (Rect.unit (s := S2x17) (k0_off21 (grid0.coords t)) S1x1.size (k0_off21_inb (grid0.coords t))).toLoadRect (tbl m 0) (Shape.Idx.first (numel1_S1x1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S16384x128 .f32 := Memref.whole cc0_scratch0
abbrev scM0_1 : Memref sig .tc .vmem S128x128x128 .fp8e4m3 := Memref.whole cc0_scratch1
abbrev scM0_2 : Memref sig .tc .vmem S128x128 .f32 := Memref.whole cc0_scratch2
abbrev scM0_3 : Memref sig .tc .vmem S512x128 .fp8e4m3 := Memref.whole cc0_scratch3
/-- The scratch `arg14` the kernel carries between points, as a view: what it holds is stated through it. -/
abbrev VS0_0 : View sig .tc .vmem S16384x128 .f32 := scM0_0.view
/-- The scratch `arg15` the kernel carries between points, as a view: what it holds is stated through it. -/
abbrev VS0_1 : View sig .tc .vmem S128x128x128 .fp8e4m3 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.IFrame.RunA.lean ====
/- The body of `KernelIdeal` run once at a point that prepares the keys and the values of a group (the third coordinate is 0). -/
module

public import proofs.«01_k».proof.Proof.IFrame.Runs

@[expose] public section

-- membership in a rectangle recurses once per coordinate of its long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1268000 in
/-- What the body's stores leave in each output's staging memref, as pieces (last first) IN CASE A (`scf.if` 0 taken: points 0, 128, … 1920: 16 of 2048), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7, 8, 9) at anything, handed back at some contents nothing names. -/
noncomputable def kernelRun0_A (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : cond0_0 i)
    (x0 : Vec F S1x128x512 .bf16) (x1 : Vec F S1x16384x128 .bf16) (x2 : Vec F S1x16384x128 .bf16) (xt0 : TbBuf0 (F := F) c tbM0_0) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) :
    Σ' (LS0 : List (View.Piece (Elt F) S16384x128 .f32)), { LS1 : List (View.Piece (Elt F) S128x128x128 .fp8e4m3) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0
            ∗ (iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ d, owns (c : Thread nD τ) arg16 fullShare d) ∗ (∃ d, owns (c : Thread nD τ) arg17 fullShare d) ∗ tbPt0 c tbM0_0 xt0) -∗ K ⟨⟩))
          ⊢ wp frame (wpE (defs₀ (F := F)) Variants.none c none) E (cc0_packed_attention i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_packed_attention_eq_skeleton]; unfold cc0_packed_attention_skel
    simp only [k0_part21_eq_skeleton, k0_part5_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold k0_part21_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, HT0, Hk⟩
    obtain rfl := harg4.eq_unread hf0; obtain rfl := harg5.eq_unread hf1; obtain rfl := harg6.eq_unread hf2
    sl_exec (disch := first | sl_exact hc0 | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    iexact HT0

end Cert.KernelIdeal.Gen

end
-- ==== Proof.IFrame.RunB.lean ====
/- The body of `KernelIdeal` run once at a point that finds the keys and the values prepared. -/
module

public import proofs.«01_k».proof.Proof.IFrame.RunA

@[expose] public section

-- membership in a rectangle recurses once per coordinate of its long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1048000 in
/-- What the body's stores leave in each output's staging memref, as pieces (last first) IN CASE B (`scf.if` 0 not taken: points 1, 2, … 2047: 2032 of 2048), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7, 8, 9) at anything, handed back at some contents nothing names. -/
noncomputable def kernelRun0_B (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : ¬cond0_0 i)
    (x0 : Vec F S1x128x512 .bf16) (x1 : Vec F S1x16384x128 .bf16) (x2 : Vec F S1x16384x128 .bf16) (xt0 : TbBuf0 (F := F) c tbM0_0) (xs0 : Vec F S16384x128 .f32) (xs1 : Vec F S128x128x128 .fp8e4m3) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) :
    Σ' (LS0 : List (View.Piece (Elt F) S16384x128 .f32)), { LS1 : List (View.Piece (Elt F) S128x128x128 .fp8e4m3) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ (∃ d, owns (c : Thread nD τ) arg16 fullShare d) ∗ (∃ d, owns (c : Thread nD τ) arg17 fullShare d) ∗ tbPt0 c tbM0_0 xt0
            ∗ (iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ (∃ d, owns (c : Thread nD τ) arg16 fullShare d) ∗ (∃ d, owns (c : Thread nD τ) arg17 fullShare d) ∗ tbPt0 c tbM0_0 xt0) -∗ K ⟨⟩))
          ⊢ wp frame (wpE (defs₀ (F := F)) Variants.none c none) E (cc0_packed_attention i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], fun E K => ?run⟩
  case run =>
    simp only [cc0_packed_attention_eq_skeleton]; unfold cc0_packed_attention_skel
    simp only [k0_part21_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold k0_part21_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, ⟨%ds2, %fs2, -, HS2⟩, ⟨%ds3, %fs3, -, HS3⟩, HT0, Hk⟩
    obtain rfl := harg4.eq_unread hf0; obtain rfl := harg5.eq_unread hf1; obtain rfl := harg6.eq_unread hf2; obtain rfl := harg14.eq_unread hfs0; obtain rfl := harg15.eq_unread hfs1
    sl_exec (disch := first | sl_exact hc0 | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _; isplitr; · ipureintro; exact harg14.read_unread _
      iexact HS0
    isplitl [HS1]
    · iexists _; isplitr; · ipureintro; exact harg15.read_unread _
      iexact HS1
    isplitl [HS2]
    · iexists _, _; isplitr; swap; · iexact HS2
      ipureintro; rfl
    isplitl [HS3]
    · iexists _, _; isplitr; swap; · iexact HS3
      ipureintro; rfl
    iexact HT0

end Cert.KernelIdeal.Gen

end
-- ==== Proof.IFrame.Frame.lean ====
/- The frame of `KernelIdeal`: every run ends, faults nowhere, leaves the arguments unchanged and every semaphore at zero. The codes
   of the queries and the scales held in scratch are carried from point to point; nothing is said here of the outputs. -/
module

public import proofs.«01_k».proof.Proof.IFrame.RunB
public import Idealize.ShloMosaic.Lib.Claim

@[expose] public section

-- membership in a rectangle recurses once per coordinate of its long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for scratch `arg14`, which the kernel carries between points, cover it: 128 pieces of `S128x128` tiling it (Lib/Ring.lean `Piece.tiledL`). -/
theorem scover0_A_0 (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : cond0_0 i)
    (x0 : Vec F S1x128x512 .bf16) (x1 : Vec F S1x16384x128 .bf16) (x2 : Vec F S1x16384x128 .bf16) (xt0 : TbBuf0 (F := F) c tbM0_0) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) (y : S16384x128.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 xt0 k0_hw1).1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 xt0 k0_hw1).1 S128x128.size (by sl_kernel_rfl) y

/-- What case A leaves in scratch `arg14`: its pieces read back over junk. -/
def sout0_A_0 (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : cond0_0 i)
    (x0 : Vec F S1x128x512 .bf16) (x1 : Vec F S1x16384x128 .bf16) (x2 : Vec F S1x16384x128 .bf16) (xt0 : TbBuf0 (F := F) c tbM0_0) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) : Vec F S16384x128 .f32 :=
  VS0_0.read (Elt F) (VS0_0.writes (Elt F) VS0_0.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 xt0 k0_hw1).1)

/-- Case A's pieces for scratch `arg15`, which the kernel carries between points, cover it: 128 pieces of `S1x128x128` tiling it (Lib/Ring.lean `Piece.tiledL`). -/
theorem scover0_A_1 (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : cond0_0 i)
    (x0 : Vec F S1x128x512 .bf16) (x1 : Vec F S1x16384x128 .bf16) (x2 : Vec F S1x16384x128 .bf16) (xt0 : TbBuf0 (F := F) c tbM0_0) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) (y : S128x128x128.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 xt0 k0_hw1).2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 xt0 k0_hw1).2.1 S1x128x128.size (by sl_kernel_rfl) y

/-- What case A leaves in scratch `arg15`: its pieces read back over junk. -/
def sout0_A_1 (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : cond0_0 i)
    (x0 : Vec F S1x128x512 .bf16) (x1 : Vec F S1x16384x128 .bf16) (x2 : Vec F S1x16384x128 .bf16) (xt0 : TbBuf0 (F := F) c tbM0_0) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) : Vec F S128x128x128 .fp8e4m3 :=
  VS0_1.read (Elt F) (VS0_1.writes (Elt F) VS0_1.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 xt0 k0_hw1).2.1)

/-- Case B stores nothing into scratch `arg14`: it holds what the point before left. -/
def sout0_B_0 (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : ¬cond0_0 i)
    (x0 : Vec F S1x128x512 .bf16) (x1 : Vec F S1x16384x128 .bf16) (x2 : Vec F S1x16384x128 .bf16) (xt0 : TbBuf0 (F := F) c tbM0_0) (xs0 : Vec F S16384x128 .f32) (xs1 : Vec F S128x128x128 .fp8e4m3) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) : Vec F S16384x128 .f32 := xs0

/-- Case B stores nothing into scratch `arg15`: it holds what the point before left. -/
def sout0_B_1 (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : ¬cond0_0 i)
    (x0 : Vec F S1x128x512 .bf16) (x1 : Vec F S1x16384x128 .bf16) (x2 : Vec F S1x16384x128 .bf16) (xt0 : TbBuf0 (F := F) c tbM0_0) (xs0 : Vec F S16384x128 .f32) (xs1 : Vec F S128x128x128 .fp8e4m3) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) : Vec F S128x128x128 .fp8e4m3 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (hH : Hyps m hO) (c : Dev nD) : (n : ℕ) → n < (cfgM m hO).N → Vec F S16384x128 .f32 × Vec F S128x128x128 .fp8e4m3
  | 0, hn => (sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m hO c 0 ⟨0, hn⟩) (iblk m hO c 1 ⟨0, hn⟩) (iblk m hO c 2 ⟨0, hn⟩) (tbl m 0) (Hyps.c0 hH c ⟨0, hn⟩), sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m hO c 0 ⟨0, hn⟩) (iblk m hO c 1 ⟨0, hn⟩) (iblk m hO c 2 ⟨0, hn⟩) (tbl m 0) (Hyps.c0 hH c ⟨0, hn⟩))
  | n + 1, hn =>
    if h0 : (n + 1) % 128 = 0 then
      (sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m hO c 0 ⟨n + 1, hn⟩) (iblk m hO c 1 ⟨n + 1, hn⟩) (iblk m hO c 2 ⟨n + 1, hn⟩) (tbl m 0) (Hyps.c0 hH c ⟨n + 1, hn⟩), sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m hO c 0 ⟨n + 1, hn⟩) (iblk m hO c 1 ⟨n + 1, hn⟩) (iblk m hO c 2 ⟨n + 1, hn⟩) (tbl m 0) (Hyps.c0 hH c ⟨n + 1, hn⟩))
    else
      (sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (tbl m 0) (outsAt0 hO hH c n (Nat.lt_of_succ_lt hn)).1 (outsAt0 hO hH c n (Nat.lt_of_succ_lt hn)).2 (Hyps.c0 hH c ⟨n + 1, hn⟩), sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (tbl m 0) (outsAt0 hO hH c n (Nat.lt_of_succ_lt hn)).1 (outsAt0 hO hH c n (Nat.lt_of_succ_lt hn)).2 (Hyps.c0 hH c ⟨n + 1, hn⟩))

/-- `outsAt0` at a point of case A: that case's contents. -/
theorem outsAt0_A (hO : Ok m) (hH : Hyps m hO) (c : Dev nD) (t : Fin (cfgM m hO).N) (h0 : t.val % 128 = 0) :
    outsAt0 m hO hH c t.val t.isLt = (sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (tbl m 0) (Hyps.c0 hH c t), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) scM0_3 (Memref.isWhole_whole _) ((hcond0_0 t).mpr h0) (iblk m hO c 0 t) (iblk m hO c 1 t) (iblk m hO c 2 t) (tbl m 0) (Hyps.c0 hH c t)) := by
  obtain ⟨n, hn⟩ := t
  cases n with
  | zero => exact rfl
  | succ n => exact (dif_pos h0).trans rfl

/-- `outsAt0` at a point of case B: that case's contents, over what the point before left. -/
theorem outsAt0_B (hO : Ok m) (hH : Hyps m hO) (c : Dev nD) (t : Fin (cfgM m hO).N) (h0 : ¬t.val % 128 = 0) :
    outsAt0 m hO hH c t.val t.isLt = (sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (tbl m 0) (outsAt0 m hO hH c (t.val - 1) (Nat.lt_of_le_of_lt (Nat.sub_le _ _) t.isLt)).1 (outsAt0 m hO hH c (t.val - 1) (Nat.lt_of_le_of_lt (Nat.sub_le _ _) t.isLt)).2 (Hyps.c0 hH c t), sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) scM0_3 (Memref.isWhole_whole _) (fun h => h0 ((hcond0_0 t).mp h)) (iblk m hO c 0 t) (iblk m hO c 1 t) (iblk m hO c 2 t) (tbl m 0) (outsAt0 m hO hH c (t.val - 1) (Nat.lt_of_le_of_lt (Nat.sub_le _ _) t.isLt)).1 (outsAt0 m hO hH c (t.val - 1) (Nat.lt_of_le_of_lt (Nat.sub_le _ _) t.isLt)).2 (Hyps.c0 hH c t)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (hH : Hyps m hO) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO hH c n hn).1) ∗ owns (c : Thread nD τ) scM0_1 fullShare ((outsAt0 m hO hH c n hn).2) ∗ (∃ d, owns (c : Thread nD τ) scM0_2 fullShare d) ∗ (∃ d, owns (c : Thread nD τ) scM0_3 fullShare d)) ∗ (∃ r, prngReg c r)) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦA spec0 c ∗ Pipeline.ΦT pre0 (tbl m) c) := by
  subst hz; rfl

/-- After point `n` (before point `n + 1`): the carried scratch at that point's contents. -/
theorem PhiS_succ (hO : Ok m) (hH : Hyps m hO) (c : Dev nD) (n : ℕ) (hn : n < (cfgM m hO).N) :
    PhiS m hO hH c (n + 1) hn = iprop(iprop(iprop(owns (c : Thread nD τ) scM0_0 fullShare ((outsAt0 m hO hH c n hn).1) ∗ owns (c : Thread nD τ) scM0_1 fullShare ((outsAt0 m hO hH c n hn).2) ∗ (∃ d, owns (c : Thread nD τ) scM0_2 fullShare d) ∗ (∃ d, owns (c : Thread nD τ) scM0_3 fullShare d)) ∗ (∃ r, prngReg c r)) ∗ Pipeline.ΦT pre0 (tbl m) c) := rfl

/-- Before a point that is not the first: the carried scratch at what the point before left. -/
theorem PhiS_pos (hO : Ok m) (hH : Hyps m hO) (c : Dev nD) (n : ℕ) (h : n ≤ (cfgM m hO).N) (hz : n ≠ 0) :
    PhiS m hO hH c n h = iprop(iprop(iprop(owns (c : Thread nD τ) scM0_0 fullShare ((outsAt0 m hO hH c (n - 1) (by omega)).1) ∗ owns (c : Thread nD τ) scM0_1 fullShare ((outsAt0 m hO hH c (n - 1) (by omega)).2) ∗ (∃ d, owns (c : Thread nD τ) scM0_2 fullShare d) ∗ (∃ d, owns (c : Thread nD τ) scM0_3 fullShare d)) ∗ (∃ r, prngReg c r)) ∗ Pipeline.ΦT pre0 (tbl m) c) := by
  cases n with
  | zero => exact absurd rfl hz
  | succ n => rfl

/-! ## The pipeline's proof data -/

/-- The output windows this certificate FORGETS (3, 4, 5, 6, 7, 8, 9): nothing reads what the kernel leaves in them, so nothing
    of it is named (Lib/Pipeline/Dat.lean `Dat.toRForget`). -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
    | ⟨4, h⟩ => Pipeline.Dat.unnamed (cfg := (cfgM m hO)) ⟨4, h⟩ t
    | ⟨5, h⟩ => Pipeline.Dat.unnamed (cfg := (cfgM m hO)) ⟨5, h⟩ t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
  Φ t := PhiS m hO hH c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- The invariant at a point's start (the proof data at `t.castSucc`), restated at `t.val`. -/
theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ (dats m hO hH 0 c).leavesExact 0 t
    ∗ (dats m hO hH 0 c).leavesExact 1 t
    ∗ (dats m hO hH 0 c).leavesExact 2 t
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2]
  rw [show (dats m hO hH 0 c).owesAt () t.succ = (dats m hO hH 0 c).owesAt () t.castSucc from rfl]
  rw [show (dats m hO hH 0 c).Φ t.succ = PhiS m hO hH c (t.val + 1) t.isLt from rfl, PhiS_succ, PhiT0_eq]
  have hN : t.val < 2048 := lt_of_lt_of_eq t.isLt (show (cfgM m hO).N = 2048 from N_0)
  by_cases h0 : t.val % 128 = 0
  · rw [show (dats m hO hH 0 c).leavesExact 0 t = owns (c : Thread nD τ) (ms0_0 m hO t) fullShare ((dats m hO hH 0 c).after 0 t) from by
      unfold Dat.leavesExact; rw [liveAt0_0 m hO t]; try rfl, after0_0]
    rw [show (dats m hO hH 0 c).leavesExact 1 t = owns (c : Thread nD τ) (ms0_1 m hO t) fullShare ((dats m hO hH 0 c).after 1 t) from by
      unfold Dat.leavesExact; rw [liveAt0_1 m hO t]; try rfl, after0_1]
    rw [show (dats m hO hH 0 c).leavesExact 2 t = owns (c : Thread nD τ) (ms0_2 m hO t) fullShare ((dats m hO hH 0 c).after 2 t) from by
      unfold Dat.leavesExact; rw [liveAt0_2 m hO t]; try rfl, after0_2]
    by_cases hz : t.val = 0
    · rw [PhiS_castSucc m hO hH c t, PhiS_zero m hO hH c _ _ hz, PhiT0_eq, PhiA0_eq]
      rw [outsAt0_A m hO hH c t h0]
      unfold sout0_A_0 sout0_A_1; (try dsimp only)
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ _ _ ((hcond0_0 t).mpr h0) (iblk m hO c 0 t) (iblk m hO c 1 t) (iblk m hO c 2 t) (tbl m 0) (Hyps.c0 hH c t)).2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      isplitl [HT0]; · iexact HT0
      iintro ⟨H0, H1, H2, H3, H4, H5, H6, H7, H8, H9, ⟨%es0, HS0⟩, ⟨%es1, HS1⟩, HS2, HS3, HT0⟩
      isplitl [HS0 HS1 HS2 HS3 Hg HT0]
      · isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _)
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [PhiS_castSucc m hO hH c t, PhiS_pos m hO hH c _ _ hz, PhiT0_eq]
      rw [outsAt0_A m hO hH c t h0]
      unfold sout0_A_0 sout0_A_1; (try dsimp only)
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ _ _ ((hcond0_0 t).mpr h0) (iblk m hO c 0 t) (iblk m hO c 1 t) (iblk m hO c 2 t) (tbl m 0) (Hyps.c0 hH c t)).2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexists _; iexact HS0
      isplitl [HS1]; · iexists _; iexact HS1
      isplitl [HS2]; · iexact HS2
      isplitl [HS3]; · iexact HS3
      isplitl [HT0]; · iexact HT0
      iintro ⟨H0, H1, H2, H3, H4, H5, H6, H7, H8, H9, ⟨%es0, HS0⟩, ⟨%es1, HS1⟩, HS2, HS3, HT0⟩
      isplitl [HS0 HS1 HS2 HS3 Hg HT0]
      · isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _)
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · rw [show (dats m hO hH 0 c).leavesExact 0 t = owns (c : Thread nD τ) (ms0_0 m hO t) fullShare ((dats m hO hH 0 c).after 0 t) from by
      unfold Dat.leavesExact; rw [liveAt0_0 m hO t]; try rfl, after0_0]
    rw [show (dats m hO hH 0 c).leavesExact 1 t = owns (c : Thread nD τ) (ms0_1 m hO t) fullShare ((dats m hO hH 0 c).after 1 t) from by
      unfold Dat.leavesExact; rw [liveAt0_1 m hO t]; try rfl, after0_1]
    rw [show (dats m hO hH 0 c).leavesExact 2 t = owns (c : Thread nD τ) (ms0_2 m hO t) fullShare ((dats m hO hH 0 c).after 2 t) from by
      unfold Dat.leavesExact; rw [liveAt0_2 m hO t]; try rfl, after0_2]
    by_cases hz : t.val = 0
    · exfalso; have hN : t.val < 2048 := lt_of_lt_of_eq t.isLt (show (cfgM m hO).N = 2048 from N_0); omega
    · rw [PhiS_castSucc m hO hH c t, PhiS_pos m hO hH c _ _ hz, PhiT0_eq]
      rw [outsAt0_B m hO hH c t h0]
      unfold sout0_B_0 sout0_B_1; (try dsimp only)
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ _ _ (fun h => h0 ((hcond0_0 t).mp h)) (iblk m hO c 0 t) (iblk m hO c 1 t) (iblk m hO c 2 t) (tbl m 0) _ _ (Hyps.c0 hH c t)).2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      isplitl [HT0]; · iexact HT0
      iintro ⟨H0, H1, H2, H3, H4, H5, H6, H7, H8, H9, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-- What the launch hands the region (`ΦA`, the tables beside it) is the invariant before the first point. -/
theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

/-- After any point but the first the invariant gives `ΦA` back: the carried scratch's named contents are forgotten (and the tables' halves dropped). -/
theorem Phi_out (hO : Ok m) (hH : Hyps m hO) (c : Dev nD) (t : Fin ((cfgM m hO).N + 1)) (ht : t.val ≠ 0) : (dats m hO hH 0 c).Φ t ⊢ Pipeline.ΦA spec0 c := by
  rw [show (dats m hO hH 0 c).Φ t = PhiS m hO hH c t.val (Nat.le_of_lt_succ t.isLt) from rfl, PhiS_pos m hO hH c _ _ ht, PhiA0_eq]
  iintro ⟨⟨⟨HS0, HS1, HS2, HS3⟩, Hg⟩, -⟩
  isplitl [HS0 HS1 HS2 HS3]
  · isplitl [HS0]
    · iexists _; iexact HS0
    isplitl [HS1]
    · iexists _; iexact HS1
    isplitl [HS2]
    · iexact HS2
    iexact HS3
  iexact Hg

/-- The same after the last point. -/
theorem hout (hO : Ok m) (hH : Hyps m hO) (c : Dev nD) : (dats m hO hH 0 c).Φ (Fin.last (cfgM m hO).N) ⊢ Pipeline.ΦA spec0 c :=
  Phi_out m hO hH c _ (by rw [Fin.val_last]; have : (cfgM m hO).N = 2048 := N_0; omega)

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_track_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hin := hin m hO hH) (hout := hout m hO hH)

/-- At the compiled mesh, for any values, from any memory with zero counters: every weakly fair execution of @main on the
    TensorCores terminates, and every final state has every INPUT array of the pipeline unchanged, nothing stated of the
    FORGOTTEN outputs (windows 3, 4, 5, 6, 7, 8, 9) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelIdeal.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO hH) ((θ_run defs _ _).mono (fun _ h => h.2) (run_main_quiescent m ρ hO hH))

end Cert.KernelIdeal.Gen

end
-- ==== Proof.IFrame.Hyps.lean ====
/- The side condition of the body holds at every point, whatever words the table of boundaries holds: the four key-block
   loops stay inside the keys. -/
module

public import proofs.«01_k».proof.Proof.IFrame.Runs
public import proofs.«01_k».proof.Proof.Words

@[expose] public section

set_option maxRecDepth 65536

namespace Cert.KernelIdeal.Gen

open Idealize Idealize.ShloMosaic Cert.Words

/-- The side condition at any words. -/
theorem chk1 (i : grid0.Coords) (v483 v493 v503 v513 v523 v533 v543 v553 v563 v573 v583 v593 v603 v613 v623 v633 v643 : BitVec 32) :
    k0_chk1 i v483 v493 v503 v513 v523 v533 v543 v553 v563 v573 v583 v593 v603 v613 v623 v633 v643 := by
  obtain ⟨w, hw, hW⟩ := exists_ofNat (t := ⟨(i 2).val, (i 2).isLt⟩) (firstW_bounds (rowW (i 2).val) v483 v493 v503 v513 v523 v533 v543 v553 v563 v573 v583 v593 v603 v613 v623 v633 v643
    (by rw [rowW_toInt ⟨(i 2).val, (i 2).isLt⟩]; exact Int.natCast_nonneg _))
  have ht : (i 2).val < 128 := (i 2).isLt
  have hL := loW_ofNat w (by omega)
  simp only at hw hW
  have bnd : ∀ k : Nat, k < Scf.trips (loW (firstW (rowW (i 2).val) v483 v493 v503 v513 v523 v533 v543 v553 v563 v573 v583 v593 v603 v613 v623 v633 v643)) (midW (i 2).val (loW (firstW (rowW (i 2).val) v483 v493 v503 v513 v523 v533 v543 v553 v563 v573 v583 v593 v603 v613 v623 v633 v643))) 1#32 → w / 128 + k < 128 := by
    intro k hk
    rw [hW, hL, midW_ofNat, trips_ofNat _ _ (by omega) (by omega)] at hk
    omega
  have bnd' : ∀ k : Nat, k < Scf.trips (midW (i 2).val (loW (firstW (rowW (i 2).val) v483 v493 v503 v513 v523 v533 v543 v553 v563 v573 v583 v593 v603 v613 v623 v633 v643))) (endW (i 2).val (loW (firstW (rowW (i 2).val) v483 v493 v503 v513 v523 v533 v543 v553 v563 v573 v583 v593 v603 v613 v623 v633 v643))) 1#32 → False := by
    intro k hk
    rw [midW_ofNat, endW_ofNat, trips_ofNat _ _ (by omega) (by omega)] at hk
    omega
  have ok : Scf.OK (loW (firstW (rowW (i 2).val) v483 v493 v503 v513 v523 v533 v543 v553 v563 v573 v583 v593 v603 v613 v623 v633 v643)) (midW (i 2).val (loW (firstW (rowW (i 2).val) v483 v493 v503 v513 v523 v533 v543 v553 v563 v573 v583 v593 v603 v613 v623 v633 v643))) 1#32 := by
    rw [hW, hL, midW_ofNat]; exact ok_ofNat _ _ (by omega) (by omega)
  have ok' : Scf.OK (midW (i 2).val (loW (firstW (rowW (i 2).val) v483 v493 v503 v513 v523 v533 v543 v553 v563 v573 v583 v593 v603 v613 v623 v633 v643))) (endW (i 2).val (loW (firstW (rowW (i 2).val) v483 v493 v503 v513 v523 v533 v543 v553 v563 v573 v583 v593 v603 v613 v623 v633 v643))) 1#32 := by
    rw [midW_ofNat, endW_ofNat]; exact ok_ofNat _ _ (by omega) (by omega)
  have iv : ∀ k : Nat, w / 128 + k < 128 → (Scf.iv (loW (firstW (rowW (i 2).val) v483 v493 v503 v513 v523 v533 v543 v553 v563 v573 v583 v593 v603 v613 v623 v633 v643)) 1#32 k).toNat = w / 128 + k := by
    intro k hk
    rw [hW, hL, iv_ofNat, BitVec.toNat_ofNat]; omega
  have mu : ∀ k : Nat, w / 128 + k < 128 → (Scalar.muli (Scf.iv (loW (firstW (rowW (i 2).val) v483 v493 v503 v513 v523 v533 v543 v553 v563 v573 v583 v593 v603 v613 v623 v633 v643)) 1#32 k) 128#32).toNat = 128 * (w / 128 + k) := by
    intro k hk
    show (BitVec.mul _ _).toNat = _
    rw [BitVec.mul_eq, BitVec.toNat_mul, iv k hk, BitVec.toNat_ofNat]; omega
  exact ⟨
    ok,
    fun k => by
      have hk := bnd k.val k.isLt
      show 128 ∣ (Scalar.muli (Scf.iv (loW (firstW (rowW (i 2).val) v483 v493 v503 v513 v523 v533 v543 v553 v563 v573 v583 v593 v603 v613 v623 v633 v643)) 1#32 k.val) 128#32).toNat
      rw [mu k.val hk]; exact Dvd.intro _ rfl,
    fun k a => by
      have hk := bnd k.val k.isLt
      show (![0, (Scalar.muli (Scf.iv (loW (firstW (rowW (i 2).val) v483 v493 v503 v513 v523 v533 v543 v553 v563 v573 v583 v593 v603 v613 v623 v633 v643)) 1#32 k.val) 128#32).toNat, 0] : Fin 3 → Nat) a + _ ≤ _
      rw [mu k.val hk]
      match a with
      | 0 => exact (by decide : 0 + 1 ≤ 1)
      | 1 => show 128 * (w / 128 + k.val) + 128 ≤ 16384; omega
      | 2 => exact (by decide : 0 + 128 ≤ 128),
    fun k a => by
      have hk := bnd k.val k.isLt
      show (![(Scalar.muli (Scf.iv (loW (firstW (rowW (i 2).val) v483 v493 v503 v513 v523 v533 v543 v553 v563 v573 v583 v593 v603 v613 v623 v633 v643)) 1#32 k.val) 128#32).toNat, 0] : Fin 2 → Nat) a + _ ≤ _
      rw [mu k.val hk]
      match a with
      | 0 => show 128 * (w / 128 + k.val) + 128 ≤ 16384; omega
      | 1 => exact (by decide : 0 + 128 ≤ 128),
    ok',
    fun k => (bnd' k.val k.isLt).elim,
    fun k => (bnd' k.val k.isLt).elim,
    fun k => (bnd' k.val k.isLt).elim,
    ok,
    fun k => by
      have hk := bnd k.val k.isLt
      show 128 ∣ (Scalar.muli (Scf.iv (loW (firstW (rowW (i 2).val) v483 v493 v503 v513 v523 v533 v543 v553 v563 v573 v583 v593 v603 v613 v623 v633 v643)) 1#32 k.val) 128#32).toNat
      rw [mu k.val hk]; exact Dvd.intro _ rfl,
    fun k a => by
      have hk := bnd k.val k.isLt
      show (![0, (Scalar.muli (Scf.iv (loW (firstW (rowW (i 2).val) v483 v493 v503 v513 v523 v533 v543 v553 v563 v573 v583 v593 v603 v613 v623 v633 v643)) 1#32 k.val) 128#32).toNat, 0] : Fin 3 → Nat) a + _ ≤ _
      rw [mu k.val hk]
      match a with
      | 0 => exact (by decide : 0 + 1 ≤ 1)
      | 1 => show 128 * (w / 128 + k.val) + 128 ≤ 16384; omega
      | 2 => exact (by decide : 0 + 128 ≤ 128),
    fun k a => by
      have hk := bnd k.val k.isLt
      show (![(Scalar.muli (Scf.iv (loW (firstW (rowW (i 2).val) v483 v493 v503 v513 v523 v533 v543 v553 v563 v573 v583 v593 v603 v613 v623 v633 v643)) 1#32 k.val) 128#32).toNat, 0] : Fin 2 → Nat) a + _ ≤ _
      rw [mu k.val hk]
      match a with
      | 0 => show 128 * (w / 128 + k.val) + 128 ≤ 16384; omega
      | 1 => exact (by decide : 0 + 128 ≤ 128),
    fun k a => by
      have hk := bnd k.val k.isLt
      show (![(Scf.iv (loW (firstW (rowW (i 2).val) v483 v493 v503 v513 v523 v533 v543 v553 v563 v573 v583 v593 v603 v613 v623 v633 v643)) 1#32 k.val).toNat, 0, 0] : Fin 3 → Nat) a + _ ≤ _
      rw [iv k.val hk]
      match a with
      | 0 => show (w / 128 + k.val) + 1 ≤ 128; omega
      | 1 => exact (by decide : 0 + 128 ≤ 128)
      | 2 => exact (by decide : 0 + 128 ≤ 128),
    ok',
    fun k => (bnd' k.val k.isLt).elim,
    fun k => (bnd' k.val k.isLt).elim,
    fun k => (bnd' k.val k.isLt).elim,
    fun k => (bnd' k.val k.isLt).elim⟩

variable {F : FTy → Type} [FloatOps F] [Named F]

/-- No index map reads the table. -/
theorem ok (m : (ℓ : Loc nD τ sig) → Buf (Elt F) ℓ) : Ok m := trivial

/-- The body's side condition at every point of a run. -/
theorem hyps (m : (ℓ : Loc nD τ sig) → Buf (Elt F) ℓ) : Hyps m (ok m) :=
  Hyps.of fun _ t => chk1 (grid0.coords t) _ _ _ _ _ _ _ _ _ _ _ _ _ _ _ _ _

end Cert.KernelIdeal.Gen
-- ==== Proof.VFrame.RunA.lean ====
/- The body run once, with what its stores leave in the codes and scales windows named (case A). -/
module

public import proofs.«01_k».proof.Proof.IFrame.Runs

@[expose] public section

-- membership in a rectangle recurses once per coordinate of its long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1268000 in
/-- The pieces the body writes into its codes and scales windows in case A, with the proof that it runs and leaves them. -/
noncomputable def valueRun_A (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : cond0_0 i)
    (x0 : Vec F S1x128x512 .bf16) (x1 : Vec F S1x16384x128 .bf16) (x2 : Vec F S1x16384x128 .bf16) (g10 : arg10.view.ty.Contents (Elt F)) (g14 : arg14.view.ty.Contents (Elt F)) (g15 : arg15.view.ty.Contents (Elt F)) (g16 : arg16.view.ty.Contents (Elt F)) (g17 : arg17.view.ty.Contents (Elt F)) (g7 : arg7.view.ty.Contents (Elt F)) (xt0 : TbBuf0 (F := F) c tbM0_0) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) :
    Σ' (Larg8 : List (View.Piece (Elt F) S1x128x512 .fp8e4m3)) (Larg9 : List (View.Piece (Elt F) S1x1x4x128 .f32)) (Larg10 : List (View.Piece (Elt F) S1x16384x128 .fp8e4m3)) (Larg11 : List (View.Piece (Elt F) S1x1x128x128 .f32)) (Larg12 : List (View.Piece (Elt F) S1x16384x128 .fp8e4m3)) (Larg13 : List (View.Piece (Elt F) S1x1x1x128 .f32)) (Larg7 : List (View.Piece (Elt F) S1x128x512 .bf16)) (Larg14 : List (View.Piece (Elt F) S16384x128 .f32)) (Larg15 : List (View.Piece (Elt F) S128x128x128 .fp8e4m3)), { Larg16 : List (View.Piece (Elt F) S128x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (arg7.view.loc (c : Thread nD τ) ↦[arg7.view.set]{fullShare} g7) ∗ (∃ d, owns (c : Thread nD τ) arg8 fullShare d) ∗ (∃ d, owns (c : Thread nD τ) arg9 fullShare d) ∗ (arg10.view.loc (c : Thread nD τ) ↦[arg10.view.set]{fullShare} g10) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ tbPt0 c tbM0_0 xt0
            ∗ (iprop(owns (c : Thread nD τ) arg4 fullShare x0 ∗ owns (c : Thread nD τ) arg5 fullShare x1 ∗ owns (c : Thread nD τ) arg6 fullShare x2 ∗ (arg7.view.loc (c : Thread nD τ) ↦[arg7.view.set]{fullShare} arg7.view.writes (Elt F) g7 Larg7) ∗ (∃ f, arg8.view.loc (c : Thread nD τ) ↦[arg8.view.set]{fullShare} arg8.view.writes (Elt F) f Larg8) ∗ (∃ f, arg9.view.loc (c : Thread nD τ) ↦[arg9.view.set]{fullShare} arg9.view.writes (Elt F) f Larg9) ∗ (arg10.view.loc (c : Thread nD τ) ↦[arg10.view.set]{fullShare} arg10.view.writes (Elt F) g10 Larg10) ∗ (∃ f, arg11.view.loc (c : Thread nD τ) ↦[arg11.view.set]{fullShare} arg11.view.writes (Elt F) f Larg11) ∗ (∃ f, arg12.view.loc (c : Thread nD τ) ↦[arg12.view.set]{fullShare} arg12.view.writes (Elt F) f Larg12) ∗ (∃ f, arg13.view.loc (c : Thread nD τ) ↦[arg13.view.set]{fullShare} arg13.view.writes (Elt F) f Larg13) ∗ (arg14.view.loc (c : Thread nD τ) ↦[arg14.view.set]{fullShare} arg14.view.writes (Elt F) g14 Larg14) ∗ (arg15.view.loc (c : Thread nD τ) ↦[arg15.view.set]{fullShare} arg15.view.writes (Elt F) g15 Larg15) ∗ (∃ f, arg16.view.loc (c : Thread nD τ) ↦[arg16.view.set]{fullShare} arg16.view.writes (Elt F) f Larg16) ∗ (∃ d, owns (c : Thread nD τ) arg17 fullShare d) ∗ tbPt0 c tbM0_0 xt0) -∗ K ⟨⟩))
          ⊢ wp frame (wpE (defs₀ (F := F)) Variants.none c none) E (cc0_packed_attention i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, ?_, fun E K => ?run⟩
  case run =>
    simp only [cc0_packed_attention_eq_skeleton]; unfold cc0_packed_attention_skel
    simp only [k0_part21_eq_skeleton, k0_part5_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold k0_part21_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, H3, ⟨%d4, %f4, -, H4⟩, ⟨%d5, %f5, -, H5⟩, H6, ⟨%d7, %f7, -, H7⟩, ⟨%d8, %f8, -, H8⟩, ⟨%d9, %f9, -, H9⟩, HS0, HS1, HS2, HS3, HT0, Hk⟩
    obtain rfl := harg4.eq_unread hf0; obtain rfl := harg5.eq_unread hf1; obtain rfl := harg6.eq_unread hf2
    sl_exec (disch := first | sl_exact hc0 | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexact H3
    isplitl [H4]; · iexists _; iexact H4
    isplitl [H5]; · iexists _; iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexists _; iexact HS2
    isplitl [HS3]
    · iexists _, _; isplitr; swap; · iexact HS3
      ipureintro; rfl
    iexact HT0

end Cert.KernelIdeal.Gen

end
-- ==== Proof.VFrame.RunB.lean ====
/- The body run once, with what its stores leave in the codes and scales windows named (case B). -/
module

public import proofs.«01_k».proof.Proof.IFrame.Runs

@[expose] public section

-- membership in a rectangle recurses once per coordinate of its long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1048000 in
/-- The pieces the body writes into its codes and scales windows in case B, with the proof that it runs and leaves them. -/
noncomputable def valueRun_B (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : ¬cond0_0 i)
    (x0 : Vec F S1x128x512 .bf16) (x1 : Vec F S1x16384x128 .bf16) (x2 : Vec F S1x16384x128 .bf16) (g7 : arg7.view.ty.Contents (Elt F)) (xt0 : TbBuf0 (F := F) c tbM0_0) (x6 : Vec F S1x16384x128 .fp8e4m3) (x7 : Vec F S1x1x128x128 .f32) (x8 : Vec F S1x16384x128 .fp8e4m3) (x9 : Vec F S1x1x1x128 .f32) (xs0 : Vec F S16384x128 .f32) (xs1 : Vec F S128x128x128 .fp8e4m3) (xs2 : Vec F S128x128 .f32) (g17 : arg17.view.ty.Contents (Elt F)) (k0_hw1 : k0_chk1 i (tbM0_0.view.readAt (Elt F) (Rect.unit (s := S2x17) (k0_off5 i) S1x1.size (k0_off5_inb i)).toLoadRect xt0 (Shape.Idx.first (numel1_S1x1.symm ▸ Nat.one_pos))) (tbM0_0.view.readAt (Elt F) (Rect.unit (s := S2x17) (k0_off6 i) S1x1.size (k0_off6_inb i)).toLoadRect xt0 (Shape.Idx.first (numel1_S1x1.symm ▸ Nat.one_pos))) (tbM0_0.view.readAt (Elt F) (Rect.unit (s := S2x17) (k0_off7 i) S1x1.size (k0_off7_inb i)).toLoadRect xt0 (Shape.Idx.first (numel1_S1x1.symm ▸ Nat.one_pos))) (tbM0_0.view.readAt (Elt F) (Rect.unit (s := S2x17) (k0_off8 i) S1x1.size (k0_off8_inb i)).toLoadRect xt0 (Shape.Idx.first (numel1_S1x1.symm ▸ Nat.one_pos))) (tbM0_0.view.readAt (Elt F) (Rect.unit (s := S2x17) (k0_off9 i) S1x1.size (k0_off9_inb i)).toLoadRect xt0 (Shape.Idx.first (numel1_S1x1.symm ▸ Nat.one_pos))) (tbM0_0.view.readAt (Elt F) (Rect.unit (s := S2x17) (k0_off10 i) S1x1.size (k0_off10_inb i)).toLoadRect xt0 (Shape.Idx.first (numel1_S1x1.symm ▸ Nat.one_pos))) (tbM0_0.view.readAt (Elt F) (Rect.unit (s := S2x17) (k0_off11 i) S1x1.size (k0_off11_inb i)).toLoadRect xt0 (Shape.Idx.first (numel1_S1x1.symm ▸ Nat.one_pos))) (tbM0_0.view.readAt (Elt F) (Rect.unit (s := S2x17) (k0_off12 i) S1x1.size (k0_off12_inb i)).toLoadRect xt0 (Shape.Idx.first (numel1_S1x1.symm ▸ Nat.one_pos))) (tbM0_0.view.readAt (Elt F) (Rect.unit (s := S2x17) (k0_off13 i) S1x1.size (k0_off13_inb i)).toLoadRect xt0 (Shape.Idx.first (numel1_S1x1.symm ▸ Nat.one_pos))) (tbM0_0.view.readAt (Elt F) (Rect.unit (s := S2x17) (k0_off14 i) S1x1.size (k0_off14_inb i)).toLoadRect xt0 (Shape.Idx.first (numel1_S1x1.symm ▸ Nat.one_pos))) (tbM0_0.view.readAt (Elt F) (Rect.unit (s := S2x17) (k0_off15 i) S1x1.size (k0_off15_inb i)).toLoadRect xt0 (Shape.Idx.first (numel1_S1x1.symm ▸ Nat.one_pos))) (tbM0_0.view.readAt (Elt F) (Rect.unit (s := S2x17) (k0_off16 i) S1x1.size (k0_off16_inb i)).toLoadRect xt0 (Shape.Idx.first (numel1_S1x1.symm ▸ Nat.one_pos))) (tbM0_0.view.readAt (Elt F) (Rect.unit (s := S2x17) (k0_off17 i) S1x1.size (k0_off17_inb i)).toLoadRect xt0 (Shape.Idx.first (numel1_S1x1.symm ▸ Nat.one_pos))) (tbM0_0.view.readAt (Elt F) (Rect.unit (s := S2x17) (k0_off18 i) S1x1.size (k0_off18_inb i)).toLoadRect xt0 (Shape.Idx.first (numel1_S1x1.symm ▸ Nat.one_pos))) (tbM0_0.view.readAt (Elt F) (Rect.unit (s := S2x17) (k0_off19 i) S1x1.size (k0_off19_inb i)).toLoadRect xt0 (Shape.Idx.first (numel1_S1x1.symm ▸ Nat.one_pos))) (tbM0_0.view.readAt (Elt F) (Rect.unit (s := S2x17) (k0_off20 i) S1x1.size (k0_off20_inb i)).toLoadRect xt0 (Shape.Idx.first (numel1_S1x1.symm ▸ Nat.one_pos))) (tbM0_0.view.readAt (Elt F) (Rect.unit (s := S2x17) (k0_off21 i) S1x1.size (k0_off21_inb i)).toLoadRect xt0 (Shape.Idx.first (numel1_S1x1.symm ▸ Nat.one_pos)))) :
    Σ' (Larg8 : List (View.Piece (Elt F) S1x128x512 .fp8e4m3)) (Larg9 : List (View.Piece (Elt F) S1x1x4x128 .f32)), { Larg7 : List (View.Piece (Elt F) S1x128x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (arg7.view.loc (c : Thread nD τ) ↦[arg7.view.set]{fullShare} g7) ∗ (∃ d, owns (c : Thread nD τ) arg8 fullShare d) ∗ (∃ d, owns (c : Thread nD τ) arg9 fullShare d) ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare xs0 ∗ owns (c : Thread nD τ) arg15 fullShare xs1 ∗ owns (c : Thread nD τ) arg16 fullShare xs2 ∗ (arg17.view.loc (c : Thread nD τ) ↦[arg17.view.set]{fullShare} g17) ∗ tbPt0 c tbM0_0 xt0
            ∗ (iprop(owns (c : Thread nD τ) arg4 fullShare x0 ∗ owns (c : Thread nD τ) arg5 fullShare x1 ∗ owns (c : Thread nD τ) arg6 fullShare x2 ∗ (arg7.view.loc (c : Thread nD τ) ↦[arg7.view.set]{fullShare} arg7.view.writes (Elt F) g7 Larg7) ∗ (∃ f, arg8.view.loc (c : Thread nD τ) ↦[arg8.view.set]{fullShare} arg8.view.writes (Elt F) f Larg8) ∗ (∃ f, arg9.view.loc (c : Thread nD τ) ↦[arg9.view.set]{fullShare} arg9.view.writes (Elt F) f Larg9) ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare xs0 ∗ owns (c : Thread nD τ) arg15 fullShare xs1 ∗ owns (c : Thread nD τ) arg16 fullShare xs2 ∗ (∃ d, owns (c : Thread nD τ) arg17 fullShare d) ∗ tbPt0 c tbM0_0 xt0) -∗ K ⟨⟩))
          ⊢ wp frame (wpE (defs₀ (F := F)) Variants.none c none) E (cc0_packed_attention i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_packed_attention_eq_skeleton]; unfold cc0_packed_attention_skel
    simp only [k0_part21_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold k0_part21_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, H3, ⟨%d4, %f4, -, H4⟩, ⟨%d5, %f5, -, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, HS3, HT0, Hk⟩
    obtain rfl := harg4.eq_unread hf0; obtain rfl := harg5.eq_unread hf1; obtain rfl := harg6.eq_unread hf2
    obtain rfl := harg10.eq_unread hf6; obtain rfl := harg14.eq_unread hfs0; obtain rfl := harg15.eq_unread hfs1; obtain rfl := harg16.eq_unread hfs2
    sl_exec (disch := first | sl_exact hc0 | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexact H3
    isplitl [H4]; · iexists _; iexact H4
    isplitl [H5]; · iexists _; iexact H5
    isplitl [H6]
    · iexists _; isplitr; · ipureintro; exact harg10.read_unread _
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [HS0]
    · iexists _; isplitr; · ipureintro; exact harg14.read_unread _
      iexact HS0
    isplitl [HS1]
    · iexists _; isplitr; · ipureintro; exact harg15.read_unread _
      iexact HS1
    isplitl [HS2]
    · iexists _; isplitr; · ipureintro; exact harg16.read_unread _
      iexact HS2
    isplitl [HS3]
    · iexists _, _; isplitr; swap; · iexact HS3
      ipureintro; rfl
    iexact HT0

end Cert.KernelIdeal.Gen

end
-- ==== Proof.VFrame.Scale.lean ====
/- The power-of-two scale of a maximum: the exponent found by bisection and the exponent found by a logarithm agree on
   every real quotient below 2 ^ 120. -/
module

public import Idealize.ShloMosaic.PureOps
public import Idealize.ShloMosaic.Lib.Pointwise
public import Mathlib.Analysis.SpecialFunctions.Pow.Real
public import Mathlib.Analysis.SpecialFunctions.Log.Basic

@[expose] public section

set_option maxRecDepth 65536

noncomputable section

namespace Cert.Scale

open Idealize.ShloMosaic

/-- One step of the bisection: `b + s` if the power of two of that exponent field is at most `q`. -/
def kstep (q : EReal) (b s : BitVec 32) : BitVec 32 :=
  if Ideal.ofBits .f32 (IntOp.shli .vector (IntOp.addi b s) 23#32) ≤ q then IntOp.addi b s else b

/-- The exponent field the bisection finds. -/
def kb (q : EReal) : BitVec 32 :=
  kstep q (kstep q (kstep q (kstep q (kstep q (kstep q (kstep q (kstep q 0#32 128#32) 64#32) 32#32) 16#32) 8#32) 4#32) 2#32) 1#32

/-- The exponent of the scale, from the exponent field. -/
def ke (b : BitVec 32) : BitVec 32 := if b = 0#32 then 0#32 else IntOp.subi b 126#32

/-- The scale, from the exponent field. -/
def kscale (b : BitVec 32) : EReal := Ideal.ofBits .f32 (IntOp.shli .vector (IntOp.addi (ke b) 127#32) 23#32)

/-- The inverse scale, from the exponent field. -/
def kinv (b : BitVec 32) : EReal := Ideal.ofBits .f32 (IntOp.shli .vector (IntOp.subi 127#32 (ke b)) 23#32)

/-- The reference's exponent of a quotient. -/
def refE (q : EReal) : EReal :=
  if q < Ideal.ofBits .f32 0x00800000#32 then Ideal.ofBits .f32 0x00000000#32
  else Ideal.liftRound Int.floor (Ideal.div (Ideal.log q) (Ideal.log (Ideal.ofBits .f32 0x40000000#32)))
    + Ideal.ofBits .f32 0x3F800000#32

/-- The value of the word whose exponent field is `n`. -/
def pw (n : Nat) : EReal := Ideal.ofBits .f32 (IntOp.shli .vector (BitVec.ofNat 32 n) 23#32)

theorem fields (n : Fin 256) :
    (IntOp.shli .vector (BitVec.ofNat 32 n.val) 23#32).extractLsb' 31 1 = 0#1
    ∧ ((IntOp.shli .vector (BitVec.ofNat 32 n.val) 23#32).extractLsb' 23 8).toNat = n.val
    ∧ ((IntOp.shli .vector (BitVec.ofNat 32 n.val) 23#32).extractLsb' 0 23).toNat = 0 := by
  revert n; decide +kernel

theorem pw_zero : pw 0 = 0 := by
  obtain ⟨h1, h2, h3⟩ := fields 0
  simp only [pw, Ideal.ofBits, Ideal.ieee]
  simp only [Fin.val_zero] at h1 h2 h3
  simp [h2, h3]

theorem pw_mid (n : Nat) (h0 : 1 ≤ n) (h1 : n ≤ 254) : pw n = (((2 : ℝ) ^ ((n : ℤ) - 127) : ℝ) : EReal) := by
  obtain ⟨f1, f2, f3⟩ := fields ⟨n, by omega⟩
  simp only at f1 f2 f3
  simp only [pw, Ideal.ofBits, Ideal.ieee]
  have e1 : (8 : Nat) + 23 = 31 := rfl
  simp only [e1, f1, f2, f3]
  rw [if_neg (by omega), if_neg (by omega)]
  refine congrArg (fun r : ℝ => (r : EReal)) ?_
  simp only [show ((0#1 : BitVec 1) == 1#1) = false from rfl]
  have e2 : ((n : ℤ) - 127) = 23 + (((n : ℤ) - (2 ^ (8 - 1) - 1)) - ((23 : Nat) : ℤ)) := by norm_num
  rw [e2, zpow_add₀ (by norm_num)]
  norm_num

theorem pw_top : pw 255 = ⊤ := by
  obtain ⟨f1, f2, f3⟩ := fields 255
  have e : ((255 : Fin 256).val) = 255 := rfl
  rw [e] at f1 f2 f3
  simp only [pw, Ideal.ofBits, Ideal.ieee]
  have e1 : (8 : Nat) + 23 = 31 := rfl
  simp only [e1, f1, f2, f3]
  norm_num

/-- The bisection over naturals. -/
def nstep (q : EReal) (n s : Nat) : Nat := if pw (n + s) ≤ q then n + s else n

def nb (q : EReal) : Nat :=
  nstep q (nstep q (nstep q (nstep q (nstep q (nstep q (nstep q (nstep q 0 128) 64) 32) 16) 8) 4) 2) 1

theorem kstep_ofNat (q : EReal) (n s : Nat) : kstep q (BitVec.ofNat 32 n) (BitVec.ofNat 32 s) = BitVec.ofNat 32 (nstep q n s) := by
  unfold kstep nstep pw IntOp.addi
  rw [← BitVec.ofNat_add]
  split <;> rfl

theorem kb_eq (q : EReal) : kb q = BitVec.ofNat 32 (nb q) := by
  unfold kb nb
  simp only [kstep_ofNat]

theorem pw_mono {a b : Nat} (h : a ≤ b) (hb : b ≤ 255) : pw a ≤ pw b := by
  rcases Nat.eq_or_lt_of_le hb with rfl | hb'
  · rw [pw_top]; exact le_top
  rcases Nat.eq_zero_or_pos a with rfl | ha
  · rw [pw_zero]
    rcases Nat.eq_zero_or_pos b with rfl | hb0
    · rw [pw_zero]
    · rw [pw_mid b hb0 (by omega)]
      exact_mod_cast (zpow_pos (by norm_num : (0 : ℝ) < 2) _).le
  · rw [pw_mid a ha (by omega), pw_mid b (by omega) (by omega)]
    exact EReal.coe_le_coe_iff.mpr (zpow_le_zpow_right₀ (by norm_num : (1 : ℝ) ≤ 2) (by omega))

/-- What a step keeps: the field's power is at most `q`, and the power `2 s` further is above it. -/
def Inv (q : EReal) (n s : Nat) : Prop := pw n ≤ q ∧ (n + s ≤ 255 → q < pw (n + s)) ∧ n + s ≤ 256

theorem nstep_inv (q : EReal) (n s : Nat) (h : Inv q n (2 * s)) (hs : 1 ≤ s) : Inv q (nstep q n s) s := by
  obtain ⟨h1, h2, h3⟩ := h
  unfold nstep
  split
  · rename_i hp
    exact ⟨hp, fun hh => by have := h2 (by omega); rwa [show n + s + s = n + 2 * s by omega], by omega⟩
  · rename_i hp
    exact ⟨h1, fun _ => not_le.mp hp, by omega⟩

theorem nb_inv (q : EReal) (hq : 0 ≤ q) : Inv q (nb q) 1 := by
  unfold nb
  have h0 : Inv q 0 (2 * 128) := ⟨by rw [pw_zero]; exact hq, fun h => by omega, by omega⟩
  have h1 := nstep_inv q _ 128 h0 (by omega)
  have h2 := nstep_inv q _ 64 h1 (by omega)
  have h3 := nstep_inv q _ 32 h2 (by omega)
  have h4 := nstep_inv q _ 16 h3 (by omega)
  have h5 := nstep_inv q _ 8 h4 (by omega)
  have h6 := nstep_inv q _ 4 h5 (by omega)
  have h7 := nstep_inv q _ 2 h6 (by omega)
  exact nstep_inv q _ 1 h7 (by omega)

/-- The field of a quotient below 2 ^ 120. -/
theorem nb_spec (r : ℝ) (h0 : 0 ≤ r) (h1 : r < 2 ^ (120 : ℤ)) :
    nb (r : EReal) ≤ 246 ∧ (nb (r : EReal) = 0 → r < 2 ^ (-126 : ℤ))
    ∧ (1 ≤ nb (r : EReal) → (2 : ℝ) ^ ((nb (r : EReal) : ℤ) - 127) ≤ r ∧ r < (2 : ℝ) ^ ((nb (r : EReal) : ℤ) - 126)) := by
  obtain ⟨i1, i2, i3⟩ := nb_inv (r : EReal) (by exact_mod_cast h0)
  generalize nb (r : EReal) = n at *
  have hn : n ≤ 246 := by
    by_contra hc
    have h2 : pw 247 ≤ (r : EReal) := (pw_mono (by omega) (by omega)).trans i1
    rw [pw_mid 247 (by omega) (by omega)] at h2
    have h3 : (2 : ℝ) ^ (((247 : Nat) : ℤ) - 127) ≤ r := by exact_mod_cast h2
    have h4 : (((247 : Nat) : ℤ) - 127) = 120 := by norm_num
    rw [h4] at h3
    linarith
  have i4 := i2 (by omega)
  rw [pw_mid (n + 1) (by omega) (by omega)] at i4
  have i5 : r < (2 : ℝ) ^ (((n + 1 : Nat) : ℤ) - 127) := by exact_mod_cast i4
  have e : (((n + 1 : Nat) : ℤ) - 127) = (n : ℤ) - 126 := by push_cast; ring
  rw [e] at i5
  refine ⟨hn, fun hz => ?_, fun hp => ⟨?_, i5⟩⟩
  · subst hz; simpa using i5
  · rw [pw_mid n hp (by omega)] at i1
    exact_mod_cast i1

theorem scale_word (n : Fin 247) : IntOp.addi (ke (BitVec.ofNat 32 n.val)) 127#32 = BitVec.ofNat 32 (if n.val = 0 then 127 else n.val + 1)
    ∧ IntOp.subi 127#32 (ke (BitVec.ofNat 32 n.val)) = BitVec.ofNat 32 (if n.val = 0 then 127 else 253 - n.val) := by
  revert n; unfold ke IntOp.addi IntOp.subi; decide +kernel

theorem c_zero : Ideal.ofBits .f32 0x00000000#32 = ((0 : ℝ) : EReal) := by simp [Ideal.ofBits, Ideal.ieee]
theorem c_one : Ideal.ofBits .f32 0x3F800000#32 = ((1 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_tiny : Ideal.ofBits .f32 0x00800000#32 = (((2 : ℝ) ^ (-126 : ℤ) : ℝ) : EReal) := by
  simp [Ideal.ofBits, Ideal.ieee, -EReal.coe_mul]; norm_num
theorem c_448 : Ideal.ofBits .f32 0x3B124925#32 = ((9586981 * (2 : ℝ) ^ (-32 : ℤ) : ℝ) : EReal) := by
  simp [Ideal.ofBits, Ideal.ieee, -EReal.coe_mul]
theorem c_bot : Ideal.ofBits .f32 0xFF800000#32 = ⊥ := by simp [Ideal.ofBits, Ideal.ieee]

/-- The reference's exponent as an integer. -/
theorem refE_spec (r : ℝ) (h0 : 0 ≤ r) (h1 : r < 2 ^ (120 : ℤ)) :
    refE (r : EReal) = (((if nb (r : EReal) = 0 then 0 else (nb (r : EReal) : ℤ) - 126 : ℤ) : ℝ) : EReal) := by
  obtain ⟨hn, hz, hp⟩ := nb_spec r h0 h1
  unfold refE
  rw [c_tiny, c_zero, c_two, c_one]
  generalize nb (r : EReal) = n at *
  rcases Nat.eq_zero_or_pos n with rfl | hpos
  · rw [if_pos (by exact_mod_cast hz rfl)]; simp
  · obtain ⟨l, u⟩ := hp hpos
    have hlow : (2 : ℝ) ^ (-126 : ℤ) ≤ r := (zpow_le_zpow_right₀ (by norm_num) (by omega)).trans l
    rw [if_neg (by rw [not_lt]; exact_mod_cast hlow), if_neg (by omega)]
    have hr : 0 < r := (zpow_pos (by norm_num) _).trans_le l
    have hl2 : 0 < Real.log 2 := Real.log_pos (by norm_num)
    have hlog : Ideal.log (r : EReal) = (Real.log r : EReal) := if_neg (not_le.mpr hr)
    have hlog2 : Ideal.log ((2 : ℝ) : EReal) = (Real.log 2 : EReal) := if_neg (by norm_num)
    rw [hlog, hlog2]
    have hdiv : Ideal.div (Real.log r : EReal) (Real.log 2 : EReal) = ((Real.log r / Real.log 2 : ℝ) : EReal) := by
      unfold Ideal.div
      rw [if_neg (by exact_mod_cast hl2.ne')]
      rw [div_eq_mul_inv, EReal.coe_mul, EReal.coe_inv]
    rw [hdiv]
    have hfl : ⌊Real.log r / Real.log 2⌋ = (n : ℤ) - 127 := by
      rw [Int.floor_eq_iff]
      have a1 := Real.log_le_log (zpow_pos (by norm_num) _) l
      have a2 := Real.log_lt_log hr u
      rw [Real.log_zpow] at a1 a2
      constructor
      · rw [le_div_iff₀ hl2]; exact a1
      · rw [div_lt_iff₀ hl2]; push_cast at a2 ⊢; linarith
    show (((⌊Real.log r / Real.log 2⌋ : ℤ) : ℝ) : EReal) + ((1 : ℝ) : EReal) = _
    rw [hfl, ← EReal.coe_add]
    congr 1; push_cast; ring

theorem exp2_int (z : ℤ) : Ideal.exp2 (((z : ℝ)) : EReal) = (((2 : ℝ) ^ z : ℝ) : EReal) := by
  show ((Real.rpow 2 (z : ℝ) : ℝ) : EReal) = _
  congr 1
  exact Real.rpow_intCast 2 z

/-- The two scales agree. -/
theorem scale_eq (r : ℝ) (h0 : 0 ≤ r) (h1 : r < 2 ^ (120 : ℤ)) : kscale (kb (r : EReal)) = Ideal.exp2 (refE (r : EReal)) := by
  rw [refE_spec r h0 h1, exp2_int, kb_eq]
  obtain ⟨hn, -, -⟩ := nb_spec r h0 h1
  generalize nb (r : EReal) = n at *
  unfold kscale
  rw [(scale_word ⟨n, by omega⟩).1]
  show pw (if n = 0 then 127 else n + 1) = _
  split
  · rw [pw_mid _ (by omega) (by omega)]; norm_num
  · rw [pw_mid _ (by omega) (by omega)]
    congr 2; push_cast; ring

/-- The two inverse scales agree. -/
theorem inv_eq (r : ℝ) (h0 : 0 ≤ r) (h1 : r < 2 ^ (120 : ℤ)) :
    kinv (kb (r : EReal)) = Ideal.exp2 (Ideal.ofBits .f32 0x00000000#32 - refE (r : EReal)) := by
  rw [refE_spec r h0 h1, c_zero, ← EReal.coe_sub, zero_sub, ← Int.cast_neg, exp2_int, kb_eq]
  obtain ⟨hn, -, -⟩ := nb_spec r h0 h1
  generalize nb (r : EReal) = n at *
  unfold kinv
  rw [(scale_word ⟨n, by omega⟩).2]
  show pw (if n = 0 then 127 else 253 - n) = _
  split
  · rw [pw_mid _ (by omega) (by omega)]; norm_num
  · rw [pw_mid _ (by omega) (by omega)]
    congr 2; omega

end Cert.Scale

end
-- ==== Proof.VFrame.Vec.lean ====
/- The vectors the body computes for the scales: every block's bisection is the same chain of eight steps, and the scale,
   the inverse scale and the codes are the same operations of it. Each named payload is one of these vectors by unfolding,
   and each vector is read at an index as the scalar it holds there. -/
module

public import proofs.«01_k».proof.Proof.Gen.KernelIdeal.Skeleton
public import proofs.«01_k».proof.Proof.VFrame.Scale
public import Idealize.ShloMosaic.Lib.Pointwise

@[expose] public section

set_option maxRecDepth 16384

noncomputable section

namespace Cert.KernelIdeal.Gen

open Idealize.ShloMosaic Idealize.SL.Sem Cert.Scale

abbrev V2 := FVec Ideal S128x128 .f32
abbrev I2 := IVec S128x128 32

/-- One step of the bisection, on a whole block. -/
def vstep (q : V2) (b : I2) (s : BitVec 32) : I2 :=
  select (cmpf .oge q (bitcastToFloat .f32 (shli (addi b (broadcast S128x128 s)) (broadcast S128x128 23#32)))) (addi b (broadcast S128x128 s)) b

/-- The exponent fields of a block of quotients. -/
def vb (q : V2) : I2 :=
  vstep q (vstep q (vstep q (vstep q (vstep q (vstep q (vstep q (vstep q (broadcast S128x128 0#32) 128#32) 64#32) 32#32) 16#32) 8#32) 4#32) 2#32) 1#32

/-- The exponents of the scales. -/
def ve (b : I2) : I2 :=
  select (cmpi .eq b (broadcast S128x128 0#32)) (broadcast S128x128 0#32) (subi b (broadcast S128x128 126#32))

/-- The scales. -/
def vscale (b : I2) : V2 := bitcastToFloat .f32 (shli (addi (ve b) (broadcast S128x128 127#32)) (broadcast S128x128 23#32))

/-- The inverse scales. -/
def vinv (b : I2) : V2 := bitcastToFloat .f32 (shli (subi (broadcast S128x128 127#32) (ve b)) (broadcast S128x128 23#32))

/-- The codes of a block under the inverse scales of its exponent fields. -/
def vcodes (x : V2) (b : I2) : FVec Ideal S1x128x128 .fp8e4m3 :=
  shapeCast S1x128x128 (truncf .fp8e4m3 (minimumf (broadcast S128x128 (Scalar.ofBits .f32 0x43E00000#32))
    (maximumf (broadcast S128x128 (Scalar.ofBits .f32 0xC3E00000#32)) (mulf x (vinv b)))) bitsLt_fp8e4m3_f32) shapeCasts_S128x128_S1x128x128

theorem vstep_apply (q : V2) (b : I2) (s : BitVec 32) (j : S128x128.Idx) : vstep q b s j = kstep (q j) (b j) s := by
  unfold vstep kstep
  idx_vars j
  pointwise

theorem vb_apply (q : V2) (j : S128x128.Idx) : vb q j = kb (q j) := by
  unfold vb kb
  simp only [vstep_apply]
  rfl

theorem ve_apply (b : I2) (j : S128x128.Idx) : ve b j = ke (b j) := by
  unfold ve ke
  idx_vars j
  pointwise
  unfold Scalar.select IntOp.cmpi
  by_cases h : b (ix2 j0 j1) = 0#32
  · simp [h]
  · have e : (b (ix2 j0 j1) == 0#32) = false := beq_eq_false_iff_ne.mpr h
    rw [if_neg h, e]
    rfl

theorem vscale_apply (b : I2) (j : S128x128.Idx) : vscale b j = kscale (b j) := by
  unfold vscale kscale
  rw [← ve_apply]
  rfl

theorem vinv_apply (b : I2) (j : S128x128.Idx) : vinv b j = kinv (b j) := by
  unfold vinv kinv
  rw [← ve_apply]
  rfl

/-- A value scaled and clipped to a code's range. -/
def kcode (x s : EReal) : EReal := min (Ideal.ofBits .f32 0x43E00000#32) (max (Ideal.ofBits .f32 0xC3E00000#32) (x * s))

theorem vcodes_apply (x : V2) (b : I2) (j0 j1 : Fin 128) : vcodes x b (ix3 0 j0 j1) = kcode (x (ix2 j0 j1)) (kinv (b (ix2 j0 j1))) := by
  unfold vcodes kcode
  rw [← vinv_apply]
  generalize vinv b = i
  pointwise

/-! ## The keys' loop -/

theorem pay5_eq (v : Vec Ideal S1x128x128 .bf16) : k0_pay5 (k0_pay3 v) (k0_pay4 v) 16#32 = vb (k0_pay3 v) := rfl

theorem pay10_eq (b : I2) : k0_pay10 (F := Ideal) b 0#32 = shapeCast S128x128 (vscale b) shapeCasts_S128x128_S128x128 := rfl

theorem pay11_eq (x : V2) (b : I2) : k0_pay11 (F := Ideal) x b 0#32 = vcodes x b := rfl

/-! ## The values' scales -/

theorem pay23_eq (a : FVec Ideal S1x128 .f32) : k0_pay23 (F := Ideal) (k0_pay18 (k0_pay15 a) (k0_pay16 a) (k0_pay17 a) 32#32)
    (k0_pay19 (k0_pay15 a) (k0_pay16 a) (k0_pay17 a) 32#32) 1#32
    = shapeCast S1x1x1x128 (extractStridedSlice S1x128 ![0, 0] (vscale (vb (k0_pay15 a))) slices_S128x128_o0_0_S1x128) shapeCasts_S1x128_S1x1x1x128 := rfl

theorem pay26_eq (a : FVec Ideal S1x128 .f32) (v : Vec Ideal S1x128x128 .bf16) : k0_pay26 (F := Ideal) (k0_pay18 (k0_pay15 a) (k0_pay16 a) (k0_pay17 a) 32#32)
    (k0_pay19 (k0_pay15 a) (k0_pay16 a) (k0_pay17 a) 32#32) 1#32 v = vcodes (k0_pay25 v) (vb (k0_pay15 a)) := rfl

/-! ## The queries' heads -/

/-- The codes of one head's block of queries. -/
abbrev hcodes (v : Vec Ideal S1x128x128 .bf16) : FVec Ideal S1x128x128 .fp8e4m3 := vcodes (k0_pay29 v) (vb (k0_pay30 v))

theorem pay37_eq (v : Vec Ideal S1x128x128 .bf16) : k0_pay37 (F := Ideal) (k0_pay29 v) (k0_pay30 v)
    (k0_pay33 (k0_pay30 v) (k0_pay31 v) (k0_pay32 v)) (k0_pay34 (k0_pay30 v) (k0_pay31 v) (k0_pay32 v)) = hcodes v := rfl

theorem pay50_eq (v : Vec Ideal S1x128x128 .bf16) : k0_pay50 (F := Ideal) (k0_pay40 v)
    (k0_pay45 (k0_pay41 v) (k0_pay42 v) (k0_pay43 v)) (k0_pay46 (k0_pay41 v) (k0_pay42 v) (k0_pay43 v)) k0_pay47 = hcodes v := rfl

theorem pay61_eq (v : Vec Ideal S1x128x128 .bf16) : k0_pay61 (F := Ideal)
    (k0_pay59 (k0_pay53 v) (k0_pay54 v) (k0_pay56 (k0_pay54 v) k0_pay55 128#32) 4#32) (FloatOps.ofBits .f32 3286237184#32) = hcodes v := rfl

theorem pay73_eq (v : Vec Ideal S1x128x128 .bf16) : k0_pay73 (F := Ideal) (k0_pay64 v) (k0_pay65 v)
    (k0_pay68 (k0_pay65 v) (k0_pay66 v) (k0_pay67 v)) (k0_pay69 (k0_pay65 v) (k0_pay66 v) (k0_pay67 v)) = hcodes v := rfl

/-- The scales of one head's block, every lane of a row the same. -/
abbrev hscale (v : Vec Ideal S1x128x128 .bf16) : V2 := vscale (vb (k0_pay30 v))

/-- The scales of the four heads, one head to a lane, then turned so a head is a row. -/
def qscales (u0 u1 u2 u3 : V2) : FVec Ideal S1x1x4x128 .f32 :=
  shapeCast S1x1x4x128 (extractStridedSlice S4x128 ![0, 0] (transpose S128x128 [1, 0]
    (select (cmpi .eq (iota .tc S128x128 32 [1] iota_S128x128_d1_w32) (broadcast S128x128 3#32)) u3
    (select (cmpi .eq (iota .tc S128x128 32 [1] iota_S128x128_d1_w32) (broadcast S128x128 2#32)) u2
    (select (cmpi .eq (iota .tc S128x128 32 [1] iota_S128x128_d1_w32) (broadcast S128x128 1#32)) u1
    (select (cmpi .eq (iota .tc S128x128 32 [1] iota_S128x128_d1_w32) (broadcast S128x128 0#32)) u0
      (broadcast S128x128 (Scalar.ofBits .f32 0x00000000#32))))))
    transposes_S128x128_p1_0_S128x128) slices_S128x128_o0_0_S4x128) shapeCasts_S4x128_S1x1x4x128

theorem pay76_eq (v0 v1 v2 v3 : Vec Ideal S1x128x128 .bf16) :
    k0_pay76 (F := Ideal) (iota .tc S128x128 32 [1] iota_S128x128_d1_w32)
      (k0_pay63 (iota .tc S128x128 32 [1] iota_S128x128_d1_w32)
        (k0_pay52 (iota .tc S128x128 32 [1] iota_S128x128_d1_w32)
          (k0_pay39 k0_pay28 (iota .tc S128x128 32 [1] iota_S128x128_d1_w32) (k0_pay30 v0)
            (k0_pay33 (k0_pay30 v0) (k0_pay31 v0) (k0_pay32 v0)) (k0_pay34 (k0_pay30 v0) (k0_pay31 v0) (k0_pay32 v0)))
          (k0_pay45 (k0_pay41 v1) (k0_pay42 v1) (k0_pay43 v1)) (k0_pay46 (k0_pay41 v1) (k0_pay42 v1) (k0_pay43 v1)) k0_pay47)
        (k0_pay58 (k0_pay54 v2) (k0_pay56 (k0_pay54 v2) k0_pay55 128#32) 4#32))
      (k0_pay71 (k0_pay65 v3) (k0_pay68 (k0_pay65 v3) (k0_pay66 v3) (k0_pay67 v3)) (k0_pay69 (k0_pay65 v3) (k0_pay66 v3) (k0_pay67 v3)))
    = qscales (hscale v0) (hscale v1) (hscale v2) (hscale v3) := rfl

theorem qscales_apply (u0 u1 u2 u3 : V2) (h : Fin 4) (r : Fin 128) :
    qscales u0 u1 u2 u3 (ix4 0 0 h r) = (match h with | 0 => u0 | 1 => u1 | 2 => u2 | 3 => u3) (ix2 r ⟨h.val, by omega⟩) := by
  unfold qscales
  fin_cases h
  all_goals pointwise
  all_goals try rfl

end Cert.KernelIdeal.Gen

end
-- ==== Proof.VFrame.Trips.lean ====
/- The two loops over the keys' and the values' blocks, read as closed forms: the codes they store, the scales of the keys
   they carry, and the running maximum of the values. -/
module

public import proofs.«01_k».proof.Proof.Gen.KernelIdeal.Loops
public import proofs.«01_k».proof.Proof.VFrame.Vec
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.Sem Cert.Scale

abbrev X3 := Vec Ideal S1x16384x128 .bf16

/-- The factor the maxima are divided by, as the product with its inverse. -/
abbrev c448 : EReal := Ideal.ofBits .f32 0x3B124925#32

/-- The largest magnitude of a row. -/
def krow (x : X3) (r : Fin 16384) : EReal :=
  Finset.univ.fold max (Ideal.ofBits .f32 0xFF800000#32) fun l : Fin 128 => FloatOps.absf (F := Ideal) (φ := .f32) (x (ix3 0 r l))

/-- The keys' codes. -/
def KC (x : X3) : Vec Ideal S1x16384x128 .fp8e4m3 := fun y => kcode (x y) (kinv (kb (krow x (y 1) * c448)))

/-- The keys' scales, row `128 b + r` at block `b`, place `r`. -/
def KS (x : X3) : Vec Ideal S1x1x128x128 .f32 := fun y =>
  kscale (kb (krow x ⟨128 * (y 2).val + (y 3).val, by have h2 : (y 2).val < 128 := (y 2).isLt; have h3 : (y 3).val < 128 := (y 3).isLt; omega⟩ * c448))

/-- The largest magnitude of a column. -/
def vcol (x : X3) (l : Fin 128) : EReal :=
  Finset.univ.fold max (Ideal.ofBits .f32 0xFF800000#32) fun r : Fin 16384 => FloatOps.absf (F := Ideal) (φ := .f32) (x (ix3 0 r l))

/-- The values' codes. -/
def VC (x : X3) : Vec Ideal S1x16384x128 .fp8e4m3 := fun y => kcode (x y) (kinv (kb (vcol x (y 2) * c448)))

/-- The values' scales. -/
def VS (x : X3) : Vec Ideal S1x1x1x128 .f32 := fun y => kscale (kb (vcol x (y 3) * c448))

/-- Block `n` of the rows. -/
def blk (x : X3) (n : Fin 128) : Vec Ideal S1x128x128 .bf16 := fun j =>
  x (ix3 0 ⟨128 * n.val + (j 1).val, by have h : (j 1).val < 128 := (j 1).isLt; omega⟩ (j 2))

/-! ## The rectangles -/

theorem trips1 : k0_t1_loop.trips = 128 := by decide +kernel
theorem trips2 : k0_t2_loop.trips = 128 := by decide +kernel
theorem off1_eq : ∀ k : Fin k0_t1_loop.trips, k0_off1 k = ![0, 128 * k.val, 0] := by decide +kernel
theorem off3_eq : ∀ k : Fin k0_t2_loop.trips, k0_off3 k = ![0, 128 * k.val, 0] := by decide +kernel
theorem iv1_eq : ∀ k : Fin k0_t1_loop.trips, (Scf.iv 0#32 1#32 k.val : BitVec 32) = BitVec.ofNat 32 k.val := by decide +kernel

theorem emb_rows (off : Fin 3 → ℕ) (n : Fin 128) (hoff : off = ![0, 128 * n.val, 0]) (inb : ∀ a, off a + S1x128x128.size a ≤ S1x16384x128.size a)
    (j : S1x128x128.Idx) : (Rect.unit (s := S1x16384x128) off S1x128x128.size inb).emb j
      = ix3 0 ⟨128 * n.val + (j 1).val, by have h : (j 1).val < 128 := (j 1).isLt; omega⟩ (j 2) := by
  subst hoff
  refine funext fun a => Fin.ext ?_
  have h0 : (j 0).val < 1 := (j 0).isLt
  match a with
  | ⟨0, _⟩ => show 0 + 1 * (j 0).val = 0; omega
  | ⟨1, _⟩ => show 128 * n.val + 1 * (j 1).val = 128 * n.val + (j 1).val; omega
  | ⟨2, _⟩ => show 0 + 1 * (j 2).val = (j 2).val; omega

theorem cover_rows (off : Fin 3 → ℕ) (n : Fin 128) (hoff : off = ![0, 128 * n.val, 0]) (inb : ∀ a, off a + S1x128x128.size a ≤ S1x16384x128.size a)
    (y : S1x16384x128.Idx) (hy : 128 * n.val ≤ (y 1).val ∧ (y 1).val < 128 * n.val + 128) : y ∈ (Rect.unit (s := S1x16384x128) off S1x128x128.size inb).set := by
  rw [Rect.mem_set_unit]
  subst hoff
  have h0 : (y 0).val < 1 := (y 0).isLt
  have h2 : (y 2).val < 128 := (y 2).isLt
  intro a
  match a with
  | ⟨0, _⟩ => exact ⟨Nat.zero_le _, by show (y 0).val < 0 + 1; omega⟩
  | ⟨1, _⟩ => exact hy
  | ⟨2, _⟩ => exact ⟨Nat.zero_le _, by show (y 2).val < 0 + 128; omega⟩

theorem readAt_rows (M : Memref sig .tc .vmem S1x16384x128 .bf16) (hM : M.IsWhole) (x : X3) (off : Fin 3 → ℕ) (n : Fin 128)
    (hoff : off = ![0, 128 * n.val, 0]) (inb : ∀ a, off a + S1x128x128.size a ≤ S1x16384x128.size a) :
    M.view.readAt (Elt Ideal) (Rect.unit (s := S1x16384x128) off S1x128x128.size inb).toLoadRect (hM.unread x) = blk x n := by
  funext j
  rw [hM.readAt_unread]
  exact congrArg x (emb_rows off n hoff inb j)

/-! ## The payloads on a block -/

theorem pay3_blk (x : X3) (n : Fin 128) (j0 j1 : Fin 128) :
    k0_pay3 (blk x n) (ix2 j0 j1) = krow x ⟨128 * n.val + j0.val, by omega⟩ * c448 := by
  have h : ∀ v : Vec Ideal S1x128x128 .bf16, k0_pay3 v (ix2 j0 j1)
      = Finset.fold max (Ideal.ofBits .f32 0xFF800000#32) (fun k : Fin 128 => FloatOps.absf (F := Ideal) (φ := .f32) (v (ix3 0 j0 k))) Finset.univ * c448 := by
    intro v
    unfold k0_pay3 k0_pay2
    pointwise
    try rfl
  rw [h]
  rfl

theorem codes_blk (x : X3) (n : Fin 128) (j : S1x128x128.Idx) :
    vcodes (k0_pay2 (blk x n)) (vb (k0_pay3 (blk x n))) j
      = KC x (ix3 0 ⟨128 * n.val + (j 1).val, by have h : (j 1).val < 128 := (j 1).isLt; omega⟩ (j 2)) := by
  have hj : j = ix3 0 (j 1) (j 2) := by
    refine funext fun a => Fin.ext ?_
    have h0 : (j 0).val < 1 := (j 0).isLt
    match a with
    | ⟨0, _⟩ => show (j 0).val = 0; omega
    | ⟨1, _⟩ => rfl
    | ⟨2, _⟩ => rfl
  obtain ⟨j1, j2, rfl⟩ : ∃ (j1 j2 : Fin 128), j = ix3 0 j1 j2 := ⟨j 1, j 2, hj⟩
  rw [vcodes_apply, vb_apply, pay3_blk]
  have h : ∀ v : Vec Ideal S1x128x128 .bf16, k0_pay2 v (ix2 j1 j2) = v (ix3 0 j1 j2) := by
    intro v
    unfold k0_pay2
    pointwise
    try rfl
  rw [h]
  rfl

theorem pay12_blk (acc : V2) (x : X3) (n : Fin 128) (r l : Fin 128) :
    k0_pay12 acc (BitVec.ofNat 32 n.val) (vb (k0_pay3 (blk x n))) 0#32 (ix2 r l)
      = if l = n then kscale (kb (krow x ⟨128 * n.val + r.val, by omega⟩ * c448)) else acc (ix2 r l) := by
  have h : ∀ b : I2, k0_pay12 acc (BitVec.ofNat 32 n.val) b 0#32 (ix2 r l)
      = Scalar.select (IntOp.cmpi .eq (BitVec.ofNat 32 l.val) (BitVec.ofNat 32 n.val)) (vscale b (ix2 r l)) (acc (ix2 r l)) := by
    intro b
    have e : iota .tc S128x128 32 [1] iota_S128x128_d1_w32 (ix2 r l) = BitVec.ofNat 32 l.val :=
      congrArg (BitVec.ofNat 32) (by show 0 * 128 + l.val = l.val; omega)
    rw [← e]
    rfl
  rw [h, vscale_apply, vb_apply, pay3_blk]
  by_cases hl : l = n
  · subst hl; simp [Scalar.select, IntOp.cmpi]
  · have e : (BitVec.ofNat 32 l.val == BitVec.ofNat 32 n.val) = false := by
      refine beq_eq_false_iff_ne.mpr fun h => hl (Fin.ext ?_)
      have := congrArg BitVec.toNat h
      simp only [BitVec.toNat_ofNat] at this
      omega
    rw [if_neg hl]
    unfold Scalar.select IntOp.cmpi
    rw [e]
    rfl

/-- The running maximum of a column after `n` blocks, from 0. -/
def vcar (x : X3) (l : Fin 128) : ℕ → EReal
  | 0 => Ideal.ofBits .f32 0x00000000#32
  | n + 1 => if h : n < 128 then max (vcar x l n) (Finset.univ.fold max (Ideal.ofBits .f32 0xFF800000#32)
      fun k : Fin 128 => FloatOps.absf (F := Ideal) (φ := .f32) (x (ix3 0 ⟨128 * n + k.val, by omega⟩ l))) else vcar x l n

theorem pay13_blk (acc : FVec Ideal S1x128 .f32) (x : X3) (n : Fin 128) (l : Fin 128) (ha : acc (ix2 0 l) = vcar x l n.val) :
    k0_pay13 acc (blk x n) (ix2 0 l) = vcar x l (n.val + 1) := by
  have h : ∀ v : Vec Ideal S1x128x128 .bf16, k0_pay13 acc v (ix2 0 l)
      = max (acc (ix2 0 l)) (Finset.fold max (Ideal.ofBits .f32 0xFF800000#32) (fun k : Fin 128 => FloatOps.absf (F := Ideal) (φ := .f32) (v (ix3 0 k l))) Finset.univ) := by
    intro v
    unfold k0_pay13
    pointwise
    try rfl
  rw [h, ha, vcar, dif_pos n.isLt]
  rfl

theorem absf_nonneg (a : EReal) : 0 ≤ FloatOps.absf (F := Ideal) (φ := .f32) a := by
  show (0 : EReal) ≤ max a (-a)
  rcases le_total 0 a with h | h
  · exact h.trans (le_max_left _ _)
  · exact le_trans (by simpa using EReal.neg_le_neg_iff.mpr h) (le_max_right a (-a))

theorem vcar_le (x : X3) (l : Fin 128) (B : EReal) : ∀ n : ℕ, n ≤ 128 → (vcar x l n ≤ B ↔ 0 ≤ B ∧
    ∀ r : Fin 16384, r.val < 128 * n → FloatOps.absf (F := Ideal) (φ := .f32) (x (ix3 0 r l)) ≤ B)
  | 0, _ => by rw [vcar, c_zero]; simp
  | n + 1, hn => by
    rw [vcar, dif_pos (by omega), max_le_iff, vcar_le x l B n (by omega), Finset.fold_max_le, c_bot]
    constructor
    · rintro ⟨⟨h0, h1⟩, -, h2⟩
      refine ⟨h0, fun r hr => ?_⟩
      by_cases hr' : r.val < 128 * n
      · exact h1 r hr'
      · have h3 := h2 ⟨r.val - 128 * n, by omega⟩ (Finset.mem_univ _)
        have e : (⟨128 * n + (r.val - 128 * n), by omega⟩ : Fin 16384) = r := Fin.ext (by show 128 * n + (r.val - 128 * n) = r.val; omega)
        simpa only [e] using h3
    · rintro ⟨h0, h1⟩
      exact ⟨⟨h0, fun r hr => h1 r (by omega)⟩, bot_le, fun k _ => h1 _ (by show 128 * n + k.val < _; omega)⟩

/-- After the last block the running maximum is the column's largest magnitude. -/
theorem vcar_last (x : X3) (l : Fin 128) : vcar x l 128 = vcol x l := by
  refine eq_of_forall_ge_iff fun B => ?_
  rw [vcar_le x l B 128 le_rfl, vcol, Finset.fold_max_le, c_bot]
  constructor
  · rintro ⟨-, h⟩
    exact ⟨bot_le, fun r _ => h r (by omega)⟩
  · rintro ⟨-, h⟩
    exact ⟨(absf_nonneg _).trans (h 0 (Finset.mem_univ _)), fun r _ => h r (Finset.mem_univ _)⟩

/-! ## One trip -/

section
variable (𝒱 : Variants) (c : Dev nD) (bd : Option 𝒱.V) (i : grid0.Coords) (arg3 : Memref sig .tc .smem S2x17 .i32) (harg3 : arg3.IsWhole) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (k0_h1 : k0_cond1 i = 1#1) (x1 x2 : X3)

theorem trip1_res (k : Fin k0_t1_loop.trips) (acc : FVec Ideal S128x128 .f32 × FVec Ideal S1x128 .f32) :
    (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 (harg5.unread x1) (harg6.unread x2) k).1 acc
      = (k0_pay12 acc.1 (BitVec.ofNat 32 k.val) (vb (k0_pay3 (blk x1 (k.cast trips1)))) 0#32, k0_pay13 acc.2 (blk x2 (k.cast trips1))) := by
  rw [← readAt_rows arg5 harg5 x1 (k0_off1 k) (k.cast trips1) (off1_eq k) (k0_off1_inb i k k0_h1),
    ← readAt_rows arg6 harg6 x2 (k0_off1 k) (k.cast trips1) (off1_eq k) (k0_off1_inb i k k0_h1), ← iv1_eq k]
  unfold trip_k0_t1
  rfl

theorem trip1_pcs (k : Fin k0_t1_loop.trips) (acc : FVec Ideal S128x128 .f32 × FVec Ideal S1x128 .f32) :
    (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 (harg5.unread x1) (harg6.unread x2) k).2.1 acc
      = [⟨Rect.unit (s := S1x16384x128) (k0_off1 k) S1x128x128.size (k0_off1_inb i k k0_h1),
          vcodes (k0_pay2 (blk x1 (k.cast trips1))) (vb (k0_pay3 (blk x1 (k.cast trips1))))⟩] := by
  rw [← readAt_rows arg5 harg5 x1 (k0_off1 k) (k.cast trips1) (off1_eq k) (k0_off1_inb i k k0_h1)]
  unfold trip_k0_t1
  rfl

theorem trip2_pcs (v813 : I2) (v819 : IVec S128x128 1) (w : BitVec 32) (k : Fin k0_t2_loop.trips) :
    (trip_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v813 v819 w (harg6.unread x2) k).1
      = [⟨Rect.unit (s := S1x16384x128) (k0_off3 k) S1x128x128.size (k0_off3_inb i k k0_h1), k0_pay26 v813 v819 w (blk x2 (k.cast trips2))⟩] := by
  rw [← readAt_rows arg6 harg6 x2 (k0_off3 k) (k.cast trips2) (off3_eq k) (k0_off3_inb i k k0_h1)]
  unfold trip_k0_t2
  rfl

/-! ## All trips -/

/-- What the first `n` trips over the keys leave: the scales of the first `n` blocks by lane, the running maxima of the values,
    and stores that hold the codes of the first `n` blocks. -/
theorem st1_inv : ∀ n : ℕ, n ≤ k0_t1_loop.trips →
    (∀ r l : Fin 128, (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 (harg5.unread x1) (harg6.unread x2) (k0_pay6, k0_pay7) n).1.1 (ix2 r l)
      = if l.val < n then kscale (kb (krow x1 ⟨128 * l.val + r.val, by omega⟩ * c448)) else Ideal.ofBits .f32 0x00000000#32)
    ∧ (∀ l : Fin 128, (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 (harg5.unread x1) (harg6.unread x2) (k0_pay6, k0_pay7) n).1.2 (ix2 0 l) = vcar x2 l n)
    ∧ (∀ p ∈ (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 (harg5.unread x1) (harg6.unread x2) (k0_pay6, k0_pay7) n).2.1, ∀ x : p.1.shape.Idx, p.2 x = KC x1 (p.1.emb x))
    ∧ (∀ y : S1x16384x128.Idx, (y 1).val < 128 * n → ∃ p ∈ (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 (harg5.unread x1) (harg6.unread x2) (k0_pay6, k0_pay7) n).2.1, y ∈ p.1.set)
  | 0, _ => by
    refine ⟨fun r l => ?_, fun l => rfl, fun p hp => ?_, fun y hy => absurd hy (by omega)⟩
    · rw [if_neg (by omega)]; rfl
    · exact absurd hp List.not_mem_nil
  | n + 1, hn => by
    obtain ⟨h1, h2, h3, h4⟩ := st1_inv n (by omega)
    have hn' : n < 128 := by have := trips1; omega
    have hs := st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 (harg5.unread x1) (harg6.unread x2) (k0_pay6, k0_pay7) ⟨n, hn⟩
    simp only at hs
    rw [hs]
    simp only
    unfold tripR_k0_t1
    rw [trip1_res, trip1_pcs]
    refine ⟨fun r l => ?_, fun l => ?_, fun p hp => ?_, fun y hy => ?_⟩
    · refine (pay12_blk _ x1 ⟨n, hn'⟩ r l).trans ?_
      by_cases hl : l = ⟨n, hn'⟩
      · subst hl
        rw [if_pos rfl, if_pos (by show n < n + 1; omega)]
      · have hl' : l.val ≠ n := fun h => hl (Fin.ext h)
        rw [if_neg hl, h1 r l]
        by_cases hlt : l.val < n
        · rw [if_pos hlt, if_pos (by omega)]
        · rw [if_neg hlt, if_neg (by omega)]
    · exact pay13_blk _ x2 ⟨n, hn'⟩ l (h2 l)
    · rcases List.mem_append.mp hp with hp | hp
      · obtain rfl := List.mem_singleton.mp hp
        intro x
        refine (codes_blk x1 ⟨n, hn'⟩ x).trans (congrArg (KC x1) ?_)
        exact (emb_rows _ ⟨n, hn'⟩ (off1_eq ⟨n, hn⟩) (k0_off1_inb i ⟨n, hn⟩ k0_h1) x).symm
      · exact h3 p hp
    · by_cases hy' : (y 1).val < 128 * n
      · obtain ⟨p, hp, hm⟩ := h4 y hy'
        exact ⟨p, List.mem_append_right _ hp, hm⟩
      · exact ⟨_, List.mem_append_left _ (List.mem_singleton.mpr rfl), cover_rows _ ⟨n, hn'⟩ (off1_eq ⟨n, hn⟩) (k0_off1_inb i ⟨n, hn⟩ k0_h1) y ⟨by show 128 * n ≤ _; omega, by show _ < 128 * n + 128; omega⟩⟩

/-- What the first `n` trips over the values leave. -/
theorem pb2_inv (v813 : I2) (v819 : IVec S128x128 1) (w : BitVec 32)
    (hc : ∀ n : Fin 128, ∀ j : S1x128x128.Idx, k0_pay26 v813 v819 w (blk x2 n) j
      = VC x2 (ix3 0 ⟨128 * n.val + (j 1).val, by have h : (j 1).val < 128 := (j 1).isLt; omega⟩ (j 2))) : ∀ n : ℕ, n ≤ k0_t2_loop.trips →
    (∀ p ∈ (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v813 v819 w (harg6.unread x2) n).1, ∀ x : p.1.shape.Idx, p.2 x = VC x2 (p.1.emb x))
    ∧ (∀ y : S1x16384x128.Idx, (y 1).val < 128 * n → ∃ p ∈ (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v813 v819 w (harg6.unread x2) n).1, y ∈ p.1.set)
  | 0, _ => ⟨fun p hp => absurd hp List.not_mem_nil, fun y hy => absurd hy (by omega)⟩
  | n + 1, hn => by
    obtain ⟨h3, h4⟩ := pb2_inv v813 v819 w hc n (by omega)
    have hn' : n < 128 := by have := trips2; omega
    have hs := pb_k0_t2_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v813 v819 w (harg6.unread x2) ⟨n, hn⟩
    simp only at hs
    rw [hs]
    simp only
    rw [trip2_pcs]
    refine ⟨fun p hp => ?_, fun y hy => ?_⟩
    · rcases List.mem_append.mp hp with hp | hp
      · obtain rfl := List.mem_singleton.mp hp
        intro x
        refine (hc ⟨n, hn'⟩ x).trans (congrArg (VC x2) ?_)
        exact (emb_rows _ ⟨n, hn'⟩ (off3_eq ⟨n, hn⟩) (k0_off3_inb i ⟨n, hn⟩ k0_h1) x).symm
      · exact h3 p hp
    · by_cases hy' : (y 1).val < 128 * n
      · obtain ⟨p, hp, hm⟩ := h4 y hy'
        exact ⟨p, List.mem_append_right _ hp, hm⟩
      · exact ⟨_, List.mem_append_left _ (List.mem_singleton.mpr rfl), cover_rows _ ⟨n, hn'⟩ (off3_eq ⟨n, hn⟩) (k0_off3_inb i ⟨n, hn⟩ k0_h1) y ⟨by show 128 * n ≤ _; omega, by show _ < 128 * n + 128; omega⟩⟩

end

end Cert.KernelIdeal.Gen

end
-- ==== Proof.VFrame.Reads.lean ====
/- What the body's stores leave in the codes and scales windows, read back as closed forms of the blocks it loads. -/
module

public import proofs.«01_k».proof.Proof.VFrame.RunA
public import proofs.«01_k».proof.Proof.VFrame.RunB
public import proofs.«01_k».proof.Proof.VFrame.Trips
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.Sem Cert.Scale

abbrev XQ := Vec Ideal S1x128x512 .bf16

/-- The largest magnitude of a row of one head's queries. -/
def qrow (x : XQ) (r : Fin 128) (h : Fin 4) : EReal :=
  Finset.univ.fold max (Ideal.ofBits .f32 0xFF800000#32) fun l : Fin 128 =>
    FloatOps.absf (F := Ideal) (φ := .f32) (x (ix3 0 r ⟨128 * h.val + l.val, by omega⟩))

/-- The queries' codes. -/
def QC (x : XQ) : Vec Ideal S1x128x512 .fp8e4m3 := fun y =>
  kcode (x y) (kinv (kb (qrow x (y 1) ⟨(y 2).val / 128, by have h : (y 2).val < 512 := (y 2).isLt; omega⟩ * c448)))

/-- The queries' scales. -/
def QS (x : XQ) : Vec Ideal S1x1x4x128 .f32 := fun y => kscale (kb (qrow x (y 3) (y 2) * c448))

/-- One head's block of queries. -/
def qblk (x : XQ) (h : Fin 4) : Vec Ideal S1x128x128 .bf16 := fun j =>
  x (ix3 0 (j 1) ⟨128 * h.val + (j 2).val, by have h : (j 2).val < 128 := (j 2).isLt; omega⟩)

theorem emb_head (off : Fin 3 → ℕ) (h : Fin 4) (hoff : off = ![0, 0, 128 * h.val]) (inb : ∀ a, off a + S1x128x128.size a ≤ S1x128x512.size a)
    (j : S1x128x128.Idx) : (Rect.unit (s := S1x128x512) off S1x128x128.size inb).emb j
      = ix3 0 (j 1) ⟨128 * h.val + (j 2).val, by have h : (j 2).val < 128 := (j 2).isLt; omega⟩ := by
  subst hoff
  refine funext fun a => Fin.ext ?_
  have h0 : (j 0).val < 1 := (j 0).isLt
  match a with
  | ⟨0, _⟩ => show 0 + 1 * (j 0).val = 0; omega
  | ⟨1, _⟩ => show 0 + 1 * (j 1).val = (j 1).val; omega
  | ⟨2, _⟩ => show 128 * h.val + 1 * (j 2).val = 128 * h.val + (j 2).val; omega

theorem cover_head (off : Fin 3 → ℕ) (h : Fin 4) (hoff : off = ![0, 0, 128 * h.val]) (inb : ∀ a, off a + S1x128x128.size a ≤ S1x128x512.size a)
    (y : S1x128x512.Idx) (hy : (y 2).val / 128 = h.val) : y ∈ (Rect.unit (s := S1x128x512) off S1x128x128.size inb).set := by
  rw [Rect.mem_set_unit]
  subst hoff
  have h0 : (y 0).val < 1 := (y 0).isLt
  have h1 : (y 1).val < 128 := (y 1).isLt
  intro a
  match a with
  | ⟨0, _⟩ => exact ⟨Nat.zero_le _, by show (y 0).val < 0 + 1; omega⟩
  | ⟨1, _⟩ => exact ⟨Nat.zero_le _, by show (y 1).val < 0 + 128; omega⟩
  | ⟨2, _⟩ => exact ⟨by show 128 * h.val ≤ (y 2).val; omega, by show (y 2).val < 128 * h.val + 128; omega⟩

theorem readAt_head (M : Memref sig .tc .vmem S1x128x512 .bf16) (hM : M.IsWhole) (x : XQ) (off : Fin 3 → ℕ) (h : Fin 4)
    (hoff : off = ![0, 0, 128 * h.val]) (inb : ∀ a, off a + S1x128x128.size a ≤ S1x128x512.size a) :
    M.view.readAt (Elt Ideal) (Rect.unit (s := S1x128x512) off S1x128x128.size inb).toLoadRect (hM.unread x) = qblk x h := by
  funext j
  rw [hM.readAt_unread]
  exact congrArg x (emb_head off h hoff inb j)

theorem pay30_blk (x : XQ) (h : Fin 4) (j0 j1 : Fin 128) : k0_pay30 (qblk x h) (ix2 j0 j1) = qrow x j0 h * c448 := by
  have e : ∀ v : Vec Ideal S1x128x128 .bf16, k0_pay30 v (ix2 j0 j1)
      = Finset.fold max (Ideal.ofBits .f32 0xFF800000#32) (fun k : Fin 128 => FloatOps.absf (F := Ideal) (φ := .f32) (v (ix3 0 j0 k))) Finset.univ * c448 := by
    intro v
    unfold k0_pay30 k0_pay29
    pointwise
    try rfl
  rw [e]
  rfl

theorem hcodes_blk (x : XQ) (h : Fin 4) (j : S1x128x128.Idx) :
    hcodes (qblk x h) j = QC x (ix3 0 (j 1) ⟨128 * h.val + (j 2).val, by have h : (j 2).val < 128 := (j 2).isLt; omega⟩) := by
  have hj : j = ix3 0 (j 1) (j 2) := by
    refine funext fun a => Fin.ext ?_
    have h0 : (j 0).val < 1 := (j 0).isLt
    match a with
    | ⟨0, _⟩ => show (j 0).val = 0; omega
    | ⟨1, _⟩ => rfl
    | ⟨2, _⟩ => rfl
  obtain ⟨j1, j2, rfl⟩ : ∃ (j1 j2 : Fin 128), j = ix3 0 j1 j2 := ⟨j 1, j 2, hj⟩
  unfold hcodes
  rw [vcodes_apply, vb_apply, pay30_blk]
  have e : ∀ v : Vec Ideal S1x128x128 .bf16, k0_pay29 v (ix2 j1 j2) = v (ix3 0 j1 j2) := by
    intro v
    unfold k0_pay29
    pointwise
    try rfl
  rw [e]
  have hh : (⟨(128 * h.val + j2.val) / 128, by omega⟩ : Fin 4) = h := Fin.ext (by show (128 * h.val + j2.val) / 128 = h.val; omega)
  show kcode _ (kinv (kb (qrow x j1 h * c448))) = kcode _ (kinv (kb (qrow x j1 ⟨(128 * h.val + j2.val) / 128, by omega⟩ * c448)))
  rw [hh]
  rfl

/-- The pieces of the queries' codes, for the four heads' blocks. -/
theorem read_heads (M : Memref sig .tc .vmem S1x128x512 .fp8e4m3) (x : XQ) (f : M.view.ty.Contents (Elt Ideal))
    (L : List (View.Piece (Elt Ideal) S1x128x512 .fp8e4m3))
    (hL : L = [⟨Rect.unit (s := S1x128x512) ![0, 0, 384] S1x128x128.size inb_S1x128x512_S1x128x128_0_0_384, hcodes (qblk x 3)⟩,
      ⟨Rect.unit (s := S1x128x512) ![0, 0, 256] S1x128x128.size inb_S1x128x512_S1x128x128_0_0_256, hcodes (qblk x 2)⟩,
      ⟨Rect.unit (s := S1x128x512) ![0, 0, 128] S1x128x128.size inb_S1x128x512_S1x128x128_0_0_128, hcodes (qblk x 1)⟩,
      ⟨Rect.unit (s := S1x128x512) ![0, 0, 0] S1x128x128.size inb_S1x128x512_S1x128x128_0_0_0, hcodes (qblk x 0)⟩]) :
    M.view.read (Elt Ideal) (M.view.writes (Elt Ideal) f L) = QC x := by
  have hp : ∀ p ∈ L, ∀ j : p.1.shape.Idx, p.2 j = QC x (p.1.emb j) := by
    subst hL
    intro p hp
    rcases List.mem_cons.mp hp with rfl | hp
    · exact fun j => (hcodes_blk x 3 j).trans (congrArg (QC x) (emb_head ![0, 0, 384] 3 rfl inb_S1x128x512_S1x128x128_0_0_384 j).symm)
    rcases List.mem_cons.mp hp with rfl | hp
    · exact fun j => (hcodes_blk x 2 j).trans (congrArg (QC x) (emb_head ![0, 0, 256] 2 rfl inb_S1x128x512_S1x128x128_0_0_256 j).symm)
    rcases List.mem_cons.mp hp with rfl | hp
    · exact fun j => (hcodes_blk x 1 j).trans (congrArg (QC x) (emb_head ![0, 0, 128] 1 rfl inb_S1x128x512_S1x128x128_0_0_128 j).symm)
    rcases List.mem_cons.mp hp with rfl | hp
    · exact fun j => (hcodes_blk x 0 j).trans (congrArg (QC x) (emb_head ![0, 0, 0] 0 rfl inb_S1x128x512_S1x128x128_0_0_0 j).symm)
    nomatch hp
  have hc : ∀ y : S1x128x512.Idx, ∃ p ∈ L, y ∈ p.1.set := by
    subst hL
    intro y
    have h2 : (y 2).val < 512 := (y 2).isLt
    rcases (by omega : (y 2).val / 128 = 3 ∨ (y 2).val / 128 = 2 ∨ (y 2).val / 128 = 1 ∨ (y 2).val / 128 = 0) with h | h | h | h
    · exact ⟨_, List.mem_cons_self, cover_head ![0, 0, 384] 3 rfl inb_S1x128x512_S1x128x128_0_0_384 y h⟩
    · exact ⟨_, List.mem_cons_of_mem _ List.mem_cons_self, cover_head ![0, 0, 256] 2 rfl inb_S1x128x512_S1x128x128_0_0_256 y h⟩
    · exact ⟨_, List.mem_cons_of_mem _ (List.mem_cons_of_mem _ List.mem_cons_self), cover_head ![0, 0, 128] 1 rfl inb_S1x128x512_S1x128x128_0_0_128 y h⟩
    · exact ⟨_, List.mem_cons_of_mem _ (List.mem_cons_of_mem _ (List.mem_cons_of_mem _ List.mem_cons_self)), cover_head ![0, 0, 0] 0 rfl inb_S1x128x512_S1x128x128_0_0_0 y h⟩
  funext y
  rw [View.read_writes_apply_eq_canon _ _ _ _ (hc y), View.canon_apply_of_pieces (QC x) L hp y (hc y)]

theorem qscales_blk (x : XQ) : qscales (hscale (qblk x 0)) (hscale (qblk x 1)) (hscale (qblk x 2)) (hscale (qblk x 3)) = QS x := by
  funext y
  have hy : y = ix4 0 0 (y 2) (y 3) := by
    refine funext fun a => Fin.ext ?_
    have h0 : (y 0).val < 1 := (y 0).isLt
    have h1 : (y 1).val < 1 := (y 1).isLt
    match a with
    | ⟨0, _⟩ => show (y 0).val = 0; omega
    | ⟨1, _⟩ => show (y 1).val = 0; omega
    | ⟨2, _⟩ => rfl
    | ⟨3, _⟩ => rfl
  obtain ⟨h, r, rfl⟩ : ∃ (h : Fin 4) (r : Fin 128), y = ix4 0 0 h r := ⟨y 2, y 3, hy⟩
  rw [qscales_apply]
  show _ = kscale (kb (qrow x r h * c448))
  match h with
  | 0 => exact (vscale_apply _ _).trans (by rw [vb_apply, pay30_blk])
  | 1 => exact (vscale_apply _ _).trans (by rw [vb_apply, pay30_blk])
  | 2 => exact (vscale_apply _ _).trans (by rw [vb_apply, pay30_blk])
  | 3 => exact (vscale_apply _ _).trans (by rw [vb_apply, pay30_blk])

/-- The queries' codes, read back. -/
theorem readA8 (c : Dev nD) (arg4 : Memref sig .tc .vmem S1x128x512 .bf16) (harg4 : arg4.IsWhole) (M : Memref sig .tc .vmem S1x128x512 .fp8e4m3)
    (x0 : XQ) (f : M.view.ty.Contents (Elt Ideal)) : M.view.read (Elt Ideal) (M.view.writes (Elt Ideal) f (valueRun_A.sl.H4_4 c arg4 harg4 x0)) = QC x0 := by
  refine read_heads M x0 f _ ?_
  rw [← readAt_head arg4 harg4 x0 ![0, 0, 0] 0 rfl inb_S1x128x512_S1x128x128_0_0_0, ← readAt_head arg4 harg4 x0 ![0, 0, 128] 1 rfl inb_S1x128x512_S1x128x128_0_0_128,
    ← readAt_head arg4 harg4 x0 ![0, 0, 256] 2 rfl inb_S1x128x512_S1x128x128_0_0_256, ← readAt_head arg4 harg4 x0 ![0, 0, 384] 3 rfl inb_S1x128x512_S1x128x128_0_0_384]
  rfl

theorem readB8 (c : Dev nD) (arg4 : Memref sig .tc .vmem S1x128x512 .bf16) (harg4 : arg4.IsWhole) (M : Memref sig .tc .vmem S1x128x512 .fp8e4m3)
    (x0 : XQ) (f : M.view.ty.Contents (Elt Ideal)) : M.view.read (Elt Ideal) (M.view.writes (Elt Ideal) f (valueRun_B.sl.H4_4 c arg4 harg4 x0)) = QC x0 :=
  readA8 c arg4 harg4 M x0 f

/-- The queries' scales, read back. -/
theorem readA9 (c : Dev nD) (arg4 : Memref sig .tc .vmem S1x128x512 .bf16) (harg4 : arg4.IsWhole) (M : Memref sig .tc .vmem S1x1x4x128 .f32)
    (x0 : XQ) (f : M.view.ty.Contents (Elt Ideal)) : M.view.read (Elt Ideal) (M.view.writes (Elt Ideal) f (valueRun_A.sl.H5_1 c arg4 harg4 x0)) = QS x0 := by
  rw [← qscales_blk]
  rw [← readAt_head arg4 harg4 x0 ![0, 0, 0] 0 rfl inb_S1x128x512_S1x128x128_0_0_0, ← readAt_head arg4 harg4 x0 ![0, 0, 128] 1 rfl inb_S1x128x512_S1x128x128_0_0_128,
    ← readAt_head arg4 harg4 x0 ![0, 0, 256] 2 rfl inb_S1x128x512_S1x128x128_0_0_256, ← readAt_head arg4 harg4 x0 ![0, 0, 384] 3 rfl inb_S1x128x512_S1x128x128_0_0_384]
  exact (View.read_writes_full M.view f inb_S1x1x4x128_S1x1x4x128_0_0_0_0 _ []).trans rfl

theorem readB9 (c : Dev nD) (arg4 : Memref sig .tc .vmem S1x128x512 .bf16) (harg4 : arg4.IsWhole) (M : Memref sig .tc .vmem S1x1x4x128 .f32)
    (x0 : XQ) (f : M.view.ty.Contents (Elt Ideal)) : M.view.read (Elt Ideal) (M.view.writes (Elt Ideal) f (valueRun_B.sl.H5_1 c arg4 harg4 x0)) = QS x0 :=
  readA9 c arg4 harg4 M x0 f

/-! ## The keys' and the values' windows -/

section
variable (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : cond0_0 i) (x1 x2 : X3)

/-- The keys' codes, read back. -/
theorem readA10 (f : arg10.view.ty.Contents (Elt Ideal)) : arg10.view.read (Elt Ideal) (arg10.view.writes (Elt Ideal) f
    (st_k0_t1 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 (harg5.unread x1) (harg6.unread x2) (k0_pay6, k0_pay7) k0_t1_loop.trips).2.1) = KC x1 := by
  obtain ⟨-, -, hp, hc⟩ := st1_inv Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 x1 x2 k0_t1_loop.trips le_rfl
  have hc' : ∀ y : S1x16384x128.Idx, ∃ p ∈ (st_k0_t1 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 (harg5.unread x1) (harg6.unread x2) (k0_pay6, k0_pay7) k0_t1_loop.trips).2.1, y ∈ p.1.set :=
    fun y => hc y (by have h1 : (y 1).val < 16384 := (y 1).isLt; have := trips1; omega)
  funext y
  rw [View.read_writes_apply_eq_canon _ _ _ _ (hc' y), View.canon_apply_of_pieces (KC x1) _ hp y (hc' y)]

theorem pay14_scales (a : V2) (h : ∀ r l : Fin 128, a (ix2 r l) = kscale (kb (krow x1 ⟨128 * l.val + r.val, by omega⟩ * c448))) :
    k0_pay14 a = KS x1 := by
  funext y
  have hy : y = ix4 0 0 (y 2) (y 3) := by
    refine funext fun a => Fin.ext ?_
    have h0 : (y 0).val < 1 := (y 0).isLt
    have h1 : (y 1).val < 1 := (y 1).isLt
    match a with
    | ⟨0, _⟩ => show (y 0).val = 0; omega
    | ⟨1, _⟩ => show (y 1).val = 0; omega
    | ⟨2, _⟩ => rfl
    | ⟨3, _⟩ => rfl
  obtain ⟨b, r, rfl⟩ : ∃ (b : Fin 128) (r : Fin 128), y = ix4 0 0 b r := ⟨y 2, y 3, hy⟩
  have e : k0_pay14 a (ix4 0 0 b r) = a (ix2 r b) := by
    unfold k0_pay14
    pointwise
    try rfl
  rw [e, h]
  rfl

/-- The keys' scales, read back. -/
theorem readA11 (f : arg11.view.ty.Contents (Elt Ideal)) : arg11.view.read (Elt Ideal) (arg11.view.writes (Elt Ideal) f
    (valueRun_A.sl.H7_1 c i arg4 harg4 arg5 harg5 arg6 harg6 arg7 harg7 arg8 harg8 arg9 harg9 arg10 harg10 arg11 harg11 arg12 harg12 arg13 harg13 arg14 harg14 arg15 harg15 arg16 harg16 arg17 harg17 hc0 x1 x2)) = KS x1 := by
  obtain ⟨hs, -, -, -⟩ := st1_inv Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 x1 x2 k0_t1_loop.trips le_rfl
  refine ((View.read_writes_full arg11.view f inb_S1x1x128x128_S1x1x128x128_0_0_0_0 _ []).trans ?_).trans (pay14_scales (x1 := x1) _ fun r l => (hs r l).trans (if_pos (by have := trips1; omega)))
  rfl

theorem pay15_col (a : FVec Ideal S1x128 .f32) (h : ∀ l : Fin 128, a (ix2 0 l) = vcol x2 l) (j0 j1 : Fin 128) : k0_pay15 a (ix2 j0 j1) = vcol x2 j1 * c448 := by
  have e : k0_pay15 a (ix2 j0 j1) = a (ix2 0 j1) * c448 := by
    unfold k0_pay15
    pointwise
    try rfl
  rw [e, h]

theorem pay23_col (a : FVec Ideal S1x128 .f32) (h : ∀ l : Fin 128, a (ix2 0 l) = vcol x2 l) :
    k0_pay23 (F := Ideal) (k0_pay18 (k0_pay15 a) (k0_pay16 a) (k0_pay17 a) 32#32)
      (k0_pay19 (k0_pay15 a) (k0_pay16 a) (k0_pay17 a) 32#32) 1#32 = VS x2 := by
  rw [pay23_eq]
  funext y
  have hy : y = ix4 0 0 0 (y 3) := by
    refine funext fun a => Fin.ext ?_
    have h0 : (y 0).val < 1 := (y 0).isLt
    have h1 : (y 1).val < 1 := (y 1).isLt
    have h2 : (y 2).val < 1 := (y 2).isLt
    match a with
    | ⟨0, _⟩ => show (y 0).val = 0; omega
    | ⟨1, _⟩ => show (y 1).val = 0; omega
    | ⟨2, _⟩ => show (y 2).val = 0; omega
    | ⟨3, _⟩ => rfl
  obtain ⟨l, rfl⟩ : ∃ l : Fin 128, y = ix4 0 0 0 l := ⟨y 3, hy⟩
  have e : ∀ w : V2, (shapeCast S1x1x1x128 (extractStridedSlice S1x128 ![0, 0] w slices_S128x128_o0_0_S1x128) shapeCasts_S1x128_S1x1x1x128) (ix4 0 0 0 l) = w (ix2 0 l) := by
    intro w
    pointwise
    try rfl
  rw [e, vscale_apply, vb_apply, pay15_col x2 a h]
  rfl

theorem pay26_col (a : FVec Ideal S1x128 .f32) (h : ∀ l : Fin 128, a (ix2 0 l) = vcol x2 l) (n : Fin 128) (j : S1x128x128.Idx) :
    k0_pay26 (F := Ideal) (k0_pay18 (k0_pay15 a) (k0_pay16 a) (k0_pay17 a) 32#32)
      (k0_pay19 (k0_pay15 a) (k0_pay16 a) (k0_pay17 a) 32#32) 1#32 (blk x2 n) j
      = VC x2 (ix3 0 ⟨128 * n.val + (j 1).val, by have h : (j 1).val < 128 := (j 1).isLt; omega⟩ (j 2)) := by
  rw [pay26_eq]
  have hj : j = ix3 0 (j 1) (j 2) := by
    refine funext fun a => Fin.ext ?_
    have h0 : (j 0).val < 1 := (j 0).isLt
    match a with
    | ⟨0, _⟩ => show (j 0).val = 0; omega
    | ⟨1, _⟩ => rfl
    | ⟨2, _⟩ => rfl
  obtain ⟨j1, j2, rfl⟩ : ∃ (j1 j2 : Fin 128), j = ix3 0 j1 j2 := ⟨j 1, j 2, hj⟩
  rw [vcodes_apply, vb_apply, pay15_col x2 a h]
  have e : ∀ v : Vec Ideal S1x128x128 .bf16, k0_pay25 v (ix2 j1 j2) = v (ix3 0 j1 j2) := by
    intro v
    unfold k0_pay25
    pointwise
    try rfl
  rw [e]
  rfl

theorem col_of_st (l : Fin 128) : (st_k0_t1 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 (harg5.unread x1) (harg6.unread x2) (k0_pay6, k0_pay7) k0_t1_loop.trips).1.2 (ix2 0 l)
    = vcol x2 l := by
  obtain ⟨-, hv, -, -⟩ := st1_inv Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 x1 x2 k0_t1_loop.trips le_rfl
  rw [hv l, trips1, vcar_last]

/-- The values' scales, read back. -/
theorem readA13 (f : arg13.view.ty.Contents (Elt Ideal)) : arg13.view.read (Elt Ideal) (arg13.view.writes (Elt Ideal) f
    (valueRun_A.sl.H9_1 c i arg4 harg4 arg5 harg5 arg6 harg6 arg7 harg7 arg8 harg8 arg9 harg9 arg10 harg10 arg11 harg11 arg12 harg12 arg13 harg13 arg14 harg14 arg15 harg15 arg16 harg16 arg17 harg17 hc0 x1 x2)) = VS x2 := by
  refine ((View.read_writes_full arg13.view f inb_S1x1x1x128_S1x1x1x128_0_0_0_0 _ []).trans ?_).trans (pay23_col (x2 := x2) _ (col_of_st c i arg4 harg4 arg5 harg5 arg6 harg6 arg7 harg7 arg8 harg8 arg9 harg9 arg10 harg10 arg11 harg11 arg12 harg12 arg13 harg13 arg14 harg14 arg15 harg15 arg16 harg16 arg17 harg17 hc0 x1 x2))
  rfl

/-- The values' codes, read back. -/
theorem readA12 (f : arg12.view.ty.Contents (Elt Ideal)) : arg12.view.read (Elt Ideal) (arg12.view.writes (Elt Ideal) f
    (pb_k0_t2 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 (valueRun_A.sl.v813 c i arg4 harg4 arg5 harg5 arg6 harg6 arg7 harg7 arg8 harg8 arg9 harg9 arg10 harg10 arg11 harg11 arg12 harg12 arg13 harg13 arg14 harg14 arg15 harg15 arg16 harg16 arg17 harg17 hc0 x1 x2) (valueRun_A.sl.v819 c i arg4 harg4 arg5 harg5 arg6 harg6 arg7 harg7 arg8 harg8 arg9 harg9 arg10 harg10 arg11 harg11 arg12 harg12 arg13 harg13 arg14 harg14 arg15 harg15 arg16 harg16 arg17 harg17 hc0 x1 x2) 1#32 (harg6.unread x2) k0_t2_loop.trips).1) = VC x2 := by
  obtain ⟨hp, hc⟩ := pb2_inv Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 x2 (valueRun_A.sl.v813 c i arg4 harg4 arg5 harg5 arg6 harg6 arg7 harg7 arg8 harg8 arg9 harg9 arg10 harg10 arg11 harg11 arg12 harg12 arg13 harg13 arg14 harg14 arg15 harg15 arg16 harg16 arg17 harg17 hc0 x1 x2) (valueRun_A.sl.v819 c i arg4 harg4 arg5 harg5 arg6 harg6 arg7 harg7 arg8 harg8 arg9 harg9 arg10 harg10 arg11 harg11 arg12 harg12 arg13 harg13 arg14 harg14 arg15 harg15 arg16 harg16 arg17 harg17 hc0 x1 x2) 1#32
    (pay26_col (x2 := x2) _ (col_of_st c i arg4 harg4 arg5 harg5 arg6 harg6 arg7 harg7 arg8 harg8 arg9 harg9 arg10 harg10 arg11 harg11 arg12 harg12 arg13 harg13 arg14 harg14 arg15 harg15 arg16 harg16 arg17 harg17 hc0 x1 x2)) k0_t2_loop.trips le_rfl
  have hc' : ∀ y : S1x16384x128.Idx, ∃ p ∈ (pb_k0_t2 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 (valueRun_A.sl.v813 c i arg4 harg4 arg5 harg5 arg6 harg6 arg7 harg7 arg8 harg8 arg9 harg9 arg10 harg10 arg11 harg11 arg12 harg12 arg13 harg13 arg14 harg14 arg15 harg15 arg16 harg16 arg17 harg17 hc0 x1 x2) (valueRun_A.sl.v819 c i arg4 harg4 arg5 harg5 arg6 harg6 arg7 harg7 arg8 harg8 arg9 harg9 arg10 harg10 arg11 harg11 arg12 harg12 arg13 harg13 arg14 harg14 arg15 harg15 arg16 harg16 arg17 harg17 hc0 x1 x2) 1#32 (harg6.unread x2) k0_t2_loop.trips).1, y ∈ p.1.set :=
    fun y => hc y (by have h1 : (y 1).val < 16384 := (y 1).isLt; have := trips2; omega)
  funext y
  rw [View.read_writes_apply_eq_canon _ _ _ _ (hc' y), View.canon_apply_of_pieces (VC x2) _ hp y (hc' y)]

end

end Cert.KernelIdeal.Gen

end
-- ==== Proof.VFrame.Soft.lean ====
/- The attention of one query row, over the extended reals: the kernel's sums over a range of keys with the weights in
   powers of two, the reference's sums over all keys with the weights in powers of e, and that both are the same real
   number when the codes and the scales are real. -/
module

public import proofs.«01_k».proof.Proof.Words
public import proofs.«01_k».proof.Proof.VFrame.Scale
public import Idealize.ShloMosaic.Lib.WordSum

@[expose] public section

set_option maxRecDepth 65536

noncomputable section

namespace Cert.Soft

open Idealize.ShloMosaic Cert.Scale

/-- The key of a number. -/
def key (k : ℕ) : Fin 16384 := ⟨k % 16384, Nat.mod_lt _ (by norm_num)⟩

theorem key_val (k : Fin 16384) : key k.val = k := Fin.ext (Nat.mod_eq_of_lt k.isLt)

/-- A score: the key's, if the key is visible, or no score. -/
def score (X : Fin 16384 → EReal) (M : Fin 16384 → BitVec 1) (k : ℕ) : EReal :=
  Scalar.select (M (key k)) (X (key k)) (Ideal.ofBits .f32 0xFF800000#32)

/-- The largest score of the keys from `a` to `b`. -/
def best (X : Fin 16384 → EReal) (M : Fin 16384 → BitVec 1) (a b : ℕ) : EReal := (Finset.Ico a b).sup (score X M)

/-- The weight of a key under the largest score `m` and the row's scale `s`, in two hundred and fifty-sixths. -/
def wt (X : Fin 16384 → EReal) (M : Fin 16384 → BitVec 1) (m s : EReal) (k : ℕ) : EReal :=
  Ideal.exp2 (score X M k * s - (m * s - Ideal.ofBits .f32 0x41000000#32))

/-- The clip to the range of the codes. -/
def clip (x : EReal) : EReal := min (Ideal.ofBits .f32 0x43E00000#32) (max (Ideal.ofBits .f32 0xC3E00000#32) x)

/-- The kernel's sum of the weights. -/
def mass (X : Fin 16384 → EReal) (M : Fin 16384 → BitVec 1) (m s : EReal) (a b : ℕ) : EReal :=
  ∑ k ∈ Finset.Ico a b, wt X M m s k

/-- The kernel's weighted sum of the values. -/
def mix (X : Fin 16384 → EReal) (M : Fin 16384 → BitVec 1) (m s : EReal) (V : Fin 16384 → EReal) (a b : ℕ) : EReal :=
  ∑ k ∈ Finset.Ico a b, V (key k) * clip (wt X M m s k)

/-- The kernel's attention of a row. -/
def att (X : Fin 16384 → EReal) (M : Fin 16384 → BitVec 1) (s : EReal) (V : Fin 16384 → EReal) (vs : EReal) (a b : ℕ) : EReal :=
  Ideal.div (mix X M (best X M a b) s V a b * vs) (mass X M (best X M a b) s a b)

/-- The reference's score. -/
def rscore (X : Fin 16384 → EReal) (M : Fin 16384 → BitVec 1) (k : Fin 16384) : EReal :=
  Scalar.select (M k) (X k) (Ideal.ofBits .f32 0xFF800000#32)

/-- The reference's weight. -/
def rwt (X : Fin 16384 → EReal) (M : Fin 16384 → BitVec 1) (k : Fin 16384) : EReal :=
  Ideal.exp (rscore X M k - Finset.univ.sup (rscore X M))

/-- The exponent of the reference's weights. -/
def rexp (X : Fin 16384 → EReal) (M : Fin 16384 → BitVec 1) : EReal :=
  refE (Finset.univ.sup (fun k => max (rwt X M k) (-rwt X M k)) * Ideal.ofBits .f32 0x3B124925#32)

/-- The reference's attention of a row. -/
def ratt (X : Fin 16384 → EReal) (M : Fin 16384 → BitVec 1) (V : Fin 16384 → EReal) (vs : EReal) : EReal :=
  Ideal.div ((∑ k, V k * clip (rwt X M k * Ideal.exp2 (Ideal.ofBits .f32 0x00000000#32 - rexp X M))) * Ideal.exp2 (rexp X M) * vs)
    (∑ k, rwt X M k)

/-! ## Ranges -/

theorem best_succ (X : Fin 16384 → EReal) (M : Fin 16384 → BitVec 1) (a n : ℕ) :
    best X M (128 * a) (128 * (a + (n + 1))) = max (best X M (128 * a) (128 * (a + n)))
      ((Finset.univ : Finset (Fin 128)).sup fun r => score X M (128 * (a + n) + r.val)) := by
  unfold best
  rw [← Finset.Ico_union_Ico_eq_Ico (show 128 * a ≤ 128 * (a + n) by omega) (show 128 * (a + n) ≤ 128 * (a + (n + 1)) by omega),
    Finset.sup_union]
  refine congrArg (max _) (le_antisymm (Finset.sup_le fun k hk => ?_) (Finset.sup_le fun r _ => ?_))
  · rw [Finset.mem_Ico] at hk
    have e : k = 128 * (a + n) + (⟨k - 128 * (a + n), by omega⟩ : Fin 128).val := by show k = _ + (k - _); omega
    rw [e]
    exact Finset.le_sup (f := fun r : Fin 128 => score X M (128 * (a + n) + r.val)) (Finset.mem_univ _)
  · exact Finset.le_sup (f := score X M) (by rw [Finset.mem_Ico]; have := r.isLt; omega)

theorem sum_succ (f : ℕ → EReal) (a n : ℕ) :
    ∑ k ∈ Finset.Ico (128 * a) (128 * (a + (n + 1))), f k
      = ∑ k ∈ Finset.Ico (128 * a) (128 * (a + n)), f k + ∑ r : Fin 128, f (128 * (a + n) + r.val) := by
  rw [← Finset.sum_Ico_consecutive f (show 128 * a ≤ 128 * (a + n) by omega) (show 128 * (a + n) ≤ 128 * (a + (n + 1)) by omega)]
  refine congrArg _ ?_
  rw [Finset.sum_Ico_eq_sum_range, show 128 * (a + (n + 1)) - 128 * (a + n) = 128 by omega]
  exact (Fin.sum_univ_eq_sum_range (fun r => f (128 * (a + n) + r)) 128).symm

/-- A sum over a range that holds every key whose term is not zero. -/
theorem sum_range_eq (f : Fin 16384 → EReal) (a b : ℕ) (hb : b ≤ 16384)
    (h : ∀ k : Fin 16384, ¬(a ≤ k.val ∧ k.val < b) → f k = 0) : ∑ k ∈ Finset.Ico a b, f (key k) = ∑ k, f k := by
  have e : ∑ k, f k = ∑ k ∈ Finset.range 16384, f (key k) := by
    rw [← Fin.sum_univ_eq_sum_range (fun k => f (key k)) 16384]
    exact Finset.sum_congr rfl fun k _ => by rw [key_val]
  rw [e]
  refine Finset.sum_subset (fun k hk => ?_) (fun k hk hk' => ?_)
  · rw [Finset.mem_Ico] at hk; rw [Finset.mem_range]; omega
  · rw [Finset.mem_range] at hk
    rw [Finset.mem_Ico] at hk'
    refine h _ ?_
    have : (key k).val = k := Nat.mod_eq_of_lt hk
    rw [this]; exact hk'

/-! ## Constants and operations on reals -/

theorem c_8 : Ideal.ofBits .f32 0x41000000#32 = ((8 : ℝ) : EReal) := by
  simp [Ideal.ofBits, Ideal.ieee, -EReal.coe_mul]; norm_num
theorem c_hi : Ideal.ofBits .f32 0x43E00000#32 = ((448 : ℝ) : EReal) := by
  simp [Ideal.ofBits, Ideal.ieee, -EReal.coe_mul]; norm_num
theorem c_lo : Ideal.ofBits .f32 0xC3E00000#32 = ((-448 : ℝ) : EReal) := by
  simp [Ideal.ofBits, Ideal.ieee, -EReal.coe_mul]; norm_num
theorem c_128 : Ideal.ofBits .f32 0x43000000#32 = ((128 : ℝ) : EReal) := by
  simp [Ideal.ofBits, Ideal.ieee, -EReal.coe_mul]; norm_num

theorem coe_sum {ι : Type*} (S : Finset ι) (f : ι → ℝ) : ∑ k ∈ S, ((f k : ℝ) : EReal) = ((∑ k ∈ S, f k : ℝ) : EReal) := by
  classical
  refine Finset.induction_on S (by simp) fun a S ha ih => ?_
  rw [Finset.sum_insert ha, Finset.sum_insert ha, ih, EReal.coe_add]

theorem clip_coe (x : ℝ) (h0 : 0 ≤ x) (h1 : x ≤ 448) : clip (x : EReal) = (x : EReal) := by
  unfold clip
  rw [c_hi, c_lo, max_eq_right (by exact_mod_cast (by linarith : (-448 : ℝ) ≤ x)), min_eq_right (by exact_mod_cast h1)]

/-- A clipped number is real. -/
theorem clip_real (x : EReal) : ∃ r : ℝ, clip x = (r : EReal) := by
  unfold clip
  rw [c_hi, c_lo]
  induction x using EReal.rec with
  | bot => exact ⟨-448, by rw [max_eq_left bot_le, min_eq_right (by exact_mod_cast (by norm_num : (-448 : ℝ) ≤ 448))]⟩
  | coe r => exact ⟨min 448 (max (-448) r), by push_cast; rfl⟩
  | top => exact ⟨448, by rw [max_eq_right le_top, min_eq_left le_top]⟩

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-! ## The two attentions on reals -/

section
variable (x : Fin 16384 → ℝ) (M : Fin 16384 → BitVec 1) (mx : ℝ)

/-- The weight of a key as a real number: the exponential of its scaled distance below the largest score. -/
def rw' (x : Fin 16384 → ℝ) (M : Fin 16384 → BitVec 1) (mx b : ℝ) (k : Fin 16384) : ℝ :=
  if M k = 1#1 then Real.exp ((x k - mx) * b) else 0

/-- The attention of a row as a real number. -/
def real (x : Fin 16384 → ℝ) (M : Fin 16384 → BitVec 1) (mx b : ℝ) (v : Fin 16384 → ℝ) (vs : ℝ) : ℝ :=
  ((∑ k, v k * rw' x M mx b k) * vs) / ∑ k, rw' x M mx b k

theorem exists_top (q : Fin 16384) (hq : M q = 1#1) :
    ∃ k0, M k0 = 1#1 ∧ ∀ k, M k = 1#1 → x k ≤ x k0 := by
  obtain ⟨k0, h0, h1⟩ := Finset.exists_max_image (Finset.univ.filter fun k => M k = 1#1) x ⟨q, by simp [hq]⟩
  exact ⟨k0, (Finset.mem_filter.mp h0).2, fun k hk => h1 k (by simp [hk])⟩

variable (k0 : Fin 16384) (h0 : M k0 = 1#1) (h1 : ∀ k, M k = 1#1 → x k ≤ x k0)

include h1 in
theorem rw'_le (b : ℝ) (hb : 0 ≤ b) (k : Fin 16384) : rw' x M (x k0) b k ≤ 1 := by
  unfold rw'
  split
  · rename_i h
    rw [Real.exp_le_one_iff]
    exact mul_nonpos_of_nonpos_of_nonneg (by have := h1 k h; linarith) hb
  · norm_num

theorem rw'_nonneg (b : ℝ) (k : Fin 16384) : 0 ≤ rw' x M mx b k := by
  unfold rw'; split
  · exact (Real.exp_pos _).le
  · exact le_refl _

include h0 in
theorem rw'_top (b : ℝ) : rw' x M (x k0) b k0 = 1 := by
  unfold rw'; rw [if_pos h0]; simp

include h0 in
theorem mass_pos (b : ℝ) : 0 < ∑ k, rw' x M (x k0) b k :=
  Finset.sum_pos' (fun k _ => rw'_nonneg x M _ b k) ⟨k0, Finset.mem_univ _, by rw [rw'_top x M k0 h0]; norm_num⟩

theorem score_coe (k : ℕ) : score (fun k => (x k : EReal)) M k = if M (key k) = 1#1 then (x (key k) : EReal) else ⊥ := by
  unfold score
  rw [c_bot]
  by_cases h : M (key k) = 1#1
  · rw [if_pos h, WordCmp.select_of_eq_one h]
  · rw [if_neg h, WordCmp.select_of_eq_zero (BitVec.eq_zero_or_eq_one _ |>.resolve_right h)]

include h0 h1 in
theorem best_eq (a b : ℕ) (hM : ∀ k, M k = 1#1 → a ≤ k.val ∧ k.val < b) :
    best (fun k => (x k : EReal)) M a b = (x k0 : EReal) := by
  refine le_antisymm (Finset.sup_le fun k _ => ?_) ?_
  · rw [score_coe]
    split
    · rename_i h; exact_mod_cast h1 _ h
    · exact bot_le
  · have := Finset.le_sup (f := score (fun k => (x k : EReal)) M) (Finset.mem_Ico.mpr (hM k0 h0))
    rw [score_coe, key_val, if_pos h0] at this
    exact this

theorem wt_eq (s : ℝ) (hs : 0 < s) (k : ℕ) :
    wt (fun k => (x k : EReal)) M (mx : EReal) (s : EReal) k = ((256 * rw' x M mx (s * Real.log 2) (key k) : ℝ) : EReal) := by
  unfold wt rw'
  rw [score_coe, c_8]
  split
  · rw [← EReal.coe_mul, ← EReal.coe_mul, ← EReal.coe_sub, ← EReal.coe_sub]
    show ((Real.rpow 2 _ : ℝ) : EReal) = _
    refine congrArg _ ?_
    show (2 : ℝ) ^ (_ : ℝ) = _
    rw [show x (key k) * s - (mx * s - 8) = (x (key k) - mx) * s + 8 by ring, Real.rpow_add (by norm_num),
      Real.rpow_def_of_pos (by norm_num), show Real.log 2 * ((x (key k) - mx) * s) = (x (key k) - mx) * (s * Real.log 2) by ring]
    norm_num
    ring
  · rw [EReal.bot_mul_coe_of_pos hs, ← EReal.coe_mul, ← EReal.coe_sub, mul_zero]
    show Ideal.exp2 (⊥ - _) = _
    rw [EReal.bot_sub]
    rfl

include h0 h1 in
/-- The kernel's attention is the real one. -/
theorem att_eq (s : ℝ) (hs : 0 < s) (v : Fin 16384 → ℝ) (vs : ℝ) (a b : ℕ) (hb : b ≤ 16384)
    (hM : ∀ k, M k = 1#1 → a ≤ k.val ∧ k.val < b) :
    att (fun k => (x k : EReal)) M (s : EReal) (fun k => (v k : EReal)) (vs : EReal) a b
      = (real x M (x k0) (s * Real.log 2) v vs : EReal) := by
  have hz : ∀ k : Fin 16384, ¬(a ≤ k.val ∧ k.val < b) → rw' x M (x k0) (s * Real.log 2) k = 0 := fun k hk => by
    unfold rw'; rw [if_neg fun h => hk (hM k h)]
  have hl : 0 ≤ s * Real.log 2 := mul_nonneg hs.le (Real.log_nonneg (by norm_num))
  have e1 : mass (fun k => (x k : EReal)) M (x k0 : EReal) (s : EReal) a b = ((256 * ∑ k, rw' x M (x k0) (s * Real.log 2) k : ℝ) : EReal) := by
    unfold mass
    simp only [wt_eq x M _ s hs]
    rw [sum_range_eq (fun k => ((256 * rw' x M (x k0) (s * Real.log 2) k : ℝ) : EReal)) a b hb
      (fun k hk => by rw [hz k hk]; simp), coe_sum, Finset.mul_sum]
  have e2 : mix (fun k => (x k : EReal)) M (x k0 : EReal) (s : EReal) (fun k => (v k : EReal)) a b
      = ((256 * ∑ k, v k * rw' x M (x k0) (s * Real.log 2) k : ℝ) : EReal) := by
    unfold mix
    simp only [wt_eq x M _ s hs]
    have e : ∀ k : Fin 16384, clip ((256 * rw' x M (x k0) (s * Real.log 2) k : ℝ) : EReal)
        = ((256 * rw' x M (x k0) (s * Real.log 2) k : ℝ) : EReal) := fun k =>
      clip_coe _ (by have := rw'_nonneg x M (x k0) (s * Real.log 2) k; positivity)
        (by have := rw'_le x M k0 h1 _ hl k; linarith)
    simp only [e, ← EReal.coe_mul]
    rw [sum_range_eq (fun k => ((v k * (256 * rw' x M (x k0) (s * Real.log 2) k) : ℝ) : EReal)) a b hb
      (fun k hk => by rw [hz k hk]; simp), coe_sum, Finset.mul_sum]
    refine congrArg _ (Finset.sum_congr rfl fun k _ => by ring)
  have hp := mass_pos x M k0 h0 (s * Real.log 2)
  unfold att
  rw [best_eq x M k0 h0 h1 a b hM, e1, e2, ← EReal.coe_mul, div_coe _ _ (by positivity)]
  refine congrArg _ ?_
  unfold real
  field_simp

theorem rscore_coe (y : Fin 16384 → ℝ) (k : Fin 16384) : rscore (fun k => (y k : EReal)) M k = if M k = 1#1 then (y k : EReal) else ⊥ := by
  rw [show rscore (fun k => (y k : EReal)) M k = score (fun k => (y k : EReal)) M k.val by
    unfold rscore score; rw [key_val], score_coe, key_val]

include h0 h1 in
theorem rwt_eq (b : ℝ) (hb : 0 < b) (k : Fin 16384) :
    rwt (fun k => ((x k * b : ℝ) : EReal)) M k = (rw' x M (x k0) b k : EReal) := by
  have hs : Finset.univ.sup (rscore (fun k => ((x k * b : ℝ) : EReal)) M) = ((x k0 * b : ℝ) : EReal) := by
    refine le_antisymm (Finset.sup_le fun k _ => ?_) ?_
    · rw [rscore_coe M (fun k => x k * b)]
      split
      · rename_i h
        exact_mod_cast mul_le_mul_of_nonneg_right (h1 _ h) hb.le
      · exact bot_le
    · have := Finset.le_sup (f := rscore (fun k => ((x k * b : ℝ) : EReal)) M) (Finset.mem_univ k0)
      rw [rscore_coe M (fun k => x k * b), if_pos h0] at this
      exact this
  unfold rwt rw'
  rw [hs, rscore_coe M (fun k => x k * b)]
  split
  · rw [← EReal.coe_sub]
    show ((Real.exp _ : ℝ) : EReal) = _
    rw [← sub_mul]
  · rw [EReal.bot_sub]
    rfl

theorem nb_one : nb ((9586981 * (2 : ℝ) ^ (-32 : ℤ) : ℝ) : EReal) = 118 := by
  obtain ⟨a1, a2, a3⟩ := nb_spec (9586981 * (2 : ℝ) ^ (-32 : ℤ)) (by positivity) (by norm_num)
  generalize nb ((9586981 * (2 : ℝ) ^ (-32 : ℤ) : ℝ) : EReal) = n at *
  rcases Nat.eq_zero_or_pos n with rfl | hn
  · have := a2 rfl
    norm_num at this
  · obtain ⟨b1, b2⟩ := a3 hn
    have c1 : (2 : ℝ) ^ ((n : ℤ) - 127) < 2 ^ (-8 : ℤ) := lt_of_le_of_lt b1 (by norm_num)
    have c2 : (2 : ℝ) ^ (-9 : ℤ) < 2 ^ ((n : ℤ) - 126) := lt_of_le_of_lt (by norm_num) b2
    have d1 := (zpow_lt_zpow_iff_right₀ (by norm_num : (1 : ℝ) < 2)).mp c1
    have d2 := (zpow_lt_zpow_iff_right₀ (by norm_num : (1 : ℝ) < 2)).mp c2
    omega

include h0 h1 in
theorem rexp_eq (b : ℝ) (hb : 0 < b) : rexp (fun k => ((x k * b : ℝ) : EReal)) M = (((-8 : ℤ) : ℝ) : EReal) := by
  have hs : Finset.univ.sup (fun k => max (rwt (fun k => ((x k * b : ℝ) : EReal)) M k) (-rwt (fun k => ((x k * b : ℝ) : EReal)) M k)) = ((1 : ℝ) : EReal) := by
    simp only [rwt_eq x M k0 h0 h1 b hb]
    refine le_antisymm (Finset.sup_le fun k _ => ?_) ?_
    · refine max_le (by exact_mod_cast rw'_le x M k0 h1 b hb.le k) ?_
      rw [← EReal.coe_neg]
      have := rw'_nonneg x M (x k0) b k
      exact_mod_cast (by linarith : -(rw' x M (x k0) b k) ≤ 1)
    · refine le_trans ?_ (Finset.le_sup (f := fun k => max (rw' x M (x k0) b k : EReal) (-(rw' x M (x k0) b k : EReal))) (Finset.mem_univ k0))
      rw [rw'_top x M k0 h0]
      exact le_max_left _ _
  unfold rexp
  rw [hs, c_448, ← EReal.coe_mul, one_mul, refE_spec _ (by positivity) (by norm_num), nb_one]
  norm_num

include h0 h1 in
/-- The reference's attention is the real one. -/
theorem ratt_eq (b : ℝ) (hb : 0 < b) (v : Fin 16384 → ℝ) (vs : ℝ) :
    ratt (fun k => ((x k * b : ℝ) : EReal)) M (fun k => (v k : EReal)) (vs : EReal) = (real x M (x k0) b v vs : EReal) := by
  have hp := mass_pos x M k0 h0 b
  unfold ratt
  rw [rexp_eq x M k0 h0 h1 b hb, c_zero, ← EReal.coe_sub, zero_sub, ← Int.cast_neg, exp2_int, exp2_int]
  simp only [rwt_eq x M k0 h0 h1 b hb]
  rw [coe_sum]
  have e : ∀ k : Fin 16384, clip ((rw' x M (x k0) b k : EReal) * (((2 : ℝ) ^ (- -8 : ℤ) : ℝ) : EReal))
      = ((256 * rw' x M (x k0) b k : ℝ) : EReal) := fun k => by
    rw [← EReal.coe_mul, show rw' x M (x k0) b k * (2 : ℝ) ^ (- -8 : ℤ) = 256 * rw' x M (x k0) b k by norm_num; ring]
    exact clip_coe _ (by have := rw'_nonneg x M (x k0) b k; positivity) (by have := rw'_le x M k0 h1 b hb.le k; linarith)
  simp only [e]
  simp only [← EReal.coe_mul]
  rw [coe_sum, ← EReal.coe_mul, ← EReal.coe_mul, div_coe _ _ hp.ne']
  refine congrArg _ ?_
  unfold real
  congr 2
  rw [Finset.sum_mul]
  refine Finset.sum_congr rfl fun k _ => ?_
  norm_num
  ring

end

end Cert.Soft

end
-- ==== Proof.VFrame.Scores.lean ====
/- The four loops over the visible key blocks, read as closed forms: after every trip the running maximum, the running sum
   of the weights and the running weighted sum of the values are those of the keys of the blocks passed. -/
module

public import proofs.«01_k».proof.Proof.VFrame.Trips
public import proofs.«01_k».proof.Proof.VFrame.Soft

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open Idealize.SL.Sem Cert.Scale Cert.Words Cert.Soft

/-- The lane of head `h` and row `r`. -/
def lane (h : Fin 4) (r : Fin 128) : Fin 512 := ⟨128 * h.val + r.val, by omega⟩

/-- The key of block `n`, place `x`. -/
def bkey (n x : Fin 128) : Fin 16384 := ⟨128 * n.val + x.val, by omega⟩

/-- Block `n` of the keys' codes. -/
def blk8 (x : Vec Ideal S1x16384x128 .fp8e4m3) (n : Fin 128) : Vec Ideal S1x128x128 .fp8e4m3 := fun j => x (ix3 0 (bkey n (j 1)) (j 2))

/-- Block `n` of the keys' scales. -/
def blkS (x : Vec Ideal S16384x128 .f32) (n : Fin 128) : Vec Ideal S128x128 .f32 := fun j => x (ix2 (bkey n (j 0)) (j 1))

/-- Block `n` of the turned values' codes. -/
def blkT (x : Vec Ideal S128x128x128 .fp8e4m3) (n : Fin 128) : Vec Ideal S1x128x128 .fp8e4m3 := fun j => x (ix3 n (j 1) (j 2))

/-- Whether a key is visible to the row at `pos` whose first key is `st`. -/
def MK (st pos : BitVec 32) (k : Fin 16384) : BitVec 1 :=
  IntOp.andi (IntOp.cmpi .sge (BitVec.ofNat 32 k.val) st) (IntOp.cmpi .sle (BitVec.ofNat 32 k.val) pos)

/-- The scores of a lane. -/
def XK (xk : Vec Ideal S1x16384x128 .fp8e4m3) (xs : Vec Ideal S16384x128 .f32) (xq : Vec Ideal S512x128 .fp8e4m3) (h : Fin 4) (r : Fin 128)
    (k : Fin 16384) : EReal := (∑ d : Fin 128, xk (ix3 0 k d) * xq (ix2 (lane h r) d)) * xs (ix2 k r)

/-! ## The payloads on a block -/

theorem cat128 (x : FVec Ideal S128x128 .f32) (k : Fin 128) (h : Fin 4) (r : Fin 128) :
    concatenate S128x512 1 [⟨S128x128, x⟩, ⟨S128x128, x⟩, ⟨S128x128, x⟩, ⟨S128x128, x⟩] concatenates_S128x128_S128x128_S128x128_S128x128_S128x512_d1 (ix2 k (lane h r)) = x (ix2 k r) := by
  have hr := r.isLt
  pointwise
  have e : (lane h r).val = 128 * h.val + r.val := rfl
  generalize lane h r = l at *
  split_ifs with h1 h2 h3 <;> refine congrArg x (congrArg (ix2 k) (Fin.ext ?_)) <;> show _ = r.val <;> simp only <;> omega

section
variable (i : grid0.Coords) (v483 v493 v503 v513 v523 v533 v543 v553 v563 v573 v583 v593 v603 v613 v623 v633 v643 : Elt Ideal .i32) (v652 v653 : IVec S1x512 32) (v654 : BitVec 32) (v665 : BitVec 1) (v666 c0 : BitVec 32)
  (m : ℕ) (hm : m < 128) (a : FVec Ideal S1x512 .f32)

theorem keyW (m x : ℕ) : IntOp.addi (Scalar.muli (BitVec.ofNat 32 m) 128#32) (BitVec.ofNat 32 x) = BitVec.ofNat 32 (128 * m + x) := by
  show BitVec.ofNat 32 m * BitVec.ofNat 32 128 + BitVec.ofNat 32 x = _
  rw [← BitVec.ofNat_mul, ← BitVec.ofNat_add, mul_comm]

theorem score_blk (xk : Vec Ideal S1x16384x128 .fp8e4m3) (xs : Vec Ideal S16384x128 .f32) (xq : Vec Ideal S512x128 .fp8e4m3) (h : Fin 4) (r : Fin 128)
    (st pos : BitVec 32) (x : Fin 128) :
    Scalar.select
        (IntOp.andi (IntOp.cmpi .sge (IntOp.addi (Scalar.muli (BitVec.ofNat 32 m) 128#32) (BitVec.ofNat 32 x.val)) st)
          (IntOp.cmpi .sle (IntOp.addi (Scalar.muli (BitVec.ofNat 32 m) 128#32) (BitVec.ofNat 32 x.val)) pos))
        ((∑ d : Fin 128, blk8 xk ⟨m, hm⟩ (ix3 0 x d) * xq (ix2 (lane h r) d)) * blkS xs ⟨m, hm⟩ (ix2 x r)) (Ideal.ofBits .f32 0xFF800000#32)
      = score (XK xk xs xq h r) (MK st pos) (128 * m + x.val) := by
  have hx := x.isLt
  have e : key (128 * m + x.val) = bkey ⟨m, hm⟩ x := Fin.ext (Nat.mod_eq_of_lt (by omega))
  rw [keyW]
  unfold score
  rw [e]
  rfl

theorem pay89_blk (k : Fin (k0_t3_loop i v483 v493 v503 v513 v523 v533 v543 v553 v563 v573 v583 v593 v603 v613 v623 v633 v643).trips)
    (hk : Scf.iv (Scalar.select (Scalar.andi v665 (Scalar.cmpi .ne v666 c0)) (Scalar.subi v654 1#32) v654) 1#32 k.val = BitVec.ofNat 32 m)
    (acc : FVec Ideal S1x512 .f32)
    (xk : Vec Ideal S1x16384x128 .fp8e4m3) (xs : Vec Ideal S16384x128 .f32) (xq : Vec Ideal S512x128 .fp8e4m3) (h : Fin 4) (r : Fin 128) :
    k0_pay89 i v483 v493 v503 v513 v523 v533 v543 v553 v563 v573 v583 v593 v603 v613 v623 v633 v643 v652 v653 v654 v665 v666 c0 k acc (blk8 xk ⟨m, hm⟩) xq (blkS xs ⟨m, hm⟩) (ix2 0 (lane h r))
      = max (acc (ix2 0 (lane h r))) (Finset.univ.sup fun x : Fin 128 => score (XK xk xs xq h r) (MK (v653 (ix2 0 (lane h r))) (v652 (ix2 0 (lane h r)))) (128 * m + x.val)) := by
  simp only [← score_blk m hm, ← cat128 (blkS xs ⟨m, hm⟩) _ h r]
  generalize blk8 xk ⟨m, hm⟩ = v740
  generalize blkS xs ⟨m, hm⟩ = v745
  unfold k0_pay89
  simp only [hk]
  generalize concatenate S128x512 1 [⟨S128x128, v745⟩, ⟨S128x128, v745⟩, ⟨S128x128, v745⟩, ⟨S128x128, v745⟩] concatenates_S128x128_S128x128_S128x128_S128x128_S128x512_d1 = cc
  pointwise
  rw [c_bot]
  rfl

theorem pay94_blk (k : Fin (k0_t5_loop i v483 v493 v503 v513 v523 v533 v543 v553 v563 v573 v583 v593 v603 v613 v623 v633 v643).trips)
    (hk : Scf.iv (Scalar.select (Scalar.andi v665 (Scalar.cmpi .ne v666 c0)) (Scalar.subi v654 1#32) v654) 1#32 k.val = BitVec.ofNat 32 m)
    (mx : FVec Ideal S1x512 .f32)
    (xk : Vec Ideal S1x16384x128 .fp8e4m3) (xs : Vec Ideal S16384x128 .f32) (xq : Vec Ideal S512x128 .fp8e4m3) (h : Fin 4) (r x : Fin 128) :
    k0_pay94 i a v483 v493 v503 v513 v523 v533 v543 v553 v563 v573 v583 v593 v603 v613 v623 v633 v643 v652 v653 v654 v665 v666 c0 mx k (blk8 xk ⟨m, hm⟩) xq (blkS xs ⟨m, hm⟩) (ix2 x (lane h r))
      = wt (XK xk xs xq h r) (MK (v653 (ix2 0 (lane h r))) (v652 (ix2 0 (lane h r)))) (mx (ix2 0 (lane h r))) (a (ix2 0 (lane h r))) (128 * m + x.val) := by
  unfold wt
  simp only [← score_blk m hm, ← cat128 (blkS xs ⟨m, hm⟩) _ h r]
  generalize blk8 xk ⟨m, hm⟩ = v740
  generalize blkS xs ⟨m, hm⟩ = v745
  unfold k0_pay94 k0_pay91
  simp only [hk]
  generalize concatenate S128x512 1 [⟨S128x128, v745⟩, ⟨S128x128, v745⟩, ⟨S128x128, v745⟩, ⟨S128x128, v745⟩] concatenates_S128x128_S128x128_S128x128_S128x128_S128x512_d1 = cc
  pointwise
  rfl

theorem pay95_blk (k : Fin (k0_t5_loop i v483 v493 v503 v513 v523 v533 v543 v553 v563 v573 v583 v593 v603 v613 v623 v633 v643).trips)
    (hk : Scf.iv (Scalar.select (Scalar.andi v665 (Scalar.cmpi .ne v666 c0)) (Scalar.subi v654 1#32) v654) 1#32 k.val = BitVec.ofNat 32 m)
    (mx : FVec Ideal S1x512 .f32) (acc : FVec Ideal S128x512 .f32)
    (xk : Vec Ideal S1x16384x128 .fp8e4m3) (xs : Vec Ideal S16384x128 .f32) (xq : Vec Ideal S512x128 .fp8e4m3) (xv : Vec Ideal S128x128x128 .fp8e4m3)
    (h : Fin 4) (r e : Fin 128) (V : Fin 16384 → EReal) (hV : ∀ x : Fin 128, xv (ix3 ⟨m, hm⟩ e x) = V (bkey ⟨m, hm⟩ x)) :
    k0_pay95 i a v483 v493 v503 v513 v523 v533 v543 v553 v563 v573 v583 v593 v603 v613 v623 v633 v643 v652 v653 v654 v665 v666 c0 mx k acc (blk8 xk ⟨m, hm⟩) xq (blkS xs ⟨m, hm⟩) (blkT xv ⟨m, hm⟩) (ix2 e (lane h r))
      = acc (ix2 e (lane h r)) + ∑ x : Fin 128, V (key (128 * m + x.val)) * clip (wt (XK xk xs xq h r) (MK (v653 (ix2 0 (lane h r))) (v652 (ix2 0 (lane h r)))) (mx (ix2 0 (lane h r))) (a (ix2 0 (lane h r))) (128 * m + x.val)) := by
  have e1 : ∀ x : Fin 128, V (key (128 * m + x.val)) = blkT xv ⟨m, hm⟩ (ix3 0 e x) := fun x => by
    have hx := x.isLt
    rw [show key (128 * m + x.val) = bkey ⟨m, hm⟩ x from Fin.ext (Nat.mod_eq_of_lt (by omega)), ← hV x]
    rfl
  simp only [← pay94_blk i v483 v493 v503 v513 v523 v533 v543 v553 v563 v573 v583 v593 v603 v613 v623 v633 v643 v652 v653 v654 v665 v666 c0 m hm a k hk mx, e1]
  generalize blkT xv ⟨m, hm⟩ = v772
  unfold k0_pay95 clip
  generalize k0_pay94 i a v483 v493 v503 v513 v523 v533 v543 v553 v563 v573 v583 v593 v603 v613 v623 v633 v643 v652 v653 v654 v665 v666 c0 mx k (blk8 xk ⟨m, hm⟩) xq (blkS xs ⟨m, hm⟩) = p
  pointwise

theorem pay96_blk (k : Fin (k0_t5_loop i v483 v493 v503 v513 v523 v533 v543 v553 v563 v573 v583 v593 v603 v613 v623 v633 v643).trips)
    (hk : Scf.iv (Scalar.select (Scalar.andi v665 (Scalar.cmpi .ne v666 c0)) (Scalar.subi v654 1#32) v654) 1#32 k.val = BitVec.ofNat 32 m)
    (mx : FVec Ideal S1x512 .f32) (acc : FVec Ideal S1x512 .f32)
    (xk : Vec Ideal S1x16384x128 .fp8e4m3) (xs : Vec Ideal S16384x128 .f32) (xq : Vec Ideal S512x128 .fp8e4m3) (h : Fin 4) (r : Fin 128) :
    k0_pay96 i a v483 v493 v503 v513 v523 v533 v543 v553 v563 v573 v583 v593 v603 v613 v623 v633 v643 v652 v653 v654 v665 v666 c0 mx k acc (blk8 xk ⟨m, hm⟩) xq (blkS xs ⟨m, hm⟩) (ix2 0 (lane h r))
      = acc (ix2 0 (lane h r)) + ∑ x : Fin 128, wt (XK xk xs xq h r) (MK (v653 (ix2 0 (lane h r))) (v652 (ix2 0 (lane h r)))) (mx (ix2 0 (lane h r))) (a (ix2 0 (lane h r))) (128 * m + x.val) := by
  simp only [← pay94_blk i v483 v493 v503 v513 v523 v533 v543 v553 v563 v573 v583 v593 v603 v613 v623 v633 v643 v652 v653 v654 v665 v666 c0 m hm a k hk mx]
  unfold k0_pay96
  generalize k0_pay94 i a v483 v493 v503 v513 v523 v533 v543 v553 v563 v573 v583 v593 v603 v613 v623 v633 v643 v652 v653 v654 v665 v666 c0 mx k (blk8 xk ⟨m, hm⟩) xq (blkS xs ⟨m, hm⟩) = p
  pointwise

end

/-! ## The reads of a trip -/

theorem read_blk8 (M : Memref sig .tc .vmem S1x16384x128 .fp8e4m3) (hM : M.IsWhole) (x : Vec Ideal S1x16384x128 .fp8e4m3) (off : Fin 3 → ℕ) (n : Fin 128)
    (hoff : off = ![0, 128 * n.val, 0]) (inb : ∀ a, off a + S1x128x128.size a ≤ S1x16384x128.size a) :
    M.view.readAt (Elt Ideal) (Rect.unit (s := S1x16384x128) off S1x128x128.size inb).toLoadRect (hM.unread x) = blk8 x n := by
  funext j
  rw [hM.readAt_unread]
  exact congrArg x (emb_rows off n hoff inb j)

theorem read_blkS (M : Memref sig .tc .vmem S16384x128 .f32) (hM : M.IsWhole) (x : Vec Ideal S16384x128 .f32) (off : Fin 2 → ℕ) (n : Fin 128)
    (hoff : off = ![128 * n.val, 0]) (inb : ∀ a, off a + S128x128.size a ≤ S16384x128.size a) :
    M.view.readAt (Elt Ideal) (Rect.unit (s := S16384x128) off S128x128.size inb).toLoadRect (hM.unread x) = blkS x n := by
  funext j
  rw [hM.readAt_unread]
  subst hoff
  refine congrArg x (funext fun a => Fin.ext ?_)
  match a with
  | ⟨0, _⟩ => show 128 * n.val + 1 * (j 0).val = 128 * n.val + (j 0).val; omega
  | ⟨1, _⟩ => show 0 + 1 * (j 1).val = (j 1).val; omega

theorem read_blkT (M : Memref sig .tc .vmem S128x128x128 .fp8e4m3) (hM : M.IsWhole) (x : Vec Ideal S128x128x128 .fp8e4m3) (off : Fin 3 → ℕ) (n : Fin 128)
    (hoff : off = ![n.val, 0, 0]) (inb : ∀ a, off a + S1x128x128.size a ≤ S128x128x128.size a) :
    M.view.readAt (Elt Ideal) (Rect.unit (s := S128x128x128) off S1x128x128.size inb).toLoadRect (hM.unread x) = blkT x n := by
  funext j
  rw [hM.readAt_unread]
  subst hoff
  have h0 : (j 0).val < 1 := (j 0).isLt
  refine congrArg x (funext fun a => Fin.ext ?_)
  match a with
  | ⟨0, _⟩ => show n.val + 1 * (j 0).val = n.val; omega
  | ⟨1, _⟩ => show 0 + 1 * (j 1).val = (j 1).val; omega
  | ⟨2, _⟩ => show 0 + 1 * (j 2).val = (j 2).val; omega

theorem read_all {s : Shape} {e : EltTy} (M : Memref sig .tc .vmem s e) (hM : M.IsWhole) (x : Vec Ideal s e) (off : Fin s.rank → ℕ)
    (hoff : off = fun _ => 0) (inb : ∀ a, off a + s.size a ≤ s.size a) :
    M.view.readAt (Elt Ideal) (Rect.unit (s := s) off s.size inb).toLoadRect (hM.unread x) = x := by
  funext j
  rw [hM.readAt_unread]
  subst hoff
  refine congrArg x (funext fun a => Fin.ext ?_)
  show 0 + 1 * (j a).val = (j a).val
  omega

/-! ## The loops -/

section
variable (𝒱 : Variants) (c : Dev nD) (bd : Option 𝒱.V) (i : grid0.Coords) (arg3 : Memref sig .tc .smem S2x17 .i32) (harg3 : arg3.IsWhole) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (arg2 : BitVec 32) (a : FVec Ideal S1x512 .f32) (v483 v493 v503 v513 v523 v533 v543 v553 v563 v573 v583 v593 v603 v613 v623 v633 v643 : Elt Ideal .i32)
  (hw1 : k0_chk1 i v483 v493 v503 v513 v523 v533 v543 v553 v563 v573 v583 v593 v603 v613 v623 v633 v643) (v652 v653 : IVec S1x512 32) (v654 : BitVec 32) (v665 : BitVec 1) (v666 c0 : BitVec 32)
  (xk : Vec Ideal S1x16384x128 .fp8e4m3) (xs : Vec Ideal S16384x128 .f32) (xq : Vec Ideal S512x128 .fp8e4m3) (xv : Vec Ideal S128x128x128 .fp8e4m3)
  (w : ℕ) (hw : w ≤ 128 * (i 2).val) (hW : firstW (rowW (i 2).val) v483 v493 v503 v513 v523 v533 v543 v553 v563 v573 v583 v593 v603 v613 v623 v633 v643 = BitVec.ofNat 32 w)
  (hL : Scalar.select (Scalar.andi v665 (Scalar.cmpi .ne v666 c0)) (Scalar.subi v654 1#32) v654 = BitVec.ofNat 32 (w / 128))

include hw hW in
theorem trips3 : (k0_t3_loop i v483 v493 v503 v513 v523 v533 v543 v553 v563 v573 v583 v593 v603 v613 v623 v633 v643).trips = (i 2).val + 1 - w / 128 := by
  have ht : (i 2).val < 128 := (i 2).isLt
  show Scf.trips (loW (firstW (rowW (i 2).val) v483 v493 v503 v513 v523 v533 v543 v553 v563 v573 v583 v593 v603 v613 v623 v633 v643)) (midW (i 2).val (loW (firstW (rowW (i 2).val) v483 v493 v503 v513 v523 v533 v543 v553 v563 v573 v583 v593 v603 v613 v623 v633 v643))) 1#32 = _
  rw [hW, loW_ofNat w (by omega), midW_ofNat, trips_ofNat _ _ (by omega) (by omega)]

include hw hW in
theorem trips5 : (k0_t5_loop i v483 v493 v503 v513 v523 v533 v543 v553 v563 v573 v583 v593 v603 v613 v623 v633 v643).trips = (i 2).val + 1 - w / 128 := by
  have ht : (i 2).val < 128 := (i 2).isLt
  show Scf.trips (loW (firstW (rowW (i 2).val) v483 v493 v503 v513 v523 v533 v543 v553 v563 v573 v583 v593 v603 v613 v623 v633 v643)) (midW (i 2).val (loW (firstW (rowW (i 2).val) v483 v493 v503 v513 v523 v533 v543 v553 v563 v573 v583 v593 v603 v613 v623 v633 v643))) 1#32 = _
  rw [hW, loW_ofNat w (by omega), midW_ofNat, trips_ofNat _ _ (by omega) (by omega)]

theorem trips4 : (k0_t4_loop i v483 v493 v503 v513 v523 v533 v543 v553 v563 v573 v583 v593 v603 v613 v623 v633 v643).trips = 0 := by
  have ht : (i 2).val < 128 := (i 2).isLt
  show Scf.trips (midW (i 2).val (loW (firstW (rowW (i 2).val) v483 v493 v503 v513 v523 v533 v543 v553 v563 v573 v583 v593 v603 v613 v623 v633 v643))) (endW (i 2).val (loW (firstW (rowW (i 2).val) v483 v493 v503 v513 v523 v533 v543 v553 v563 v573 v583 v593 v603 v613 v623 v633 v643))) 1#32 = _
  rw [midW_ofNat, endW_ofNat, trips_ofNat _ _ (by omega) (by omega), Nat.sub_self]

theorem trips6 : (k0_t6_loop i v483 v493 v503 v513 v523 v533 v543 v553 v563 v573 v583 v593 v603 v613 v623 v633 v643).trips = 0 := by
  have ht : (i 2).val < 128 := (i 2).isLt
  show Scf.trips (midW (i 2).val (loW (firstW (rowW (i 2).val) v483 v493 v503 v513 v523 v533 v543 v553 v563 v573 v583 v593 v603 v613 v623 v633 v643))) (endW (i 2).val (loW (firstW (rowW (i 2).val) v483 v493 v503 v513 v523 v533 v543 v553 v563 v573 v583 v593 v603 v613 v623 v633 v643))) 1#32 = _
  rw [midW_ofNat, endW_ofNat, trips_ofNat _ _ (by omega) (by omega), Nat.sub_self]

include hw hW in
theorem ivL (k : ℕ) (hk : w / 128 + k < 128) : Scf.iv (loW (firstW (rowW (i 2).val) v483 v493 v503 v513 v523 v533 v543 v553 v563 v573 v583 v593 v603 v613 v623 v633 v643)) 1#32 k = BitVec.ofNat 32 (w / 128 + k) := by
  have ht : (i 2).val < 128 := (i 2).isLt
  rw [hW, loW_ofNat w (by omega), iv_ofNat]

include hw hW in
theorem mulL (k : ℕ) (hk : w / 128 + k < 128) :
    (Scalar.muli (Scf.iv (loW (firstW (rowW (i 2).val) v483 v493 v503 v513 v523 v533 v543 v553 v563 v573 v583 v593 v603 v613 v623 v633 v643)) 1#32 k) 128#32).toNat = 128 * (w / 128 + k) := by
  show (BitVec.mul _ _).toNat = _
  rw [BitVec.mul_eq, BitVec.toNat_mul, ivL i v483 v493 v503 v513 v523 v533 v543 v553 v563 v573 v583 v593 v603 v613 v623 v633 v643 w hw hW k hk, BitVec.toNat_ofNat, BitVec.toNat_ofNat]; omega

include hw hW in
theorem trip3_res (k : Fin (k0_t3_loop i v483 v493 v503 v513 v523 v533 v543 v553 v563 v573 v583 v593 v603 v613 v623 v633 v643).trips) (hk : w / 128 + k.val < 128) (acc : FVec Ideal S1x512 .f32) :
    (trip_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 (harg10.unread xk) (harg14.unread xs) (harg17.unread xq) k).1 acc
      = k0_pay89 i v483 v493 v503 v513 v523 v533 v543 v553 v563 v573 v583 v593 v603 v613 v623 v633 v643 v652 v653 v654 v665 v666 c0 k acc (blk8 xk ⟨w / 128 + k.val, hk⟩) xq (blkS xs ⟨w / 128 + k.val, hk⟩) := by
  have o1 : k0_off22 i v483 v493 v503 v513 v523 v533 v543 v553 v563 v573 v583 v593 v603 v613 v623 v633 v643 k = ![0, 128 * (w / 128 + k.val), 0] := by
    show ![0, (Scalar.muli (Scf.iv (loW (firstW (rowW (i 2).val) v483 v493 v503 v513 v523 v533 v543 v553 v563 v573 v583 v593 v603 v613 v623 v633 v643)) 1#32 k.val) 128#32).toNat, 0] = _
    rw [mulL i v483 v493 v503 v513 v523 v533 v543 v553 v563 v573 v583 v593 v603 v613 v623 v633 v643 w hw hW k.val hk]
  have o2 : k0_off23 i v483 v493 v503 v513 v523 v533 v543 v553 v563 v573 v583 v593 v603 v613 v623 v633 v643 k = ![128 * (w / 128 + k.val), 0] := by
    show ![(Scalar.muli (Scf.iv (loW (firstW (rowW (i 2).val) v483 v493 v503 v513 v523 v533 v543 v553 v563 v573 v583 v593 v603 v613 v623 v633 v643)) 1#32 k.val) 128#32).toNat, 0] = _
    rw [mulL i v483 v493 v503 v513 v523 v533 v543 v553 v563 v573 v583 v593 v603 v613 v623 v633 v643 w hw hW k.val hk]
  rw [← read_blk8 arg10 harg10 xk _ ⟨w / 128 + k.val, hk⟩ o1 (k0_off22_inb i v483 v493 v503 v513 v523 v533 v543 v553 v563 v573 v583 v593 v603 v613 v623 v633 v643 hw1 k),
    ← read_blkS arg14 harg14 xs _ ⟨w / 128 + k.val, hk⟩ o2 (k0_off23_inb i v483 v493 v503 v513 v523 v533 v543 v553 v563 v573 v583 v593 v603 v613 v623 v633 v643 hw1 k)]
  have o3 : (![0, 0] : Fin 2 → ℕ) = fun _ => 0 := by funext a; match a with
    | 0 => rfl
    | 1 => rfl
  rw [show k0_pay89 i v483 v493 v503 v513 v523 v533 v543 v553 v563 v573 v583 v593 v603 v613 v623 v633 v643 v652 v653 v654 v665 v666 c0 k acc _ xq _ = k0_pay89 i v483 v493 v503 v513 v523 v533 v543 v553 v563 v573 v583 v593 v603 v613 v623 v633 v643 v652 v653 v654 v665 v666 c0 k acc _ _ _ from
    congrArg (fun z => k0_pay89 i v483 v493 v503 v513 v523 v533 v543 v553 v563 v573 v583 v593 v603 v613 v623 v633 v643 v652 v653 v654 v665 v666 c0 k acc _ z _) (read_all arg17 harg17 xq ![0, 0] o3 inb_S512x128_S512x128_0_0).symm]
  unfold trip_k0_t3
  rfl

include hw hW in
theorem trip5_res (mx : FVec Ideal S1x512 .f32) (k : Fin (k0_t5_loop i v483 v493 v503 v513 v523 v533 v543 v553 v563 v573 v583 v593 v603 v613 v623 v633 v643).trips) (hk : w / 128 + k.val < 128) (acc : FVec Ideal S1x512 .f32 × FVec Ideal S128x512 .f32) :
    (trip_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 mx (harg10.unread xk) (harg14.unread xs) (harg15.unread xv) (harg17.unread xq) k).1 acc
      = (k0_pay96 i a v483 v493 v503 v513 v523 v533 v543 v553 v563 v573 v583 v593 v603 v613 v623 v633 v643 v652 v653 v654 v665 v666 c0 mx k acc.1 (blk8 xk ⟨w / 128 + k.val, hk⟩) xq (blkS xs ⟨w / 128 + k.val, hk⟩),
        k0_pay95 i a v483 v493 v503 v513 v523 v533 v543 v553 v563 v573 v583 v593 v603 v613 v623 v633 v643 v652 v653 v654 v665 v666 c0 mx k acc.2 (blk8 xk ⟨w / 128 + k.val, hk⟩) xq (blkS xs ⟨w / 128 + k.val, hk⟩) (blkT xv ⟨w / 128 + k.val, hk⟩)) := by
  have o1 : k0_off26 i v483 v493 v503 v513 v523 v533 v543 v553 v563 v573 v583 v593 v603 v613 v623 v633 v643 k = ![0, 128 * (w / 128 + k.val), 0] := by
    show ![0, (Scalar.muli (Scf.iv (loW (firstW (rowW (i 2).val) v483 v493 v503 v513 v523 v533 v543 v553 v563 v573 v583 v593 v603 v613 v623 v633 v643)) 1#32 k.val) 128#32).toNat, 0] = _
    rw [mulL i v483 v493 v503 v513 v523 v533 v543 v553 v563 v573 v583 v593 v603 v613 v623 v633 v643 w hw hW k.val hk]
  have o2 : k0_off27 i v483 v493 v503 v513 v523 v533 v543 v553 v563 v573 v583 v593 v603 v613 v623 v633 v643 k = ![128 * (w / 128 + k.val), 0] := by
    show ![(Scalar.muli (Scf.iv (loW (firstW (rowW (i 2).val) v483 v493 v503 v513 v523 v533 v543 v553 v563 v573 v583 v593 v603 v613 v623 v633 v643)) 1#32 k.val) 128#32).toNat, 0] = _
    rw [mulL i v483 v493 v503 v513 v523 v533 v543 v553 v563 v573 v583 v593 v603 v613 v623 v633 v643 w hw hW k.val hk]
  have o4 : k0_off28 i v483 v493 v503 v513 v523 v533 v543 v553 v563 v573 v583 v593 v603 v613 v623 v633 v643 k = ![w / 128 + k.val, 0, 0] := by
    show ![(Scf.iv (loW (firstW (rowW (i 2).val) v483 v493 v503 v513 v523 v533 v543 v553 v563 v573 v583 v593 v603 v613 v623 v633 v643)) 1#32 k.val).toNat, 0, 0] = _
    rw [ivL i v483 v493 v503 v513 v523 v533 v543 v553 v563 v573 v583 v593 v603 v613 v623 v633 v643 w hw hW k.val hk, BitVec.toNat_ofNat, Nat.mod_eq_of_lt (by omega)]
  have o3 : (![0, 0] : Fin 2 → ℕ) = fun _ => 0 := by funext a; match a with
    | 0 => rfl
    | 1 => rfl
  have r1 := read_blk8 arg10 harg10 xk _ ⟨w / 128 + k.val, hk⟩ o1 (k0_off26_inb i v483 v493 v503 v513 v523 v533 v543 v553 v563 v573 v583 v593 v603 v613 v623 v633 v643 hw1 k)
  have r2 := read_blkS arg14 harg14 xs _ ⟨w / 128 + k.val, hk⟩ o2 (k0_off27_inb i v483 v493 v503 v513 v523 v533 v543 v553 v563 v573 v583 v593 v603 v613 v623 v633 v643 hw1 k)
  have r3 := read_all arg17 harg17 xq ![0, 0] o3 inb_S512x128_S512x128_0_0
  have r4 := read_blkT arg15 harg15 xv _ ⟨w / 128 + k.val, hk⟩ o4 (k0_off28_inb i v483 v493 v503 v513 v523 v533 v543 v553 v563 v573 v583 v593 v603 v613 v623 v633 v643 hw1 k)
  generalize blk8 xk ⟨w / 128 + k.val, hk⟩ = z1 at *
  generalize blkS xs ⟨w / 128 + k.val, hk⟩ = z2 at *
  generalize blkT xv ⟨w / 128 + k.val, hk⟩ = z4 at *
  subst r1 r2 r4
  refine Eq.trans ?_ (congrArg (fun z => (k0_pay96 i a v483 v493 v503 v513 v523 v533 v543 v553 v563 v573 v583 v593 v603 v613 v623 v633 v643 v652 v653 v654 v665 v666 c0 mx k acc.1 _ z _, k0_pay95 i a v483 v493 v503 v513 v523 v533 v543 v553 v563 v573 v583 v593 v603 v613 v623 v633 v643 v652 v653 v654 v665 v666 c0 mx k acc.2 _ z _ _)) r3)
  unfold trip_k0_t5
  rfl

include hw hW hL in
/-- After `n` trips the running maximum of a lane is the largest score of the keys passed. -/
theorem st3_inv (h : Fin 4) (r : Fin 128) : ∀ n : ℕ, n ≤ (k0_t3_loop i v483 v493 v503 v513 v523 v533 v543 v553 v563 v573 v583 v593 v603 v613 v623 v633 v643).trips →
    st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 (harg10.unread xk) (harg14.unread xs) (harg17.unread xq) k0_pay88 n (ix2 0 (lane h r))
      = best (XK xk xs xq h r) (MK (v653 (ix2 0 (lane h r))) (v652 (ix2 0 (lane h r)))) (128 * (w / 128)) (128 * (w / 128 + n))
  | 0, _ => by
    rw [st_k0_t3_zero]
    unfold best
    rw [Nat.add_zero, Finset.Ico_self, Finset.sup_empty]
    exact c_bot
  | n + 1, hn => by
    have ih := st3_inv h r n (by omega)
    have ht : (i 2).val < 128 := (i 2).isLt
    have htr := trips3 i v483 v493 v503 v513 v523 v533 v543 v553 v563 v573 v583 v593 v603 v613 v623 v633 v643 w hw hW
    have hk : w / 128 + n < 128 := by omega
    have hs := st_k0_t3_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 (harg10.unread xk) (harg14.unread xs) (harg17.unread xq) k0_pay88 ⟨n, hn⟩
    simp only at hs
    rw [hs]
    unfold tripR_k0_t3
    rw [trip3_res (w := w) (hw := hw) (hW := hW) (hk := hk), pay89_blk (hk := by rw [hL, iv_ofNat]), ih, best_succ]

include hw hW hL in
/-- After `n` trips the running sums of a lane are the sums over the keys passed. -/
theorem st5_inv (mx : FVec Ideal S1x512 .f32) (h : Fin 4) (r e : Fin 128) (V : Fin 16384 → EReal) (hV : ∀ n x : Fin 128, xv (ix3 n e x) = V (bkey n x)) :
    ∀ n : ℕ, n ≤ (k0_t5_loop i v483 v493 v503 v513 v523 v533 v543 v553 v563 v573 v583 v593 v603 v613 v623 v633 v643).trips →
    (st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 mx (harg10.unread xk) (harg14.unread xs) (harg15.unread xv) (harg17.unread xq) (k0_pay92, k0_pay93) n).1 (ix2 0 (lane h r))
      = mass (XK xk xs xq h r) (MK (v653 (ix2 0 (lane h r))) (v652 (ix2 0 (lane h r)))) (mx (ix2 0 (lane h r))) (a (ix2 0 (lane h r))) (128 * (w / 128)) (128 * (w / 128 + n))
    ∧ (st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 mx (harg10.unread xk) (harg14.unread xs) (harg15.unread xv) (harg17.unread xq) (k0_pay92, k0_pay93) n).2 (ix2 e (lane h r))
      = mix (XK xk xs xq h r) (MK (v653 (ix2 0 (lane h r))) (v652 (ix2 0 (lane h r)))) (mx (ix2 0 (lane h r))) (a (ix2 0 (lane h r))) V (128 * (w / 128)) (128 * (w / 128 + n))
  | 0, _ => by
    rw [st_k0_t5_zero]
    unfold mass mix
    rw [Nat.add_zero, Finset.Ico_self, Finset.sum_empty, Finset.sum_empty]
    exact ⟨c_zero, c_zero⟩
  | n + 1, hn => by
    obtain ⟨ih1, ih2⟩ := st5_inv mx h r e V hV n (by omega)
    have ht : (i 2).val < 128 := (i 2).isLt
    have htr := trips5 i v483 v493 v503 v513 v523 v533 v543 v553 v563 v573 v583 v593 v603 v613 v623 v633 v643 w hw hW
    have hk : w / 128 + n < 128 := by omega
    have hs := st_k0_t5_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 mx (harg10.unread xk) (harg14.unread xs) (harg15.unread xv) (harg17.unread xq) (k0_pay92, k0_pay93) ⟨n, hn⟩
    simp only at hs
    rw [hs]
    unfold tripR_k0_t5
    rw [trip5_res (w := w) (hw := hw) (hW := hW) (hk := hk)]
    refine ⟨?_, ?_⟩
    · simp only
      rw [pay96_blk (hk := by rw [hL, iv_ofNat]), ih1]
      unfold mass
      rw [sum_succ]
    · simp only
      rw [pay95_blk (hk := by rw [hL, iv_ofNat]) (V := V) (hV := fun x => hV ⟨w / 128 + n, hk⟩ x), ih2]
      unfold mix
      rw [sum_succ]

end

end Cert.KernelIdeal.Gen

end
-- ==== Proof.VFrame.Attn.lean ====
/- The attention output: the loops run together, the lanes of the heads, and the output window read back. -/
module

public import proofs.«01_k».proof.Proof.VFrame.Scores
public import proofs.«01_k».proof.Proof.VFrame.Reads

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open Idealize.SL.Sem Cert.Scale Cert.Words Cert.Soft

section
variable (𝒱 : Variants) (c : Dev nD) (bd : Option 𝒱.V) (i : grid0.Coords) (arg3 : Memref sig .tc .smem S2x17 .i32) (harg3 : arg3.IsWhole) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (arg2 : BitVec 32) (a : FVec Ideal S1x512 .f32) (v483 v493 v503 v513 v523 v533 v543 v553 v563 v573 v583 v593 v603 v613 v623 v633 v643 : Elt Ideal .i32)
  (hw1 : k0_chk1 i v483 v493 v503 v513 v523 v533 v543 v553 v563 v573 v583 v593 v603 v613 v623 v633 v643) (v652 v653 : IVec S1x512 32) (v654 : BitVec 32) (v665 : BitVec 1) (v666 c0 : BitVec 32)
  (xk : Vec Ideal S1x16384x128 .fp8e4m3) (xs : Vec Ideal S16384x128 .f32) (xq : Vec Ideal S512x128 .fp8e4m3) (xv : Vec Ideal S128x128x128 .fp8e4m3)
  (w : ℕ) (hw : w ≤ 128 * (i 2).val) (hW : firstW (rowW (i 2).val) v483 v493 v503 v513 v523 v533 v543 v553 v563 v573 v583 v593 v603 v613 v623 v633 v643 = BitVec.ofNat 32 w)
  (hL : Scalar.select (Scalar.andi v665 (Scalar.cmpi .ne v666 c0)) (Scalar.subi v654 1#32) v654 = BitVec.ofNat 32 (w / 128))
  (X10 : arg10.view.ty.Contents (Elt Ideal)) (X14 : arg14.view.ty.Contents (Elt Ideal)) (X15 : arg15.view.ty.Contents (Elt Ideal)) (X17 : arg17.view.ty.Contents (Elt Ideal))
  (e10 : X10 = harg10.unread xk) (e14 : X14 = harg14.unread xs) (e15 : X15 = harg15.unread xv) (e17 : X17 = harg17.unread xq)

include hw hW hL e10 e14 e15 e17 in
/-- The four loops together leave a lane's weight sum and its weighted sum of values, under the lane's largest score. -/
theorem loops_out (h : Fin 4) (r e : Fin 128) (V : Fin 16384 → EReal) (hV : ∀ n x : Fin 128, xv (ix3 n e x) = V (bkey n x)) :
    (st_k0_t6 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 (st_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 X10 X14 X17 (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 X10 X14 X17 k0_pay88 (k0_t3_loop i v483 v493 v503 v513 v523 v533 v543 v553 v563 v573 v583 v593 v603 v613 v623 v633 v643).trips) (k0_t4_loop i v483 v493 v503 v513 v523 v533 v543 v553 v563 v573 v583 v593 v603 v613 v623 v633 v643).trips) X10 X14 X15 X17 (st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 (st_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 X10 X14 X17 (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 X10 X14 X17 k0_pay88 (k0_t3_loop i v483 v493 v503 v513 v523 v533 v543 v553 v563 v573 v583 v593 v603 v613 v623 v633 v643).trips) (k0_t4_loop i v483 v493 v503 v513 v523 v533 v543 v553 v563 v573 v583 v593 v603 v613 v623 v633 v643).trips) X10 X14 X15 X17 (k0_pay92, k0_pay93) (k0_t5_loop i v483 v493 v503 v513 v523 v533 v543 v553 v563 v573 v583 v593 v603 v613 v623 v633 v643).trips) (k0_t6_loop i v483 v493 v503 v513 v523 v533 v543 v553 v563 v573 v583 v593 v603 v613 v623 v633 v643).trips).1 (ix2 0 (lane h r)) = mass (XK xk xs xq h r) (MK (v653 (ix2 0 (lane h r))) (v652 (ix2 0 (lane h r)))) (best (XK xk xs xq h r) (MK (v653 (ix2 0 (lane h r))) (v652 (ix2 0 (lane h r)))) (128 * (w / 128)) (128 * ((i 2).val + 1))) (a (ix2 0 (lane h r))) (128 * (w / 128)) (128 * ((i 2).val + 1))
    ∧ (st_k0_t6 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 (st_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 X10 X14 X17 (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 X10 X14 X17 k0_pay88 (k0_t3_loop i v483 v493 v503 v513 v523 v533 v543 v553 v563 v573 v583 v593 v603 v613 v623 v633 v643).trips) (k0_t4_loop i v483 v493 v503 v513 v523 v533 v543 v553 v563 v573 v583 v593 v603 v613 v623 v633 v643).trips) X10 X14 X15 X17 (st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 (st_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 X10 X14 X17 (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 X10 X14 X17 k0_pay88 (k0_t3_loop i v483 v493 v503 v513 v523 v533 v543 v553 v563 v573 v583 v593 v603 v613 v623 v633 v643).trips) (k0_t4_loop i v483 v493 v503 v513 v523 v533 v543 v553 v563 v573 v583 v593 v603 v613 v623 v633 v643).trips) X10 X14 X15 X17 (k0_pay92, k0_pay93) (k0_t5_loop i v483 v493 v503 v513 v523 v533 v543 v553 v563 v573 v583 v593 v603 v613 v623 v633 v643).trips) (k0_t6_loop i v483 v493 v503 v513 v523 v533 v543 v553 v563 v573 v583 v593 v603 v613 v623 v633 v643).trips).2 (ix2 e (lane h r)) = mix (XK xk xs xq h r) (MK (v653 (ix2 0 (lane h r))) (v652 (ix2 0 (lane h r)))) (best (XK xk xs xq h r) (MK (v653 (ix2 0 (lane h r))) (v652 (ix2 0 (lane h r)))) (128 * (w / 128)) (128 * ((i 2).val + 1))) (a (ix2 0 (lane h r))) V (128 * (w / 128)) (128 * ((i 2).val + 1)) := by
  subst e10 e14 e15 e17
  have hlo : w / 128 + ((i 2).val + 1 - w / 128) = (i 2).val + 1 := by omega
  have t3 := trips3 i v483 v493 v503 v513 v523 v533 v543 v553 v563 v573 v583 v593 v603 v613 v623 v633 v643 w hw hW
  have t5 := trips5 i v483 v493 v503 v513 v523 v533 v543 v553 v563 v573 v583 v593 v603 v613 v623 v633 v643 w hw hW
  have t4 := trips4 i v483 v493 v503 v513 v523 v533 v543 v553 v563 v573 v583 v593 v603 v613 v623 v633 v643
  have t6 := trips6 i v483 v493 v503 v513 v523 v533 v543 v553 v563 v573 v583 v593 v603 v613 v623 v633 v643
  have s3 := st3_inv 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 xk xs xq w hw hW hL h r _ (le_refl _)
  rw [t6, st_k0_t6_zero, st_k0_t4_zero, ← hlo]
  have s5 := st5_inv 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 xk xs xq xv w hw hW hL
    (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 a v483 v493 v503 v513 v523 v533 v543 v553 v563 v573 v583 v593 v603 v613 v623 v633 v643 hw1 v652 v653 v654 v665 v666 c0 (harg10.unread xk) (harg14.unread xs) (harg17.unread xq) k0_pay88 (k0_t3_loop i v483 v493 v503 v513 v523 v533 v543 v553 v563 v573 v583 v593 v603 v613 v623 v633 v643).trips) h r e V hV _ (le_refl _)
  rw [s3] at s5
  rw [t3] at s5
  rw [t3]
  exact s5

end

/-! ## The output's four head blocks -/

theorem lane_zero (r : Fin 128) : lane 0 r = ⟨r.val, by omega⟩ := Fin.ext (show 128 * 0 + r.val = r.val by omega)

abbrev VL := FVec Ideal S1x512 .f32
abbrev VO := FVec Ideal S128x512 .f32

theorem pay100_at (l : VL) (o : VO) (v : V2) (r e : Fin 128) :
    k0_pay100 (F := Ideal) l o v (ix3 0 r e) = Ideal.div (o (ix2 e (lane 0 r)) * v (ix2 e r)) (l (ix2 0 (lane 0 r))) := by
  unfold k0_pay100
  try rw [lane_zero]
  pointwise
  try rfl

theorem pay103_at (l : VL) (o : VO) (v : V2) (r e : Fin 128) :
    k0_pay103 (F := Ideal) l o v (ix3 0 r e) = Ideal.div (o (ix2 e (lane 2 r)) * v (ix2 e r)) (l (ix2 0 (lane 2 r))) := by
  unfold k0_pay103
  try rw [lane_zero]
  pointwise
  try rfl

theorem pay102_at (l : VL) (o : VO) (v : V2) (r e : Fin 128) :
    k0_pay102 (F := Ideal) l (k0_pay101 o) v (ix3 0 r e) = Ideal.div (o (ix2 e (lane 1 r)) * v (ix2 e r)) (l (ix2 0 (lane 1 r))) := by
  unfold k0_pay102 k0_pay101
  pointwise
  try rfl

theorem pay104_at (l : VL) (o : VO) (v : V2) (r e : Fin 128) :
    k0_pay1 (F := Ideal) (k0_pay104 l o v) (ix3 0 r e) = Ideal.div (o (ix2 e (lane 3 r)) * v (ix2 e r)) (l (ix2 0 (lane 3 r))) := by
  unfold k0_pay1 k0_pay104
  pointwise
  try rfl

/-- The output window of a tile, from its heads, rows and columns. -/
def AO (A : Fin 4 → Fin 128 → Fin 128 → EReal) : Vec Ideal S1x128x512 .bf16 := fun y =>
  A ⟨(y 2).val / 128, by have h : (y 2).val < 512 := (y 2).isLt; omega⟩ (y 1) ⟨(y 2).val % 128, by omega⟩

theorem AO_head (A : Fin 4 → Fin 128 → Fin 128 → EReal) (off : Fin 3 → ℕ) (h : Fin 4) (hoff : off = ![0, 0, 128 * h.val])
    (inb : ∀ a, off a + S1x128x128.size a ≤ S1x128x512.size a) (j : S1x128x128.Idx) :
    A h (j 1) (j 2) = AO A ((Rect.unit (s := S1x128x512) off S1x128x128.size inb).emb j) := by
  have h2 : (j 2).val < 128 := (j 2).isLt
  rw [emb_head off h hoff inb j]
  show A h (j 1) (j 2) = A ⟨(128 * h.val + (j 2).val) / 128, _⟩ (j 1) ⟨(128 * h.val + (j 2).val) % 128, _⟩
  congr 1
  · congr 1
    exact Fin.ext (show h.val = (128 * h.val + (j 2).val) / 128 by omega)
  · exact Fin.ext (show (j 2).val = (128 * h.val + (j 2).val) % 128 by omega)

theorem read7 (M : Memref sig .tc .vmem S1x128x512 .bf16) (f : M.view.ty.Contents (Elt Ideal)) (l : VL) (o : VO) (v : V2)
    (L : List (View.Piece (Elt Ideal) S1x128x512 .bf16))
    (hL : L = [⟨Rect.unit ![0, 0, 384] S1x128x128.size inb_S1x128x512_S1x128x128_0_0_384, k0_pay1 (k0_pay104 l o v)⟩,
      ⟨Rect.unit ![0, 0, 256] S1x128x128.size inb_S1x128x512_S1x128x128_0_0_256, k0_pay103 l o v⟩,
      ⟨Rect.unit ![0, 0, 128] S1x128x128.size inb_S1x128x512_S1x128x128_0_0_128, k0_pay102 l (k0_pay101 o) v⟩,
      ⟨Rect.unit ![0, 0, 0] S1x128x128.size inb_S1x128x512_S1x128x128_0_0_0, k0_pay100 l o v⟩]) :
    M.view.read (Elt Ideal) (M.view.writes (Elt Ideal) f L)
      = AO fun h r e => Ideal.div (o (ix2 e (lane h r)) * v (ix2 e r)) (l (ix2 0 (lane h r))) := by
  have ix : ∀ j : S1x128x128.Idx, j = ix3 0 (j 1) (j 2) := by
    intro j
    refine funext fun a => Fin.ext ?_
    have h0 : (j 0).val < 1 := (j 0).isLt
    match a with
    | ⟨0, _⟩ => show (j 0).val = 0; omega
    | ⟨1, _⟩ => rfl
    | ⟨2, _⟩ => rfl
  have hp : ∀ p ∈ L, ∀ j, p.2 j = (AO fun h r e => Ideal.div (o (ix2 e (lane h r)) * v (ix2 e r)) (l (ix2 0 (lane h r)))) (p.1.emb j) := by
    subst hL
    intro p hp
    rcases List.mem_cons.mp hp with rfl | hp
    · exact fun j => ((congrArg _ (ix j)).trans (pay104_at l o v (j 1) (j 2))).trans (AO_head (fun h r e => Ideal.div (o (ix2 e (lane h r)) * v (ix2 e r)) (l (ix2 0 (lane h r)))) ![0, 0, 384] 3 rfl inb_S1x128x512_S1x128x128_0_0_384 j)
    rcases List.mem_cons.mp hp with rfl | hp
    · exact fun j => ((congrArg _ (ix j)).trans (pay103_at l o v (j 1) (j 2))).trans (AO_head (fun h r e => Ideal.div (o (ix2 e (lane h r)) * v (ix2 e r)) (l (ix2 0 (lane h r)))) ![0, 0, 256] 2 rfl inb_S1x128x512_S1x128x128_0_0_256 j)
    rcases List.mem_cons.mp hp with rfl | hp
    · exact fun j => ((congrArg _ (ix j)).trans (pay102_at l o v (j 1) (j 2))).trans (AO_head (fun h r e => Ideal.div (o (ix2 e (lane h r)) * v (ix2 e r)) (l (ix2 0 (lane h r)))) ![0, 0, 128] 1 rfl inb_S1x128x512_S1x128x128_0_0_128 j)
    rcases List.mem_cons.mp hp with rfl | hp
    · exact fun j => ((congrArg _ (ix j)).trans (pay100_at l o v (j 1) (j 2))).trans (AO_head (fun h r e => Ideal.div (o (ix2 e (lane h r)) * v (ix2 e r)) (l (ix2 0 (lane h r)))) ![0, 0, 0] 0 rfl inb_S1x128x512_S1x128x128_0_0_0 j)
    nomatch hp
  have hc : ∀ y : S1x128x512.Idx, ∃ p ∈ L, y ∈ p.1.set := by
    subst hL
    intro y
    have h2 : (y 2).val < 512 := (y 2).isLt
    rcases (by omega : (y 2).val / 128 = 3 ∨ (y 2).val / 128 = 2 ∨ (y 2).val / 128 = 1 ∨ (y 2).val / 128 = 0) with h | h | h | h
    · exact ⟨_, List.mem_cons_self, cover_head ![0, 0, 384] 3 rfl inb_S1x128x512_S1x128x128_0_0_384 y h⟩
    · exact ⟨_, List.mem_cons_of_mem _ List.mem_cons_self, cover_head ![0, 0, 256] 2 rfl inb_S1x128x512_S1x128x128_0_0_256 y h⟩
    · exact ⟨_, List.mem_cons_of_mem _ (List.mem_cons_of_mem _ List.mem_cons_self), cover_head ![0, 0, 128] 1 rfl inb_S1x128x512_S1x128x128_0_0_128 y h⟩
    · exact ⟨_, List.mem_cons_of_mem _ (List.mem_cons_of_mem _ (List.mem_cons_of_mem _ List.mem_cons_self)), cover_head ![0, 0, 0] 0 rfl inb_S1x128x512_S1x128x128_0_0_0 y h⟩
  funext y
  rw [View.read_writes_apply_eq_canon _ _ _ _ (hc y), View.canon_apply_of_pieces _ L hp y (hc y)]

/-! ## The lanes -/

/-- The factor the kernel folds into the queries' scales. -/
abbrev sigma : EReal := (Named.named κ "softmax_scale" (0x3E0293EE#32 : BitVec (FTy.bits .f32)) : Ideal .f32)

theorem pay77_at (b : IVec S128x128 32) (u v : V2) (h : Fin 4) (r : Fin 128) :
    k0_pay77 (F := Ideal) b u v (ix2 0 (lane h r)) = k0_pay76 (F := Ideal) b u v (ix4 0 0 h r) * sigma := by
  unfold k0_pay77 k0_pay76
  generalize k0_pay75 b u v = q
  match h with
  | 0 => rw [lane_zero]; pointwise; try rfl
  | 1 =>
    have hv : (lane 1 r).val = 128 * 1 + r.val := rfl
    have e : ∀ p, (⟨(lane 1 r).val - 128, p⟩ : Fin 128) = r := fun p => Fin.ext (show (lane 1 r).val - 128 = r.val by omega)
    pointwise
    split_ifs
    all_goals first | (exfalso; omega) | rw [e]
  | 2 =>
    have hv : (lane 2 r).val = 128 * 2 + r.val := rfl
    have e : ∀ p, (⟨(lane 2 r).val - 128 - 128, p⟩ : Fin 128) = r := fun p => Fin.ext (show (lane 2 r).val - 128 - 128 = r.val by omega)
    pointwise
    split_ifs
    all_goals first | (exfalso; omega) | rw [e]
  | 3 =>
    have hv : (lane 3 r).val = 128 * 3 + r.val := rfl
    have e : ∀ p, (⟨(lane 3 r).val - 128 - 128 - 128, p⟩ : Fin 128) = r := fun p => Fin.ext (show (lane 3 r).val - 128 - 128 - 128 = r.val by omega)
    pointwise
    split_ifs
    all_goals first | (exfalso; omega) | rw [e]

theorem pay78_at (p : BitVec 32) (r : Fin 128) : k0_pay78 p (ix2 0 r) = IntOp.addi p (BitVec.ofNat 32 r.val) := by
  unfold k0_pay78
  pointwise
  try rfl

theorem pay86_at (q : IVec S1x128 32) (h : Fin 4) (r : Fin 128) : k0_pay86 q (ix2 0 (lane h r)) = q (ix2 0 r) := by
  unfold k0_pay86
  match h with
  | 0 => rw [lane_zero]; pointwise; try rfl
  | 1 =>
    have hv : (lane 1 r).val = 128 * 1 + r.val := rfl
    have e : ∀ p, (⟨(lane 1 r).val - 128, p⟩ : Fin 128) = r := fun p => Fin.ext (show (lane 1 r).val - 128 = r.val by omega)
    pointwise
    split_ifs
    all_goals first | (exfalso; omega) | rw [e]
  | 2 =>
    have hv : (lane 2 r).val = 128 * 2 + r.val := rfl
    have e : ∀ p, (⟨(lane 2 r).val - 128 - 128, p⟩ : Fin 128) = r := fun p => Fin.ext (show (lane 2 r).val - 128 - 128 = r.val by omega)
    pointwise
    split_ifs
    all_goals first | (exfalso; omega) | rw [e]
  | 3 =>
    have hv : (lane 3 r).val = 128 * 3 + r.val := rfl
    have e : ∀ p, (⟨(lane 3 r).val - 128 - 128 - 128, p⟩ : Fin 128) = r := fun p => Fin.ext (show (lane 3 r).val - 128 - 128 - 128 = r.val by omega)
    pointwise
    split_ifs
    all_goals first | (exfalso; omega) | rw [e]

/-- One step of the running first key, on every lane. -/
def stepV (q acc : IVec S1x128 32) (v : BitVec 32) : IVec S1x128 32 :=
  select (cmpi .sle (broadcast S1x128 v) q) (maxsi acc (broadcast S1x128 v)) acc

theorem stepV_at (q acc : IVec S1x128 32) (v : BitVec 32) (j : S1x128.Idx) : stepV q acc v j = stepW (q j) (acc j) v := rfl

/-- The first visible key of every lane. -/
def firstV (q : IVec S1x128 32) (v483 v493 v503 v513 v523 v533 v543 v553 v563 v573 v583 v593 v603 v613 v623 v633 v643 : BitVec 32) : IVec S1x128 32 := (stepV q (stepV q (stepV q (stepV q (stepV q (stepV q (stepV q (stepV q (stepV q (stepV q (stepV q (stepV q (stepV q (stepV q (stepV q (stepV q (stepV q (broadcast S1x128 0#32) v483) v493) v503) v513) v523) v533) v543) v553) v563) v573) v583) v593) v603) v613) v623) v633) v643)

theorem firstV_at (q : IVec S1x128 32) (v483 v493 v503 v513 v523 v533 v543 v553 v563 v573 v583 v593 v603 v613 v623 v633 v643 : BitVec 32) (j : S1x128.Idx) : firstV q v483 v493 v503 v513 v523 v533 v543 v553 v563 v573 v583 v593 v603 v613 v623 v633 v643 j = firstW (q j) v483 v493 v503 v513 v523 v533 v543 v553 v563 v573 v583 v593 v603 v613 v623 v633 v643 := rfl

theorem r55_at (c : Dev nD) (i : grid0.Coords) (xt0 : TbBuf0 (F := Ideal) c tbM0_0) (h : Fin 4) (r : Fin 128) :
    valueRun_B.sl.r_55 c i xt0 (ix2 0 (lane h r)) = firstW (IntOp.addi (rowW (i 2).val) (BitVec.ofNat 32 r.val)) (valueRun_B.sl.r_28 c i xt0) (valueRun_B.sl.r_29 c i xt0) (valueRun_B.sl.r_30 c i xt0) (valueRun_B.sl.r_36 c i xt0) (valueRun_B.sl.r_37 c i xt0) (valueRun_B.sl.r_38 c i xt0) (valueRun_B.sl.r_39 c i xt0) (valueRun_B.sl.r_40 c i xt0) (valueRun_B.sl.r_42 c i xt0) (valueRun_B.sl.r_43 c i xt0) (valueRun_B.sl.r_44 c i xt0) (valueRun_B.sl.r_45 c i xt0) (valueRun_B.sl.r_46 c i xt0) (valueRun_B.sl.r_47 c i xt0) (valueRun_B.sl.r_51 c i xt0) (valueRun_B.sl.r_52 c i xt0) (valueRun_B.sl.r_53 c i xt0) := by
  have e : valueRun_B.sl.r_55 c i xt0 = k0_pay86 (firstV (k0_pay78 (rowW (i 2).val)) (valueRun_B.sl.r_28 c i xt0) (valueRun_B.sl.r_29 c i xt0) (valueRun_B.sl.r_30 c i xt0) (valueRun_B.sl.r_36 c i xt0) (valueRun_B.sl.r_37 c i xt0) (valueRun_B.sl.r_38 c i xt0) (valueRun_B.sl.r_39 c i xt0) (valueRun_B.sl.r_40 c i xt0) (valueRun_B.sl.r_42 c i xt0) (valueRun_B.sl.r_43 c i xt0) (valueRun_B.sl.r_44 c i xt0) (valueRun_B.sl.r_45 c i xt0) (valueRun_B.sl.r_46 c i xt0) (valueRun_B.sl.r_47 c i xt0) (valueRun_B.sl.r_51 c i xt0) (valueRun_B.sl.r_52 c i xt0) (valueRun_B.sl.r_53 c i xt0)) := rfl
  rw [e, pay86_at, firstV_at, pay78_at]

theorem r54_at (i : grid0.Coords) (h : Fin 4) (r : Fin 128) :
    valueRun_B.sl.r_54 i (ix2 0 (lane h r)) = IntOp.addi (rowW (i 2).val) (BitVec.ofNat 32 r.val) := by
  have e : valueRun_B.sl.r_54 i = k0_pay86 (k0_pay78 (rowW (i 2).val)) := rfl
  rw [e, pay86_at, pay78_at]

theorem r31_at (c : Dev nD) (arg4 : Memref sig .tc .vmem S1x128x512 .bf16) (harg4 : arg4.IsWhole) (x0 : XQ) (h : Fin 4) (r : Fin 128) :
    valueRun_B.sl.r_31 c arg4 harg4 x0 (ix2 0 (lane h r)) = QS x0 (ix4 0 0 h r) * sigma := by
  have e : k0_pay76 valueRun_B.sl.v5 (valueRun_B.sl.r_19 c arg4 harg4 x0) (valueRun_B.sl.r_26 c arg4 harg4 x0) = QS x0 := by
    rw [← qscales_blk]
    rw [← readAt_head arg4 harg4 x0 ![0, 0, 0] 0 rfl inb_S1x128x512_S1x128x128_0_0_0, ← readAt_head arg4 harg4 x0 ![0, 0, 128] 1 rfl inb_S1x128x512_S1x128x128_0_0_128,
      ← readAt_head arg4 harg4 x0 ![0, 0, 256] 2 rfl inb_S1x128x512_S1x128x128_0_0_256, ← readAt_head arg4 harg4 x0 ![0, 0, 384] 3 rfl inb_S1x128x512_S1x128x128_0_0_384]
    rfl
  rw [← e]
  exact pay77_at _ _ _ h r

/-! ## The queries' codes, a head to a block of rows -/

/-- The queries' codes of a tile, head by head. -/
def XQL (x0 : XQ) : Vec Ideal S512x128 .fp8e4m3 := fun y =>
  QC x0 (ix3 0 ⟨(y 0).val % 128, by omega⟩ ⟨128 * ((y 0).val / 128) + (y 1).val, by
    have h : (y 0).val < 512 := (y 0).isLt
    have h1 : (y 1).val < 128 := (y 1).isLt
    omega⟩)

theorem XQL_lane (x0 : XQ) (h : Fin 4) (r d : Fin 128) : XQL x0 (ix2 (lane h r) d) = QC x0 (ix3 0 r ⟨128 * h.val + d.val, by omega⟩) := by
  show QC x0 (ix3 0 ⟨(128 * h.val + r.val) % 128, _⟩ ⟨128 * ((128 * h.val + r.val) / 128) + d.val, _⟩) = _
  congr 2
  · exact Fin.ext (show (128 * h.val + r.val) % 128 = r.val by omega)
  · exact Fin.ext (show 128 * ((128 * h.val + r.val) / 128) + d.val = 128 * h.val + d.val by omega)

theorem cast_at (u : FVec Ideal S128x128 .fp8e4m3) (j : S128x128.Idx) :
    shapeCast S128x128 u shapeCasts_S128x128_S128x128 j = shapeCast S1x128x128 u shapeCasts_S128x128_S1x128x128 (ix3 0 (j 0) (j 1)) := by
  have e : j = ix2 (j 0) (j 1) := by
    refine funext fun a => ?_
    match a with
    | ⟨0, _⟩ => rfl
    | ⟨1, _⟩ => rfl
  rw [e]
  pointwise
  try rfl

theorem XQL_head (x : XQ) (off : Fin 2 → ℕ) (h : Fin 4) (hoff : off = ![128 * h.val, 0])
    (inb : ∀ a, off a + S128x128.size a ≤ S512x128.size a) (j : S128x128.Idx) :
    hcodes (qblk x h) (ix3 0 (j 0) (j 1)) = XQL x ((Rect.unit (s := S512x128) off S128x128.size inb).emb j) := by
  subst hoff
  have h0 : (j 0).val < 128 := (j 0).isLt
  have h1 : (j 1).val < 128 := (j 1).isLt
  rw [hcodes_blk]
  have e : (Rect.unit (s := S512x128) ![128 * h.val, 0] S128x128.size inb).emb j = ix2 (lane h (j 0)) (j 1) := by
    refine funext fun a => Fin.ext ?_
    match a with
    | ⟨0, _⟩ => show 128 * h.val + 1 * (j 0).val = 128 * h.val + (j 0).val; omega
    | ⟨1, _⟩ => show 0 + 1 * (j 1).val = (j 1).val; omega
  rw [e]
  exact (XQL_lane x h (j 0) (j 1)).symm

theorem cover_rows4 (off : Fin 2 → ℕ) (h : Fin 4) (hoff : off = ![128 * h.val, 0]) (inb : ∀ a, off a + S128x128.size a ≤ S512x128.size a)
    (y : S512x128.Idx) (hy : (y 0).val / 128 = h.val) : y ∈ (Rect.unit (s := S512x128) off S128x128.size inb).set := by
  rw [Rect.mem_set_unit]
  subst hoff
  have h1 : (y 1).val < 128 := (y 1).isLt
  intro a
  match a with
  | ⟨0, _⟩ => exact ⟨by show 128 * h.val ≤ (y 0).val; omega, by show (y 0).val < 128 * h.val + 128; omega⟩
  | ⟨1, _⟩ => exact ⟨Nat.zero_le _, by show (y 1).val < 0 + 128; omega⟩

/-- The queries' codes of a tile, read back from the scratch. -/
theorem readB17 (c : Dev nD) (arg4 : Memref sig .tc .vmem S1x128x512 .bf16) (harg4 : arg4.IsWhole) (M : Memref sig .tc .vmem S512x128 .fp8e4m3)
    (x0 : XQ) (f : M.view.ty.Contents (Elt Ideal)) : M.view.read (Elt Ideal) (M.view.writes (Elt Ideal) f (valueRun_B.sl.HS3_4 c arg4 harg4 x0)) = XQL x0 := by
  generalize hL : valueRun_B.sl.HS3_4 c arg4 harg4 x0 = L
  have hL' : L = [⟨Rect.unit ![384, 0] S128x128.size inb_S512x128_S128x128_384_0, fun j => hcodes (qblk x0 3) (ix3 0 (j 0) (j 1))⟩,
      ⟨Rect.unit ![256, 0] S128x128.size inb_S512x128_S128x128_256_0, fun j => hcodes (qblk x0 2) (ix3 0 (j 0) (j 1))⟩,
      ⟨Rect.unit ![128, 0] S128x128.size inb_S512x128_S128x128_128_0, fun j => hcodes (qblk x0 1) (ix3 0 (j 0) (j 1))⟩,
      ⟨Rect.unit ![0, 0] S128x128.size inb_S512x128_S128x128_0_0, fun j => hcodes (qblk x0 0) (ix3 0 (j 0) (j 1))⟩] := by
    rw [← hL]
    rw [← readAt_head arg4 harg4 x0 ![0, 0, 0] 0 rfl inb_S1x128x512_S1x128x128_0_0_0, ← readAt_head arg4 harg4 x0 ![0, 0, 128] 1 rfl inb_S1x128x512_S1x128x128_0_0_128,
      ← readAt_head arg4 harg4 x0 ![0, 0, 256] 2 rfl inb_S1x128x512_S1x128x128_0_0_256, ← readAt_head arg4 harg4 x0 ![0, 0, 384] 3 rfl inb_S1x128x512_S1x128x128_0_0_384]
    unfold valueRun_B.sl.HS3_4
    refine (congrArg₂ List.cons (Sigma.ext rfl (heq_of_eq (funext fun j => (cast_at (valueRun_B.sl.r_27 c arg4 harg4 x0) j).trans ?_))) (congrArg₂ List.cons (Sigma.ext rfl (heq_of_eq (funext fun j => (cast_at (k0_pay60 (valueRun_B.sl.r_18 c arg4 harg4 x0) valueRun_B.sl.cst_118) j).trans ?_))) (congrArg₂ List.cons (Sigma.ext rfl (heq_of_eq (funext fun j => (cast_at (k0_pay49 (valueRun_B.sl.r_7 c arg4 harg4 x0) (valueRun_B.sl.r_11 c arg4 harg4 x0) (valueRun_B.sl.r_12 c arg4 harg4 x0) k0_pay47) j).trans ?_))) (congrArg₂ List.cons (Sigma.ext rfl (heq_of_eq (funext fun j => (cast_at (k0_pay36 (valueRun_B.sl.r c arg4 harg4 x0) (valueRun_B.sl.r_1 c arg4 harg4 x0) (valueRun_B.sl.r_4 c arg4 harg4 x0) (valueRun_B.sl.r_5 c arg4 harg4 x0)) j).trans ?_))) rfl))))
    all_goals rfl
  have hp : ∀ p ∈ L, ∀ j, p.2 j = XQL x0 (p.1.emb j) := by
    rw [hL']
    intro p hp
    rcases List.mem_cons.mp hp with rfl | hp
    · exact fun j => XQL_head x0 ![384, 0] 3 rfl inb_S512x128_S128x128_384_0 j
    rcases List.mem_cons.mp hp with rfl | hp
    · exact fun j => XQL_head x0 ![256, 0] 2 rfl inb_S512x128_S128x128_256_0 j
    rcases List.mem_cons.mp hp with rfl | hp
    · exact fun j => XQL_head x0 ![128, 0] 1 rfl inb_S512x128_S128x128_128_0 j
    rcases List.mem_cons.mp hp with rfl | hp
    · exact fun j => XQL_head x0 ![0, 0] 0 rfl inb_S512x128_S128x128_0_0 j
    nomatch hp
  have hc : ∀ y : S512x128.Idx, ∃ p ∈ L, y ∈ p.1.set := by
    rw [hL']
    intro y
    have h2 : (y 0).val < 512 := (y 0).isLt
    rcases (by omega : (y 0).val / 128 = 3 ∨ (y 0).val / 128 = 2 ∨ (y 0).val / 128 = 1 ∨ (y 0).val / 128 = 0) with h | h | h | h
    · exact ⟨_, List.mem_cons_self, cover_rows4 ![384, 0] 3 rfl inb_S512x128_S128x128_384_0 y h⟩
    · exact ⟨_, List.mem_cons_of_mem _ List.mem_cons_self, cover_rows4 ![256, 0] 2 rfl inb_S512x128_S128x128_256_0 y h⟩
    · exact ⟨_, List.mem_cons_of_mem _ (List.mem_cons_of_mem _ List.mem_cons_self), cover_rows4 ![128, 0] 1 rfl inb_S512x128_S128x128_128_0 y h⟩
    · exact ⟨_, List.mem_cons_of_mem _ (List.mem_cons_of_mem _ (List.mem_cons_of_mem _ List.mem_cons_self)), cover_rows4 ![0, 0] 0 rfl inb_S512x128_S128x128_0_0 y h⟩
  funext y
  rw [View.read_writes_apply_eq_canon _ _ _ _ (hc y), View.canon_apply_of_pieces (XQL x0) L hp y (hc y)]

end Cert.KernelIdeal.Gen

end
-- ==== Proof.VFrame.Scratch.lean ====
/- The scratch buffers the preparing points leave: the keys' scales by row, the turned codes of the values and the values' scales by column. -/
module

public import proofs.«01_k».proof.Proof.VFrame.Attn

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open Idealize.SL.Sem Cert.Scale Cert.Words Cert.Soft

/-- The keys' scales by row, the same in every lane. -/
def KSB (x : X3) : Vec Ideal S16384x128 .f32 := fun y => kscale (kb (krow x (y 0) * c448))

/-- The values' codes, each block turned. -/
def VT (x : X3) : Vec Ideal S128x128x128 .fp8e4m3 := fun y => VC x (ix3 0 (bkey (y 0) (y 2)) (y 1))

/-- The values' scales by column, the same in every lane. -/
def VSB (x : X3) : Vec Ideal S128x128 .f32 := fun y => kscale (kb (vcol x (y 0) * c448))

theorem off2_eq : ∀ k : Fin k0_t1_loop.trips, k0_off2 k = ![128 * k.val, 0] := by decide +kernel
theorem off4_eq : ∀ k : Fin k0_t2_loop.trips, k0_off4 k = ![k.val, 0, 0] := by decide +kernel

theorem emb_rows2 (off : Fin 2 → ℕ) (n : Fin 128) (hoff : off = ![128 * n.val, 0]) (inb : ∀ a, off a + S128x128.size a ≤ S16384x128.size a)
    (j : S128x128.Idx) : (Rect.unit (s := S16384x128) off S128x128.size inb).emb j = ix2 (bkey n (j 0)) (j 1) := by
  subst hoff
  refine funext fun a => Fin.ext ?_
  match a with
  | ⟨0, _⟩ => show 128 * n.val + 1 * (j 0).val = 128 * n.val + (j 0).val; omega
  | ⟨1, _⟩ => show 0 + 1 * (j 1).val = (j 1).val; omega

theorem cover_rows2 (off : Fin 2 → ℕ) (n : Fin 128) (hoff : off = ![128 * n.val, 0]) (inb : ∀ a, off a + S128x128.size a ≤ S16384x128.size a)
    (y : S16384x128.Idx) (hy : 128 * n.val ≤ (y 0).val ∧ (y 0).val < 128 * n.val + 128) : y ∈ (Rect.unit (s := S16384x128) off S128x128.size inb).set := by
  rw [Rect.mem_set_unit]
  subst hoff
  have h1 : (y 1).val < 128 := (y 1).isLt
  intro a
  match a with
  | ⟨0, _⟩ => exact hy
  | ⟨1, _⟩ => exact ⟨Nat.zero_le _, by show (y 1).val < 0 + 128; omega⟩

theorem emb_blk4 (off : Fin 3 → ℕ) (n : Fin 128) (hoff : off = ![n.val, 0, 0]) (inb : ∀ a, off a + S1x128x128.size a ≤ S128x128x128.size a)
    (j : S1x128x128.Idx) : (Rect.unit (s := S128x128x128) off S1x128x128.size inb).emb j = ix3 n (j 1) (j 2) := by
  subst hoff
  refine funext fun a => Fin.ext ?_
  have h0 : (j 0).val < 1 := (j 0).isLt
  match a with
  | ⟨0, _⟩ => show n.val + 1 * (j 0).val = n.val; omega
  | ⟨1, _⟩ => show 0 + 1 * (j 1).val = (j 1).val; omega
  | ⟨2, _⟩ => show 0 + 1 * (j 2).val = (j 2).val; omega

theorem cover_blk4 (off : Fin 3 → ℕ) (n : Fin 128) (hoff : off = ![n.val, 0, 0]) (inb : ∀ a, off a + S1x128x128.size a ≤ S128x128x128.size a)
    (y : S128x128x128.Idx) (hy : (y 0).val = n.val) : y ∈ (Rect.unit (s := S128x128x128) off S1x128x128.size inb).set := by
  rw [Rect.mem_set_unit]
  subst hoff
  have h1 : (y 1).val < 128 := (y 1).isLt
  have h2 : (y 2).val < 128 := (y 2).isLt
  intro a
  match a with
  | ⟨0, _⟩ => exact ⟨by show n.val ≤ (y 0).val; omega, by show (y 0).val < n.val + 1; omega⟩
  | ⟨1, _⟩ => exact ⟨Nat.zero_le _, by show (y 1).val < 0 + 128; omega⟩
  | ⟨2, _⟩ => exact ⟨Nat.zero_le _, by show (y 2).val < 0 + 128; omega⟩

theorem scale_blk (x : X3) (n : Fin 128) (j : S128x128.Idx) :
    (shapeCast S128x128 (vscale (vb (k0_pay3 (blk x n)))) shapeCasts_S128x128_S128x128) j = KSB x (ix2 (bkey n (j 0)) (j 1)) := by
  obtain ⟨j0, j1, rfl⟩ : ∃ (j0 j1 : Fin 128), j = ix2 j0 j1 := ⟨j 0, j 1, by
    refine funext fun a => ?_
    match a with
    | ⟨0, _⟩ => rfl
    | ⟨1, _⟩ => rfl⟩
  have e : ∀ u : V2, shapeCast S128x128 u shapeCasts_S128x128_S128x128 (ix2 j0 j1) = u (ix2 j0 j1) := by
    intro u
    pointwise
    try rfl
  rw [e, vscale_apply, vb_apply, pay3_blk]
  rfl

theorem turn_at (v813 : I2) (v819 : IVec S128x128 1) (w : BitVec 32) (v : Vec Ideal S1x128x128 .bf16) (j : S1x128x128.Idx) :
    k0_pay27 (F := Ideal) v813 v819 w v j = k0_pay26 (F := Ideal) v813 v819 w v (ix3 0 (j 2) (j 1)) := by
  obtain ⟨j1, j2, rfl⟩ : ∃ (j1 j2 : Fin 128), j = ix3 0 j1 j2 := ⟨j 1, j 2, by
    refine funext fun a => Fin.ext ?_
    have h0 : (j 0).val < 1 := (j 0).isLt
    match a with
    | ⟨0, _⟩ => show (j 0).val = 0; omega
    | ⟨1, _⟩ => rfl
    | ⟨2, _⟩ => rfl⟩
  unfold k0_pay27 k0_pay26
  generalize k0_pay22 (F := Ideal) v813 v819 w = u
  generalize k0_pay25 (F := Ideal) v = v
  pointwise
  try rfl

section
variable (𝒱 : Variants) (c : Dev nD) (bd : Option 𝒱.V) (i : grid0.Coords) (arg3 : Memref sig .tc .smem S2x17 .i32) (harg3 : arg3.IsWhole) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (k0_h1 : k0_cond1 i = 1#1) (x1 x2 : X3)

theorem trip1_pcs2 (k : Fin k0_t1_loop.trips) (acc : FVec Ideal S128x128 .f32 × FVec Ideal S1x128 .f32) :
    (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 (harg5.unread x1) (harg6.unread x2) k).2.2.1 acc
      = [⟨Rect.unit (s := S16384x128) (k0_off2 k) S128x128.size (k0_off2_inb i k k0_h1),
          shapeCast S128x128 (vscale (vb (k0_pay3 (blk x1 (k.cast trips1))))) shapeCasts_S128x128_S128x128⟩] := by
  rw [← readAt_rows arg5 harg5 x1 (k0_off1 k) (k.cast trips1) (off1_eq k) (k0_off1_inb i k k0_h1)]
  unfold trip_k0_t1
  rfl

theorem trip2_pcs2 (v813 : I2) (v819 : IVec S128x128 1) (w : BitVec 32) (k : Fin k0_t2_loop.trips) :
    (trip_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v813 v819 w (harg6.unread x2) k).2.1
      = [⟨Rect.unit (s := S128x128x128) (k0_off4 k) S1x128x128.size (k0_off4_inb i k k0_h1), k0_pay27 v813 v819 w (blk x2 (k.cast trips2))⟩] := by
  rw [← readAt_rows arg6 harg6 x2 (k0_off3 k) (k.cast trips2) (off3_eq k) (k0_off3_inb i k k0_h1)]
  unfold trip_k0_t2
  rfl

/-- What the first `n` trips over the keys leave in the scratch of the keys' scales. -/
theorem st1_inv2 : ∀ n : ℕ, n ≤ k0_t1_loop.trips →
    (∀ p ∈ (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 (harg5.unread x1) (harg6.unread x2) (k0_pay6, k0_pay7)  n).2.2, ∀ x : p.1.shape.Idx, p.2 x = KSB x1 (p.1.emb x))
    ∧ (∀ y : S16384x128.Idx, (y 0).val < 128 * n → ∃ p ∈ (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 (harg5.unread x1) (harg6.unread x2) (k0_pay6, k0_pay7)  n).2.2, y ∈ p.1.set)
  | 0, _ => ⟨fun p hp => absurd hp List.not_mem_nil, fun y hy => absurd hy (by omega)⟩
  | n + 1, hn => by
    obtain ⟨h3, h4⟩ := st1_inv2 n (by omega)
    have hn' : n < 128 := by have := trips1; omega
    have hs := st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 (harg5.unread x1) (harg6.unread x2) (k0_pay6, k0_pay7) ⟨n, hn⟩
    simp only at hs
    rw [hs]
    simp only
    rw [trip1_pcs2]
    refine ⟨fun p hp => ?_, fun y hy => ?_⟩
    · rcases List.mem_append.mp hp with hp | hp
      · obtain rfl := List.mem_singleton.mp hp
        intro x
        refine (scale_blk x1 ⟨n, hn'⟩ x).trans (congrArg (KSB x1) ?_)
        exact (emb_rows2 _ ⟨n, hn'⟩ (off2_eq ⟨n, hn⟩) (k0_off2_inb i ⟨n, hn⟩ k0_h1) x).symm
      · exact h3 p hp
    · by_cases hy' : (y 0).val < 128 * n
      · obtain ⟨p, hp, hm⟩ := h4 y hy'
        exact ⟨p, List.mem_append_right _ hp, hm⟩
      · exact ⟨_, List.mem_append_left _ (List.mem_singleton.mpr rfl), cover_rows2 _ ⟨n, hn'⟩ (off2_eq ⟨n, hn⟩) (k0_off2_inb i ⟨n, hn⟩ k0_h1) y ⟨by show 128 * n ≤ _; omega, by show _ < 128 * n + 128; omega⟩⟩

/-- What the first `n` trips over the values leave in the scratch of the turned codes. -/
theorem pb2_inv2 (v813 : I2) (v819 : IVec S128x128 1) (w : BitVec 32)
    (hc : ∀ n : Fin 128, ∀ j : S1x128x128.Idx, k0_pay26 v813 v819 w (blk x2 n) j
      = VC x2 (ix3 0 ⟨128 * n.val + (j 1).val, by have h : (j 1).val < 128 := (j 1).isLt; omega⟩ (j 2))) : ∀ n : ℕ, n ≤ k0_t2_loop.trips →
    (∀ p ∈ (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v813 v819 w (harg6.unread x2)  n).2, ∀ x : p.1.shape.Idx, p.2 x = VT x2 (p.1.emb x))
    ∧ (∀ y : S128x128x128.Idx, (y 0).val < n → ∃ p ∈ (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v813 v819 w (harg6.unread x2)  n).2, y ∈ p.1.set)
  | 0, _ => ⟨fun p hp => absurd hp List.not_mem_nil, fun y hy => absurd hy (by omega)⟩
  | n + 1, hn => by
    obtain ⟨h3, h4⟩ := pb2_inv2 v813 v819 w hc n (by omega)
    have hn' : n < 128 := by have := trips2; omega
    have hs := pb_k0_t2_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v813 v819 w (harg6.unread x2) ⟨n, hn⟩
    simp only at hs
    rw [hs]
    simp only
    rw [trip2_pcs2]
    refine ⟨fun p hp => ?_, fun y hy => ?_⟩
    · rcases List.mem_append.mp hp with hp | hp
      · obtain rfl := List.mem_singleton.mp hp
        intro x
        refine (turn_at v813 v819 w (blk x2 ⟨n, hn'⟩) x).trans ((hc ⟨n, hn'⟩ _).trans ?_)
        exact (congrArg (VT x2) (emb_blk4 _ ⟨n, hn'⟩ (off4_eq ⟨n, hn⟩) (k0_off4_inb i ⟨n, hn⟩ k0_h1) x)).symm
      · exact h3 p hp
    · by_cases hy' : (y 0).val < n
      · obtain ⟨p, hp, hm⟩ := h4 y hy'
        exact ⟨p, List.mem_append_right _ hp, hm⟩
      · exact ⟨_, List.mem_append_left _ (List.mem_singleton.mpr rfl), cover_blk4 _ ⟨n, hn'⟩ (off4_eq ⟨n, hn⟩) (k0_off4_inb i ⟨n, hn⟩ k0_h1) y (by show _ = n; omega)⟩

end

section
variable (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : cond0_0 i) (x1 x2 : X3)

/-- The scratch of the keys' scales, read back. -/
theorem readA14 (f : arg14.view.ty.Contents (Elt Ideal)) : arg14.view.read (Elt Ideal) (arg14.view.writes (Elt Ideal) f
    (st_k0_t1 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 (harg5.unread x1) (harg6.unread x2) (k0_pay6, k0_pay7) k0_t1_loop.trips).2.2) = KSB x1 := by
  obtain ⟨hp, hc⟩ := st1_inv2 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 x1 x2 k0_t1_loop.trips le_rfl
  have hc' : ∀ y : S16384x128.Idx, ∃ p ∈ (st_k0_t1 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 (harg5.unread x1) (harg6.unread x2) (k0_pay6, k0_pay7) k0_t1_loop.trips).2.2, y ∈ p.1.set :=
    fun y => hc y (by have h1 : (y 0).val < 16384 := (y 0).isLt; have := trips1; omega)
  funext y
  rw [View.read_writes_apply_eq_canon _ _ _ _ (hc' y), View.canon_apply_of_pieces (KSB x1) _ hp y (hc' y)]

/-- The scratch of the values' codes, read back. -/
theorem readA15 (f : arg15.view.ty.Contents (Elt Ideal)) : arg15.view.read (Elt Ideal) (arg15.view.writes (Elt Ideal) f
    (pb_k0_t2 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 (valueRun_A.sl.v813 c i arg4 harg4 arg5 harg5 arg6 harg6 arg7 harg7 arg8 harg8 arg9 harg9 arg10 harg10 arg11 harg11 arg12 harg12 arg13 harg13 arg14 harg14 arg15 harg15 arg16 harg16 arg17 harg17 hc0 x1 x2) (valueRun_A.sl.v819 c i arg4 harg4 arg5 harg5 arg6 harg6 arg7 harg7 arg8 harg8 arg9 harg9 arg10 harg10 arg11 harg11 arg12 harg12 arg13 harg13 arg14 harg14 arg15 harg15 arg16 harg16 arg17 harg17 hc0 x1 x2) 1#32 (harg6.unread x2) k0_t2_loop.trips).2) = VT x2 := by
  obtain ⟨hp, hc⟩ := pb2_inv2 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 x2 (valueRun_A.sl.v813 c i arg4 harg4 arg5 harg5 arg6 harg6 arg7 harg7 arg8 harg8 arg9 harg9 arg10 harg10 arg11 harg11 arg12 harg12 arg13 harg13 arg14 harg14 arg15 harg15 arg16 harg16 arg17 harg17 hc0 x1 x2) (valueRun_A.sl.v819 c i arg4 harg4 arg5 harg5 arg6 harg6 arg7 harg7 arg8 harg8 arg9 harg9 arg10 harg10 arg11 harg11 arg12 harg12 arg13 harg13 arg14 harg14 arg15 harg15 arg16 harg16 arg17 harg17 hc0 x1 x2) 1#32
    (pay26_col (x2 := x2) _ (col_of_st c i arg4 harg4 arg5 harg5 arg6 harg6 arg7 harg7 arg8 harg8 arg9 harg9 arg10 harg10 arg11 harg11 arg12 harg12 arg13 harg13 arg14 harg14 arg15 harg15 arg16 harg16 arg17 harg17 hc0 x1 x2)) k0_t2_loop.trips le_rfl
  have hc' : ∀ y : S128x128x128.Idx, ∃ p ∈ (pb_k0_t2 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 (valueRun_A.sl.v813 c i arg4 harg4 arg5 harg5 arg6 harg6 arg7 harg7 arg8 harg8 arg9 harg9 arg10 harg10 arg11 harg11 arg12 harg12 arg13 harg13 arg14 harg14 arg15 harg15 arg16 harg16 arg17 harg17 hc0 x1 x2) (valueRun_A.sl.v819 c i arg4 harg4 arg5 harg5 arg6 harg6 arg7 harg7 arg8 harg8 arg9 harg9 arg10 harg10 arg11 harg11 arg12 harg12 arg13 harg13 arg14 harg14 arg15 harg15 arg16 harg16 arg17 harg17 hc0 x1 x2) 1#32 (harg6.unread x2) k0_t2_loop.trips).2, y ∈ p.1.set :=
    fun y => hc y (by have h1 : (y 0).val < 128 := (y 0).isLt; have := trips2; omega)
  funext y
  rw [View.read_writes_apply_eq_canon _ _ _ _ (hc' y), View.canon_apply_of_pieces (VT x2) _ hp y (hc' y)]

theorem pay24_col (a : FVec Ideal S1x128 .f32) (h : ∀ l : Fin 128, a (ix2 0 l) = vcol x2 l) :
    k0_pay24 (F := Ideal) (k0_pay18 (k0_pay15 a) (k0_pay16 a) (k0_pay17 a) 32#32)
      (k0_pay19 (k0_pay15 a) (k0_pay16 a) (k0_pay17 a) 32#32) 1#32 = VSB x2 := by
  have e0 : k0_pay24 (F := Ideal) (k0_pay18 (k0_pay15 a) (k0_pay16 a) (k0_pay17 a) 32#32)
      (k0_pay19 (k0_pay15 a) (k0_pay16 a) (k0_pay17 a) 32#32) 1#32
      = shapeCast S128x128 (transpose S128x128 [1, 0] (vscale (vb (k0_pay15 a))) transposes_S128x128_p1_0_S128x128) shapeCasts_S128x128_S128x128 := rfl
  rw [e0]
  funext y
  obtain ⟨j0, j1, rfl⟩ : ∃ (j0 j1 : Fin 128), y = ix2 j0 j1 := ⟨y 0, y 1, by
    refine funext fun a => ?_
    match a with
    | ⟨0, _⟩ => rfl
    | ⟨1, _⟩ => rfl⟩
  have e : ∀ u : V2, shapeCast S128x128 (transpose S128x128 [1, 0] u transposes_S128x128_p1_0_S128x128) shapeCasts_S128x128_S128x128 (ix2 j0 j1) = u (ix2 j1 j0) := by
    intro u
    pointwise
    try rfl
  rw [e, vscale_apply, vb_apply, pay15_col x2 a h]
  rfl

/-- The scratch of the values' scales, read back. -/
theorem readA16 (f : arg16.view.ty.Contents (Elt Ideal)) : arg16.view.read (Elt Ideal) (arg16.view.writes (Elt Ideal) f
    (valueRun_A.sl.HS2_1 c i arg4 harg4 arg5 harg5 arg6 harg6 arg7 harg7 arg8 harg8 arg9 harg9 arg10 harg10 arg11 harg11 arg12 harg12 arg13 harg13 arg14 harg14 arg15 harg15 arg16 harg16 arg17 harg17 hc0 x1 x2)) = VSB x2 := by
  have o3 : (![0, 0] : Fin 2 → ℕ) = fun _ => 0 := by funext a; match a with
    | 0 => rfl
    | 1 => rfl
  refine ((View.read_writes_full arg16.view f inb_S128x128_S128x128_0_0 _ []).trans ?_).trans (pay24_col (x2 := x2) _ (col_of_st c i arg4 harg4 arg5 harg5 arg6 harg6 arg7 harg7 arg8 harg8 arg9 harg9 arg10 harg10 arg11 harg11 arg12 harg12 arg13 harg13 arg14 harg14 arg15 harg15 arg16 harg16 arg17 harg17 hc0 x1 x2))
  rfl

end

end Cert.KernelIdeal.Gen

end
-- ==== Proof.VFrame.Out7.lean ====
/- The attention output of a point, read back in closed form at both kinds of point. -/
module

public import proofs.«01_k».proof.Proof.VFrame.Scratch

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open Idealize.SL.Sem Cert.Scale Cert.Words Cert.Soft

/-- The first visible key of the position `p` under the table row `W`. -/
def firstOf (p : BitVec 32) (W : Fin 17 → BitVec 32) : BitVec 32 := firstW p (W 0) (W 1) (W 2) (W 3) (W 4) (W 5) (W 6) (W 7) (W 8) (W 9) (W 10) (W 11) (W 12) (W 13) (W 14) (W 15) (W 16)

/-- The position of row `r` of tile `t`. -/
def posW (t : ℕ) (r : Fin 128) : BitVec 32 := IntOp.addi (rowW t) (BitVec.ofNat 32 r.val)

/-- The attention output of tile `t` from the tile's queries, the keys' codes and scales, and the values' codes and scales. -/
def ATT (t : ℕ) (W : Fin 17 → BitVec 32) (x0 : XQ) (xk : Vec Ideal S1x16384x128 .fp8e4m3) (xs : Vec Ideal S16384x128 .f32)
    (xv : Vec Ideal S128x128x128 .fp8e4m3) (vs : Vec Ideal S128x128 .f32) : Vec Ideal S1x128x512 .bf16 :=
  AO fun h r e => att (XK xk xs (XQL x0) h r) (MK (firstOf (posW t r) W) (posW t r)) (QS x0 (ix4 0 0 h r) * sigma)
    (fun k => xv (ix3 ⟨k.val / 128, by omega⟩ e ⟨k.val % 128, by omega⟩)) (vs (ix2 e r)) (128 * ((firstOf (rowW t) W).toNat / 128)) (128 * (t + 1))

theorem first_small (i : grid0.Coords) (W : Fin 17 → BitVec 32) :
    (firstOf (rowW (i 2).val) W).toNat ≤ 128 * (i 2).val ∧ firstOf (rowW (i 2).val) W = BitVec.ofNat 32 (firstOf (rowW (i 2).val) W).toNat := by
  refine ⟨?_, ?_⟩
  · obtain ⟨w, hw, hW⟩ := exists_ofNat (t := ⟨(i 2).val, (i 2).isLt⟩) (firstW_bounds (rowW (i 2).val) (W 0) (W 1) (W 2) (W 3) (W 4) (W 5) (W 6) (W 7) (W 8) (W 9) (W 10) (W 11) (W 12) (W 13) (W 14) (W 15) (W 16)
      (by rw [rowW_toInt ⟨(i 2).val, (i 2).isLt⟩]; exact Int.natCast_nonneg _))
    have ht : (i 2).val < 128 := (i 2).isLt
    simp only at hw hW
    unfold firstOf
    rw [hW, BitVec.toNat_ofNat, Nat.mod_eq_of_lt (by omega)]
    exact hw
  · rw [BitVec.ofNat_toNat, BitVec.setWidth_eq]

/-- The table row the body reads. -/
def tword (c : Dev nD) (i : grid0.Coords) (xt0 : TbBuf0 (F := Ideal) c tbM0_0) : Fin 17 → BitVec 32 :=
  ![valueRun_B.sl.r_28 c i xt0, valueRun_B.sl.r_29 c i xt0, valueRun_B.sl.r_30 c i xt0, valueRun_B.sl.r_36 c i xt0, valueRun_B.sl.r_37 c i xt0, valueRun_B.sl.r_38 c i xt0, valueRun_B.sl.r_39 c i xt0, valueRun_B.sl.r_40 c i xt0, valueRun_B.sl.r_42 c i xt0, valueRun_B.sl.r_43 c i xt0, valueRun_B.sl.r_44 c i xt0, valueRun_B.sl.r_45 c i xt0, valueRun_B.sl.r_46 c i xt0, valueRun_B.sl.r_47 c i xt0, valueRun_B.sl.r_51 c i xt0, valueRun_B.sl.r_52 c i xt0, valueRun_B.sl.r_53 c i xt0]

theorem e491 (c : Dev nD) (i : grid0.Coords) (xt0 : TbBuf0 (F := Ideal) c tbM0_0) :
    valueRun_B.sl.v491 c i xt0 = stepW (rowW (i 2).val) 0#32 (valueRun_B.sl.r_28 c i xt0) := rfl

theorem e501 (c : Dev nD) (i : grid0.Coords) (xt0 : TbBuf0 (F := Ideal) c tbM0_0) :
    valueRun_B.sl.v501 c i xt0 = stepW (rowW (i 2).val) (valueRun_B.sl.v491 c i xt0) (valueRun_B.sl.r_29 c i xt0) := rfl

theorem e511 (c : Dev nD) (i : grid0.Coords) (xt0 : TbBuf0 (F := Ideal) c tbM0_0) :
    valueRun_B.sl.v511 c i xt0 = stepW (rowW (i 2).val) (valueRun_B.sl.v501 c i xt0) (valueRun_B.sl.r_30 c i xt0) := rfl

theorem e521 (c : Dev nD) (i : grid0.Coords) (xt0 : TbBuf0 (F := Ideal) c tbM0_0) :
    valueRun_B.sl.v521 c i xt0 = stepW (rowW (i 2).val) (valueRun_B.sl.v511 c i xt0) (valueRun_B.sl.r_36 c i xt0) := rfl

theorem e531 (c : Dev nD) (i : grid0.Coords) (xt0 : TbBuf0 (F := Ideal) c tbM0_0) :
    valueRun_B.sl.v531 c i xt0 = stepW (rowW (i 2).val) (valueRun_B.sl.v521 c i xt0) (valueRun_B.sl.r_37 c i xt0) := rfl

theorem e541 (c : Dev nD) (i : grid0.Coords) (xt0 : TbBuf0 (F := Ideal) c tbM0_0) :
    valueRun_B.sl.v541 c i xt0 = stepW (rowW (i 2).val) (valueRun_B.sl.v531 c i xt0) (valueRun_B.sl.r_38 c i xt0) := rfl

theorem e551 (c : Dev nD) (i : grid0.Coords) (xt0 : TbBuf0 (F := Ideal) c tbM0_0) :
    valueRun_B.sl.v551 c i xt0 = stepW (rowW (i 2).val) (valueRun_B.sl.v541 c i xt0) (valueRun_B.sl.r_39 c i xt0) := rfl

theorem e561 (c : Dev nD) (i : grid0.Coords) (xt0 : TbBuf0 (F := Ideal) c tbM0_0) :
    valueRun_B.sl.v561 c i xt0 = stepW (rowW (i 2).val) (valueRun_B.sl.v551 c i xt0) (valueRun_B.sl.r_40 c i xt0) := rfl

theorem e571 (c : Dev nD) (i : grid0.Coords) (xt0 : TbBuf0 (F := Ideal) c tbM0_0) :
    valueRun_B.sl.v571 c i xt0 = stepW (rowW (i 2).val) (valueRun_B.sl.v561 c i xt0) (valueRun_B.sl.r_42 c i xt0) := rfl

theorem e581 (c : Dev nD) (i : grid0.Coords) (xt0 : TbBuf0 (F := Ideal) c tbM0_0) :
    valueRun_B.sl.v581 c i xt0 = stepW (rowW (i 2).val) (valueRun_B.sl.v571 c i xt0) (valueRun_B.sl.r_43 c i xt0) := rfl

theorem e591 (c : Dev nD) (i : grid0.Coords) (xt0 : TbBuf0 (F := Ideal) c tbM0_0) :
    valueRun_B.sl.v591 c i xt0 = stepW (rowW (i 2).val) (valueRun_B.sl.v581 c i xt0) (valueRun_B.sl.r_44 c i xt0) := rfl

theorem e601 (c : Dev nD) (i : grid0.Coords) (xt0 : TbBuf0 (F := Ideal) c tbM0_0) :
    valueRun_B.sl.v601 c i xt0 = stepW (rowW (i 2).val) (valueRun_B.sl.v591 c i xt0) (valueRun_B.sl.r_45 c i xt0) := rfl

theorem e611 (c : Dev nD) (i : grid0.Coords) (xt0 : TbBuf0 (F := Ideal) c tbM0_0) :
    valueRun_B.sl.v611 c i xt0 = stepW (rowW (i 2).val) (valueRun_B.sl.v601 c i xt0) (valueRun_B.sl.r_46 c i xt0) := rfl

theorem e621 (c : Dev nD) (i : grid0.Coords) (xt0 : TbBuf0 (F := Ideal) c tbM0_0) :
    valueRun_B.sl.v621 c i xt0 = stepW (rowW (i 2).val) (valueRun_B.sl.v611 c i xt0) (valueRun_B.sl.r_47 c i xt0) := rfl

theorem e631 (c : Dev nD) (i : grid0.Coords) (xt0 : TbBuf0 (F := Ideal) c tbM0_0) :
    valueRun_B.sl.v631 c i xt0 = stepW (rowW (i 2).val) (valueRun_B.sl.v621 c i xt0) (valueRun_B.sl.r_51 c i xt0) := rfl

theorem e641 (c : Dev nD) (i : grid0.Coords) (xt0 : TbBuf0 (F := Ideal) c tbM0_0) :
    valueRun_B.sl.v641 c i xt0 = stepW (rowW (i 2).val) (valueRun_B.sl.v631 c i xt0) (valueRun_B.sl.r_52 c i xt0) := rfl

theorem e651 (c : Dev nD) (i : grid0.Coords) (xt0 : TbBuf0 (F := Ideal) c tbM0_0) :
    valueRun_B.sl.v651 c i xt0 = stepW (rowW (i 2).val) (valueRun_B.sl.v641 c i xt0) (valueRun_B.sl.r_53 c i xt0) := rfl

theorem v651_eq (c : Dev nD) (i : grid0.Coords) (xt0 : TbBuf0 (F := Ideal) c tbM0_0) :
    valueRun_B.sl.v651 c i xt0 = firstOf (rowW (i 2).val) (tword c i xt0) := by
  have e : firstOf (rowW (i 2).val) (tword c i xt0) = firstW (rowW (i 2).val) (valueRun_B.sl.r_28 c i xt0) (valueRun_B.sl.r_29 c i xt0) (valueRun_B.sl.r_30 c i xt0) (valueRun_B.sl.r_36 c i xt0) (valueRun_B.sl.r_37 c i xt0) (valueRun_B.sl.r_38 c i xt0) (valueRun_B.sl.r_39 c i xt0) (valueRun_B.sl.r_40 c i xt0) (valueRun_B.sl.r_42 c i xt0) (valueRun_B.sl.r_43 c i xt0) (valueRun_B.sl.r_44 c i xt0) (valueRun_B.sl.r_45 c i xt0) (valueRun_B.sl.r_46 c i xt0) (valueRun_B.sl.r_47 c i xt0) (valueRun_B.sl.r_51 c i xt0) (valueRun_B.sl.r_52 c i xt0) (valueRun_B.sl.r_53 c i xt0) := rfl
  rw [e]
  unfold firstW
  rw [e651, e641, e631, e621, e611, e601, e591, e581, e571, e561, e551, e541, e531, e521, e511, e501, e491]

theorem low_eq (c : Dev nD) (i : grid0.Coords) (xt0 : TbBuf0 (F := Ideal) c tbM0_0) :
    Scalar.select (Scalar.andi (valueRun_B.sl.v665 c i xt0) (Scalar.cmpi .ne (valueRun_B.sl.v666 c i xt0) 0#32)) (Scalar.subi (valueRun_B.sl.v654 c i xt0) 1#32) (valueRun_B.sl.v654 c i xt0)
      = BitVec.ofNat 32 ((firstOf (rowW (i 2).val) (tword c i xt0)).toNat / 128) := by
  obtain ⟨hw, hW⟩ := first_small i (tword c i xt0)
  have ht : (i 2).val < 128 := (i 2).isLt
  refine Eq.trans ?_ ((congrArg loW hW).trans (loW_ofNat _ (by omega)))
  rw [← v651_eq c i xt0]
  unfold valueRun_B.sl.v665 valueRun_B.sl.v666 valueRun_B.sl.v659 valueRun_B.sl.v656 valueRun_B.sl.v658 valueRun_B.sl.v655 valueRun_B.sl.v657 valueRun_B.sl.v654
  generalize valueRun_B.sl.v651 c i xt0 = z
  rfl

set_option maxHeartbeats 4000000 in
theorem outB7 (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : ¬cond0_0 i)
    (x0 : Vec Ideal S1x128x512 .bf16) (x1 : Vec Ideal S1x16384x128 .bf16) (x2 : Vec Ideal S1x16384x128 .bf16) (g7 : arg7.view.ty.Contents (Elt Ideal)) (xt0 : TbBuf0 (F := Ideal) c tbM0_0) (x6 : Vec Ideal S1x16384x128 .fp8e4m3) (x7 : Vec Ideal S1x1x128x128 .f32) (x8 : Vec Ideal S1x16384x128 .fp8e4m3) (x9 : Vec Ideal S1x1x1x128 .f32) (xs0 : Vec Ideal S16384x128 .f32) (xs1 : Vec Ideal S128x128x128 .fp8e4m3) (xs2 : Vec Ideal S128x128 .f32) (g17 : arg17.view.ty.Contents (Elt Ideal)) (k0_hw1 : k0_chk1 i (tbM0_0.view.readAt (Elt Ideal) (Rect.unit (s := S2x17) (k0_off5 i) S1x1.size (k0_off5_inb i)).toLoadRect xt0 (Shape.Idx.first (numel1_S1x1.symm ▸ Nat.one_pos))) (tbM0_0.view.readAt (Elt Ideal) (Rect.unit (s := S2x17) (k0_off6 i) S1x1.size (k0_off6_inb i)).toLoadRect xt0 (Shape.Idx.first (numel1_S1x1.symm ▸ Nat.one_pos))) (tbM0_0.view.readAt (Elt Ideal) (Rect.unit (s := S2x17) (k0_off7 i) S1x1.size (k0_off7_inb i)).toLoadRect xt0 (Shape.Idx.first (numel1_S1x1.symm ▸ Nat.one_pos))) (tbM0_0.view.readAt (Elt Ideal) (Rect.unit (s := S2x17) (k0_off8 i) S1x1.size (k0_off8_inb i)).toLoadRect xt0 (Shape.Idx.first (numel1_S1x1.symm ▸ Nat.one_pos))) (tbM0_0.view.readAt (Elt Ideal) (Rect.unit (s := S2x17) (k0_off9 i) S1x1.size (k0_off9_inb i)).toLoadRect xt0 (Shape.Idx.first (numel1_S1x1.symm ▸ Nat.one_pos))) (tbM0_0.view.readAt (Elt Ideal) (Rect.unit (s := S2x17) (k0_off10 i) S1x1.size (k0_off10_inb i)).toLoadRect xt0 (Shape.Idx.first (numel1_S1x1.symm ▸ Nat.one_pos))) (tbM0_0.view.readAt (Elt Ideal) (Rect.unit (s := S2x17) (k0_off11 i) S1x1.size (k0_off11_inb i)).toLoadRect xt0 (Shape.Idx.first (numel1_S1x1.symm ▸ Nat.one_pos))) (tbM0_0.view.readAt (Elt Ideal) (Rect.unit (s := S2x17) (k0_off12 i) S1x1.size (k0_off12_inb i)).toLoadRect xt0 (Shape.Idx.first (numel1_S1x1.symm ▸ Nat.one_pos))) (tbM0_0.view.readAt (Elt Ideal) (Rect.unit (s := S2x17) (k0_off13 i) S1x1.size (k0_off13_inb i)).toLoadRect xt0 (Shape.Idx.first (numel1_S1x1.symm ▸ Nat.one_pos))) (tbM0_0.view.readAt (Elt Ideal) (Rect.unit (s := S2x17) (k0_off14 i) S1x1.size (k0_off14_inb i)).toLoadRect xt0 (Shape.Idx.first (numel1_S1x1.symm ▸ Nat.one_pos))) (tbM0_0.view.readAt (Elt Ideal) (Rect.unit (s := S2x17) (k0_off15 i) S1x1.size (k0_off15_inb i)).toLoadRect xt0 (Shape.Idx.first (numel1_S1x1.symm ▸ Nat.one_pos))) (tbM0_0.view.readAt (Elt Ideal) (Rect.unit (s := S2x17) (k0_off16 i) S1x1.size (k0_off16_inb i)).toLoadRect xt0 (Shape.Idx.first (numel1_S1x1.symm ▸ Nat.one_pos))) (tbM0_0.view.readAt (Elt Ideal) (Rect.unit (s := S2x17) (k0_off17 i) S1x1.size (k0_off17_inb i)).toLoadRect xt0 (Shape.Idx.first (numel1_S1x1.symm ▸ Nat.one_pos))) (tbM0_0.view.readAt (Elt Ideal) (Rect.unit (s := S2x17) (k0_off18 i) S1x1.size (k0_off18_inb i)).toLoadRect xt0 (Shape.Idx.first (numel1_S1x1.symm ▸ Nat.one_pos))) (tbM0_0.view.readAt (Elt Ideal) (Rect.unit (s := S2x17) (k0_off19 i) S1x1.size (k0_off19_inb i)).toLoadRect xt0 (Shape.Idx.first (numel1_S1x1.symm ▸ Nat.one_pos))) (tbM0_0.view.readAt (Elt Ideal) (Rect.unit (s := S2x17) (k0_off20 i) S1x1.size (k0_off20_inb i)).toLoadRect xt0 (Shape.Idx.first (numel1_S1x1.symm ▸ Nat.one_pos))) (tbM0_0.view.readAt (Elt Ideal) (Rect.unit (s := S2x17) (k0_off21 i) S1x1.size (k0_off21_inb i)).toLoadRect xt0 (Shape.Idx.first (numel1_S1x1.symm ▸ Nat.one_pos)))) :
    arg7.view.read (Elt Ideal) (arg7.view.writes (Elt Ideal) g7 (valueRun_B (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 g7 xt0 x6 x7 x8 x9 xs0 xs1 xs2 g17 k0_hw1).2.2.1) = ATT (i 2).val (tword c i xt0) x0 x6 xs0 xs1 xs2 := by
  obtain ⟨hw, hW⟩ := first_small i (tword c i xt0)
  have o3 : (![0, 0] : Fin 2 → ℕ) = fun _ => 0 := by funext a; match a with
    | 0 => rfl
    | 1 => rfl
  refine (read7 arg7 g7 _ _ _ _ rfl).trans (congrArg AO (funext fun h => funext fun r => funext fun e => ?_))
  have L := loops_out Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (valueRun_B.sl.r_31 c arg4 harg4 x0) (valueRun_B.sl.r_28 c i xt0) (valueRun_B.sl.r_29 c i xt0) (valueRun_B.sl.r_30 c i xt0) (valueRun_B.sl.r_36 c i xt0) (valueRun_B.sl.r_37 c i xt0) (valueRun_B.sl.r_38 c i xt0) (valueRun_B.sl.r_39 c i xt0) (valueRun_B.sl.r_40 c i xt0) (valueRun_B.sl.r_42 c i xt0) (valueRun_B.sl.r_43 c i xt0) (valueRun_B.sl.r_44 c i xt0) (valueRun_B.sl.r_45 c i xt0) (valueRun_B.sl.r_46 c i xt0) (valueRun_B.sl.r_47 c i xt0) (valueRun_B.sl.r_51 c i xt0) (valueRun_B.sl.r_52 c i xt0) (valueRun_B.sl.r_53 c i xt0) k0_hw1
    (valueRun_B.sl.r_54 i) (valueRun_B.sl.r_55 c i xt0) (valueRun_B.sl.v654 c i xt0) (valueRun_B.sl.v665 c i xt0) (valueRun_B.sl.v666 c i xt0) 0#32
    x6 xs0 (XQL x0) xs1 (firstOf (rowW (i 2).val) (tword c i xt0)).toNat hw hW (low_eq c i xt0)
    (harg10.unread x6) (harg14.unread xs0) (harg15.unread xs1) (arg17.view.writes (Elt Ideal) arg17.view.junk (valueRun_B.sl.HS3_4 c arg4 harg4 x0)) rfl rfl rfl
    (harg17.eq_unread (readB17 c arg4 harg4 arg17 x0 arg17.view.junk)) h r e (fun k => xs1 (ix3 ⟨k.val / 128, by omega⟩ e ⟨k.val % 128, by omega⟩))
    (fun n x => congrArg xs1 (congrArg₂ (fun a b => ix3 a e b) (Fin.ext (show n.val = (128 * n.val + x.val) / 128 by omega)) (Fin.ext (show x.val = (128 * n.val + x.val) % 128 by omega))))
  rw [r31_at, r54_at, r55_at] at L
  exact congrArg₂ Ideal.div (congrArg₂ (· * ·) L.2 (congrFun (read_all arg16 harg16 xs2 ![0, 0] o3 inb_S128x128_S128x128_0_0) (ix2 e r))) L.1

set_option maxHeartbeats 4000000 in
theorem outA7 (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : cond0_0 i)
    (x0 : Vec Ideal S1x128x512 .bf16) (x1 : Vec Ideal S1x16384x128 .bf16) (x2 : Vec Ideal S1x16384x128 .bf16) (g10 : arg10.view.ty.Contents (Elt Ideal)) (g14 : arg14.view.ty.Contents (Elt Ideal)) (g15 : arg15.view.ty.Contents (Elt Ideal)) (g16 : arg16.view.ty.Contents (Elt Ideal)) (g17 : arg17.view.ty.Contents (Elt Ideal)) (g7 : arg7.view.ty.Contents (Elt Ideal)) (xt0 : TbBuf0 (F := Ideal) c tbM0_0) (k0_hw1 : k0_chk1 i (tbM0_0.view.readAt (Elt Ideal) (Rect.unit (s := S2x17) (k0_off5 i) S1x1.size (k0_off5_inb i)).toLoadRect xt0 (Shape.Idx.first (numel1_S1x1.symm ▸ Nat.one_pos))) (tbM0_0.view.readAt (Elt Ideal) (Rect.unit (s := S2x17) (k0_off6 i) S1x1.size (k0_off6_inb i)).toLoadRect xt0 (Shape.Idx.first (numel1_S1x1.symm ▸ Nat.one_pos))) (tbM0_0.view.readAt (Elt Ideal) (Rect.unit (s := S2x17) (k0_off7 i) S1x1.size (k0_off7_inb i)).toLoadRect xt0 (Shape.Idx.first (numel1_S1x1.symm ▸ Nat.one_pos))) (tbM0_0.view.readAt (Elt Ideal) (Rect.unit (s := S2x17) (k0_off8 i) S1x1.size (k0_off8_inb i)).toLoadRect xt0 (Shape.Idx.first (numel1_S1x1.symm ▸ Nat.one_pos))) (tbM0_0.view.readAt (Elt Ideal) (Rect.unit (s := S2x17) (k0_off9 i) S1x1.size (k0_off9_inb i)).toLoadRect xt0 (Shape.Idx.first (numel1_S1x1.symm ▸ Nat.one_pos))) (tbM0_0.view.readAt (Elt Ideal) (Rect.unit (s := S2x17) (k0_off10 i) S1x1.size (k0_off10_inb i)).toLoadRect xt0 (Shape.Idx.first (numel1_S1x1.symm ▸ Nat.one_pos))) (tbM0_0.view.readAt (Elt Ideal) (Rect.unit (s := S2x17) (k0_off11 i) S1x1.size (k0_off11_inb i)).toLoadRect xt0 (Shape.Idx.first (numel1_S1x1.symm ▸ Nat.one_pos))) (tbM0_0.view.readAt (Elt Ideal) (Rect.unit (s := S2x17) (k0_off12 i) S1x1.size (k0_off12_inb i)).toLoadRect xt0 (Shape.Idx.first (numel1_S1x1.symm ▸ Nat.one_pos))) (tbM0_0.view.readAt (Elt Ideal) (Rect.unit (s := S2x17) (k0_off13 i) S1x1.size (k0_off13_inb i)).toLoadRect xt0 (Shape.Idx.first (numel1_S1x1.symm ▸ Nat.one_pos))) (tbM0_0.view.readAt (Elt Ideal) (Rect.unit (s := S2x17) (k0_off14 i) S1x1.size (k0_off14_inb i)).toLoadRect xt0 (Shape.Idx.first (numel1_S1x1.symm ▸ Nat.one_pos))) (tbM0_0.view.readAt (Elt Ideal) (Rect.unit (s := S2x17) (k0_off15 i) S1x1.size (k0_off15_inb i)).toLoadRect xt0 (Shape.Idx.first (numel1_S1x1.symm ▸ Nat.one_pos))) (tbM0_0.view.readAt (Elt Ideal) (Rect.unit (s := S2x17) (k0_off16 i) S1x1.size (k0_off16_inb i)).toLoadRect xt0 (Shape.Idx.first (numel1_S1x1.symm ▸ Nat.one_pos))) (tbM0_0.view.readAt (Elt Ideal) (Rect.unit (s := S2x17) (k0_off17 i) S1x1.size (k0_off17_inb i)).toLoadRect xt0 (Shape.Idx.first (numel1_S1x1.symm ▸ Nat.one_pos))) (tbM0_0.view.readAt (Elt Ideal) (Rect.unit (s := S2x17) (k0_off18 i) S1x1.size (k0_off18_inb i)).toLoadRect xt0 (Shape.Idx.first (numel1_S1x1.symm ▸ Nat.one_pos))) (tbM0_0.view.readAt (Elt Ideal) (Rect.unit (s := S2x17) (k0_off19 i) S1x1.size (k0_off19_inb i)).toLoadRect xt0 (Shape.Idx.first (numel1_S1x1.symm ▸ Nat.one_pos))) (tbM0_0.view.readAt (Elt Ideal) (Rect.unit (s := S2x17) (k0_off20 i) S1x1.size (k0_off20_inb i)).toLoadRect xt0 (Shape.Idx.first (numel1_S1x1.symm ▸ Nat.one_pos))) (tbM0_0.view.readAt (Elt Ideal) (Rect.unit (s := S2x17) (k0_off21 i) S1x1.size (k0_off21_inb i)).toLoadRect xt0 (Shape.Idx.first (numel1_S1x1.symm ▸ Nat.one_pos)))) :
    arg7.view.read (Elt Ideal) (arg7.view.writes (Elt Ideal) g7 (valueRun_A (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 g10 g14 g15 g16 g17 g7 xt0 k0_hw1).2.2.2.2.2.2.1) = ATT (i 2).val (tword c i xt0) x0 (KC x1) (KSB x1) (VT x2) (VSB x2) := by
  obtain ⟨hw, hW⟩ := first_small i (tword c i xt0)
  have o3 : (![0, 0] : Fin 2 → ℕ) = fun _ => 0 := by funext a; match a with
    | 0 => rfl
    | 1 => rfl
  refine (read7 arg7 g7 _ _ _ _ rfl).trans (congrArg AO (funext fun h => funext fun r => funext fun e => ?_))
  have L := loops_out Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (valueRun_B.sl.r_31 c arg4 harg4 x0) (valueRun_B.sl.r_28 c i xt0) (valueRun_B.sl.r_29 c i xt0) (valueRun_B.sl.r_30 c i xt0) (valueRun_B.sl.r_36 c i xt0) (valueRun_B.sl.r_37 c i xt0) (valueRun_B.sl.r_38 c i xt0) (valueRun_B.sl.r_39 c i xt0) (valueRun_B.sl.r_40 c i xt0) (valueRun_B.sl.r_42 c i xt0) (valueRun_B.sl.r_43 c i xt0) (valueRun_B.sl.r_44 c i xt0) (valueRun_B.sl.r_45 c i xt0) (valueRun_B.sl.r_46 c i xt0) (valueRun_B.sl.r_47 c i xt0) (valueRun_B.sl.r_51 c i xt0) (valueRun_B.sl.r_52 c i xt0) (valueRun_B.sl.r_53 c i xt0) k0_hw1
    (valueRun_B.sl.r_54 i) (valueRun_B.sl.r_55 c i xt0) (valueRun_B.sl.v654 c i xt0) (valueRun_B.sl.v665 c i xt0) (valueRun_B.sl.v666 c i xt0) 0#32
    (KC x1) (KSB x1) (XQL x0) (VT x2) (firstOf (rowW (i 2).val) (tword c i xt0)).toNat hw hW (low_eq c i xt0)
    (arg10.view.writes (Elt Ideal) g10 (st_k0_t1 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 (harg5.unread x1) (harg6.unread x2) (k0_pay6, k0_pay7) k0_t1_loop.trips).2.1) (arg14.view.writes (Elt Ideal) g14 (st_k0_t1 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 (harg5.unread x1) (harg6.unread x2) (k0_pay6, k0_pay7) k0_t1_loop.trips).2.2) (arg15.view.writes (Elt Ideal) g15 (pb_k0_t2 (F := Ideal) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 hc0 (valueRun_A.sl.v813 c i arg4 harg4 arg5 harg5 arg6 harg6 arg7 harg7 arg8 harg8 arg9 harg9 arg10 harg10 arg11 harg11 arg12 harg12 arg13 harg13 arg14 harg14 arg15 harg15 arg16 harg16 arg17 harg17 hc0 x1 x2) (valueRun_A.sl.v819 c i arg4 harg4 arg5 harg5 arg6 harg6 arg7 harg7 arg8 harg8 arg9 harg9 arg10 harg10 arg11 harg11 arg12 harg12 arg13 harg13 arg14 harg14 arg15 harg15 arg16 harg16 arg17 harg17 hc0 x1 x2) 1#32 (harg6.unread x2) k0_t2_loop.trips).2) (arg17.view.writes (Elt Ideal) arg17.view.junk (valueRun_B.sl.HS3_4 c arg4 harg4 x0)) (harg10.eq_unread (readA10 c i arg4 harg4 arg5 harg5 arg6 harg6 arg7 harg7 arg8 harg8 arg9 harg9 arg10 harg10 arg11 harg11 arg12 harg12 arg13 harg13 arg14 harg14 arg15 harg15 arg16 harg16 arg17 harg17 hc0 x1 x2 g10)) (harg14.eq_unread (readA14 c i arg4 harg4 arg5 harg5 arg6 harg6 arg7 harg7 arg8 harg8 arg9 harg9 arg10 harg10 arg11 harg11 arg12 harg12 arg13 harg13 arg14 harg14 arg15 harg15 arg16 harg16 arg17 harg17 hc0 x1 x2 g14)) (harg15.eq_unread (readA15 c i arg4 harg4 arg5 harg5 arg6 harg6 arg7 harg7 arg8 harg8 arg9 harg9 arg10 harg10 arg11 harg11 arg12 harg12 arg13 harg13 arg14 harg14 arg15 harg15 arg16 harg16 arg17 harg17 hc0 x1 x2 g15))
    (harg17.eq_unread (readB17 c arg4 harg4 arg17 x0 arg17.view.junk)) h r e (fun k => (VT x2) (ix3 ⟨k.val / 128, by omega⟩ e ⟨k.val % 128, by omega⟩))
    (fun n x => congrArg (VT x2) (congrArg₂ (fun a b => ix3 a e b) (Fin.ext (show n.val = (128 * n.val + x.val) / 128 by omega)) (Fin.ext (show x.val = (128 * n.val + x.val) % 128 by omega))))
  rw [r31_at, r54_at, r55_at] at L
  exact congrArg₂ Ideal.div (congrArg₂ (· * ·) L.2 (congrFun ((congrArg _ (harg16.eq_unread (readA16 c i arg4 harg4 arg5 harg5 arg6 harg6 arg7 harg7 arg8 harg8 arg9 harg9 arg10 harg10 arg11 harg11 arg12 harg12 arg13 harg13 arg14 harg14 arg15 harg15 arg16 harg16 arg17 harg17 hc0 x1 x2 arg16.view.junk))).trans (read_all arg16 harg16 (VSB x2) ![0, 0] o3 inb_S128x128_S128x128_0_0)) (ix2 e r))) L.1

end Cert.KernelIdeal.Gen

end
-- ==== Proof.VFrame.Body.lean ====
/- The body's stores at a point, component by component of its whole-body run, read back as the closed forms. -/
module

public import proofs.«01_k».proof.Proof.VFrame.Reads
public import proofs.«01_k».proof.Proof.VFrame.Out7

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.Sem Cert.Scale

section
variable (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : cond0_0 i)
    (x0 : Vec Ideal S1x128x512 .bf16) (x1 : Vec Ideal S1x16384x128 .bf16) (x2 : Vec Ideal S1x16384x128 .bf16) (g10 : arg10.view.ty.Contents (Elt Ideal)) (g14 : arg14.view.ty.Contents (Elt Ideal)) (g15 : arg15.view.ty.Contents (Elt Ideal)) (g16 : arg16.view.ty.Contents (Elt Ideal)) (g17 : arg17.view.ty.Contents (Elt Ideal)) (g7 : arg7.view.ty.Contents (Elt Ideal)) (xt0 : TbBuf0 (F := Ideal) c tbM0_0) (k0_hw1 : k0_chk1 i (tbM0_0.view.readAt (Elt Ideal) (Rect.unit (s := S2x17) (k0_off5 i) S1x1.size (k0_off5_inb i)).toLoadRect xt0 (Shape.Idx.first (numel1_S1x1.symm ▸ Nat.one_pos))) (tbM0_0.view.readAt (Elt Ideal) (Rect.unit (s := S2x17) (k0_off6 i) S1x1.size (k0_off6_inb i)).toLoadRect xt0 (Shape.Idx.first (numel1_S1x1.symm ▸ Nat.one_pos))) (tbM0_0.view.readAt (Elt Ideal) (Rect.unit (s := S2x17) (k0_off7 i) S1x1.size (k0_off7_inb i)).toLoadRect xt0 (Shape.Idx.first (numel1_S1x1.symm ▸ Nat.one_pos))) (tbM0_0.view.readAt (Elt Ideal) (Rect.unit (s := S2x17) (k0_off8 i) S1x1.size (k0_off8_inb i)).toLoadRect xt0 (Shape.Idx.first (numel1_S1x1.symm ▸ Nat.one_pos))) (tbM0_0.view.readAt (Elt Ideal) (Rect.unit (s := S2x17) (k0_off9 i) S1x1.size (k0_off9_inb i)).toLoadRect xt0 (Shape.Idx.first (numel1_S1x1.symm ▸ Nat.one_pos))) (tbM0_0.view.readAt (Elt Ideal) (Rect.unit (s := S2x17) (k0_off10 i) S1x1.size (k0_off10_inb i)).toLoadRect xt0 (Shape.Idx.first (numel1_S1x1.symm ▸ Nat.one_pos))) (tbM0_0.view.readAt (Elt Ideal) (Rect.unit (s := S2x17) (k0_off11 i) S1x1.size (k0_off11_inb i)).toLoadRect xt0 (Shape.Idx.first (numel1_S1x1.symm ▸ Nat.one_pos))) (tbM0_0.view.readAt (Elt Ideal) (Rect.unit (s := S2x17) (k0_off12 i) S1x1.size (k0_off12_inb i)).toLoadRect xt0 (Shape.Idx.first (numel1_S1x1.symm ▸ Nat.one_pos))) (tbM0_0.view.readAt (Elt Ideal) (Rect.unit (s := S2x17) (k0_off13 i) S1x1.size (k0_off13_inb i)).toLoadRect xt0 (Shape.Idx.first (numel1_S1x1.symm ▸ Nat.one_pos))) (tbM0_0.view.readAt (Elt Ideal) (Rect.unit (s := S2x17) (k0_off14 i) S1x1.size (k0_off14_inb i)).toLoadRect xt0 (Shape.Idx.first (numel1_S1x1.symm ▸ Nat.one_pos))) (tbM0_0.view.readAt (Elt Ideal) (Rect.unit (s := S2x17) (k0_off15 i) S1x1.size (k0_off15_inb i)).toLoadRect xt0 (Shape.Idx.first (numel1_S1x1.symm ▸ Nat.one_pos))) (tbM0_0.view.readAt (Elt Ideal) (Rect.unit (s := S2x17) (k0_off16 i) S1x1.size (k0_off16_inb i)).toLoadRect xt0 (Shape.Idx.first (numel1_S1x1.symm ▸ Nat.one_pos))) (tbM0_0.view.readAt (Elt Ideal) (Rect.unit (s := S2x17) (k0_off17 i) S1x1.size (k0_off17_inb i)).toLoadRect xt0 (Shape.Idx.first (numel1_S1x1.symm ▸ Nat.one_pos))) (tbM0_0.view.readAt (Elt Ideal) (Rect.unit (s := S2x17) (k0_off18 i) S1x1.size (k0_off18_inb i)).toLoadRect xt0 (Shape.Idx.first (numel1_S1x1.symm ▸ Nat.one_pos))) (tbM0_0.view.readAt (Elt Ideal) (Rect.unit (s := S2x17) (k0_off19 i) S1x1.size (k0_off19_inb i)).toLoadRect xt0 (Shape.Idx.first (numel1_S1x1.symm ▸ Nat.one_pos))) (tbM0_0.view.readAt (Elt Ideal) (Rect.unit (s := S2x17) (k0_off20 i) S1x1.size (k0_off20_inb i)).toLoadRect xt0 (Shape.Idx.first (numel1_S1x1.symm ▸ Nat.one_pos))) (tbM0_0.view.readAt (Elt Ideal) (Rect.unit (s := S2x17) (k0_off21 i) S1x1.size (k0_off21_inb i)).toLoadRect xt0 (Shape.Idx.first (numel1_S1x1.symm ▸ Nat.one_pos))))

theorem outA8 (f : arg8.view.ty.Contents (Elt Ideal)) : arg8.view.read (Elt Ideal) (arg8.view.writes (Elt Ideal) f (valueRun_A (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 g10 g14 g15 g16 g17 g7 xt0 k0_hw1).1) = QC x0 :=
  readA8 c arg4 harg4 arg8 x0 f

theorem outA9 (f : arg9.view.ty.Contents (Elt Ideal)) : arg9.view.read (Elt Ideal) (arg9.view.writes (Elt Ideal) f (valueRun_A (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 g10 g14 g15 g16 g17 g7 xt0 k0_hw1).2.1) = QS x0 :=
  readA9 c arg4 harg4 arg9 x0 f

theorem outA10 (f : arg10.view.ty.Contents (Elt Ideal)) : arg10.view.read (Elt Ideal) (arg10.view.writes (Elt Ideal) f (valueRun_A (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 g10 g14 g15 g16 g17 g7 xt0 k0_hw1).2.2.1) = KC x1 :=
  readA10 c i arg4 harg4 arg5 harg5 arg6 harg6 arg7 harg7 arg8 harg8 arg9 harg9 arg10 harg10 arg11 harg11 arg12 harg12 arg13 harg13 arg14 harg14 arg15 harg15 arg16 harg16 arg17 harg17 hc0 x1 x2 f

theorem outA11 (f : arg11.view.ty.Contents (Elt Ideal)) : arg11.view.read (Elt Ideal) (arg11.view.writes (Elt Ideal) f (valueRun_A (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 g10 g14 g15 g16 g17 g7 xt0 k0_hw1).2.2.2.1) = KS x1 :=
  readA11 c i arg4 harg4 arg5 harg5 arg6 harg6 arg7 harg7 arg8 harg8 arg9 harg9 arg10 harg10 arg11 harg11 arg12 harg12 arg13 harg13 arg14 harg14 arg15 harg15 arg16 harg16 arg17 harg17 hc0 x1 x2 f

theorem outA12 (f : arg12.view.ty.Contents (Elt Ideal)) : arg12.view.read (Elt Ideal) (arg12.view.writes (Elt Ideal) f (valueRun_A (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 g10 g14 g15 g16 g17 g7 xt0 k0_hw1).2.2.2.2.1) = VC x2 :=
  readA12 c i arg4 harg4 arg5 harg5 arg6 harg6 arg7 harg7 arg8 harg8 arg9 harg9 arg10 harg10 arg11 harg11 arg12 harg12 arg13 harg13 arg14 harg14 arg15 harg15 arg16 harg16 arg17 harg17 hc0 x1 x2 f

theorem outA13 (f : arg13.view.ty.Contents (Elt Ideal)) : arg13.view.read (Elt Ideal) (arg13.view.writes (Elt Ideal) f (valueRun_A (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 g10 g14 g15 g16 g17 g7 xt0 k0_hw1).2.2.2.2.2.1) = VS x2 :=
  readA13 c i arg4 harg4 arg5 harg5 arg6 harg6 arg7 harg7 arg8 harg8 arg9 harg9 arg10 harg10 arg11 harg11 arg12 harg12 arg13 harg13 arg14 harg14 arg15 harg15 arg16 harg16 arg17 harg17 hc0 x1 x2 f

theorem outA14 (f : arg14.view.ty.Contents (Elt Ideal)) : arg14.view.read (Elt Ideal) (arg14.view.writes (Elt Ideal) f (valueRun_A (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 g10 g14 g15 g16 g17 g7 xt0 k0_hw1).2.2.2.2.2.2.2.1) = KSB x1 :=
  readA14 c i arg4 harg4 arg5 harg5 arg6 harg6 arg7 harg7 arg8 harg8 arg9 harg9 arg10 harg10 arg11 harg11 arg12 harg12 arg13 harg13 arg14 harg14 arg15 harg15 arg16 harg16 arg17 harg17 hc0 x1 x2 f

theorem outA15 (f : arg15.view.ty.Contents (Elt Ideal)) : arg15.view.read (Elt Ideal) (arg15.view.writes (Elt Ideal) f (valueRun_A (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 g10 g14 g15 g16 g17 g7 xt0 k0_hw1).2.2.2.2.2.2.2.2.1) = VT x2 :=
  readA15 c i arg4 harg4 arg5 harg5 arg6 harg6 arg7 harg7 arg8 harg8 arg9 harg9 arg10 harg10 arg11 harg11 arg12 harg12 arg13 harg13 arg14 harg14 arg15 harg15 arg16 harg16 arg17 harg17 hc0 x1 x2 f

theorem outA16 (f : arg16.view.ty.Contents (Elt Ideal)) : arg16.view.read (Elt Ideal) (arg16.view.writes (Elt Ideal) f (valueRun_A (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 g10 g14 g15 g16 g17 g7 xt0 k0_hw1).2.2.2.2.2.2.2.2.2.1) = VSB x2 :=
  readA16 c i arg4 harg4 arg5 harg5 arg6 harg6 arg7 harg7 arg8 harg8 arg9 harg9 arg10 harg10 arg11 harg11 arg12 harg12 arg13 harg13 arg14 harg14 arg15 harg15 arg16 harg16 arg17 harg17 hc0 x1 x2 f

end

section
variable (c : Dev nD) (i : grid0.Coords) (arg4 : Memref sig .tc .vmem S1x128x512 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x128x512 .bf16) (harg7 : arg7.IsWhole) (arg8 : Memref sig .tc .vmem S1x128x512 .fp8e4m3) (harg8 : arg8.IsWhole) (arg9 : Memref sig .tc .vmem S1x1x4x128 .f32) (harg9 : arg9.IsWhole) (arg10 : Memref sig .tc .vmem S1x16384x128 .fp8e4m3) (harg10 : arg10.IsWhole) (arg11 : Memref sig .tc .vmem S1x1x128x128 .f32) (harg11 : arg11.IsWhole) (arg12 : Memref sig .tc .vmem S1x16384x128 .fp8e4m3) (harg12 : arg12.IsWhole) (arg13 : Memref sig .tc .vmem S1x1x1x128 .f32) (harg13 : arg13.IsWhole) (arg14 : Memref sig .tc .vmem S16384x128 .f32) (harg14 : arg14.IsWhole) (arg15 : Memref sig .tc .vmem S128x128x128 .fp8e4m3) (harg15 : arg15.IsWhole) (arg16 : Memref sig .tc .vmem S128x128 .f32) (harg16 : arg16.IsWhole) (arg17 : Memref sig .tc .vmem S512x128 .fp8e4m3) (harg17 : arg17.IsWhole) (hc0 : ¬cond0_0 i)
    (x0 : Vec Ideal S1x128x512 .bf16) (x1 : Vec Ideal S1x16384x128 .bf16) (x2 : Vec Ideal S1x16384x128 .bf16) (g7 : arg7.view.ty.Contents (Elt Ideal)) (xt0 : TbBuf0 (F := Ideal) c tbM0_0) (x6 : Vec Ideal S1x16384x128 .fp8e4m3) (x7 : Vec Ideal S1x1x128x128 .f32) (x8 : Vec Ideal S1x16384x128 .fp8e4m3) (x9 : Vec Ideal S1x1x1x128 .f32) (xs0 : Vec Ideal S16384x128 .f32) (xs1 : Vec Ideal S128x128x128 .fp8e4m3) (xs2 : Vec Ideal S128x128 .f32) (g17 : arg17.view.ty.Contents (Elt Ideal)) (k0_hw1 : k0_chk1 i (tbM0_0.view.readAt (Elt Ideal) (Rect.unit (s := S2x17) (k0_off5 i) S1x1.size (k0_off5_inb i)).toLoadRect xt0 (Shape.Idx.first (numel1_S1x1.symm ▸ Nat.one_pos))) (tbM0_0.view.readAt (Elt Ideal) (Rect.unit (s := S2x17) (k0_off6 i) S1x1.size (k0_off6_inb i)).toLoadRect xt0 (Shape.Idx.first (numel1_S1x1.symm ▸ Nat.one_pos))) (tbM0_0.view.readAt (Elt Ideal) (Rect.unit (s := S2x17) (k0_off7 i) S1x1.size (k0_off7_inb i)).toLoadRect xt0 (Shape.Idx.first (numel1_S1x1.symm ▸ Nat.one_pos))) (tbM0_0.view.readAt (Elt Ideal) (Rect.unit (s := S2x17) (k0_off8 i) S1x1.size (k0_off8_inb i)).toLoadRect xt0 (Shape.Idx.first (numel1_S1x1.symm ▸ Nat.one_pos))) (tbM0_0.view.readAt (Elt Ideal) (Rect.unit (s := S2x17) (k0_off9 i) S1x1.size (k0_off9_inb i)).toLoadRect xt0 (Shape.Idx.first (numel1_S1x1.symm ▸ Nat.one_pos))) (tbM0_0.view.readAt (Elt Ideal) (Rect.unit (s := S2x17) (k0_off10 i) S1x1.size (k0_off10_inb i)).toLoadRect xt0 (Shape.Idx.first (numel1_S1x1.symm ▸ Nat.one_pos))) (tbM0_0.view.readAt (Elt Ideal) (Rect.unit (s := S2x17) (k0_off11 i) S1x1.size (k0_off11_inb i)).toLoadRect xt0 (Shape.Idx.first (numel1_S1x1.symm ▸ Nat.one_pos))) (tbM0_0.view.readAt (Elt Ideal) (Rect.unit (s := S2x17) (k0_off12 i) S1x1.size (k0_off12_inb i)).toLoadRect xt0 (Shape.Idx.first (numel1_S1x1.symm ▸ Nat.one_pos))) (tbM0_0.view.readAt (Elt Ideal) (Rect.unit (s := S2x17) (k0_off13 i) S1x1.size (k0_off13_inb i)).toLoadRect xt0 (Shape.Idx.first (numel1_S1x1.symm ▸ Nat.one_pos))) (tbM0_0.view.readAt (Elt Ideal) (Rect.unit (s := S2x17) (k0_off14 i) S1x1.size (k0_off14_inb i)).toLoadRect xt0 (Shape.Idx.first (numel1_S1x1.symm ▸ Nat.one_pos))) (tbM0_0.view.readAt (Elt Ideal) (Rect.unit (s := S2x17) (k0_off15 i) S1x1.size (k0_off15_inb i)).toLoadRect xt0 (Shape.Idx.first (numel1_S1x1.symm ▸ Nat.one_pos))) (tbM0_0.view.readAt (Elt Ideal) (Rect.unit (s := S2x17) (k0_off16 i) S1x1.size (k0_off16_inb i)).toLoadRect xt0 (Shape.Idx.first (numel1_S1x1.symm ▸ Nat.one_pos))) (tbM0_0.view.readAt (Elt Ideal) (Rect.unit (s := S2x17) (k0_off17 i) S1x1.size (k0_off17_inb i)).toLoadRect xt0 (Shape.Idx.first (numel1_S1x1.symm ▸ Nat.one_pos))) (tbM0_0.view.readAt (Elt Ideal) (Rect.unit (s := S2x17) (k0_off18 i) S1x1.size (k0_off18_inb i)).toLoadRect xt0 (Shape.Idx.first (numel1_S1x1.symm ▸ Nat.one_pos))) (tbM0_0.view.readAt (Elt Ideal) (Rect.unit (s := S2x17) (k0_off19 i) S1x1.size (k0_off19_inb i)).toLoadRect xt0 (Shape.Idx.first (numel1_S1x1.symm ▸ Nat.one_pos))) (tbM0_0.view.readAt (Elt Ideal) (Rect.unit (s := S2x17) (k0_off20 i) S1x1.size (k0_off20_inb i)).toLoadRect xt0 (Shape.Idx.first (numel1_S1x1.symm ▸ Nat.one_pos))) (tbM0_0.view.readAt (Elt Ideal) (Rect.unit (s := S2x17) (k0_off21 i) S1x1.size (k0_off21_inb i)).toLoadRect xt0 (Shape.Idx.first (numel1_S1x1.symm ▸ Nat.one_pos))))

theorem outB8 (f : arg8.view.ty.Contents (Elt Ideal)) : arg8.view.read (Elt Ideal) (arg8.view.writes (Elt Ideal) f (valueRun_B (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 g7 xt0 x6 x7 x8 x9 xs0 xs1 xs2 g17 k0_hw1).1) = QC x0 :=
  readB8 c arg4 harg4 arg8 x0 f

theorem outB9 (f : arg9.view.ty.Contents (Elt Ideal)) : arg9.view.read (Elt Ideal) (arg9.view.writes (Elt Ideal) f (valueRun_B (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 g7 xt0 x6 x7 x8 x9 xs0 xs1 xs2 g17 k0_hw1).2.1) = QS x0 :=
  readB9 c arg4 harg4 arg9 x0 f

end

end Cert.KernelIdeal.Gen

end
-- ==== Proof.VFrame.Frame.lean ====
/- The pipeline's proof data with the attention, the codes and the scales named at every point: the queries' windows at the
   closed forms of the point's block, the keys' and the values' windows at those of the group's block. Inside a group the three
   scratches the first point fills are carried at their closed forms. The body meets the data at every point, so the run leaves
   each of the seven arrays at what its write-backs name. -/
module

public import proofs.«01_k».proof.Proof.VFrame.Body
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- Between groups: every scratch at anything, and the tables. -/
def PhiS (c : Dev nD) : sProp 𝕄 := iprop(Pipeline.ΦA spec0 c ∗ Pipeline.ΦT pre0 (tbl m) c)

/-- Inside a group, after point `t`: the three scratches at the group's keys' scales, values' codes and values' scales. -/
def PhiG (hO : Ok m) (c : Dev nD) (t : Fin (cfgM m hO).N) : sProp 𝕄 :=
  iprop(((owns (c : Thread nD τ) scM0_0 fullShare (KSB (iblk m hO c 1 t)) ∗ owns (c : Thread nD τ) scM0_1 fullShare (VT (iblk m hO c 2 t))
      ∗ owns (c : Thread nD τ) scM0_2 fullShare (VSB (iblk m hO c 2 t)) ∗ (∃ d, owns (c : Thread nD τ) scM0_3 fullShare d)) ∗ (∃ r, prngReg c r))
    ∗ tbPt0 c tbM0_0 (tbl m 0))

/-- The region invariant before point `k`. -/
def PhiK (hO : Ok m) (c : Dev nD) (k : Fin ((cfgM m hO).N + 1)) : sProp 𝕄 :=
  if h : k.val % 128 = 0 then PhiS m c
  else PhiG m hO c ⟨k.val - 1, by have := k.isLt; have : k.val ≠ 0 := fun e => h (by rw [e]); omega⟩

/-- No window is forgotten. -/
def forgets0 : Fin 10 → Bool := fun _ => false

/-- The attention's block at point `t`. -/
def attB (hO : Ok m) (c : Dev nD) (t : Fin (cfgM m hO).N) : Vec Ideal S1x128x512 .bf16 :=
  ATT ((grid0.coords t) 2).val (tword c (grid0.coords t) (tbl m 0)) (iblk m hO c 0 t) (KC (iblk m hO c 1 t)) (KSB (iblk m hO c 1 t))
    (VT (iblk m hO c 2 t)) (VSB (iblk m hO c 2 t))

def dats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => attB m hO c t
    | ⟨4, _⟩ => QC (iblk m hO c 0 t)
    | ⟨5, _⟩ => QS (iblk m hO c 0 t)
    | ⟨6, _⟩ => KC (iblk m hO c 1 t)
    | ⟨7, _⟩ => KS (iblk m hO c 1 t)
    | ⟨8, _⟩ => VC (iblk m hO c 2 t)
    | ⟨9, _⟩ => VS (iblk m hO c 2 t)
  Φ k := PhiK m hO c k
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = attB m hO c t := by dsimp only [dats]; try rfl
theorem after0_4 (hO : Ok m) (c : Dev nD) (t : Fin (cfgM m hO).N) : (dats m hO 0 c).after 4 t = QC (iblk m hO c 0 t) := by dsimp only [dats]; try rfl
theorem after0_5 (hO : Ok m) (c : Dev nD) (t : Fin (cfgM m hO).N) : (dats m hO 0 c).after 5 t = QS (iblk m hO c 0 t) := by dsimp only [dats]; try rfl
theorem after0_6 (hO : Ok m) (c : Dev nD) (t : Fin (cfgM m hO).N) : (dats m hO 0 c).after 6 t = KC (iblk m hO c 1 t) := by dsimp only [dats]; try rfl
theorem after0_7 (hO : Ok m) (c : Dev nD) (t : Fin (cfgM m hO).N) : (dats m hO 0 c).after 7 t = KS (iblk m hO c 1 t) := by dsimp only [dats]; try rfl
theorem after0_8 (hO : Ok m) (c : Dev nD) (t : Fin (cfgM m hO).N) : (dats m hO 0 c).after 8 t = VC (iblk m hO c 2 t) := by dsimp only [dats]; try rfl
theorem after0_9 (hO : Ok m) (c : Dev nD) (t : Fin (cfgM m hO).N) : (dats m hO 0 c).after 9 t = VS (iblk m hO c 2 t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The keys' and the values' blocks do not move inside a group of 128 points -/

theorem iblk_prev_1 (hO : Ok m) (c : Dev nD) (t : Fin (cfgM m hO).N) (h0 : ¬t.val % 128 = 0) :
    iblk m hO c 1 ⟨t.val - 1, Nat.lt_of_le_of_lt (Nat.sub_le _ _) t.isLt⟩ = iblk m hO c 1 t := by
  have ht : t.val ≠ 0 := fun h => h0 (by rw [h])
  have hf : ((cfgM m hO).win 1).fetch t = false := by
    rw [← Bool.not_eq_true, fetch0_1 (adm m hO) t]; exact h0
  have hd := fun d => (before0_1 m hO c t d).symm.trans ((dats m hO 0 c).before_of_pos 1 t ht hf d)
  have hfl : ((cfgM m hO).win 1).flush ⟨t.val - 1, Nat.lt_of_le_of_lt (Nat.sub_le _ _) t.isLt⟩ = false := rfl
  have h1 := hd (iblk m hO c 1 t)
  rw [hfl, if_neg Bool.false_ne_true] at h1
  exact h1.symm

theorem iblk_prev_2 (hO : Ok m) (c : Dev nD) (t : Fin (cfgM m hO).N) (h0 : ¬t.val % 128 = 0) :
    iblk m hO c 2 ⟨t.val - 1, Nat.lt_of_le_of_lt (Nat.sub_le _ _) t.isLt⟩ = iblk m hO c 2 t := by
  have ht : t.val ≠ 0 := fun h => h0 (by rw [h])
  have hf : ((cfgM m hO).win 2).fetch t = false := by
    rw [← Bool.not_eq_true, fetch0_2 (adm m hO) t]; exact h0
  have hd := fun d => (before0_2 m hO c t d).symm.trans ((dats m hO 0 c).before_of_pos 2 t ht hf d)
  have hfl : ((cfgM m hO).win 2).flush ⟨t.val - 1, Nat.lt_of_le_of_lt (Nat.sub_le _ _) t.isLt⟩ = false := rfl
  have h1 := hd (iblk m hO c 2 t)
  rw [hfl, if_neg Bool.false_ne_true] at h1
  exact h1.symm

/-! ## Entering and leaving a point -/

theorem PhiG_any (hO : Ok m) (c : Dev nD) (t : Fin (cfgM m hO).N) : PhiG m hO c t ⊢ PhiS m c := by
  unfold PhiG PhiS
  rw [PhiT0_eq, PhiA0_eq]
  iintro ⟨⟨⟨HS0, HS1, HS2, HS3⟩, Hg⟩, HT0⟩
  isplitl [HS0 HS1 HS2 HS3 Hg]
  · isplitl [HS0 HS1 HS2 HS3]
    · isplitl [HS0]; · iexists _; iexact HS0
      isplitl [HS1]; · iexists _; iexact HS1
      isplitl [HS2]; · iexists _; iexact HS2
      iexact HS3
    iexact Hg
  iexact HT0

theorem PhiK_leave (hO : Ok m) (c : Dev nD) (t : Fin (cfgM m hO).N) : PhiG m hO c t ⊢ PhiK m hO c t.succ := by
  unfold PhiK
  by_cases h : t.succ.val % 128 = 0
  · rw [dif_pos h]; exact PhiG_any m hO c t
  · rw [dif_neg h]; exact Idealize.SL.BI.Entails.refl _

theorem castSucc_val {n : ℕ} (t : Fin n) : t.castSucc.val = t.val := rfl

theorem PhiK_first (hO : Ok m) (c : Dev nD) (t : Fin (cfgM m hO).N) (h0 : t.val % 128 = 0) : PhiK m hO c t.castSucc = PhiS m c := by
  unfold PhiK
  rw [dif_pos (by rw [castSucc_val]; exact h0)]

theorem PhiG_prev (hO : Ok m) (c : Dev nD) (t : Fin (cfgM m hO).N) (h0 : ¬t.val % 128 = 0) :
    PhiG m hO c ⟨t.val - 1, Nat.lt_of_le_of_lt (Nat.sub_le _ _) t.isLt⟩ = PhiG m hO c t := by
  unfold PhiG
  rw [iblk_prev_1 m hO c t h0, iblk_prev_2 m hO c t h0]

theorem PhiK_rest (hO : Ok m) (c : Dev nD) (t : Fin (cfgM m hO).N) (h0 : ¬t.val % 128 = 0) : PhiK m hO c t.castSucc = PhiG m hO c t := by
  unfold PhiK
  rw [dif_neg (by rw [castSucc_val]; exact h0)]
  refine Eq.trans (congrArg (PhiG m hO c) (Fin.ext ?_)) (PhiG_prev m hO c t h0)
  show t.castSucc.val - 1 = t.val - 1
  rw [castSucc_val]

/-! ## What the keys' and the values' output buffers hold inside a group -/

theorem idle_iff (hO : Ok m) (w : Fin 10) (hw : 6 ≤ w.val) (t : Fin (cfgM m hO).N) :
    (cfgM m hO).idle w (grid0.coords t) = !(k0_cond1 (grid0.coords t) == 1#1) := by
  match w, hw with
  | 6, _ => rfl
  | 7, _ => rfl
  | 8, _ => rfl
  | 9, _ => rfl

theorem idle_first (hO : Ok m) (w : Fin 10) (hw : 6 ≤ w.val) (t : Fin (cfgM m hO).N) (h0 : t.val % 128 = 0) :
    (cfgM m hO).idle w (grid0.coords t) = false := by
  rw [idle_iff m hO w hw t, show (k0_cond1 (grid0.coords t) == 1#1) = true from beq_iff_eq.mpr ((hcond0_0 t).mpr h0)]; rfl

theorem idle_rest (hO : Ok m) (w : Fin 10) (hw : 6 ≤ w.val) (t : Fin (cfgM m hO).N) (h0 : ¬t.val % 128 = 0) :
    (cfgM m hO).idle w (grid0.coords t) = true := by
  rw [idle_iff m hO w hw t, show (k0_cond1 (grid0.coords t) == 1#1) = false from beq_eq_false_iff_ne.mpr fun h => h0 ((hcond0_0 t).mp h)]; rfl

theorem before0_6 (hO : Ok m) (c : Dev nD) : ∀ (n : ℕ) (t : Fin (cfgM m hO).N), t.val = n → ¬t.val % 128 = 0 → ∀ d, (dats m hO 0 c).before 6 t d = (dats m hO 0 c).after 6 t
  | 0, t, hn, h0 => absurd (by rw [hn]) h0
  | n + 1, t, hn, h0 => fun d => by
    have ht : t.val ≠ 0 := by omega
    have hp : (dats m hO 0 c).after 6 ⟨t.val - 1, Nat.lt_of_le_of_lt (Nat.sub_le _ _) t.isLt⟩ = (dats m hO 0 c).after 6 t := by
      rw [after0_6, after0_6, iblk_prev_1 m hO c t h0]
    have hf : ((cfgM m hO).win 6).fetch t = false := rfl
    have hfl : ((cfgM m hO).win 6).flush ⟨t.val - 1, Nat.lt_of_le_of_lt (Nat.sub_le _ _) t.isLt⟩ = false := by
      rw [← Bool.not_eq_true, flush0_6 (adm m hO)]; show ¬(t.val - 1) % 128 = 127; omega
    rw [(dats m hO 0 c).before_of_pos 6 t ht hf d, hfl, if_neg Bool.false_ne_true, ← hp]
    unfold Dat.left
    by_cases h1 : (t.val - 1) % 128 = 0
    · rw [show (cfgM m hO).idle 6 ((cfgM m hO).grid.coords ⟨t.val - 1, Nat.lt_of_le_of_lt (Nat.sub_le _ _) t.isLt⟩) = false from
        idle_first m hO 6 (by decide) ⟨t.val - 1, _⟩ h1]
      rfl
    · rw [show (cfgM m hO).idle 6 ((cfgM m hO).grid.coords ⟨t.val - 1, Nat.lt_of_le_of_lt (Nat.sub_le _ _) t.isLt⟩) = true from
        idle_rest m hO 6 (by decide) ⟨t.val - 1, _⟩ h1]
      exact before0_6 hO c n ⟨t.val - 1, _⟩ (by show t.val - 1 = n; omega) h1 d

theorem before0_7 (hO : Ok m) (c : Dev nD) : ∀ (n : ℕ) (t : Fin (cfgM m hO).N), t.val = n → ¬t.val % 128 = 0 → ∀ d, (dats m hO 0 c).before 7 t d = (dats m hO 0 c).after 7 t
  | 0, t, hn, h0 => absurd (by rw [hn]) h0
  | n + 1, t, hn, h0 => fun d => by
    have ht : t.val ≠ 0 := by omega
    have hp : (dats m hO 0 c).after 7 ⟨t.val - 1, Nat.lt_of_le_of_lt (Nat.sub_le _ _) t.isLt⟩ = (dats m hO 0 c).after 7 t := by
      rw [after0_7, after0_7, iblk_prev_1 m hO c t h0]
    have hf : ((cfgM m hO).win 7).fetch t = false := rfl
    have hfl : ((cfgM m hO).win 7).flush ⟨t.val - 1, Nat.lt_of_le_of_lt (Nat.sub_le _ _) t.isLt⟩ = false := by
      rw [← Bool.not_eq_true, flush0_7 (adm m hO)]; show ¬(t.val - 1) % 128 = 127; omega
    rw [(dats m hO 0 c).before_of_pos 7 t ht hf d, hfl, if_neg Bool.false_ne_true, ← hp]
    unfold Dat.left
    by_cases h1 : (t.val - 1) % 128 = 0
    · rw [show (cfgM m hO).idle 7 ((cfgM m hO).grid.coords ⟨t.val - 1, Nat.lt_of_le_of_lt (Nat.sub_le _ _) t.isLt⟩) = false from
        idle_first m hO 7 (by decide) ⟨t.val - 1, _⟩ h1]
      rfl
    · rw [show (cfgM m hO).idle 7 ((cfgM m hO).grid.coords ⟨t.val - 1, Nat.lt_of_le_of_lt (Nat.sub_le _ _) t.isLt⟩) = true from
        idle_rest m hO 7 (by decide) ⟨t.val - 1, _⟩ h1]
      exact before0_7 hO c n ⟨t.val - 1, _⟩ (by show t.val - 1 = n; omega) h1 d

theorem before0_8 (hO : Ok m) (c : Dev nD) : ∀ (n : ℕ) (t : Fin (cfgM m hO).N), t.val = n → ¬t.val % 128 = 0 → ∀ d, (dats m hO 0 c).before 8 t d = (dats m hO 0 c).after 8 t
  | 0, t, hn, h0 => absurd (by rw [hn]) h0
  | n + 1, t, hn, h0 => fun d => by
    have ht : t.val ≠ 0 := by omega
    have hp : (dats m hO 0 c).after 8 ⟨t.val - 1, Nat.lt_of_le_of_lt (Nat.sub_le _ _) t.isLt⟩ = (dats m hO 0 c).after 8 t := by
      rw [after0_8, after0_8, iblk_prev_2 m hO c t h0]
    have hf : ((cfgM m hO).win 8).fetch t = false := rfl
    have hfl : ((cfgM m hO).win 8).flush ⟨t.val - 1, Nat.lt_of_le_of_lt (Nat.sub_le _ _) t.isLt⟩ = false := by
      rw [← Bool.not_eq_true, flush0_8 (adm m hO)]; show ¬(t.val - 1) % 128 = 127; omega
    rw [(dats m hO 0 c).before_of_pos 8 t ht hf d, hfl, if_neg Bool.false_ne_true, ← hp]
    unfold Dat.left
    by_cases h1 : (t.val - 1) % 128 = 0
    · rw [show (cfgM m hO).idle 8 ((cfgM m hO).grid.coords ⟨t.val - 1, Nat.lt_of_le_of_lt (Nat.sub_le _ _) t.isLt⟩) = false from
        idle_first m hO 8 (by decide) ⟨t.val - 1, _⟩ h1]
      rfl
    · rw [show (cfgM m hO).idle 8 ((cfgM m hO).grid.coords ⟨t.val - 1, Nat.lt_of_le_of_lt (Nat.sub_le _ _) t.isLt⟩) = true from
        idle_rest m hO 8 (by decide) ⟨t.val - 1, _⟩ h1]
      exact before0_8 hO c n ⟨t.val - 1, _⟩ (by show t.val - 1 = n; omega) h1 d

theorem before0_9 (hO : Ok m) (c : Dev nD) : ∀ (n : ℕ) (t : Fin (cfgM m hO).N), t.val = n → ¬t.val % 128 = 0 → ∀ d, (dats m hO 0 c).before 9 t d = (dats m hO 0 c).after 9 t
  | 0, t, hn, h0 => absurd (by rw [hn]) h0
  | n + 1, t, hn, h0 => fun d => by
    have ht : t.val ≠ 0 := by omega
    have hp : (dats m hO 0 c).after 9 ⟨t.val - 1, Nat.lt_of_le_of_lt (Nat.sub_le _ _) t.isLt⟩ = (dats m hO 0 c).after 9 t := by
      rw [after0_9, after0_9, iblk_prev_2 m hO c t h0]
    have hf : ((cfgM m hO).win 9).fetch t = false := rfl
    have hfl : ((cfgM m hO).win 9).flush ⟨t.val - 1, Nat.lt_of_le_of_lt (Nat.sub_le _ _) t.isLt⟩ = false := by
      rw [← Bool.not_eq_true, flush0_9 (adm m hO)]; show ¬(t.val - 1) % 128 = 127; omega
    rw [(dats m hO 0 c).before_of_pos 9 t ht hf d, hfl, if_neg Bool.false_ne_true, ← hp]
    unfold Dat.left
    by_cases h1 : (t.val - 1) % 128 = 0
    · rw [show (cfgM m hO).idle 9 ((cfgM m hO).grid.coords ⟨t.val - 1, Nat.lt_of_le_of_lt (Nat.sub_le _ _) t.isLt⟩) = false from
        idle_first m hO 9 (by decide) ⟨t.val - 1, _⟩ h1]
      rfl
    · rw [show (cfgM m hO).idle 9 ((cfgM m hO).grid.coords ⟨t.val - 1, Nat.lt_of_le_of_lt (Nat.sub_le _ _) t.isLt⟩) = true from
        idle_rest m hO 9 (by decide) ⟨t.val - 1, _⟩ h1]
      exact before0_9 hO c n ⟨t.val - 1, _⟩ (by show t.val - 1 = n; omega) h1 d

/-! ## The body obligation, at a generic point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t)

theorem leaves0_0 (hO : Ok m) (c : Dev nD) (t : Fin (cfgM m hO).N) :
    (dats m hO 0 c).leavesExact 0 t = owns (c : Thread nD τ) (ms0_0 m hO t) fullShare (iblk m hO c 0 t) := by
  rw [show (dats m hO 0 c).leavesExact 0 t = owns (c : Thread nD τ) (ms0_0 m hO t) fullShare ((dats m hO 0 c).after 0 t) from by
    unfold Dat.leavesExact; rw [show (cfgM m hO).idle 0 ((cfgM m hO).grid.coords t) = false from rfl]; try rfl, after0_0]

theorem leaves0_1 (hO : Ok m) (c : Dev nD) (t : Fin (cfgM m hO).N) :
    (dats m hO 0 c).leavesExact 1 t = owns (c : Thread nD τ) (ms0_1 m hO t) fullShare (iblk m hO c 1 t) := by
  rw [show (dats m hO 0 c).leavesExact 1 t = owns (c : Thread nD τ) (ms0_1 m hO t) fullShare ((dats m hO 0 c).after 1 t) from by
    unfold Dat.leavesExact; rw [show (cfgM m hO).idle 1 ((cfgM m hO).grid.coords t) = false from rfl]; try rfl, after0_1]

theorem leaves0_2 (hO : Ok m) (c : Dev nD) (t : Fin (cfgM m hO).N) :
    (dats m hO 0 c).leavesExact 2 t = owns (c : Thread nD τ) (ms0_2 m hO t) fullShare (iblk m hO c 2 t) := by
  rw [show (dats m hO 0 c).leavesExact 2 t = owns (c : Thread nD τ) (ms0_2 m hO t) fullShare ((dats m hO 0 c).after 2 t) from by
    unfold Dat.leavesExact; rw [show (cfgM m hO).idle 2 ((cfgM m hO).grid.coords t) = false from rfl]; try rfl, after0_2]

theorem leaves0_3 (hO : Ok m) (c : Dev nD) (t : Fin (cfgM m hO).N) :
    (dats m hO 0 c).leavesExact 3 t = owns (c : Thread nD τ) (ms0_3 m hO t) fullShare (attB m hO c t) := by
  rw [show (dats m hO 0 c).leavesExact 3 t = owns (c : Thread nD τ) (ms0_3 m hO t) fullShare ((dats m hO 0 c).after 3 t) from by
    unfold Dat.leavesExact; rw [show (cfgM m hO).idle 3 ((cfgM m hO).grid.coords t) = false from rfl]; try rfl, after0_3]

theorem leaves0_4 (hO : Ok m) (c : Dev nD) (t : Fin (cfgM m hO).N) :
    (dats m hO 0 c).leavesExact 4 t = owns (c : Thread nD τ) (ms0_4 m hO t) fullShare (QC (iblk m hO c 0 t)) := by
  rw [show (dats m hO 0 c).leavesExact 4 t = owns (c : Thread nD τ) (ms0_4 m hO t) fullShare ((dats m hO 0 c).after 4 t) from by
    unfold Dat.leavesExact; rw [show (cfgM m hO).idle 4 ((cfgM m hO).grid.coords t) = false from rfl]; try rfl, after0_4]

theorem leaves0_5 (hO : Ok m) (c : Dev nD) (t : Fin (cfgM m hO).N) :
    (dats m hO 0 c).leavesExact 5 t = owns (c : Thread nD τ) (ms0_5 m hO t) fullShare (QS (iblk m hO c 0 t)) := by
  rw [show (dats m hO 0 c).leavesExact 5 t = owns (c : Thread nD τ) (ms0_5 m hO t) fullShare ((dats m hO 0 c).after 5 t) from by
    unfold Dat.leavesExact; rw [show (cfgM m hO).idle 5 ((cfgM m hO).grid.coords t) = false from rfl]; try rfl, after0_5]

theorem leavesA_6 (hO : Ok m) (c : Dev nD) (t : Fin (cfgM m hO).N) (h0 : t.val % 128 = 0) :
    (dats m hO 0 c).leavesExact 6 t = owns (c : Thread nD τ) (ms0_6 m hO t) fullShare (KC (iblk m hO c 1 t)) := by
  rw [show (dats m hO 0 c).leavesExact 6 t = owns (c : Thread nD τ) (ms0_6 m hO t) fullShare ((dats m hO 0 c).after 6 t) from by
    unfold Dat.leavesExact; rw [show (cfgM m hO).idle 6 ((cfgM m hO).grid.coords t) = false from idle_first m hO 6 (by decide) t h0]; try rfl, after0_6]

theorem leavesB_6 (hO : Ok m) (c : Dev nD) (t : Fin (cfgM m hO).N) (h0 : ¬t.val % 128 = 0) (d) :
    (owns (c : Thread nD τ) (ms0_6 m hO t) fullShare ((dats m hO 0 c).before 6 t d) : sProp 𝕄) ⊢ (dats m hO 0 c).leavesExact 6 t := by
  have hi : (cfgM m hO).idle 6 ((cfgM m hO).grid.coords t) = true := idle_rest m hO 6 (by decide) t h0
  unfold Dat.leavesExact
  rw [hi]
  cases hf : ((cfgM m hO).win 6).flush t with
  | false =>
    dsimp only
    iintro H
    iexists d
    iexact H
  | true =>
    dsimp only
    rw [before0_6 m hO c t.val t rfl h0 d]
    iintro H
    iexact H

theorem leavesA_7 (hO : Ok m) (c : Dev nD) (t : Fin (cfgM m hO).N) (h0 : t.val % 128 = 0) :
    (dats m hO 0 c).leavesExact 7 t = owns (c : Thread nD τ) (ms0_7 m hO t) fullShare (KS (iblk m hO c 1 t)) := by
  rw [show (dats m hO 0 c).leavesExact 7 t = owns (c : Thread nD τ) (ms0_7 m hO t) fullShare ((dats m hO 0 c).after 7 t) from by
    unfold Dat.leavesExact; rw [show (cfgM m hO).idle 7 ((cfgM m hO).grid.coords t) = false from idle_first m hO 7 (by decide) t h0]; try rfl, after0_7]

theorem leavesB_7 (hO : Ok m) (c : Dev nD) (t : Fin (cfgM m hO).N) (h0 : ¬t.val % 128 = 0) (d) :
    (owns (c : Thread nD τ) (ms0_7 m hO t) fullShare ((dats m hO 0 c).before 7 t d) : sProp 𝕄) ⊢ (dats m hO 0 c).leavesExact 7 t := by
  have hi : (cfgM m hO).idle 7 ((cfgM m hO).grid.coords t) = true := idle_rest m hO 7 (by decide) t h0
  unfold Dat.leavesExact
  rw [hi]
  cases hf : ((cfgM m hO).win 7).flush t with
  | false =>
    dsimp only
    iintro H
    iexists d
    iexact H
  | true =>
    dsimp only
    rw [before0_7 m hO c t.val t rfl h0 d]
    iintro H
    iexact H

theorem leavesA_8 (hO : Ok m) (c : Dev nD) (t : Fin (cfgM m hO).N) (h0 : t.val % 128 = 0) :
    (dats m hO 0 c).leavesExact 8 t = owns (c : Thread nD τ) (ms0_8 m hO t) fullShare (VC (iblk m hO c 2 t)) := by
  rw [show (dats m hO 0 c).leavesExact 8 t = owns (c : Thread nD τ) (ms0_8 m hO t) fullShare ((dats m hO 0 c).after 8 t) from by
    unfold Dat.leavesExact; rw [show (cfgM m hO).idle 8 ((cfgM m hO).grid.coords t) = false from idle_first m hO 8 (by decide) t h0]; try rfl, after0_8]

theorem leavesB_8 (hO : Ok m) (c : Dev nD) (t : Fin (cfgM m hO).N) (h0 : ¬t.val % 128 = 0) (d) :
    (owns (c : Thread nD τ) (ms0_8 m hO t) fullShare ((dats m hO 0 c).before 8 t d) : sProp 𝕄) ⊢ (dats m hO 0 c).leavesExact 8 t := by
  have hi : (cfgM m hO).idle 8 ((cfgM m hO).grid.coords t) = true := idle_rest m hO 8 (by decide) t h0
  unfold Dat.leavesExact
  rw [hi]
  cases hf : ((cfgM m hO).win 8).flush t with
  | false =>
    dsimp only
    iintro H
    iexists d
    iexact H
  | true =>
    dsimp only
    rw [before0_8 m hO c t.val t rfl h0 d]
    iintro H
    iexact H

theorem leavesA_9 (hO : Ok m) (c : Dev nD) (t : Fin (cfgM m hO).N) (h0 : t.val % 128 = 0) :
    (dats m hO 0 c).leavesExact 9 t = owns (c : Thread nD τ) (ms0_9 m hO t) fullShare (VS (iblk m hO c 2 t)) := by
  rw [show (dats m hO 0 c).leavesExact 9 t = owns (c : Thread nD τ) (ms0_9 m hO t) fullShare ((dats m hO 0 c).after 9 t) from by
    unfold Dat.leavesExact; rw [show (cfgM m hO).idle 9 ((cfgM m hO).grid.coords t) = false from idle_first m hO 9 (by decide) t h0]; try rfl, after0_9]

theorem leavesB_9 (hO : Ok m) (c : Dev nD) (t : Fin (cfgM m hO).N) (h0 : ¬t.val % 128 = 0) (d) :
    (owns (c : Thread nD τ) (ms0_9 m hO t) fullShare ((dats m hO 0 c).before 9 t d) : sProp 𝕄) ⊢ (dats m hO 0 c).leavesExact 9 t := by
  have hi : (cfgM m hO).idle 9 ((cfgM m hO).grid.coords t) = true := idle_rest m hO 9 (by decide) t h0
  unfold Dat.leavesExact
  rw [hi]
  cases hf : ((cfgM m hO).win 9).flush t with
  | false =>
    dsimp only
    iintro H
    iexists d
    iexact H
  | true =>
    dsimp only
    rw [before0_9 m hO c t.val t rfl h0 d]
    iintro H
    iexact H

/-- A buffer held at anything, spelled as its cells. -/
theorem owns_cells {c : Dev nD} {s : Shape} {e : EltTy} {M : Memref sig .tc .vmem s e} {d : Vec Ideal s e} :
    (owns (c : Thread nD τ) M fullShare d : sProp 𝕄) ⊢ iprop(∃ g, M.view.loc (c : Thread nD τ) ↦[M.view.set]{fullShare} g) := by
  unfold owns
  iintro ⟨%f, -, H⟩
  iexists f
  iexact H

theorem any_cells {c : Dev nD} {s : Shape} {e : EltTy} {M : Memref sig .tc .vmem s e} :
    (iprop(∃ d, owns (c : Thread nD τ) M fullShare d) : sProp 𝕄) ⊢ iprop(∃ g, M.view.loc (c : Thread nD τ) ↦[M.view.set]{fullShare} g) := by
  unfold owns
  iintro ⟨%d, %f, -, H⟩
  iexists f
  iexact H

set_option maxHeartbeats 9600000 in
/-- The body at any point. -/
theorem sound_body (hO : Ok m) (hH : Hyps m hO) (c : Dev nD) (t : Fin (cfgM m hO).N) :
    bodyPre m hO c t ⊢ wp frame (wpE (defs₀ (F := Ideal)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl]
  rw [show (dats m hO 0 c).Φ t.succ = PhiK m hO c t.succ from rfl, show (dats m hO 0 c).Φ t.castSucc = PhiK m hO c t.castSucc from rfl]
  rw [leaves0_0, leaves0_1, leaves0_2, leaves0_3, leaves0_4, leaves0_5]
  by_cases h0 : t.val % 128 = 0
  · rw [leavesA_6 m hO c t h0, leavesA_7 m hO c t h0, leavesA_8 m hO c t h0, leavesA_9 m hO c t h0, PhiK_first m hO c t h0]
    unfold PhiS
    rw [PhiT0_eq, PhiA0_eq]
    iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HS0 := (any_cells (c := c) (M := scM0_0)) $$ HS0
    icases HS0 with ⟨%g14, HS0⟩
    ihave HS1 := (any_cells (c := c) (M := scM0_1)) $$ HS1
    icases HS1 with ⟨%g15, HS1⟩
    ihave HS2 := (any_cells (c := c) (M := scM0_2)) $$ HS2
    icases HS2 with ⟨%g16, HS2⟩
    ihave HS3 := (any_cells (c := c) (M := scM0_3)) $$ HS3
    icases HS3 with ⟨%g17, HS3⟩
    ihave H3 := (owns_cells (c := c) (M := ms0_3 m hO t) (d := (dats m hO 0 c).before 3 t d3)) $$ H3
    icases H3 with ⟨%g7, H3⟩
    ihave H6 := (owns_cells (c := c) (M := ms0_6 m hO t) (d := (dats m hO 0 c).before 6 t d6)) $$ H6
    icases H6 with ⟨%g10, H6⟩
    iapply ((valueRun_A c (grid0.coords t) _ _ _ _ _ _ _ _ _ _ _ _ _ _ _ _ _ _ _ _ _ _ _ _ _ _ _ _ ((hcond0_0 t).mpr h0) (iblk m hO c 0 t) (iblk m hO c 1 t) (iblk m hO c 2 t) g10 g14 g15 g16 g17 g7 (tbl m 0) (Hyps.c0 hH c t)).2.2.2.2.2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HT0]; · iexact HT0
    iintro ⟨H0, H1, H2, H3, ⟨%e4, H4⟩, ⟨%e5, H5⟩, H6, ⟨%e7, H7⟩, ⟨%e8, H8⟩, ⟨%e9, H9⟩, HS0, HS1, ⟨%e16, HS2⟩, HS3, HT0⟩
    isplitl [HS0 HS1 HS2 HS3 Hg HT0]
    · iapply (PhiK_leave m hO c t)
      unfold PhiG
      isplitl [HS0 HS1 HS2 HS3 Hg]
      · isplitl [HS0 HS1 HS2 HS3]
        · isplitl [HS0]
          · unfold owns; iexists _; isplitr
            swap; · iexact HS0
            ipureintro; exact outA14 c _ _ _ _ _ _ _ _ _ _ _ _ _ _ _ _ _ _ _ _ _ _ _ _ _ _ _ _ _ _ _ _ _ _ _ _ _ _ _ _ _ _
          isplitl [HS1]
          · unfold owns; iexists _; isplitr
            swap; · iexact HS1
            ipureintro; exact outA15 c _ _ _ _ _ _ _ _ _ _ _ _ _ _ _ _ _ _ _ _ _ _ _ _ _ _ _ _ _ _ _ _ _ _ _ _ _ _ _ _ _ _
          isplitl [HS2]
          · unfold owns; iexists _; isplitr
            swap; · iexact HS2
            ipureintro; exact outA16 c _ _ _ _ _ _ _ _ _ _ _ _ _ _ _ _ _ _ _ _ _ _ _ _ _ _ _ _ _ _ _ _ _ _ _ _ _ _ _ _ _ _
          iexact HS3
        iexact Hg
      iexact HT0
    isplitl [Ho]; · iexact Ho
    isplitl [H0]
    · iexact H0
    isplitl [H1]
    · iexact H1
    isplitl [H2]
    · iexact H2
    isplitl [H3]
    · unfold owns; iexists _; isplitr
      swap; · iexact H3
      ipureintro; exact outA7 c _ _ _ _ _ _ _ _ _ _ _ _ _ _ _ _ _ _ _ _ _ _ _ _ _ _ _ _ _ _ _ _ _ _ _ _ _ _ _ _ _
    isplitl [H4]
    · unfold owns; iexists _; isplitr
      swap; · iexact H4
      ipureintro; exact outA8 c _ _ _ _ _ _ _ _ _ _ _ _ _ _ _ _ _ _ _ _ _ _ _ _ _ _ _ _ _ _ _ _ _ _ _ _ _ _ _ _ _ _
    isplitl [H5]
    · unfold owns; iexists _; isplitr
      swap; · iexact H5
      ipureintro; exact outA9 c _ _ _ _ _ _ _ _ _ _ _ _ _ _ _ _ _ _ _ _ _ _ _ _ _ _ _ _ _ _ _ _ _ _ _ _ _ _ _ _ _ _
    isplitl [H6]
    · unfold owns; iexists _; isplitr
      swap; · iexact H6
      ipureintro; exact outA10 c _ _ _ _ _ _ _ _ _ _ _ _ _ _ _ _ _ _ _ _ _ _ _ _ _ _ _ _ _ _ _ _ _ _ _ _ _ _ _ _ _ _
    isplitl [H7]
    · unfold owns; iexists _; isplitr
      swap; · iexact H7
      ipureintro; exact outA11 c _ _ _ _ _ _ _ _ _ _ _ _ _ _ _ _ _ _ _ _ _ _ _ _ _ _ _ _ _ _ _ _ _ _ _ _ _ _ _ _ _ _
    isplitl [H8]
    · unfold owns; iexists _; isplitr
      swap; · iexact H8
      ipureintro; exact outA12 c _ _ _ _ _ _ _ _ _ _ _ _ _ _ _ _ _ _ _ _ _ _ _ _ _ _ _ _ _ _ _ _ _ _ _ _ _ _ _ _ _ _
    unfold owns; iexists _; isplitr
    swap; · iexact H9
    ipureintro; exact outA13 c _ _ _ _ _ _ _ _ _ _ _ _ _ _ _ _ _ _ _ _ _ _ _ _ _ _ _ _ _ _ _ _ _ _ _ _ _ _ _ _ _ _
  · rw [PhiK_rest m hO c t h0]
    unfold PhiG
    iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have h6 := leavesB_6 m hO c t h0 d6
    rw [before0_6 m hO c t.val t rfl h0 d6, after0_6] at h6
    rw [before0_6 m hO c t.val t rfl h0 d6, after0_6]
    ihave HS3 := (any_cells (c := c) (M := scM0_3)) $$ HS3
    icases HS3 with ⟨%g17, HS3⟩
    ihave H3 := (owns_cells (c := c) (M := ms0_3 m hO t) (d := (dats m hO 0 c).before 3 t d3)) $$ H3
    icases H3 with ⟨%g7, H3⟩
    iapply ((valueRun_B c (grid0.coords t) _ _ _ _ _ _ _ _ _ _ _ _ _ _ _ _ _ _ _ _ _ _ _ _ _ _ _ _ (fun h => h0 ((hcond0_0 t).mp h)) (iblk m hO c 0 t) (iblk m hO c 1 t) (iblk m hO c 2 t) g7 (tbl m 0) (KC (iblk m hO c 1 t)) ((dats m hO 0 c).before 7 t d7) ((dats m hO 0 c).before 8 t d8) ((dats m hO 0 c).before 9 t d9) (KSB (iblk m hO c 1 t)) (VT (iblk m hO c 2 t)) (VSB (iblk m hO c 2 t)) g17 (Hyps.c0 hH c t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HT0]; · iexact HT0
    iintro ⟨H0, H1, H2, H3, ⟨%e4, H4⟩, ⟨%e5, H5⟩, H6, H7, H8, H9, HS0, HS1, HS2, HS3, HT0⟩
    isplitl [HS0 HS1 HS2 HS3 Hg HT0]
    · iapply (PhiK_leave m hO c t)
      unfold PhiG
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      iexact HT0
    isplitl [Ho]; · iexact Ho
    isplitl [H0]
    · iexact H0
    isplitl [H1]
    · iexact H1
    isplitl [H2]
    · iexact H2
    isplitl [H3]
    · unfold owns; iexists _; isplitr
      swap; · iexact H3
      ipureintro; exact outB7 c _ _ _ _ _ _ _ _ _ _ _ _ _ _ _ _ _ _ _ _ _ _ _ _ _ _ _ _ _ _ _ _ _ _ _ _ _ _ _ _ _ _ _ _
    isplitl [H4]
    · unfold owns; iexists _; isplitr
      swap; · iexact H4
      ipureintro; exact outB8 c _ _ _ _ _ _ _ _ _ _ _ _ _ _ _ _ _ _ _ _ _ _ _ _ _ _ _ _ _ _ _ _ _ _ _ _ _ _ _ _ _ _ _ _ _
    isplitl [H5]
    · unfold owns; iexists _; isplitr
      swap; · iexact H5
      ipureintro; exact outB9 c _ _ _ _ _ _ _ _ _ _ _ _ _ _ _ _ _ _ _ _ _ _ _ _ _ _ _ _ _ _ _ _ _ _ _ _ _ _ _ _ _ _ _ _ _
    isplitl [H6]
    · iapply h6; iexact H6
    isplitl [H7]
    · iapply (leavesB_7 m hO c t h0 d7); iexact H7
    isplitl [H8]
    · iapply (leavesB_8 m hO c t h0 d8); iexact H8
    iapply (leavesB_9 m hO c t h0 d9); iexact H9

theorem body_obligation (hO : Ok m) (hH : Hyps m hO) (c : Dev nD) : BodyObligation (dats m hO 0 c) (defs₀ (F := Ideal)) Variants.none () Set.univ forgets0 := fun t => by
  rw [bigSep_W0, bigSep_W0, show defs₀ (F := Ideal) .tc (cfgM m hO).body ((cfgM m hO).bodyArgs t ((cfgM m hO).slots t)) = bodyAt0 (adm m hO) t from by
    unfold defs₀; rw [Defs.onTc_tc]]
  exact triple_restated (sound_body m hO hH c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiK m hO c 0 from rfl]
  unfold PhiK
  rw [dif_pos (show (0 : Fin ((cfgM m hO).N + 1)).val % 128 = 0 from rfl)]
  exact Idealize.SL.BI.Entails.refl _

theorem hout (hO : Ok m) (c : Dev nD) : (dats m hO 0 c).Φ (Fin.last (cfgM m hO).N) ⊢ Pipeline.ΦA spec0 c := by
  rw [show (dats m hO 0 c).Φ (Fin.last (cfgM m hO).N) = PhiK m hO c (Fin.last (cfgM m hO).N) from rfl]
  unfold PhiK
  rw [dif_pos (show (Fin.last (cfgM m hO).N).val % 128 = 0 from by
    rw [Fin.val_last, show (cfgM m hO).N = 2048 from N_0])]
  unfold PhiS
  iintro ⟨H, -⟩
  iexact H

set_option backward.isDefEq.respectTransparency.types false in
/-- The run: every final state holds each array at what the proof data names. -/
theorem run_main_quiescent (hO : Ok m) (hH : Hyps m hO) : θ_run defs (onTc (τ := τ) (main (F := Ideal))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO hH c).loose) (hshare := fun c => (dats m hO 0 c).share_full fun _ => rfl)
    (howed := fun _ _ => rfl) (V := V m) (hmain := hmain m Variants.none) (hA := A_eq m hO) (hpf := V_pre m) (hin := hin m hO) (hout := hout m hO)

theorem run_main (hO : Ok m) (hH : Hyps m hO) : θ_run defs (onTc (τ := τ) (main (F := Ideal))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO hH)

/-- What a final state of the run holds in an array not forgotten. -/
theorem arr_of (hO : Ok m) {r : PUnit × MemSt nD τ sig (Elt Ideal)}
    (h : Pipeline.RDat.FramePost ((Pipeline.pin pcfgs fun _ => adm m hO) 0) (fun c => (dats m hO 0 c).toRForget forgets0) (V m) r)
    (c : Dev nD) (w : Fin (cfgM m hO).W) (hw : forgets0 w = false) :
    r.2.mem ((c.tc : Thread nD τ).loc (Pipeline.arrRef spec0 w)) = (dats m hO 0 c).arrAt w (cfgM m hO).N :=
  ((dats m hO 0 c).toRForget_arrAt_iff hw _ _).mp ((h c).1 w)

/-- The same, each of the seven arrays at what its write-backs leave. -/
theorem run_blocks (hO : Ok m) (hH : Hyps m hO) : θ_run defs (onTc (τ := τ) (main (F := Ideal))) ⟨m, fun _ => 0, ρ⟩ fun r => ∀ c : Dev nD,
      r.2.mem ((c.tc : Thread nD τ).loc main_v0_0) = (dats m hO 0 c).arrAt 3 (cfgM m hO).N
      ∧ r.2.mem ((c.tc : Thread nD τ).loc main_v0_1) = (dats m hO 0 c).arrAt 4 (cfgM m hO).N
      ∧ r.2.mem ((c.tc : Thread nD τ).loc main_v0_2) = (dats m hO 0 c).arrAt 5 (cfgM m hO).N
      ∧ r.2.mem ((c.tc : Thread nD τ).loc main_v0_3) = (dats m hO 0 c).arrAt 6 (cfgM m hO).N
      ∧ r.2.mem ((c.tc : Thread nD τ).loc main_v0_4) = (dats m hO 0 c).arrAt 7 (cfgM m hO).N
      ∧ r.2.mem ((c.tc : Thread nD τ).loc main_v0_5) = (dats m hO 0 c).arrAt 8 (cfgM m hO).N
      ∧ r.2.mem ((c.tc : Thread nD τ).loc main_v0_6) = (dats m hO 0 c).arrAt 9 (cfgM m hO).N :=
  (θ_run defs _ _).mono (fun r h c => ⟨arr_of m hO h c 3 rfl,
      arr_of m hO h c 4 rfl,
      arr_of m hO h c 5 rfl,
      arr_of m hO h c 6 rfl,
      arr_of m hO h c 7 rfl,
      arr_of m hO h c 8 rfl,
      arr_of m hO h c 9 rfl⟩) (run_main m ρ hO hH)

theorem unchanged (hO : Ok m) (hH : Hyps m hO) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO 0 c).toRForget forgets0) (A_eq m hO) (run_main m ρ hO hH)

end Cert.KernelIdeal.Val

end
-- ==== Proof.VFrame.Spec.lean ====
/- The six arrays as functions of the arguments, index by index, over any way `s` of going from a row's (or a column's) largest
   magnitude, divided by 448, to the factor the codes are scaled by or to the scale stored. -/
module

public import proofs.«01_k».proof.Proof.VFrame.Trips

@[expose] public section

set_option maxRecDepth 16384

noncomputable section

namespace Cert.Spec

open Idealize.ShloMosaic Idealize.ShloMosaic.TcCoe Idealize.ShloMosaic.Tactic
open Cert.KernelIdeal.Gen (kcode c448)

/-- The queries' array, and the keys' and the values'. -/
abbrev AQ := Vec Ideal ⟨3, ![2, 16384, 4096]⟩ .bf16
abbrev AK := Vec Ideal ⟨3, ![2, 16384, 1024]⟩ .bf16

/-- The largest magnitude of one head of one row of the queries. -/
def rowQ (x : AQ) (b : Fin 2) (r : Fin 16384) (h : Fin 32) : EReal :=
  Finset.univ.fold max (Ideal.ofBits .f32 0xFF800000#32) fun l : Fin 128 =>
    FloatOps.absf (F := Ideal) (φ := .f32) (x (ix3 b r ⟨128 * h.val + l.val, by omega⟩))

/-- The largest magnitude of one head of one row of the keys. -/
def rowK (x : AK) (b : Fin 2) (r : Fin 16384) (h : Fin 8) : EReal :=
  Finset.univ.fold max (Ideal.ofBits .f32 0xFF800000#32) fun l : Fin 128 =>
    FloatOps.absf (F := Ideal) (φ := .f32) (x (ix3 b r ⟨128 * h.val + l.val, by omega⟩))

/-- The largest magnitude of one column of the values. -/
def colV (x : AK) (b : Fin 2) (l : Fin 1024) : EReal :=
  Finset.univ.fold max (Ideal.ofBits .f32 0xFF800000#32) fun r : Fin 16384 =>
    FloatOps.absf (F := Ideal) (φ := .f32) (x (ix3 b r l))

variable (s : EReal → EReal)

def codesQ (x : AQ) : Vec Ideal ⟨3, ![2, 16384, 4096]⟩ .fp8e4m3 := fun y =>
  kcode (x y) (s (rowQ x (y 0) (y 1) ⟨(y 2).val / 128, by have h : (y 2).val < 4096 := (y 2).isLt; omega⟩ * c448))

def scalesQ (x : AQ) : Vec Ideal ⟨4, ![2, 8, 4, 16384]⟩ .f32 := fun y =>
  s (rowQ x (y 0) (y 3) ⟨4 * (y 1).val + (y 2).val, by have h : (y 1).val < 8 := (y 1).isLt; have h : (y 2).val < 4 := (y 2).isLt; omega⟩ * c448)

def codesK (x : AK) : Vec Ideal ⟨3, ![2, 16384, 1024]⟩ .fp8e4m3 := fun y =>
  kcode (x y) (s (rowK x (y 0) (y 1) ⟨(y 2).val / 128, by have h : (y 2).val < 1024 := (y 2).isLt; omega⟩ * c448))

def scalesK (x : AK) : Vec Ideal ⟨4, ![2, 8, 128, 128]⟩ .f32 := fun y =>
  s (rowK x (y 0) ⟨128 * (y 2).val + (y 3).val, by have h : (y 2).val < 128 := (y 2).isLt; have h : (y 3).val < 128 := (y 3).isLt; omega⟩ (y 1) * c448)

def codesV (x : AK) : Vec Ideal ⟨3, ![2, 16384, 1024]⟩ .fp8e4m3 := fun y =>
  kcode (x y) (s (colV x (y 0) (y 2) * c448))

def scalesV (x : AK) : Vec Ideal ⟨4, ![2, 8, 1, 128]⟩ .f32 := fun y =>
  s (colV x (y 0) ⟨128 * (y 1).val + (y 3).val, by have h : (y 1).val < 8 := (y 1).isLt; have h : (y 3).val < 128 := (y 3).isLt; omega⟩ * c448)

end Cert.Spec

end
-- ==== Proof.VFrame.Final.lean ====
/- What the six arrays hold after the run: each write-back is the block, at its place, of one function of the arguments, and the
   write-backs cover the array. -/
module

public import proofs.«01_k».proof.Proof.VFrame.Frame
public import proofs.«01_k».proof.Proof.VFrame.Spec
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic
open Idealize.SL.Sem Cert.Scale Cert.Spec
open Idealize.ShloMosaic.Pipeline (Dat Cfg Window)
open Cert.KernelIdeal Cert.KernelIdeal.Gen

variable (m : (ℓ : Loc nD τ sig) → Buf (Elt Ideal) ℓ)

/-! ## A point's coordinates, and the block each window's map names there -/

theorem tlt (t : Fin grid0.N) : t.val < 2048 := t.isLt

def tb (t : Fin grid0.N) : Fin 2 := ⟨t.val / 1024, by have := tlt t; omega⟩
def th (t : Fin grid0.N) : Fin 8 := ⟨t.val / 128 % 8, by omega⟩
def ti (t : Fin grid0.N) : Fin 128 := ⟨t.val % 128, by omega⟩

theorem map_0 : ∀ t : Fin grid0.N, cc0_transform_0 (grid0.coords t) = ![(tb t).val, (ti t).val, (th t).val] := by decide +kernel
theorem map_4 : ∀ t : Fin grid0.N, cc0_transform_4 (grid0.coords t) = ![(tb t).val, (ti t).val, (th t).val] := by decide +kernel
theorem map_1 : ∀ t : Fin grid0.N, cc0_transform_1 (grid0.coords t) = ![(tb t).val, 0, (th t).val] := by decide +kernel
theorem map_2 : ∀ t : Fin grid0.N, cc0_transform_2 (grid0.coords t) = ![(tb t).val, 0, (th t).val] := by decide +kernel
theorem map_6 : ∀ t : Fin grid0.N, cc0_transform_6 (grid0.coords t) = ![(tb t).val, 0, (th t).val] := by decide +kernel
theorem map_8 : ∀ t : Fin grid0.N, cc0_transform_8 (grid0.coords t) = ![(tb t).val, 0, (th t).val] := by decide +kernel
theorem map_5 : ∀ t : Fin grid0.N, cc0_transform_5 (grid0.coords t) = ![(tb t).val, (th t).val, 0, (ti t).val] := by decide +kernel
theorem map_7 : ∀ t : Fin grid0.N, cc0_transform_7 (grid0.coords t) = ![(tb t).val, (th t).val, 0, 0] := by decide +kernel
theorem map_9 : ∀ t : Fin grid0.N, cc0_transform_9 (grid0.coords t) = ![(tb t).val, (th t).val, 0, 0] := by decide +kernel

/-! ## Where a block places its indices -/

theorem emb_0 (hO : Ok m) (t : Fin grid0.N) (y : S1x128x512.Idx) :
    ((((cfgM m hO).win 0).blk t).view.emb y : S2x16384x4096.Idx) = ix3 (tb t) ⟨128 * (ti t).val + (y 1).val, by have h : (y 1).val < 128 := (y 1).isLt; omega⟩ ⟨512 * (th t).val + (y 2).val, by have h : (y 2).val < 512 := (y 2).isLt; omega⟩ := by
  have hm := map_0 t
  have h0 : (y 0).val < 1 := (y 0).isLt
  funext a; apply Fin.ext
  match a with
  | ⟨0, _⟩ =>
    show cc0_transform_0 (grid0.coords t) 0 * 1 + 1 * (y 0).val = _
    rw [hm]
    show (tb t).val * 1 + 1 * (y 0).val = (tb t).val
    omega
  | ⟨1, _⟩ =>
    show cc0_transform_0 (grid0.coords t) 1 * 128 + 1 * (y 1).val = _
    rw [hm]
    show (ti t).val * 128 + 1 * (y 1).val = 128 * (ti t).val + (y 1).val
    omega
  | ⟨2, _⟩ =>
    show cc0_transform_0 (grid0.coords t) 2 * 512 + 1 * (y 2).val = _
    rw [hm]
    show (th t).val * 512 + 1 * (y 2).val = 512 * (th t).val + (y 2).val
    omega

theorem emb_1 (hO : Ok m) (t : Fin grid0.N) (y : S1x16384x128.Idx) :
    ((((cfgM m hO).win 1).blk t).view.emb y : S2x16384x1024.Idx) = ix3 (tb t) ⟨(y 1).val, (y 1).isLt⟩ ⟨128 * (th t).val + (y 2).val, by have h : (y 2).val < 128 := (y 2).isLt; omega⟩ := by
  have hm := map_1 t
  have h0 : (y 0).val < 1 := (y 0).isLt
  funext a; apply Fin.ext
  match a with
  | ⟨0, _⟩ =>
    show cc0_transform_1 (grid0.coords t) 0 * 1 + 1 * (y 0).val = _
    rw [hm]
    show (tb t).val * 1 + 1 * (y 0).val = (tb t).val
    omega
  | ⟨1, _⟩ =>
    show cc0_transform_1 (grid0.coords t) 1 * 16384 + 1 * (y 1).val = _
    rw [hm]
    show 0 * 16384 + 1 * (y 1).val = (y 1).val
    omega
  | ⟨2, _⟩ =>
    show cc0_transform_1 (grid0.coords t) 2 * 128 + 1 * (y 2).val = _
    rw [hm]
    show (th t).val * 128 + 1 * (y 2).val = 128 * (th t).val + (y 2).val
    omega

theorem emb_2 (hO : Ok m) (t : Fin grid0.N) (y : S1x16384x128.Idx) :
    ((((cfgM m hO).win 2).blk t).view.emb y : S2x16384x1024.Idx) = ix3 (tb t) ⟨(y 1).val, (y 1).isLt⟩ ⟨128 * (th t).val + (y 2).val, by have h : (y 2).val < 128 := (y 2).isLt; omega⟩ := by
  have hm := map_2 t
  have h0 : (y 0).val < 1 := (y 0).isLt
  funext a; apply Fin.ext
  match a with
  | ⟨0, _⟩ =>
    show cc0_transform_2 (grid0.coords t) 0 * 1 + 1 * (y 0).val = _
    rw [hm]
    show (tb t).val * 1 + 1 * (y 0).val = (tb t).val
    omega
  | ⟨1, _⟩ =>
    show cc0_transform_2 (grid0.coords t) 1 * 16384 + 1 * (y 1).val = _
    rw [hm]
    show 0 * 16384 + 1 * (y 1).val = (y 1).val
    omega
  | ⟨2, _⟩ =>
    show cc0_transform_2 (grid0.coords t) 2 * 128 + 1 * (y 2).val = _
    rw [hm]
    show (th t).val * 128 + 1 * (y 2).val = 128 * (th t).val + (y 2).val
    omega

theorem emb_4 (hO : Ok m) (t : Fin grid0.N) (y : S1x128x512.Idx) :
    ((((cfgM m hO).win 4).blk t).view.emb y : S2x16384x4096.Idx) = ix3 (tb t) ⟨128 * (ti t).val + (y 1).val, by have h : (y 1).val < 128 := (y 1).isLt; omega⟩ ⟨512 * (th t).val + (y 2).val, by have h : (y 2).val < 512 := (y 2).isLt; omega⟩ := by
  have hm := map_4 t
  have h0 : (y 0).val < 1 := (y 0).isLt
  funext a; apply Fin.ext
  match a with
  | ⟨0, _⟩ =>
    show cc0_transform_4 (grid0.coords t) 0 * 1 + 1 * (y 0).val = _
    rw [hm]
    show (tb t).val * 1 + 1 * (y 0).val = (tb t).val
    omega
  | ⟨1, _⟩ =>
    show cc0_transform_4 (grid0.coords t) 1 * 128 + 1 * (y 1).val = _
    rw [hm]
    show (ti t).val * 128 + 1 * (y 1).val = 128 * (ti t).val + (y 1).val
    omega
  | ⟨2, _⟩ =>
    show cc0_transform_4 (grid0.coords t) 2 * 512 + 1 * (y 2).val = _
    rw [hm]
    show (th t).val * 512 + 1 * (y 2).val = 512 * (th t).val + (y 2).val
    omega

theorem emb_5 (hO : Ok m) (t : Fin grid0.N) (y : S1x1x4x128.Idx) :
    ((((cfgM m hO).win 5).blk t).view.emb y : S2x8x4x16384.Idx) = ix4 (tb t) (th t) ⟨(y 2).val, (y 2).isLt⟩ ⟨128 * (ti t).val + (y 3).val, by have h : (y 3).val < 128 := (y 3).isLt; omega⟩ := by
  have hm := map_5 t
  have h0 : (y 0).val < 1 := (y 0).isLt
  have h1 : (y 1).val < 1 := (y 1).isLt
  funext a; apply Fin.ext
  match a with
  | ⟨0, _⟩ =>
    show cc0_transform_5 (grid0.coords t) 0 * 1 + 1 * (y 0).val = _
    rw [hm]
    show (tb t).val * 1 + 1 * (y 0).val = (tb t).val
    omega
  | ⟨1, _⟩ =>
    show cc0_transform_5 (grid0.coords t) 1 * 1 + 1 * (y 1).val = _
    rw [hm]
    show (th t).val * 1 + 1 * (y 1).val = (th t).val
    omega
  | ⟨2, _⟩ =>
    show cc0_transform_5 (grid0.coords t) 2 * 4 + 1 * (y 2).val = _
    rw [hm]
    show 0 * 4 + 1 * (y 2).val = (y 2).val
    omega
  | ⟨3, _⟩ =>
    show cc0_transform_5 (grid0.coords t) 3 * 128 + 1 * (y 3).val = _
    rw [hm]
    show (ti t).val * 128 + 1 * (y 3).val = 128 * (ti t).val + (y 3).val
    omega

theorem emb_6 (hO : Ok m) (t : Fin grid0.N) (y : S1x16384x128.Idx) :
    ((((cfgM m hO).win 6).blk t).view.emb y : S2x16384x1024.Idx) = ix3 (tb t) ⟨(y 1).val, (y 1).isLt⟩ ⟨128 * (th t).val + (y 2).val, by have h : (y 2).val < 128 := (y 2).isLt; omega⟩ := by
  have hm := map_6 t
  have h0 : (y 0).val < 1 := (y 0).isLt
  funext a; apply Fin.ext
  match a with
  | ⟨0, _⟩ =>
    show cc0_transform_6 (grid0.coords t) 0 * 1 + 1 * (y 0).val = _
    rw [hm]
    show (tb t).val * 1 + 1 * (y 0).val = (tb t).val
    omega
  | ⟨1, _⟩ =>
    show cc0_transform_6 (grid0.coords t) 1 * 16384 + 1 * (y 1).val = _
    rw [hm]
    show 0 * 16384 + 1 * (y 1).val = (y 1).val
    omega
  | ⟨2, _⟩ =>
    show cc0_transform_6 (grid0.coords t) 2 * 128 + 1 * (y 2).val = _
    rw [hm]
    show (th t).val * 128 + 1 * (y 2).val = 128 * (th t).val + (y 2).val
    omega

theorem emb_7 (hO : Ok m) (t : Fin grid0.N) (y : S1x1x128x128.Idx) :
    ((((cfgM m hO).win 7).blk t).view.emb y : S2x8x128x128.Idx) = ix4 (tb t) (th t) ⟨(y 2).val, (y 2).isLt⟩ ⟨(y 3).val, (y 3).isLt⟩ := by
  have hm := map_7 t
  have h0 : (y 0).val < 1 := (y 0).isLt
  have h1 : (y 1).val < 1 := (y 1).isLt
  funext a; apply Fin.ext
  match a with
  | ⟨0, _⟩ =>
    show cc0_transform_7 (grid0.coords t) 0 * 1 + 1 * (y 0).val = _
    rw [hm]
    show (tb t).val * 1 + 1 * (y 0).val = (tb t).val
    omega
  | ⟨1, _⟩ =>
    show cc0_transform_7 (grid0.coords t) 1 * 1 + 1 * (y 1).val = _
    rw [hm]
    show (th t).val * 1 + 1 * (y 1).val = (th t).val
    omega
  | ⟨2, _⟩ =>
    show cc0_transform_7 (grid0.coords t) 2 * 128 + 1 * (y 2).val = _
    rw [hm]
    show 0 * 128 + 1 * (y 2).val = (y 2).val
    omega
  | ⟨3, _⟩ =>
    show cc0_transform_7 (grid0.coords t) 3 * 128 + 1 * (y 3).val = _
    rw [hm]
    show 0 * 128 + 1 * (y 3).val = (y 3).val
    omega

theorem emb_8 (hO : Ok m) (t : Fin grid0.N) (y : S1x16384x128.Idx) :
    ((((cfgM m hO).win 8).blk t).view.emb y : S2x16384x1024.Idx) = ix3 (tb t) ⟨(y 1).val, (y 1).isLt⟩ ⟨128 * (th t).val + (y 2).val, by have h : (y 2).val < 128 := (y 2).isLt; omega⟩ := by
  have hm := map_8 t
  have h0 : (y 0).val < 1 := (y 0).isLt
  funext a; apply Fin.ext
  match a with
  | ⟨0, _⟩ =>
    show cc0_transform_8 (grid0.coords t) 0 * 1 + 1 * (y 0).val = _
    rw [hm]
    show (tb t).val * 1 + 1 * (y 0).val = (tb t).val
    omega
  | ⟨1, _⟩ =>
    show cc0_transform_8 (grid0.coords t) 1 * 16384 + 1 * (y 1).val = _
    rw [hm]
    show 0 * 16384 + 1 * (y 1).val = (y 1).val
    omega
  | ⟨2, _⟩ =>
    show cc0_transform_8 (grid0.coords t) 2 * 128 + 1 * (y 2).val = _
    rw [hm]
    show (th t).val * 128 + 1 * (y 2).val = 128 * (th t).val + (y 2).val
    omega

theorem emb_9 (hO : Ok m) (t : Fin grid0.N) (y : S1x1x1x128.Idx) :
    ((((cfgM m hO).win 9).blk t).view.emb y : S2x8x1x128.Idx) = ix4 (tb t) (th t) ⟨(y 2).val, (y 2).isLt⟩ ⟨(y 3).val, (y 3).isLt⟩ := by
  have hm := map_9 t
  have h0 : (y 0).val < 1 := (y 0).isLt
  have h1 : (y 1).val < 1 := (y 1).isLt
  have h2 : (y 2).val < 1 := (y 2).isLt
  funext a; apply Fin.ext
  match a with
  | ⟨0, _⟩ =>
    show cc0_transform_9 (grid0.coords t) 0 * 1 + 1 * (y 0).val = _
    rw [hm]
    show (tb t).val * 1 + 1 * (y 0).val = (tb t).val
    omega
  | ⟨1, _⟩ =>
    show cc0_transform_9 (grid0.coords t) 1 * 1 + 1 * (y 1).val = _
    rw [hm]
    show (th t).val * 1 + 1 * (y 1).val = (th t).val
    omega
  | ⟨2, _⟩ =>
    show cc0_transform_9 (grid0.coords t) 2 * 1 + 1 * (y 2).val = _
    rw [hm]
    show 0 * 1 + 1 * (y 2).val = (y 2).val
    omega
  | ⟨3, _⟩ =>
    show cc0_transform_9 (grid0.coords t) 3 * 128 + 1 * (y 3).val = _
    rw [hm]
    show 0 * 128 + 1 * (y 3).val = (y 3).val
    omega

/-! ## The write-backs cover the arrays -/

theorem mem_of_emb {sig' : RefSig} {κ : Kind} {sp : Space} {s : Shape} {e : EltTy} {v : View sig' κ sp s e} {y : s.Idx} {i : v.ty.Idx} (h : v.emb y = i) : i ∈ v.set :=
  h ▸ v.emb_mem_set y

theorem cover_4 (hO : Ok m) (i : S2x16384x4096.Idx) : ∃ t : Fin (cfgM m hO).N, ((cfgM m hO).win 4).flush t = true ∧ i ∈ (((cfgM m hO).win 4).blk t).view.set := by
  have h0 : (i 0).val < 2 := (i 0).isLt
  have h1 : (i 1).val < 16384 := (i 1).isLt
  have h2 : (i 2).val < 4096 := (i 2).isLt
  have ht : (i 0).val * 1024 + (i 2).val / 512 * 128 + (i 1).val / 128 < grid0.N := by show _ < 2048; omega
  refine ⟨⟨(i 0).val * 1024 + (i 2).val / 512 * 128 + (i 1).val / 128, ht⟩, flush0_4 (adm m hO) _, ?_⟩
  have e := emb_4 m hO ⟨(i 0).val * 1024 + (i 2).val / 512 * 128 + (i 1).val / 128, ht⟩ (ix3 0 ⟨(i 1).val % 128, by omega⟩ ⟨(i 2).val % 512, by omega⟩)
  have e' : ((((cfgM m hO).win 4).blk (⟨(i 0).val * 1024 + (i 2).val / 512 * 128 + (i 1).val / 128, ht⟩ : Fin grid0.N)).view.emb (ix3 0 ⟨(i 1).val % 128, by omega⟩ ⟨(i 2).val % 512, by omega⟩) : S2x16384x4096.Idx) = i := by
    refine e.trans ?_
    funext a; apply Fin.ext
    match a with
    | ⟨0, _⟩ => show ((i 0).val * 1024 + (i 2).val / 512 * 128 + (i 1).val / 128) / 1024 = (i 0).val; omega
    | ⟨1, _⟩ => show 128 * (((i 0).val * 1024 + (i 2).val / 512 * 128 + (i 1).val / 128) % 128) + (i 1).val % 128 = (i 1).val; omega
    | ⟨2, _⟩ => show 512 * (((i 0).val * 1024 + (i 2).val / 512 * 128 + (i 1).val / 128) / 128 % 8) + (i 2).val % 512 = (i 2).val; omega
  exact mem_of_emb e'

theorem cover_5 (hO : Ok m) (i : S2x8x4x16384.Idx) : ∃ t : Fin (cfgM m hO).N, ((cfgM m hO).win 5).flush t = true ∧ i ∈ (((cfgM m hO).win 5).blk t).view.set := by
  have h0 : (i 0).val < 2 := (i 0).isLt
  have h1 : (i 1).val < 8 := (i 1).isLt
  have h2 : (i 2).val < 4 := (i 2).isLt
  have h3 : (i 3).val < 16384 := (i 3).isLt
  have ht : (i 0).val * 1024 + (i 1).val * 128 + (i 3).val / 128 < grid0.N := by show _ < 2048; omega
  refine ⟨⟨(i 0).val * 1024 + (i 1).val * 128 + (i 3).val / 128, ht⟩, flush0_5 (adm m hO) _, ?_⟩
  have e := emb_5 m hO ⟨(i 0).val * 1024 + (i 1).val * 128 + (i 3).val / 128, ht⟩ (ix4 0 0 (i 2) ⟨(i 3).val % 128, by omega⟩)
  have e' : ((((cfgM m hO).win 5).blk (⟨(i 0).val * 1024 + (i 1).val * 128 + (i 3).val / 128, ht⟩ : Fin grid0.N)).view.emb (ix4 0 0 (i 2) ⟨(i 3).val % 128, by omega⟩) : S2x8x4x16384.Idx) = i := by
    refine e.trans ?_
    funext a; apply Fin.ext
    match a with
    | ⟨0, _⟩ => show ((i 0).val * 1024 + (i 1).val * 128 + (i 3).val / 128) / 1024 = (i 0).val; omega
    | ⟨1, _⟩ => show ((i 0).val * 1024 + (i 1).val * 128 + (i 3).val / 128) / 128 % 8 = (i 1).val; omega
    | ⟨2, _⟩ => show (i 2).val = (i 2).val; omega
    | ⟨3, _⟩ => show 128 * (((i 0).val * 1024 + (i 1).val * 128 + (i 3).val / 128) % 128) + (i 3).val % 128 = (i 3).val; omega
  exact mem_of_emb e'

theorem cover_6 (hO : Ok m) (i : S2x16384x1024.Idx) : ∃ t : Fin (cfgM m hO).N, ((cfgM m hO).win 6).flush t = true ∧ i ∈ (((cfgM m hO).win 6).blk t).view.set := by
  have h0 : (i 0).val < 2 := (i 0).isLt
  have h1 : (i 1).val < 16384 := (i 1).isLt
  have h2 : (i 2).val < 1024 := (i 2).isLt
  have ht : (i 0).val * 1024 + (i 2).val / 128 * 128 + 127 < grid0.N := by show _ < 2048; omega
  refine ⟨⟨(i 0).val * 1024 + (i 2).val / 128 * 128 + 127, ht⟩, (flush0_6 (adm m hO) _).mpr (by show ((i 0).val * 1024 + (i 2).val / 128 * 128 + 127) % 128 = 127; omega), ?_⟩
  have e := emb_6 m hO ⟨(i 0).val * 1024 + (i 2).val / 128 * 128 + 127, ht⟩ (ix3 0 (i 1) ⟨(i 2).val % 128, by omega⟩)
  have e' : ((((cfgM m hO).win 6).blk (⟨(i 0).val * 1024 + (i 2).val / 128 * 128 + 127, ht⟩ : Fin grid0.N)).view.emb (ix3 0 (i 1) ⟨(i 2).val % 128, by omega⟩) : S2x16384x1024.Idx) = i := by
    refine e.trans ?_
    funext a; apply Fin.ext
    match a with
    | ⟨0, _⟩ => show ((i 0).val * 1024 + (i 2).val / 128 * 128 + 127) / 1024 = (i 0).val; omega
    | ⟨1, _⟩ => show (i 1).val = (i 1).val; omega
    | ⟨2, _⟩ => show 128 * (((i 0).val * 1024 + (i 2).val / 128 * 128 + 127) / 128 % 8) + (i 2).val % 128 = (i 2).val; omega
  exact mem_of_emb e'

theorem cover_7 (hO : Ok m) (i : S2x8x128x128.Idx) : ∃ t : Fin (cfgM m hO).N, ((cfgM m hO).win 7).flush t = true ∧ i ∈ (((cfgM m hO).win 7).blk t).view.set := by
  have h0 : (i 0).val < 2 := (i 0).isLt
  have h1 : (i 1).val < 8 := (i 1).isLt
  have h2 : (i 2).val < 128 := (i 2).isLt
  have h3 : (i 3).val < 128 := (i 3).isLt
  have ht : (i 0).val * 1024 + (i 1).val * 128 + 127 < grid0.N := by show _ < 2048; omega
  refine ⟨⟨(i 0).val * 1024 + (i 1).val * 128 + 127, ht⟩, (flush0_7 (adm m hO) _).mpr (by show ((i 0).val * 1024 + (i 1).val * 128 + 127) % 128 = 127; omega), ?_⟩
  have e := emb_7 m hO ⟨(i 0).val * 1024 + (i 1).val * 128 + 127, ht⟩ (ix4 0 0 (i 2) (i 3))
  have e' : ((((cfgM m hO).win 7).blk (⟨(i 0).val * 1024 + (i 1).val * 128 + 127, ht⟩ : Fin grid0.N)).view.emb (ix4 0 0 (i 2) (i 3)) : S2x8x128x128.Idx) = i := by
    refine e.trans ?_
    funext a; apply Fin.ext
    match a with
    | ⟨0, _⟩ => show ((i 0).val * 1024 + (i 1).val * 128 + 127) / 1024 = (i 0).val; omega
    | ⟨1, _⟩ => show ((i 0).val * 1024 + (i 1).val * 128 + 127) / 128 % 8 = (i 1).val; omega
    | ⟨2, _⟩ => show (i 2).val = (i 2).val; omega
    | ⟨3, _⟩ => show (i 3).val = (i 3).val; omega
  exact mem_of_emb e'

theorem cover_8 (hO : Ok m) (i : S2x16384x1024.Idx) : ∃ t : Fin (cfgM m hO).N, ((cfgM m hO).win 8).flush t = true ∧ i ∈ (((cfgM m hO).win 8).blk t).view.set := by
  have h0 : (i 0).val < 2 := (i 0).isLt
  have h1 : (i 1).val < 16384 := (i 1).isLt
  have h2 : (i 2).val < 1024 := (i 2).isLt
  have ht : (i 0).val * 1024 + (i 2).val / 128 * 128 + 127 < grid0.N := by show _ < 2048; omega
  refine ⟨⟨(i 0).val * 1024 + (i 2).val / 128 * 128 + 127, ht⟩, (flush0_8 (adm m hO) _).mpr (by show ((i 0).val * 1024 + (i 2).val / 128 * 128 + 127) % 128 = 127; omega), ?_⟩
  have e := emb_8 m hO ⟨(i 0).val * 1024 + (i 2).val / 128 * 128 + 127, ht⟩ (ix3 0 (i 1) ⟨(i 2).val % 128, by omega⟩)
  have e' : ((((cfgM m hO).win 8).blk (⟨(i 0).val * 1024 + (i 2).val / 128 * 128 + 127, ht⟩ : Fin grid0.N)).view.emb (ix3 0 (i 1) ⟨(i 2).val % 128, by omega⟩) : S2x16384x1024.Idx) = i := by
    refine e.trans ?_
    funext a; apply Fin.ext
    match a with
    | ⟨0, _⟩ => show ((i 0).val * 1024 + (i 2).val / 128 * 128 + 127) / 1024 = (i 0).val; omega
    | ⟨1, _⟩ => show (i 1).val = (i 1).val; omega
    | ⟨2, _⟩ => show 128 * (((i 0).val * 1024 + (i 2).val / 128 * 128 + 127) / 128 % 8) + (i 2).val % 128 = (i 2).val; omega
  exact mem_of_emb e'

theorem cover_9 (hO : Ok m) (i : S2x8x1x128.Idx) : ∃ t : Fin (cfgM m hO).N, ((cfgM m hO).win 9).flush t = true ∧ i ∈ (((cfgM m hO).win 9).blk t).view.set := by
  have h0 : (i 0).val < 2 := (i 0).isLt
  have h1 : (i 1).val < 8 := (i 1).isLt
  have h2 : (i 2).val < 1 := (i 2).isLt
  have h3 : (i 3).val < 128 := (i 3).isLt
  have ht : (i 0).val * 1024 + (i 1).val * 128 + 127 < grid0.N := by show _ < 2048; omega
  refine ⟨⟨(i 0).val * 1024 + (i 1).val * 128 + 127, ht⟩, (flush0_9 (adm m hO) _).mpr (by show ((i 0).val * 1024 + (i 1).val * 128 + 127) % 128 = 127; omega), ?_⟩
  have e := emb_9 m hO ⟨(i 0).val * 1024 + (i 1).val * 128 + 127, ht⟩ (ix4 0 0 (i 2) (i 3))
  have e' : ((((cfgM m hO).win 9).blk (⟨(i 0).val * 1024 + (i 1).val * 128 + 127, ht⟩ : Fin grid0.N)).view.emb (ix4 0 0 (i 2) (i 3)) : S2x8x1x128.Idx) = i := by
    refine e.trans ?_
    funext a; apply Fin.ext
    match a with
    | ⟨0, _⟩ => show ((i 0).val * 1024 + (i 1).val * 128 + 127) / 1024 = (i 0).val; omega
    | ⟨1, _⟩ => show ((i 0).val * 1024 + (i 1).val * 128 + 127) / 128 % 8 = (i 1).val; omega
    | ⟨2, _⟩ => show (i 2).val = (i 2).val; omega
    | ⟨3, _⟩ => show (i 3).val = (i 3).val; omega
  exact mem_of_emb e'

/-! ## The input blocks, as places of the arguments -/

abbrev X0 (c : Dev nD) : AQ := m ((c.tc : Thread nD τ).loc main_arg0)
abbrev X1 (c : Dev nD) : AK := m ((c.tc : Thread nD τ).loc main_arg1)
abbrev X2 (c : Dev nD) : AK := m ((c.tc : Thread nD τ).loc main_arg2)

theorem iblk_0 (hO : Ok m) (c : Dev nD) (t : Fin grid0.N) (y : S1x128x512.Idx) : iblk m hO c 0 t y = X0 m c (ix3 (tb t) ⟨128 * (ti t).val + (y 1).val, by have h : (y 1).val < 128 := (y 1).isLt; omega⟩ ⟨512 * (th t).val + (y 2).val, by have h : (y 2).val < 512 := (y 2).isLt; omega⟩) :=
  congrArg (X0 m c) (emb_0 m hO t y)

theorem iblk_1 (hO : Ok m) (c : Dev nD) (t : Fin grid0.N) (y : S1x16384x128.Idx) : iblk m hO c 1 t y = X1 m c (ix3 (tb t) ⟨(y 1).val, (y 1).isLt⟩ ⟨128 * (th t).val + (y 2).val, by have h : (y 2).val < 128 := (y 2).isLt; omega⟩) :=
  congrArg (X1 m c) (emb_1 m hO t y)

theorem iblk_2 (hO : Ok m) (c : Dev nD) (t : Fin grid0.N) (y : S1x16384x128.Idx) : iblk m hO c 2 t y = X2 m c (ix3 (tb t) ⟨(y 1).val, (y 1).isLt⟩ ⟨128 * (th t).val + (y 2).val, by have h : (y 2).val < 128 := (y 2).isLt; omega⟩) :=
  congrArg (X2 m c) (emb_2 m hO t y)

theorem qrow_blk (hO : Ok m) (c : Dev nD) (t : Fin grid0.N) (r : Fin 128) (h : Fin 4) :
    qrow (iblk m hO c 0 t) r h = rowQ (X0 m c) (tb t) ⟨128 * (ti t).val + r.val, by omega⟩ ⟨4 * (th t).val + h.val, by omega⟩ := by
  unfold qrow rowQ
  refine congrArg (fun f => Finset.univ.fold max (Ideal.ofBits .f32 0xFF800000#32) f) (funext fun l => ?_)
  refine congrArg (FloatOps.absf (F := Ideal) (φ := .f32)) ?_
  refine (iblk_0 m hO c t _).trans (congrArg (X0 m c) ?_)
  funext a; apply Fin.ext
  match a with
  | ⟨0, _⟩ => rfl
  | ⟨1, _⟩ => rfl
  | ⟨2, _⟩ => show 512 * (th t).val + (128 * h.val + l.val) = 128 * (4 * (th t).val + h.val) + l.val; omega

theorem krow_blk (hO : Ok m) (c : Dev nD) (t : Fin grid0.N) (r : Fin 16384) :
    krow (iblk m hO c 1 t) r = rowK (X1 m c) (tb t) r (th t) := by
  unfold krow rowK
  refine congrArg (fun f => Finset.univ.fold max (Ideal.ofBits .f32 0xFF800000#32) f) (funext fun l => ?_)
  refine congrArg (FloatOps.absf (F := Ideal) (φ := .f32)) ?_
  exact iblk_1 m hO c t _

theorem vcol_blk (hO : Ok m) (c : Dev nD) (t : Fin grid0.N) (l : Fin 128) :
    vcol (iblk m hO c 2 t) l = colV (X2 m c) (tb t) ⟨128 * (th t).val + l.val, by omega⟩ := by
  unfold vcol colV
  refine congrArg (fun f => Finset.univ.fold max (Ideal.ofBits .f32 0xFF800000#32) f) (funext fun r => ?_)
  refine congrArg (FloatOps.absf (F := Ideal) (φ := .f32)) ?_
  exact iblk_2 m hO c t _

/-! ## The arrays -/

theorem QC_blk (hO : Ok m) (c : Dev nD) (t : Fin grid0.N) (y : S1x128x512.Idx) : QC (iblk m hO c 0 t) y = codesQ (fun q => kinv (kb q)) (X0 m c) (ix3 (tb t) ⟨128 * (ti t).val + (y 1).val, by have h : (y 1).val < 128 := (y 1).isLt; omega⟩ ⟨512 * (th t).val + (y 2).val, by have h : (y 2).val < 512 := (y 2).isLt; omega⟩) := by
  have h2 : (y 2).val < 512 := (y 2).isLt
  refine congrArg₂ (fun a q => kcode a (kinv (kb (q * c448)))) (iblk_0 m hO c t y) ((qrow_blk m hO c t (y 1) ⟨(y 2).val / 128, by omega⟩).trans ?_)
  refine congrArg (fun h => rowQ (X0 m c) (tb t) _ h) (Fin.ext ?_)
  show 4 * (th t).val + (y 2).val / 128 = (512 * (th t).val + (y 2).val) / 128
  omega

theorem final_4 (hO : Ok m) (c : Dev nD) : (dats m hO 0 c).arrAt 4 (cfgM m hO).N = codesQ (fun q => kinv (kb q)) (X0 m c) :=
  (dats m hO 0 c).arrAt_eq_of_emb 4 (codesQ (fun q => kinv (kb q)) (X0 m c)) (fun t hf y => (QC_blk m hO c t y).trans (congrArg (codesQ (fun q => kinv (kb q)) (X0 m c)) (emb_4 m hO t y)).symm) (cover_4 m hO)

theorem QS_blk (hO : Ok m) (c : Dev nD) (t : Fin grid0.N) (y : S1x1x4x128.Idx) : QS (iblk m hO c 0 t) y = scalesQ (fun q => kscale (kb q)) (X0 m c) (ix4 (tb t) (th t) ⟨(y 2).val, (y 2).isLt⟩ ⟨128 * (ti t).val + (y 3).val, by have h : (y 3).val < 128 := (y 3).isLt; omega⟩) := congrArg (fun q => kscale (kb (q * c448))) (qrow_blk m hO c t (y 3) (y 2))

theorem final_5 (hO : Ok m) (c : Dev nD) : (dats m hO 0 c).arrAt 5 (cfgM m hO).N = scalesQ (fun q => kscale (kb q)) (X0 m c) :=
  (dats m hO 0 c).arrAt_eq_of_emb 5 (scalesQ (fun q => kscale (kb q)) (X0 m c)) (fun t hf y => (QS_blk m hO c t y).trans (congrArg (scalesQ (fun q => kscale (kb q)) (X0 m c)) (emb_5 m hO t y)).symm) (cover_5 m hO)

theorem KC_blk (hO : Ok m) (c : Dev nD) (t : Fin grid0.N) (y : S1x16384x128.Idx) : KC (iblk m hO c 1 t) y = codesK (fun q => kinv (kb q)) (X1 m c) (ix3 (tb t) ⟨(y 1).val, (y 1).isLt⟩ ⟨128 * (th t).val + (y 2).val, by have h : (y 2).val < 128 := (y 2).isLt; omega⟩) := by
  have h2 : (y 2).val < 128 := (y 2).isLt
  refine congrArg₂ (fun a q => kcode a (kinv (kb (q * c448)))) (iblk_1 m hO c t y) ((krow_blk m hO c t (y 1)).trans ?_)
  refine congrArg (fun h => rowK (X1 m c) (tb t) _ h) (Fin.ext ?_)
  show (th t).val = (128 * (th t).val + (y 2).val) / 128
  omega

theorem final_6 (hO : Ok m) (c : Dev nD) : (dats m hO 0 c).arrAt 6 (cfgM m hO).N = codesK (fun q => kinv (kb q)) (X1 m c) :=
  (dats m hO 0 c).arrAt_eq_of_emb 6 (codesK (fun q => kinv (kb q)) (X1 m c)) (fun t hf y => (KC_blk m hO c t y).trans (congrArg (codesK (fun q => kinv (kb q)) (X1 m c)) (emb_6 m hO t y)).symm) (cover_6 m hO)

theorem KS_blk (hO : Ok m) (c : Dev nD) (t : Fin grid0.N) (y : S1x1x128x128.Idx) : KS (iblk m hO c 1 t) y = scalesK (fun q => kscale (kb q)) (X1 m c) (ix4 (tb t) (th t) ⟨(y 2).val, (y 2).isLt⟩ ⟨(y 3).val, (y 3).isLt⟩) := congrArg (fun q => kscale (kb (q * c448))) (krow_blk m hO c t _)

theorem final_7 (hO : Ok m) (c : Dev nD) : (dats m hO 0 c).arrAt 7 (cfgM m hO).N = scalesK (fun q => kscale (kb q)) (X1 m c) :=
  (dats m hO 0 c).arrAt_eq_of_emb 7 (scalesK (fun q => kscale (kb q)) (X1 m c)) (fun t hf y => (KS_blk m hO c t y).trans (congrArg (scalesK (fun q => kscale (kb q)) (X1 m c)) (emb_7 m hO t y)).symm) (cover_7 m hO)

theorem VC_blk (hO : Ok m) (c : Dev nD) (t : Fin grid0.N) (y : S1x16384x128.Idx) : VC (iblk m hO c 2 t) y = codesV (fun q => kinv (kb q)) (X2 m c) (ix3 (tb t) ⟨(y 1).val, (y 1).isLt⟩ ⟨128 * (th t).val + (y 2).val, by have h : (y 2).val < 128 := (y 2).isLt; omega⟩) := congrArg₂ (fun a q => kcode a (kinv (kb (q * c448)))) (iblk_2 m hO c t y) (vcol_blk m hO c t (y 2))

theorem final_8 (hO : Ok m) (c : Dev nD) : (dats m hO 0 c).arrAt 8 (cfgM m hO).N = codesV (fun q => kinv (kb q)) (X2 m c) :=
  (dats m hO 0 c).arrAt_eq_of_emb 8 (codesV (fun q => kinv (kb q)) (X2 m c)) (fun t hf y => (VC_blk m hO c t y).trans (congrArg (codesV (fun q => kinv (kb q)) (X2 m c)) (emb_8 m hO t y)).symm) (cover_8 m hO)

theorem VS_blk (hO : Ok m) (c : Dev nD) (t : Fin grid0.N) (y : S1x1x1x128.Idx) : VS (iblk m hO c 2 t) y = scalesV (fun q => kscale (kb q)) (X2 m c) (ix4 (tb t) (th t) ⟨(y 2).val, (y 2).isLt⟩ ⟨(y 3).val, (y 3).isLt⟩) := congrArg (fun q => kscale (kb (q * c448))) (vcol_blk m hO c t (y 3))

theorem final_9 (hO : Ok m) (c : Dev nD) : (dats m hO 0 c).arrAt 9 (cfgM m hO).N = scalesV (fun q => kscale (kb q)) (X2 m c) :=
  (dats m hO 0 c).arrAt_eq_of_emb 9 (scalesV (fun q => kscale (kb q)) (X2 m c)) (fun t hf y => (VS_blk m hO c t y).trans (congrArg (scalesV (fun q => kscale (kb q)) (X2 m c)) (emb_9 m hO t y)).symm) (cover_9 m hO)

end Cert.KernelIdeal.Val

end
-- ==== Proof.VFrame.Tab.lean ====
/- The words the kernel reads of the table of document starts. -/
module

public import proofs.«01_k».proof.Proof.VFrame.Frame

@[expose] public section

set_option maxRecDepth 16384

namespace Cert.KernelIdeal.Val

open Idealize.ShloMosaic Idealize.ShloMosaic.TcCoe Idealize.ShloMosaic.Tactic
open Cert.KernelIdeal Cert.KernelIdeal.Gen

variable (m : (ℓ : Loc nD τ sig) → Buf (Elt Ideal) ℓ)

/-- The table of document starts. -/
abbrev X3' (c : Dev nD) : Vec Ideal S2x17 .i32 := m ((c.tc : Thread nD τ).loc main_arg3)

theorem tbl_eq (c : Dev nD) : (tbl m 0 : Vec Ideal S2x17 .i32) = X3' m c := by
  obtain rfl : c = 0 := Subsingleton.elim _ _
  rfl

/-- A word of the table. -/
theorem word_at (c : Dev nD) (i : grid0.Coords) (xt : TbBuf0 (F := Ideal) c tbM0_0) (off : Fin 2 → ℕ) (j : Fin 17) (hoff : off = ![(i 0).val, j.val])
    (inb : ∀ a, off a + S1x1.size a ≤ S2x17.size a) (h : 0 < S1x1.numel) :
    View.readAt (Elt Ideal) tbM0_0.view (Rect.unit (s := S2x17) off S1x1.size inb).toLoadRect xt (Shape.Idx.first h) = (xt : Vec Ideal S2x17 .i32) (ix2 ⟨(i 0).val, (i 0).isLt⟩ j) := by
  subst hoff
  refine congrArg (xt : Vec Ideal S2x17 .i32) ?_
  funext a; apply Fin.ext
  match a with
  | ⟨0, _⟩ =>
    have e : (Shape.Idx.first h (0 : Fin 2)).val < 1 := (Shape.Idx.first h (0 : Fin 2)).isLt
    show (i 0).val + 1 * (Shape.Idx.first h (0 : Fin 2)).val = (i 0).val
    omega
  | ⟨1, _⟩ =>
    have e : (Shape.Idx.first h (1 : Fin 2)).val < 1 := (Shape.Idx.first h (1 : Fin 2)).isLt
    show j.val + 1 * (Shape.Idx.first h (1 : Fin 2)).val = j.val
    omega

theorem off_eq (i : grid0.Coords) (j : ℕ) : (![(Scalar.indexCast (BitVec.ofNat 32 (i 0).val)).toNat, j] : Fin 2 → ℕ) = ![(i 0).val, j] := by
  have h : (i 0).val < 2 := (i 0).isLt
  have e : (Scalar.indexCast (BitVec.ofNat 32 (i 0).val)).toNat = (i 0).val := by
    show (BitVec.ofNat 32 (i 0).val).toNat = (i 0).val
    simp; omega
  rw [e]

theorem tword_at (c : Dev nD) (i : grid0.Coords) (xt : TbBuf0 (F := Ideal) c tbM0_0) (j : Fin 17) :
    tword c i xt j = (xt : Vec Ideal S2x17 .i32) (ix2 ⟨(i 0).val, (i 0).isLt⟩ j) := by
  match j with
  | ⟨0, _⟩ => exact word_at c i xt _ 0 (off_eq i 0) _ _
  | ⟨1, _⟩ => exact word_at c i xt _ 1 (off_eq i 1) _ _
  | ⟨2, _⟩ => exact word_at c i xt _ 2 (off_eq i 2) _ _
  | ⟨3, _⟩ => exact word_at c i xt _ 3 (off_eq i 3) _ _
  | ⟨4, _⟩ => exact word_at c i xt _ 4 (off_eq i 4) _ _
  | ⟨5, _⟩ => exact word_at c i xt _ 5 (off_eq i 5) _ _
  | ⟨6, _⟩ => exact word_at c i xt _ 6 (off_eq i 6) _ _
  | ⟨7, _⟩ => exact word_at c i xt _ 7 (off_eq i 7) _ _
  | ⟨8, _⟩ => exact word_at c i xt _ 8 (off_eq i 8) _ _
  | ⟨9, _⟩ => exact word_at c i xt _ 9 (off_eq i 9) _ _
  | ⟨10, _⟩ => exact word_at c i xt _ 10 (off_eq i 10) _ _
  | ⟨11, _⟩ => exact word_at c i xt _ 11 (off_eq i 11) _ _
  | ⟨12, _⟩ => exact word_at c i xt _ 12 (off_eq i 12) _ _
  | ⟨13, _⟩ => exact word_at c i xt _ 13 (off_eq i 13) _ _
  | ⟨14, _⟩ => exact word_at c i xt _ 14 (off_eq i 14) _ _
  | ⟨15, _⟩ => exact word_at c i xt _ 15 (off_eq i 15) _ _
  | ⟨16, _⟩ => exact word_at c i xt _ 16 (off_eq i 16) _ _
  | ⟨n + 17, h⟩ => exact absurd h (by omega)

theorem coords_0 : ∀ t : Fin grid0.N, ((grid0.coords t) 0).val = t.val / 1024 := by decide +kernel
theorem coords_2 : ∀ t : Fin grid0.N, ((grid0.coords t) 2).val = t.val % 128 := by decide +kernel

end Cert.KernelIdeal.Val
-- ==== Proof.VFrame.Ref.lean ====
/- The reference's codes and scales, index by index. -/
module

public import proofs.«01_k».proof.Proof.Gen.ReferenceIdeal.Value
public import proofs.«01_k».proof.Proof.VFrame.Spec
public import Idealize.ShloMosaic.Lib.Pointwise

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Scale Cert.Spec
open Cert.KernelIdeal.Gen (kcode c448)

/-! ## One quotient's exponent, at any shape -/

/-- The exponents of an array of quotients. -/
def expo {s : Shape} (q : FVec Ideal s .f32) : FVec Ideal s .f32 :=
  select (cmpf .olt q (broadcast s (Scalar.ofBits .f32 0x00800000#32))) (broadcast s (Scalar.ofBits .f32 0x00000000#32))
    (addf (floor (divf (log q) (broadcast s (Scalar.log (Scalar.ofBits .f32 0x40000000#32))))) (broadcast s (Scalar.ofBits .f32 0x3F800000#32)))

theorem expo_at {s : Shape} (q : FVec Ideal s .f32) (j : s.Idx) : expo q j = refE (q j) := by
  unfold refE
  show Scalar.select (FloatOps.cmpf (F := Ideal) (φ := .f32) .olt (q j) (Ideal.ofBits .f32 0x00800000#32)) (Ideal.ofBits .f32 0x00000000#32)
    (Ideal.liftRound Int.floor (Ideal.div (Ideal.log (q j)) (Ideal.log (Ideal.ofBits .f32 0x40000000#32))) + Ideal.ofBits .f32 0x3F800000#32) = _
  pointwise

/-- The factor codes are scaled by, and the scale, from the quotient. -/
def invR (q : EReal) : EReal := Ideal.exp2 (Ideal.ofBits .f32 0x00000000#32 - refE q)
def scaleR (q : EReal) : EReal := Ideal.exp2 (refE q)

/-- The codes of an array of values and of the exponents laid over it. -/
def codes {s : Shape} (v e : FVec Ideal s .f32) (h : FTy.fp8e4m3.bits < FTy.f32.bits) : FVec Ideal s .fp8e4m3 :=
  truncf .fp8e4m3 (minimumf (broadcast s (Scalar.ofBits .f32 0x43E00000#32)) (maximumf (broadcast s (Scalar.ofBits .f32 0xC3E00000#32)) (mulf v e))) h

theorem codes_at {s : Shape} (v e : FVec Ideal s .f32) (h : FTy.fp8e4m3.bits < FTy.f32.bits) (j : s.Idx) : codes v e h j = kcode (v j) (e j) := rfl

/-! ## The queries -/

theorem pay7_at (x : AQ) (b : Fin 2) (r : Fin 16384) (h : Fin 8) (g : Fin 4) (l : Fin 128) :
    (k0_pay1 (F := Ideal) x) (ix5 b r h g l) = x (ix3 b r ⟨128 * (4 * h.val + g.val) + l.val, by omega⟩) := by
  pointwise [k0_pay1]
  refine congrArg x (congrArg (ix3 b r) (Fin.ext ?_))
  show h.val * 512 + g.val * 128 + l.val = 128 * (4 * h.val + g.val) + l.val
  omega

/-- The largest magnitudes, as the reference reduces them. -/
def maxQ (v : FVec Ideal S2x16384x8x4x128 .f32) : FVec Ideal S2x16384x8x4 .f32 :=
  multiReduction .maximumf [4] S2x16384x8x4 (absf v) 0xFF800000#32 reduces_S2x16384x8x4x128_S2x16384x8x4 (.inl rfl) rfl

theorem maxQ_at (v : FVec Ideal S2x16384x8x4x128 .f32) (b : Fin 2) (r : Fin 16384) (h : Fin 8) (g : Fin 4) :
    maxQ v (ix4 b r h g) = Finset.univ.fold max (Ideal.ofBits .f32 0xFF800000#32) (fun l : Fin 128 => FloatOps.absf (F := Ideal) (φ := .f32) (v (ix5 b r h g l))) := by
  pointwise [maxQ]

theorem rowQ_at (x : AQ) (b : Fin 2) (r : Fin 16384) (h : Fin 8) (g : Fin 4) :
    maxQ (k0_pay1 x) (ix4 b r h g) = rowQ x b r ⟨4 * h.val + g.val, by omega⟩ := by
  rw [maxQ_at]
  unfold rowQ
  simp only [pay7_at]

def quotQ (v : FVec Ideal S2x16384x8x4 .f32) : FVec Ideal S2x16384x8x4x1 .f32 :=
  mulf (shapeCast S2x16384x8x4x1 v shapeCasts_S2x16384x8x4_S2x16384x8x4x1) (broadcast S2x16384x8x4x1 (Scalar.ofBits .f32 0x3B124925#32))

theorem quotQ_at (v : FVec Ideal S2x16384x8x4 .f32) (b : Fin 2) (r : Fin 16384) (h : Fin 8) (g : Fin 4) (z : Fin 1) :
    quotQ v (ix5 b r h g z) = v (ix4 b r h g) * c448 := by
  pointwise [quotQ]

theorem pay8_eq (x : AQ) : k0_pay2 (F := Ideal) x = expo (quotQ (maxQ (k0_pay1 x))) := rfl

theorem pay8_at (x : AQ) (b : Fin 2) (r : Fin 16384) (h : Fin 8) (g : Fin 4) (z : Fin 1) :
    k0_pay2 (F := Ideal) x (ix5 b r h g z) = refE (rowQ x b r ⟨4 * h.val + g.val, by omega⟩ * c448) := by
  rw [pay8_eq, expo_at, quotQ_at, rowQ_at]

/-- An exponent's negative, as the power of two laid over the last axis. -/
def layQ (e : FVec Ideal S2x16384x8x4x1 .f32) : FVec Ideal S2x16384x8x4x128 .f32 :=
  broadcastTo S2x16384x8x4x128 (exp2 (subf (broadcast S2x16384x8x4x1 (Scalar.ofBits .f32 0x00000000#32)) e)) broadcasts_S2x16384x8x4x1_S2x16384x8x4x128

theorem layQ_at (e : FVec Ideal S2x16384x8x4x1 .f32) (b : Fin 2) (r : Fin 16384) (h : Fin 8) (g : Fin 4) (l : Fin 128) :
    layQ e (ix5 b r h g l) = Ideal.exp2 (Ideal.ofBits .f32 0x00000000#32 - e (ix5 b r h g 0)) := by
  pointwise [layQ]
  rfl

theorem pay9_eq (x : AQ) : k0_pay3 (F := Ideal) x = codes (k0_pay1 x) (layQ (k0_pay2 x)) bitsLt_fp8e4m3_f32 := rfl

theorem pay9_at (x : AQ) (b : Fin 2) (r : Fin 16384) (h : Fin 8) (g : Fin 4) (l : Fin 128) :
    k0_pay3 (F := Ideal) x (ix5 b r h g l) = kcode (x (ix3 b r ⟨128 * (4 * h.val + g.val) + l.val, by omega⟩)) (invR (rowQ x b r ⟨4 * h.val + g.val, by omega⟩ * c448)) := by
  rw [pay9_eq, codes_at, layQ_at, pay8_at, pay7_at]
  rfl

theorem pay1_at (v : FVec Ideal S2x16384x8x4x128 .fp8e4m3) (b : Fin 2) (r : Fin 16384) (k : Fin 4096) :
    k0_pay19 v (ix3 b r k) = v (ix5 b r ⟨k.val / 512, by omega⟩ ⟨k.val / 128 % 4, by omega⟩ ⟨k.val % 128, by omega⟩) := by
  pointwise [k0_pay19]

theorem pay2_at (v : FVec Ideal S2x16384x8x4x1 .f32) (b : Fin 2) (h : Fin 8) (g : Fin 4) (r : Fin 16384) :
    k0_pay15 v (ix4 b h g r) = v (ix5 b r h g 0) := by
  pointwise [k0_pay15]

/-! ## The keys -/

theorem pay11_at (x : AK) (b : Fin 2) (r : Fin 16384) (h : Fin 8) (l : Fin 128) :
    (k0_pay5 (F := Ideal) x) (ix4 b r h l) = x (ix3 b r ⟨128 * h.val + l.val, by omega⟩) := by
  pointwise [k0_pay5]
  refine congrArg x (congrArg (ix3 b r) (Fin.ext ?_))
  show h.val * 128 + l.val = 128 * h.val + l.val
  omega

def maxK (v : FVec Ideal S2x16384x8x128 .f32) : FVec Ideal S2x16384x8 .f32 :=
  multiReduction .maximumf [3] S2x16384x8 (absf v) 0xFF800000#32 reduces_S2x16384x8x128_S2x16384x8 (.inl rfl) rfl

theorem maxK_at (v : FVec Ideal S2x16384x8x128 .f32) (b : Fin 2) (r : Fin 16384) (h : Fin 8) :
    maxK v (ix3 b r h) = Finset.univ.fold max (Ideal.ofBits .f32 0xFF800000#32) (fun l : Fin 128 => FloatOps.absf (F := Ideal) (φ := .f32) (v (ix4 b r h l))) := by
  pointwise [maxK]

theorem rowK_at (x : AK) (b : Fin 2) (r : Fin 16384) (h : Fin 8) : maxK (k0_pay5 x) (ix3 b r h) = rowK x b r h := by
  rw [maxK_at]
  unfold rowK
  simp only [pay11_at]

def quotK (v : FVec Ideal S2x16384x8 .f32) : FVec Ideal S2x16384x8x1 .f32 :=
  mulf (shapeCast S2x16384x8x1 v shapeCasts_S2x16384x8_S2x16384x8x1) (broadcast S2x16384x8x1 (Scalar.ofBits .f32 0x3B124925#32))

theorem quotK_at (v : FVec Ideal S2x16384x8 .f32) (b : Fin 2) (r : Fin 16384) (h : Fin 8) (z : Fin 1) :
    quotK v (ix4 b r h z) = v (ix3 b r h) * c448 := by
  pointwise [quotK]

theorem pay13_eq (x : AK) : k0_pay7 (F := Ideal) (k0_pay6 x) (Scalar.ofBits .f32 0x3B124925#32) = expo (quotK (maxK (k0_pay5 x))) := rfl

theorem expK_at (x : AK) (b : Fin 2) (r : Fin 16384) (h : Fin 8) (z : Fin 1) :
    k0_pay7 (F := Ideal) (k0_pay6 x) (Scalar.ofBits .f32 0x3B124925#32) (ix4 b r h z) = refE (rowK x b r h * c448) := by
  rw [pay13_eq, expo_at, quotK_at, rowK_at]

def layK (e : FVec Ideal S2x16384x8x1 .f32) : FVec Ideal S2x16384x8x128 .f32 :=
  broadcastTo S2x16384x8x128 (exp2 (subf (broadcast S2x16384x8x1 (Scalar.ofBits .f32 0x00000000#32)) e)) broadcasts_S2x16384x8x1_S2x16384x8x128

theorem layK_at (e : FVec Ideal S2x16384x8x1 .f32) (b : Fin 2) (r : Fin 16384) (h : Fin 8) (l : Fin 128) :
    layK e (ix4 b r h l) = Ideal.exp2 (Ideal.ofBits .f32 0x00000000#32 - e (ix4 b r h 0)) := by
  pointwise [layK]
  rfl

theorem pay14_eq (v : FVec Ideal S2x16384x8x128 .f32) (q : FVec Ideal S2x16384x8x1 .f32) :
    k0_pay8 (F := Ideal) v q (Scalar.ofBits .f32 0x3B124925#32) = codes v (layK (k0_pay7 q (Scalar.ofBits .f32 0x3B124925#32))) bitsLt_fp8e4m3_f32 := rfl

theorem pay14_at (x : AK) (b : Fin 2) (r : Fin 16384) (h : Fin 8) (l : Fin 128) :
    k0_pay8 (F := Ideal) (k0_pay5 x) (k0_pay6 x) (Scalar.ofBits .f32 0x3B124925#32) (ix4 b r h l)
      = kcode (x (ix3 b r ⟨128 * h.val + l.val, by omega⟩)) (invR (rowK x b r h * c448)) := by
  rw [pay14_eq, codes_at, layK_at, expK_at, pay11_at]
  rfl

theorem pay3_at (v : FVec Ideal S2x16384x8x128 .fp8e4m3) (b : Fin 2) (r : Fin 16384) (k : Fin 1024) :
    k0_pay20 v (ix3 b r k) = v (ix4 b r ⟨k.val / 128, by omega⟩ ⟨k.val % 128, by omega⟩) := by
  pointwise [k0_pay20]

theorem pay4_at (v : FVec Ideal S2x16384x8x1 .f32) (b : Fin 2) (h : Fin 8) (n p : Fin 128) :
    k0_pay21 (k0_pay16 v) (ix4 b h n p) = v (ix4 b ⟨128 * n.val + p.val, by omega⟩ h 0) := by
  pointwise [k0_pay21, k0_pay16]
  refine congrArg (fun r => v (ix4 b r h 0)) (Fin.ext ?_)
  show n.val * 128 + p.val = 128 * n.val + p.val
  omega

/-! ## The values -/

theorem pay16_at (x : AK) (b : Fin 2) (r : Fin 16384) (h : Fin 8) (l : Fin 128) :
    (k0_pay10 (F := Ideal) x) (ix4 b r h l) = x (ix3 b r ⟨128 * h.val + l.val, by omega⟩) := pay11_at x b r h l

def maxV (v : FVec Ideal S2x16384x8x128 .f32) : FVec Ideal S2x8x128 .f32 :=
  multiReduction .maximumf [1] S2x8x128 (absf v) 0xFF800000#32 reduces_S2x16384x8x128_S2x8x128 (.inl rfl) rfl

theorem maxV_at (v : FVec Ideal S2x16384x8x128 .f32) (b : Fin 2) (h : Fin 8) (l : Fin 128) :
    maxV v (ix3 b h l) = Finset.univ.fold max (Ideal.ofBits .f32 0xFF800000#32) (fun r : Fin 16384 => FloatOps.absf (F := Ideal) (φ := .f32) (v (ix4 b r h l))) := by
  pointwise [maxV]

theorem colV_at (x : AK) (b : Fin 2) (h : Fin 8) (l : Fin 128) :
    maxV (k0_pay10 x) (ix3 b h l) = colV x b ⟨128 * h.val + l.val, by omega⟩ := by
  rw [maxV_at]
  unfold colV
  simp only [pay16_at]

def quotV (v : FVec Ideal S2x8x128 .f32) : FVec Ideal S2x1x8x128 .f32 :=
  mulf (shapeCast S2x1x8x128 v shapeCasts_S2x8x128_S2x1x8x128) (broadcast S2x1x8x128 (Scalar.ofBits .f32 0x3B124925#32))

theorem quotV_at (v : FVec Ideal S2x8x128 .f32) (b : Fin 2) (z : Fin 1) (h : Fin 8) (l : Fin 128) :
    quotV v (ix4 b z h l) = v (ix3 b h l) * c448 := by
  pointwise [quotV]

theorem pay17_eq (x : AK) : k0_pay11 (F := Ideal) x = expo (quotV (maxV (k0_pay10 x))) := rfl

theorem pay17_at (x : AK) (b : Fin 2) (z : Fin 1) (h : Fin 8) (l : Fin 128) :
    k0_pay11 (F := Ideal) x (ix4 b z h l) = refE (colV x b ⟨128 * h.val + l.val, by omega⟩ * c448) := by
  rw [pay17_eq, expo_at, quotV_at, colV_at]

def layV (e : FVec Ideal S2x1x8x128 .f32) : FVec Ideal S2x16384x8x128 .f32 :=
  broadcastTo S2x16384x8x128 (exp2 (subf (broadcast S2x1x8x128 (Scalar.ofBits .f32 0x00000000#32)) e)) broadcasts_S2x1x8x128_S2x16384x8x128

theorem layV_at (e : FVec Ideal S2x1x8x128 .f32) (b : Fin 2) (r : Fin 16384) (h : Fin 8) (l : Fin 128) :
    layV e (ix4 b r h l) = Ideal.exp2 (Ideal.ofBits .f32 0x00000000#32 - e (ix4 b 0 h l)) := by
  pointwise [layV]
  rfl

theorem pay5_eq (x : AK) : k0_pay13 (F := Ideal) (k0_pay10 x) (k0_pay12 x)
    = (codes (k0_pay10 x) (layV (k0_pay11 x)) bitsLt_fp8e4m3_f32) := rfl

theorem codesV_at (x : AK) (b : Fin 2) (r : Fin 16384) (h : Fin 8) (l : Fin 128) :
    codes (k0_pay10 x) (layV (k0_pay11 x)) bitsLt_fp8e4m3_f32 (ix4 b r h l)
      = kcode (x (ix3 b r ⟨128 * h.val + l.val, by omega⟩)) (invR (colV x b ⟨128 * h.val + l.val, by omega⟩ * c448)) := by
  rw [codes_at, layV_at, pay17_at, pay16_at]
  rfl

def outV (e : FVec Ideal S2x1x8x128 .f32) : FVec Ideal S2x8x1x128 .f32 :=
  shapeCast S2x8x1x128 (shapeCast S2x8x128 e shapeCasts_S2x1x8x128_S2x8x128) shapeCasts_S2x8x128_S2x8x1x128

theorem outV_at (e : FVec Ideal S2x1x8x128 .f32) (b : Fin 2) (h : Fin 8) (z : Fin 1) (l : Fin 128) : outV e (ix4 b h z l) = e (ix4 b 0 h l) := by
  pointwise [outV]

/-! ## The codes and the scales -/

theorem exp2_at {s : Shape} (v : FVec Ideal s .f32) (j : s.Idx) : (exp2 v) j = Ideal.exp2 (v j) := rfl

theorem pay10_eq (x : AQ) : k0_pay4 (F := Ideal) x = exp2 (k0_pay2 x) := rfl

theorem pay15_eq (q : FVec Ideal S2x16384x8x1 .f32) : k0_pay9 (F := Ideal) q (Scalar.ofBits .f32 0x3B124925#32) = exp2 (k0_pay7 q (Scalar.ofBits .f32 0x3B124925#32)) := rfl

theorem ex3 {n0 n1 n2 : ℕ} (y : (⟨3, ![n0, n1, n2]⟩ : Shape).Idx) : ∃ (a : Fin n0) (b : Fin n1) (c : Fin n2), y = ix3 a b c :=
  ⟨y 0, y 1, y 2, funext fun a => match a with | ⟨0, _⟩ => rfl | ⟨1, _⟩ => rfl | ⟨2, _⟩ => rfl⟩

theorem ex4 {n0 n1 n2 n3 : ℕ} (y : (⟨4, ![n0, n1, n2, n3]⟩ : Shape).Idx) : ∃ (a : Fin n0) (b : Fin n1) (c : Fin n2) (d : Fin n3), y = ix4 a b c d :=
  ⟨y 0, y 1, y 2, y 3, funext fun a => match a with | ⟨0, _⟩ => rfl | ⟨1, _⟩ => rfl | ⟨2, _⟩ => rfl | ⟨3, _⟩ => rfl⟩

theorem res_q (x : AQ) : k0_pay19 (k0_pay3 (F := Ideal) x) = codesQ invR x := funext fun y => by
  obtain ⟨b, r, k, rfl⟩ := ex3 y
  rw [pay1_at, pay9_at]
  show _ = kcode (x (ix3 b r k)) (invR (rowQ x b r ⟨k.val / 128, _⟩ * c448))
  refine congrArg₂ (fun k h => kcode (x (ix3 b r k)) (invR (rowQ x b r h * c448))) (Fin.ext ?_) (Fin.ext ?_)
  · show 128 * (4 * (k.val / 512) + k.val / 128 % 4) + k.val % 128 = k.val
    omega
  · show 4 * (k.val / 512) + k.val / 128 % 4 = k.val / 128
    omega

theorem res_qs (x : AQ) : k0_pay15 (k0_pay4 (F := Ideal) x) = scalesQ scaleR x := funext fun y => by
  obtain ⟨b, h, g, r, rfl⟩ := ex4 y
  rw [pay2_at, pay10_eq, exp2_at, pay8_at]
  rfl

theorem res_k (x : AK) : k0_pay20 (k0_pay8 (F := Ideal) (k0_pay5 x) (k0_pay6 x) (Scalar.ofBits .f32 0x3B124925#32)) = codesK invR x := funext fun y => by
  obtain ⟨b, r, k, rfl⟩ := ex3 y
  rw [pay3_at, pay14_at]
  show _ = kcode (x (ix3 b r k)) (invR (rowK x b r ⟨k.val / 128, _⟩ * c448))
  refine congrArg (fun k' => kcode (x (ix3 b r k')) (invR (rowK x b r ⟨k.val / 128, _⟩ * c448))) (Fin.ext ?_)
  show 128 * (k.val / 128) + k.val % 128 = k.val
  omega

theorem res_ks (x : AK) : k0_pay21 (k0_pay16 (k0_pay9 (F := Ideal) (k0_pay6 x) (Scalar.ofBits .f32 0x3B124925#32))) = scalesK scaleR x := funext fun y => by
  obtain ⟨b, h, n, p, rfl⟩ := ex4 y
  rw [pay4_at, pay15_eq, exp2_at, expK_at]
  rfl

theorem res_v (x : AK) : k0_pay22 (k0_pay13 (F := Ideal) (k0_pay10 x) (k0_pay12 x)) = codesV invR x := funext fun y => by
  obtain ⟨b, r, k, rfl⟩ := ex3 y
  rw [pay5_eq]
  refine (pay3_at _ b r k).trans ?_
  rw [codesV_at]
  show _ = kcode (x (ix3 b r k)) (invR (colV x b k * c448))
  refine congrArg (fun k => kcode (x (ix3 b r k)) (invR (colV x b k * c448))) (Fin.ext ?_)
  show 128 * (k.val / 128) + k.val % 128 = k.val
  omega

theorem pay6_eq (e : FVec Ideal S2x1x8x128 .f32) : k0_pay23 (k0_pay14 (F := Ideal) e) = outV (exp2 e) := rfl

theorem res_vs (x : AK) : k0_pay23 (k0_pay14 (k0_pay11 (F := Ideal) x)) = scalesV scaleR x := funext fun y => by
  obtain ⟨b, h, z, l, rfl⟩ := ex4 y
  rw [pay6_eq, outV_at, exp2_at, pay17_at]
  rfl

/-! ## The kernel's factors are the reference's, where the arguments are finite -/

/-- An argument of magnitude at most `2 ^ 128`. -/
def Bdd (a : EReal) : Prop := max a (-a) ≤ (((2 : ℝ) ^ (128 : ℤ) : ℝ) : EReal)

theorem quot_real (F : EReal) (h0 : 0 ≤ F) (h1 : F ≤ (((2 : ℝ) ^ (128 : ℤ) : ℝ) : EReal)) :
    ∃ r : ℝ, F * c448 = (r : EReal) ∧ 0 ≤ r ∧ r < 2 ^ (120 : ℤ) := by
  have hb : F ≠ ⊥ := fun h => by rw [h] at h0; exact absurd h0 (by simp)
  have ht : F ≠ ⊤ := fun h => by rw [h] at h1; exact absurd h1 (by simp [-EReal.coe_pow])
  lift F to ℝ using ⟨ht, hb⟩
  have h0' : 0 ≤ F := EReal.coe_nonneg.mp h0
  have h1' : F ≤ 2 ^ (128 : ℤ) := EReal.coe_le_coe_iff.mp h1
  refine ⟨F * (9586981 * (2 : ℝ) ^ (-32 : ℤ)), ?_, by positivity, ?_⟩
  · show F * Ideal.ofBits .f32 0x3B124925#32 = _
    rw [c_448, ← EReal.coe_mul]
  · have : (2 : ℝ) ^ (128 : ℤ) * (9586981 * (2 : ℝ) ^ (-32 : ℤ)) < 2 ^ (120 : ℤ) := by norm_num
    refine lt_of_le_of_lt (mul_le_mul_of_nonneg_right h1' (by positivity)) this

theorem fold_bdd {n : ℕ} (i0 : Fin n) (f : Fin n → EReal) (hf : ∀ i, Bdd (f i)) :
    ∃ r : ℝ, Finset.univ.fold max (Ideal.ofBits .f32 0xFF800000#32) (fun l : Fin n => FloatOps.absf (F := Ideal) (φ := .f32) (f l)) * c448 = (r : EReal) ∧ 0 ≤ r ∧ r < 2 ^ (120 : ℤ) := by
  refine quot_real _ ?_ ?_
  · refine (Finset.le_fold_max _).mpr (Or.inr ⟨i0, Finset.mem_univ _, ?_⟩)
    show (0 : EReal) ≤ max (f i0) (-(f i0))
    rcases le_total 0 (f i0) with h | h
    · exact le_max_of_le_left h
    · exact le_max_of_le_right (by simpa using EReal.neg_le_neg_iff.mpr h)
  · refine (Finset.fold_max_le _).mpr ⟨by rw [c_bot]; exact bot_le, fun i _ => hf i⟩

variable (q : EReal) (hq : ∃ r : ℝ, q = (r : EReal) ∧ 0 ≤ r ∧ r < 2 ^ (120 : ℤ))
include hq

theorem inv_same : kinv (kb q) = invR q := by
  obtain ⟨r, rfl, h0, h1⟩ := hq
  exact inv_eq r h0 h1

theorem scale_same : kscale (kb q) = scaleR q := by
  obtain ⟨r, rfl, h0, h1⟩ := hq
  exact scale_eq r h0 h1

omit hq

variable (x : AQ) (hx : ∀ y, Bdd (x y)) (u : AK) (hu : ∀ y, Bdd (u y))

include hx in
theorem same_q : codesQ (fun q => kinv (kb q)) x = codesQ invR x := funext fun y =>
  congrArg (kcode (x y)) (inv_same _ (fold_bdd 0 _ fun _ => hx _))

include hx in
theorem same_qs : scalesQ (fun q => kscale (kb q)) x = scalesQ scaleR x := funext fun y => scale_same _ (fold_bdd 0 _ fun _ => hx _)

include hu in
theorem same_k : codesK (fun q => kinv (kb q)) u = codesK invR u := funext fun y =>
  congrArg (kcode (u y)) (inv_same _ (fold_bdd 0 _ fun _ => hu _))

include hu in
theorem same_ks : scalesK (fun q => kscale (kb q)) u = scalesK scaleR u := funext fun y => scale_same _ (fold_bdd 0 _ fun _ => hu _)

include hu in
theorem same_v : codesV (fun q => kinv (kb q)) u = codesV invR u := funext fun y =>
  congrArg (kcode (u y)) (inv_same _ (fold_bdd 0 _ fun _ => hu _))

include hu in
theorem same_vs : scalesV (fun q => kscale (kb q)) u = scalesV scaleR u := funext fun y => scale_same _ (fold_bdd 0 _ fun _ => hu _)

end Cert.ReferenceIdeal.Val

end
-- ==== Proof.VFrame.RefAttn.lean ====
/- The reference's attention, index by index. -/
module

public import proofs.«01_k».proof.Proof.VFrame.Ref
public import proofs.«01_k».proof.Proof.VFrame.Soft
public import Idealize.ShloMosaic.Lib.WordSum

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Scale Cert.Spec Cert.Soft
open Cert.KernelIdeal.Gen (kcode c448)

/-- An array of weights, or of scores: by batch, head, query and key. -/
abbrev WT := FVec Ideal S2x8x4x16384x16384 .f32

/-! ## From the weights to the output -/

def sumP (p : WT) : FVec Ideal S2x8x4x16384 .f32 :=
  multiReduction .add [4] S2x8x4x16384 p 0x00000000#32 reduces_S2x8x4x16384x16384_S2x8x4x16384 (.inl rfl) rfl

theorem sumP_at (p : WT) (b : Fin 2) (h : Fin 8) (g : Fin 4) (r : Fin 16384) : sumP p (ix4 b h g r) = ∑ k : Fin 16384, p (ix5 b h g r k) := by
  pointwise [sumP]

def topP (p : WT) : FVec Ideal S2x8x4x16384 .f32 :=
  multiReduction .maximumf [4] S2x8x4x16384 p 0xFF800000#32 reduces_S2x8x4x16384x16384_S2x8x4x16384 (.inl rfl) rfl

theorem topP_at (p : WT) (b : Fin 2) (h : Fin 8) (g : Fin 4) (r : Fin 16384) :
    topP p (ix4 b h g r) = Finset.univ.sup fun k : Fin 16384 => p (ix5 b h g r k) := by
  have e : topP p (ix4 b h g r) = Finset.univ.fold max (Ideal.ofBits .f32 0xFF800000#32) fun k : Fin 16384 => p (ix5 b h g r k) := by
    pointwise [topP]
  rw [e, c_bot]
  rfl

def quotP (v : FVec Ideal S2x8x4x16384 .f32) : FVec Ideal S2x8x4x16384x1 .f32 :=
  mulf (shapeCast S2x8x4x16384x1 v shapeCasts_S2x8x4x16384_S2x8x4x16384x1) (broadcast S2x8x4x16384x1 (Scalar.ofBits .f32 0x3B124925#32))

theorem quotP_at (v : FVec Ideal S2x8x4x16384 .f32) (b : Fin 2) (h : Fin 8) (g : Fin 4) (r : Fin 16384) (z : Fin 1) :
    quotP v (ix5 b h g r z) = v (ix4 b h g r) * c448 := by
  pointwise [quotP]

def layP (e : FVec Ideal S2x8x4x16384x1 .f32) : WT :=
  broadcastTo S2x8x4x16384x16384 (exp2 (subf (broadcast S2x8x4x16384x1 (Scalar.ofBits .f32 0x00000000#32)) e)) broadcasts_S2x8x4x16384x1_S2x8x4x16384x16384

theorem layP_at (e : FVec Ideal S2x8x4x16384x1 .f32) (b : Fin 2) (h : Fin 8) (g : Fin 4) (r k : Fin 16384) :
    layP e (ix5 b h g r k) = Ideal.exp2 (Ideal.ofBits .f32 0x00000000#32 - e (ix5 b h g r 0)) := by
  pointwise [layP]
  rfl

def mixP (v : FVec Ideal S2x16384x8x128 .fp8e4m3) (p : FVec Ideal S2x8x4x16384x16384 .fp8e4m3) : FVec Ideal S2x16384x8x4x128 .f32 :=
  transpose S2x16384x8x4x128 [0, 4, 1, 3, 2]
    (matmul dot_S2x16384x8x128_S2x8x4x16384x16384_S2x8x128x4x16384_1_4_3_23_02_01 none v p (constant S2x8x128x4x16384 .f32 0x00000000#32))
    transposes_S2x8x128x4x16384_p0_4_1_3_2_S2x16384x8x4x128

theorem mixP_at (v : FVec Ideal S2x16384x8x128 .fp8e4m3) (p : FVec Ideal S2x8x4x16384x16384 .fp8e4m3) (b : Fin 2) (r : Fin 16384) (h : Fin 8) (g : Fin 4) (l : Fin 128) :
    mixP v p (ix5 b r h g l) = ∑ k : Fin 16384, v (ix4 b k h l) * p (ix5 b h g r k) := by
  pointwise [mixP]

def layE (e : FVec Ideal S2x8x4x16384x1 .f32) : FVec Ideal S2x16384x8x4x128 .f32 :=
  broadcastTo S2x16384x8x4x128 (shapeCast S2x16384x8x4x1 (transpose S2x16384x8x4 [0, 3, 1, 2]
    (shapeCast S2x8x4x16384 e shapeCasts_S2x8x4x16384x1_S2x8x4x16384) transposes_S2x8x4x16384_p0_3_1_2_S2x16384x8x4)
    shapeCasts_S2x16384x8x4_S2x16384x8x4x1) broadcasts_S2x16384x8x4x1_S2x16384x8x4x128

theorem layE_at (e : FVec Ideal S2x8x4x16384x1 .f32) (b : Fin 2) (r : Fin 16384) (h : Fin 8) (g : Fin 4) (l : Fin 128) :
    layE e (ix5 b r h g l) = e (ix5 b h g r 0) := by
  pointwise [layE]

def layW (e : FVec Ideal S2x8x128 .f32) : FVec Ideal S2x16384x8x4x128 .f32 :=
  broadcastTo S2x16384x8x4x128 (shapeCast S2x1x8x1x128 e shapeCasts_S2x8x128_S2x1x8x1x128) broadcasts_S2x1x8x1x128_S2x16384x8x4x128

theorem layW_at (e : FVec Ideal S2x8x128 .f32) (b : Fin 2) (r : Fin 16384) (h : Fin 8) (g : Fin 4) (l : Fin 128) :
    layW e (ix5 b r h g l) = e (ix3 b h l) := by
  pointwise [layW]

def layS (e : FVec Ideal S2x8x4x16384 .f32) : FVec Ideal S2x16384x8x4x128 .f32 :=
  broadcastTo S2x16384x8x4x128 (shapeCast S2x16384x8x4x1 (transpose S2x16384x8x4 [0, 3, 1, 2] e transposes_S2x8x4x16384_p0_3_1_2_S2x16384x8x4)
    shapeCasts_S2x16384x8x4_S2x16384x8x4x1) broadcasts_S2x16384x8x4x1_S2x16384x8x4x128

theorem layS_at (e : FVec Ideal S2x8x4x16384 .f32) (b : Fin 2) (r : Fin 16384) (h : Fin 8) (g : Fin 4) (l : Fin 128) :
    layS e (ix5 b r h g l) = e (ix4 b h g r) := by
  pointwise [layS]

/-- The heads side by side. -/
def flat (v : FVec Ideal S2x16384x8x4x128 .f32) : FVec Ideal S2x16384x4096 .bf16 :=
  truncf .bf16 (shapeCast S2x16384x4096 v shapeCasts_S2x16384x8x4x128_S2x16384x4096) bitsLt_bf16_f32

theorem flat_at (v : FVec Ideal S2x16384x8x4x128 .f32) (b : Fin 2) (r : Fin 16384) (n : Fin 4096) :
    flat v (ix3 b r n) = v (ix5 b r ⟨n.val / 512, by omega⟩ ⟨n.val / 128 % 4, by omega⟩ ⟨n.val % 128, by omega⟩) := by
  pointwise [flat]

theorem pay18_eq (v : FVec Ideal S2x16384x8x128 .fp8e4m3) (w : FVec Ideal S2x8x128 .f32) (p : WT) :
    k0_pay18 (F := Ideal) v w p = flat (divf (mulf (mulf (mixP v (codes p (layP (expo (quotP (topP (absf p))))) bitsLt_fp8e4m3_f32))
      (layE (exp2 (expo (quotP (topP (absf p))))))) (layW w)) (layS (sumP p))) := rfl

/-! ## From the codes to the weights -/

/-- Every position's document. -/
def docs (t : Vec Ideal S2x17 .i32) : IVec S2x16384 32 :=
  subi (multiReductionI .add [2] S2x16384 (extui 32 (cmpi .sle (broadcastTo S2x16384x17 (shapeCast S2x1x17 t shapeCasts_S2x17_S2x1x17) broadcasts_S2x1x17_S2x16384x17)
    (iota .tc S2x16384x17 32 [1] iota_S2x16384x17_d1_w32)) natLt_1_32) 0#32 reduces_S2x16384x17_S2x16384 rfl) (broadcast S2x16384 1#32)

/-- The keys a query sees. -/
def mask (d : IVec S2x16384 32) : IVec S2x16384x16384 1 :=
  andi (cmpi .eq (broadcastTo S2x16384x16384 (shapeCast S2x1x16384 d shapeCasts_S2x16384_S2x1x16384) broadcasts_S2x1x16384_S2x16384x16384)
      (broadcastTo S2x16384x16384 (shapeCast S2x16384x1 d shapeCasts_S2x16384_S2x16384x1) broadcasts_S2x16384x1_S2x16384x16384))
    (broadcastTo S2x16384x16384 (shapeCast S1x16384x16384 (cmpi .sle (iota .tc S16384x16384 32 [1] iota_S16384x16384_d1_w32) (iota .tc S16384x16384 32 [0] iota_S16384x16384_d0_w32))
      shapeCasts_S16384x16384_S1x16384x16384) broadcasts_S1x16384x16384_S2x16384x16384)

theorem mask_at (d : IVec S2x16384 32) (b : Fin 2) (r k : Fin 16384) :
    mask d (ix3 b r k) = IntOp.andi (IntOp.cmpi .eq (d (ix2 b k)) (d (ix2 b r))) (IntOp.cmpi .sle (BitVec.ofNat 32 k.val) (BitVec.ofNat 32 r.val)) := by
  pointwise [mask]

def layM (v : IVec S2x16384x16384 1) : IVec S2x8x4x16384x16384 1 :=
  broadcastTo S2x8x4x16384x16384 (shapeCast S2x1x1x16384x16384 (shapeCast S2x1x1x16384x16384 v shapeCasts_S2x16384x16384_S2x1x1x16384x16384)
    shapeCasts_S2x1x1x16384x16384_S2x1x1x16384x16384) broadcasts_S2x1x1x16384x16384_S2x8x4x16384x16384

theorem layM_at (v : IVec S2x16384x16384 1) (b : Fin 2) (h : Fin 8) (g : Fin 4) (r k : Fin 16384) : layM v (ix5 b h g r k) = v (ix3 b r k) := by
  pointwise [layM]

/-- The products of the codes. -/
def raw (kc : FVec Ideal S2x16384x8x128 .fp8e4m3) (qc : FVec Ideal S2x16384x8x4x128 .fp8e4m3) : WT :=
  transpose S2x8x4x16384x16384 [0, 1, 4, 3, 2]
    (matmul dot_S2x16384x8x128_S2x16384x8x4x128_S2x8x16384x16384x4_3_4_1_13_02_02 none kc qc (constant S2x8x16384x16384x4 .f32 0x00000000#32))
    transposes_S2x8x16384x16384x4_p0_1_4_3_2_S2x8x4x16384x16384

theorem raw_at (kc : FVec Ideal S2x16384x8x128 .fp8e4m3) (qc : FVec Ideal S2x16384x8x4x128 .fp8e4m3) (b : Fin 2) (h : Fin 8) (g : Fin 4) (r k : Fin 16384) :
    raw kc qc (ix5 b h g r k) = ∑ d : Fin 128, kc (ix4 b k h d) * qc (ix5 b r h g d) := by
  pointwise [raw]

/-- The scales' products, over the square root of the head's length. -/
def fac (qs : FVec Ideal S2x16384x8x4x1 .f32) (ks : FVec Ideal S2x16384x8x1 .f32) : WT :=
  divf (mulf (broadcastTo S2x8x4x16384x16384 (shapeCast S2x8x4x16384x1 (k0_pay15 qs) shapeCasts_S2x8x4x16384_S2x8x4x16384x1) broadcasts_S2x8x4x16384x1_S2x8x4x16384x16384)
    (broadcastTo S2x8x4x16384x16384 (shapeCast S2x8x1x1x16384 (k0_pay16 ks) shapeCasts_S2x8x16384_S2x8x1x1x16384) broadcasts_S2x8x1x1x16384_S2x8x4x16384x16384))
    (broadcast S2x8x4x16384x16384 (Scalar.sqrt (Scalar.ofBits .f32 0x43000000#32)))

theorem fac_at (qs : FVec Ideal S2x16384x8x4x1 .f32) (ks : FVec Ideal S2x16384x8x1 .f32) (b : Fin 2) (h : Fin 8) (g : Fin 4) (r k : Fin 16384) :
    fac qs ks (ix5 b h g r k) = Ideal.div (qs (ix5 b r h g 0) * ks (ix4 b k h 0)) (Ideal.sqrt (Ideal.ofBits .f32 0x43000000#32)) := by
  pointwise [fac, k0_pay15, k0_pay16]
  rfl

/-- The scores. -/
def scoreP (m : IVec S2x16384x16384 1) (s : WT) : WT := select (layM m) s (broadcast S2x8x4x16384x16384 (Scalar.ofBits .f32 0xFF800000#32))

def layT (v : FVec Ideal S2x8x4x16384 .f32) : WT :=
  broadcastTo S2x8x4x16384x16384 (shapeCast S2x8x4x16384x1 v shapeCasts_S2x8x4x16384_S2x8x4x16384x1) broadcasts_S2x8x4x16384x1_S2x8x4x16384x16384

theorem layT_at (v : FVec Ideal S2x8x4x16384 .f32) (b : Fin 2) (h : Fin 8) (g : Fin 4) (r k : Fin 16384) : layT v (ix5 b h g r k) = v (ix4 b h g r) := by
  pointwise [layT]

theorem weights_eq (t : Vec Ideal S2x17 .i32) (qc : FVec Ideal S2x16384x8x4x128 .fp8e4m3) (qs : FVec Ideal S2x16384x8x4x1 .f32) (kc : FVec Ideal S2x16384x8x128 .fp8e4m3)
    (ks : FVec Ideal S2x16384x8x1 .f32) : k0_pay17 (F := Ideal) t qc qs kc ks
      = exp (subf (scoreP (mask (docs t)) (mulf (raw kc qc) (fac qs ks))) (layT (topP (scoreP (mask (docs t)) (mulf (raw kc qc) (fac qs ks)))))) := rfl

end Cert.ReferenceIdeal.Val

end
-- ==== Proof.VFrame.Mask.lean ====
/- The keys a query sees: the kernel's first visible key and the reference's document counts name the same keys. -/
module

public import proofs.«01_k».proof.Proof.Words
public import Idealize.ShloMosaic.Lib.IndicatorCount

@[expose] public section

namespace Cert.Words

open Idealize.ShloMosaic

/-- A step keeps below a bound what was below it and what the new start keeps there. -/
theorem stepW_le (p acc v : BitVec 32) (k : ℤ) :
    (stepW p acc v).toInt ≤ k ↔ acc.toInt ≤ k ∧ (v.toInt ≤ p.toInt → v.toInt ≤ k) := by
  rw [stepW_eq]
  split_ifs <;> constructor <;> intro h <;> (try constructor) <;> (try intro) <;> omega

/-- The first visible key lies at or before a key exactly when every document start at or before the query does. -/
theorem firstW_le (W : Fin 17 → BitVec 32) (p : BitVec 32) (k : ℤ) (hk : 0 ≤ k) :
    (firstW p (W 0) (W 1) (W 2) (W 3) (W 4) (W 5) (W 6) (W 7) (W 8) (W 9) (W 10) (W 11) (W 12) (W 13) (W 14) (W 15) (W 16)).toInt ≤ k
      ↔ ∀ j, (W j).toInt ≤ p.toInt → (W j).toInt ≤ k := by
  unfold firstW
  simp only [stepW_le]
  rw [show ((0#32 : BitVec 32).toInt ≤ k) = True from by simpa using hk]
  simp only [Fin.forall_fin_succ, Fin.forall_fin_zero, true_and, and_true, and_assoc]
  rfl

/-- The documents that start at or before a position. -/
def upto (W : Fin 17 → BitVec 32) (q : ℤ) : Finset (Fin 17) := Finset.univ.filter fun j => (W j).toInt ≤ q

/-- Two positions lie in one document exactly when as many documents start before one as before the other. -/
theorem upto_card (W : Fin 17 → BitVec 32) (k p : ℤ) (hkp : k ≤ p) :
    (upto W k).card = (upto W p).card ↔ ∀ j, (W j).toInt ≤ p → (W j).toInt ≤ k := by
  have hsub : upto W k ⊆ upto W p := fun j hj => by
    simp only [upto, Finset.mem_filter] at hj ⊢; exact ⟨hj.1, hj.2.trans hkp⟩
  constructor
  · intro h j hj
    have := Finset.eq_of_subset_of_card_le hsub h.ge
    have hm : j ∈ upto W k := by rw [this]; simp [upto, hj]
    simpa [upto] using hm
  · intro h
    refine congrArg Finset.card (Finset.Subset.antisymm hsub fun j hj => ?_)
    simp only [upto, Finset.mem_filter] at hj ⊢; exact ⟨hj.1, h j hj.2⟩

/-- The number of documents that start at or before a position, as the reference counts it. -/
def docW (W : Fin 17 → BitVec 32) (r : Fin 16384) : BitVec 32 :=
  IntOp.subi (Finset.univ.fold IntOp.addi 0#32 fun j : Fin 17 => (IntOp.cmpi .sle (W j) (BitVec.ofNat 32 r.val)).setWidth 32) 1#32

theorem docW_eq (W : Fin 17 → BitVec 32) (r : Fin 16384) : docW W r = BitVec.ofNat 32 (upto W r.val).card - 1#32 := by
  unfold docW
  rw [IndicatorCount.fold_addi_setWidth_eq_card]
  show BitVec.ofNat 32 _ - 1#32 = _
  congr 3
  ext j
  simp only [upto, Finset.mem_filter, Finset.mem_univ, true_and]
  rw [WordCmp.cmpi_sle_eq, toInt_small r.val (by omega)]
  by_cases h : (W j).toInt ≤ (r.val : ℤ) <;> simp [h]

theorem docW_inj (W : Fin 17 → BitVec 32) (k r : Fin 16384) : docW W k = docW W r ↔ (upto W k.val).card = (upto W r.val).card := by
  have hc : ∀ q : ℤ, (upto W q).card ≤ 17 := fun q => (Finset.card_filter_le _ _).trans (by simp)
  have h1 := hc k.val
  have h2 := hc r.val
  rw [docW_eq, docW_eq]
  generalize (upto W k.val).card = a at *
  generalize (upto W r.val).card = b at *
  constructor
  · intro h
    have h' : BitVec.ofNat 32 a = BitVec.ofNat 32 b := by simpa using congrArg (· + 1#32) h
    have := congrArg BitVec.toNat h'
    simp only [BitVec.toNat_ofNat] at this
    omega
  · intro h; rw [h]

/-- One bit for a conjunction of two. -/
theorem andi_one (a b : BitVec 1) : IntOp.andi a b = 1#1 ↔ a = 1#1 ∧ b = 1#1 := by
  revert a b; decide

theorem bit_ext (a b : BitVec 1) (h : a = 1#1 ↔ b = 1#1) : a = b := by
  revert a b; decide

theorem ofBool_one (b : Bool) : BitVec.ofBool b = 1#1 ↔ b = true := by cases b <;> decide

/-- The kernel's mask and the reference's mask agree. -/
theorem mask_same (W : Fin 17 → BitVec 32) (r k : Fin 16384) (P : BitVec 32) (hP : P = BitVec.ofNat 32 r.val) :
    IntOp.andi (IntOp.cmpi .sge (BitVec.ofNat 32 k.val)
        (firstW P (W 0) (W 1) (W 2) (W 3) (W 4) (W 5) (W 6) (W 7) (W 8) (W 9) (W 10) (W 11) (W 12) (W 13) (W 14) (W 15) (W 16)))
      (IntOp.cmpi .sle (BitVec.ofNat 32 k.val) P)
      = IntOp.andi (IntOp.cmpi .eq (docW W k) (docW W r)) (IntOp.cmpi .sle (BitVec.ofNat 32 k.val) (BitVec.ofNat 32 r.val)) := by
  subst hP
  have hk := toInt_small k.val (by omega)
  have hr := toInt_small r.val (by omega)
  refine bit_ext _ _ ?_
  rw [andi_one, andi_one]
  refine and_congr_left fun hle => ?_
  rw [WordCmp.cmpi_sle_eq, hk, hr] at hle
  have hkr : (k.val : ℤ) ≤ r.val := by
    by_contra hh
    simp [hh] at hle
  have e1 : IntOp.cmpi .sge (BitVec.ofNat 32 k.val) (firstW (BitVec.ofNat 32 r.val) (W 0) (W 1) (W 2) (W 3) (W 4) (W 5) (W 6) (W 7) (W 8) (W 9) (W 10) (W 11) (W 12) (W 13) (W 14) (W 15) (W 16)) = 1#1
      ↔ (firstW (BitVec.ofNat 32 r.val) (W 0) (W 1) (W 2) (W 3) (W 4) (W 5) (W 6) (W 7) (W 8) (W 9) (W 10) (W 11) (W 12) (W 13) (W 14) (W 15) (W 16)).toInt ≤ k.val := by
    rw [← hk]
    unfold IntOp.cmpi
    simp [BitVec.sle, ofBool_one]
  have e2 : IntOp.cmpi .eq (docW W k) (docW W r) = 1#1 ↔ docW W k = docW W r := by
    unfold IntOp.cmpi
    by_cases h : docW W k = docW W r <;> simp [h, ofBool_one]
  rw [e1, e2, firstW_le W _ _ (by omega), docW_inj, upto_card W _ _ hkr, hr]

end Cert.Words
-- ==== Proof.VFrame.RefOut.lean ====
/- The reference's attention output, index by index, from the codes and the scales. -/
module

public import proofs.«01_k».proof.Proof.VFrame.RefAttn
public import proofs.«01_k».proof.Proof.VFrame.Soft
public import proofs.«01_k».proof.Proof.VFrame.Mask
public import Idealize.ShloMosaic.Lib.WordSum

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Scale Cert.Spec Cert.Soft
open Cert.KernelIdeal.Gen (kcode c448)
open Cert.Words (docW)

theorem docs_at (t : Vec Ideal S2x17 .i32) (b : Fin 2) (r : Fin 16384) :
    docs t (ix2 b r) = IntOp.subi (Finset.univ.fold IntOp.addi 0#32 fun j : Fin 17 => (IntOp.cmpi .sle (t (ix2 b j)) (BitVec.ofNat 32 r.val)).setWidth 32) 1#32 := by
  pointwise [docs]

theorem exp_at' {s : Shape} (v : FVec Ideal s .f32) (j : s.Idx) : exp v j = Ideal.exp (v j) := rfl
theorem subf_at' {s : Shape} (v w : FVec Ideal s .f32) (j : s.Idx) : subf v w j = (v j : EReal) - w j := rfl
theorem mulf_at' {s : Shape} (v w : FVec Ideal s .f32) (j : s.Idx) : mulf v w j = (v j : EReal) * w j := rfl
theorem divf_at' {s : Shape} (v w : FVec Ideal s .f32) (j : s.Idx) : divf v w j = Ideal.div (v j) (w j) := rfl
theorem absf_at' {s : Shape} (v : FVec Ideal s .f32) (j : s.Idx) : absf v j = max (v j : EReal) (-v j) := rfl
theorem select_at' {s : Shape} (m : IVec s 1) (v : FVec Ideal s .f32) (c : EReal) (j : s.Idx) :
    select m v (broadcast s (c : Ideal .f32)) j = Scalar.select (m j) (v j : EReal) c := rfl
theorem kcode_clip (v e : EReal) : kcode v e = clip (v * e) := rfl

/-- A query's score of a key under the mask. -/
theorem score_at (m : IVec S2x16384x16384 1) (v : WT) (b : Fin 2) (h : Fin 8) (g : Fin 4) (r k : Fin 16384) (X : Fin 16384 → EReal) (M : Fin 16384 → BitVec 1)
    (hX : v (ix5 b h g r k) = X k) (hM : m (ix3 b r k) = M k) :
    scoreP m v (ix5 b h g r k) = rscore X M k := by
  unfold scoreP rscore
  refine (select_at' (layM m) v (Ideal.ofBits .f32 0xFF800000#32) _).trans ?_
  rw [layM_at, hX, hM]

/-- The reference's weights, row by row. -/
theorem weights_at (s : WT) (b : Fin 2) (h : Fin 8) (g : Fin 4) (r : Fin 16384) (X : Fin 16384 → EReal) (M : Fin 16384 → BitVec 1)
    (hs : ∀ k, s (ix5 b h g r k) = rscore X M k) (k : Fin 16384) :
    exp (subf s (layT (topP s))) (ix5 b h g r k) = rwt X M k := by
  unfold rwt
  rw [exp_at', subf_at', layT_at, topP_at, hs k, funext hs]

/-- The reference's output from its weights, row by row. -/
theorem out_at (v : FVec Ideal S2x16384x8x128 .fp8e4m3) (w : FVec Ideal S2x8x128 .f32) (p : WT) (b : Fin 2) (r : Fin 16384) (h : Fin 8) (g : Fin 4) (l : Fin 128)
    (X : Fin 16384 → EReal) (M : Fin 16384 → BitVec 1) (hp : ∀ k, p (ix5 b h g r k) = rwt X M k) :
    divf (mulf (mulf (mixP v (codes p (layP (expo (quotP (topP (absf p))))) bitsLt_fp8e4m3_f32))
      (layE (exp2 (expo (quotP (topP (absf p))))))) (layW w)) (layS (sumP p)) (ix5 b r h g l) = ratt X M (fun k => v (ix4 b k h l)) (w (ix3 b h l)) := by
  have ha : (fun k => absf p (ix5 b h g r k)) = fun k => max (rwt X M k) (-rwt X M k) := funext fun k => by rw [absf_at', hp]
  have he : expo (quotP (topP (absf p))) (ix5 b h g r 0) = rexp X M := by
    rw [expo_at, quotP_at, topP_at, ha]
    unfold rexp
    rw [show c448 = Ideal.ofBits .f32 0x3B124925#32 from rfl]
  have hc : (fun k => (v (ix4 b k h l) : EReal) * codes p (layP (expo (quotP (topP (absf p))))) bitsLt_fp8e4m3_f32 (ix5 b h g r k))
      = fun k => (v (ix4 b k h l) : EReal) * clip (rwt X M k * Ideal.exp2 (Ideal.ofBits .f32 0x00000000#32 - rexp X M)) := funext fun k => by
    rw [codes_at, layP_at, he, hp, kcode_clip]
  rw [divf_at', mulf_at', mulf_at', mixP_at, layE_at, layW_at, layS_at, sumP_at, exp2_at, he, hc, funext hp]
  unfold ratt
  with_reducible rfl

/-! ## The output from the codes and the scales -/

theorem out_lt {n : Nat} (h : n < 4096) : n / 512 < 8 := by omega
theorem lane_lt {h d : Nat} (hh : h < 8) (hd : d < 128) : 128 * h + d < 1024 := by omega
theorem head_lt {h g d : Nat} (hh : h < 8) (hg : g < 4) (hd : d < 128) : 512 * h + 128 * g + d < 4096 := by omega

section

variable (T : Vec Ideal S2x17 .i32) (cq : Vec Ideal S2x16384x4096 .fp8e4m3) (sq : Vec Ideal S2x8x4x16384 .f32) (ck : Vec Ideal S2x16384x1024 .fp8e4m3)
  (sk : Vec Ideal S2x8x128x128 .f32) (cv : Vec Ideal S2x16384x1024 .fp8e4m3) (sv : Vec Ideal S2x8x1x128 .f32)

/-- The inner product of a query's and a key's codes. -/
def dotO (b : Fin 2) (r : Fin 16384) (h : Fin 8) (g : Fin 4) (k : Fin 16384) : EReal :=
  ∑ d : Fin 128, ck (ix3 b k ⟨128 * h.val + d.val, lane_lt h.isLt d.isLt⟩) * cq (ix3 b r ⟨512 * h.val + 128 * g.val + d.val, head_lt h.isLt g.isLt d.isLt⟩)

/-- A query's score of a key. -/
def scoreO (b : Fin 2) (r : Fin 16384) (h : Fin 8) (g : Fin 4) (k : Fin 16384) : EReal :=
  dotO cq ck b r h g k * Ideal.div (sq (ix4 b h g r) * sk (ix4 b h ⟨k.val / 128, by omega⟩ ⟨k.val % 128, by omega⟩)) (Ideal.sqrt (Ideal.ofBits .f32 0x43000000#32))

/-- The keys a query sees: those of its own document, up to itself. -/
def maskO (b : Fin 2) (r k : Fin 16384) : BitVec 1 :=
  IntOp.andi (IntOp.cmpi .eq (docW (fun j => T (ix2 b j)) k) (docW (fun j => T (ix2 b j)) r)) (IntOp.cmpi .sle (BitVec.ofNat 32 k.val) (BitVec.ofNat 32 r.val))

/-- The output of one lane of one head of one query. -/
def outO (b : Fin 2) (r : Fin 16384) (h : Fin 8) (g : Fin 4) (l : Fin 128) : EReal :=
  ratt (scoreO cq sq ck sk b r h g) (maskO T b r) (fun k => cv (ix3 b k ⟨128 * h.val + l.val, lane_lt h.isLt l.isLt⟩)) (sv (ix4 b h 0 l))

/-- The attention's output as an array. -/
def OUT : Vec Ideal S2x16384x4096 .bf16 := fun y =>
  outO T cq sq ck sk cv sv (y 0) (y 1) ⟨(y 2).val / 512, by have h : (y 2).val < 4096 := (y 2).isLt; omega⟩ ⟨(y 2).val / 128 % 4, by omega⟩ ⟨(y 2).val % 128, by omega⟩

end

/-- The reference's output at a lane, from the four pieces of its codes and scales. -/
theorem pay_out (t : Vec Ideal S2x17 .i32) (qc : FVec Ideal S2x16384x8x4x128 .fp8e4m3) (qs : FVec Ideal S2x16384x8x4x1 .f32) (kc : FVec Ideal S2x16384x8x128 .fp8e4m3)
    (ks : FVec Ideal S2x16384x8x1 .f32) (v : FVec Ideal S2x16384x8x128 .fp8e4m3) (w : FVec Ideal S2x8x128 .f32) (b : Fin 2) (r : Fin 16384) (n : Fin 4096)
    (cq : Vec Ideal S2x16384x4096 .fp8e4m3) (sq : Vec Ideal S2x8x4x16384 .f32) (ck : Vec Ideal S2x16384x1024 .fp8e4m3)
    (sk : Vec Ideal S2x8x128x128 .f32) (cv : Vec Ideal S2x16384x1024 .fp8e4m3) (sv : Vec Ideal S2x8x1x128 .f32)
    (h1 : ∀ b r h g d, qc (ix5 b r h g d) = cq (ix3 b r ⟨512 * h.val + 128 * g.val + d.val, head_lt h.isLt g.isLt d.isLt⟩))
    (h2 : ∀ b r h g, qs (ix5 b r h g 0) = sq (ix4 b h g r))
    (h3 : ∀ b k h d, kc (ix4 b k h d) = ck (ix3 b k ⟨128 * h.val + d.val, lane_lt h.isLt d.isLt⟩))
    (h4 : ∀ b k h, ks (ix4 b k h 0) = sk (ix4 b h ⟨k.val / 128, by omega⟩ ⟨k.val % 128, by omega⟩))
    (h5 : ∀ b k h d, v (ix4 b k h d) = cv (ix3 b k ⟨128 * h.val + d.val, lane_lt h.isLt d.isLt⟩))
    (h6 : ∀ b h l, w (ix3 b h l) = sv (ix4 b h 0 l)) :
    k0_pay18 v w (k0_pay17 t qc qs kc ks) (ix3 b r n) = OUT t cq sq ck sk cv sv (ix3 b r n) := by
  have hX : ∀ (h : Fin 8) (g : Fin 4) (k : Fin 16384), mulf (raw kc qc) (fac qs ks) (ix5 b h g r k) = scoreO cq sq ck sk b r h g k := fun h g k => by
    rw [mulf_at', raw_at, fac_at, h2, h4]
    unfold scoreO dotO
    simp only [h1, h3]
  have hM : ∀ k, mask (docs t) (ix3 b r k) = maskO t b r k := fun k => by
    rw [mask_at, docs_at, docs_at]
    rfl
  rw [pay18_eq, flat_at, out_at v w _ b r _ _ _ (scoreO cq sq ck sk b r _ _) (maskO t b r) (fun k => by
    rw [weights_eq]
    exact weights_at _ b _ _ r _ _ (fun k => score_at _ _ b _ _ r k _ _ (hX _ _ k) (hM k)) k)]
  simp only [h5, h6]
  rfl
end Cert.ReferenceIdeal.Val

end
-- ==== Proof.VFrame.Join.lean ====
/- The kernel's attention of a row and the reference's are one number, from the same codes and scales. -/
module

public import proofs.«01_k».proof.Proof.VFrame.RefOut
public import proofs.«01_k».proof.Proof.VFrame.Attn

@[expose] public section

set_option maxRecDepth 16384

noncomputable section

namespace Cert.Join

open Idealize.ShloMosaic Idealize.ShloMosaic.TcCoe Idealize.ShloMosaic.Tactic
open Cert.Scale Cert.Soft Cert.Spec Cert.ReferenceIdeal.Val

/-- The factor folded into the queries' scales, as a real number. -/
theorem sigma_real : Cert.KernelIdeal.Gen.sigma = (((Real.sqrt 128)⁻¹ * (Real.log 2)⁻¹ : ℝ) : EReal) := rfl

theorem c_128 : Ideal.ofBits .f32 0x43000000#32 = ((128 : ℝ) : EReal) := by
  simp [Ideal.ofBits, Ideal.ieee, -EReal.coe_mul]; norm_num

theorem sqrt_128 : Ideal.sqrt (Ideal.ofBits .f32 0x43000000#32) = ((Real.sqrt 128 : ℝ) : EReal) := by
  rw [c_128]
  show (if (128 : ℝ) < 0 then (⊥ : EReal) else (Real.sqrt 128 : EReal)) = _
  rw [if_neg (by norm_num)]

/-- A scale is a positive real number. -/
theorem scale_real (q : EReal) (hq : ∃ r : ℝ, q = (r : EReal) ∧ 0 ≤ r ∧ r < 2 ^ (120 : ℤ)) : ∃ s : ℝ, 0 < s ∧ kscale (kb q) = (s : EReal) := by
  rw [scale_same q hq]
  obtain ⟨r, rfl, h0, h1⟩ := hq
  unfold scaleR
  rw [refE_spec r h0 h1, exp2_int]
  exact ⟨_, by positivity, rfl⟩

/-- A code is a real number. -/
theorem code_real (v e : EReal) : ∃ r : ℝ, Cert.KernelIdeal.Gen.kcode v e = (r : EReal) := by
  rw [kcode_clip]; exact clip_real _

theorem sum_real (f g : Fin 128 → EReal) (hf : ∀ d, ∃ r : ℝ, f d = (r : EReal)) (hg : ∀ d, ∃ r : ℝ, g d = (r : EReal)) :
    ∃ r : ℝ, ∑ d, f d * g d = (r : EReal) := by
  refine Finset.sum_induction _ (fun x : EReal => ∃ r : ℝ, x = (r : EReal)) ?_ ⟨0, EReal.coe_zero.symm⟩ fun d _ => ?_
  · rintro _ _ ⟨a, rfl⟩ ⟨b, rfl⟩
    exact ⟨a + b, (EReal.coe_add a b).symm⟩
  · obtain ⟨a, ha⟩ := hf d
    obtain ⟨b, hb⟩ := hg d
    exact ⟨a * b, by rw [ha, hb, EReal.coe_mul]⟩

/-- The two attentions of a row. -/
theorem join (Y K : Fin 16384 → EReal) (M : Fin 16384 → BitVec 1) (q : Fin 16384) (hq : M q = 1#1) (Q : EReal) (V : Fin 16384 → EReal) (S : EReal) (a b : ℕ)
    (hb : b ≤ 16384) (hM : ∀ k, M k = 1#1 → a ≤ k.val ∧ k.val < b)
    (hY : ∀ k, ∃ r : ℝ, Y k = (r : EReal)) (hK : ∀ k, ∃ r : ℝ, K k = (r : EReal)) (hQ : ∃ r : ℝ, 0 < r ∧ Q = (r : EReal))
    (hV : ∀ k, ∃ r : ℝ, V k = (r : EReal)) (hS : ∃ r : ℝ, S = (r : EReal)) :
    att (fun k => Y k * K k) M (Q * Cert.KernelIdeal.Gen.sigma) V S a b
      = ratt (fun k => Y k * Ideal.div (Q * K k) (Ideal.sqrt (Ideal.ofBits .f32 0x43000000#32))) M V S := by
  choose y hy using hY
  choose κ hκ using hK
  choose v hv using hV
  obtain ⟨s, hs0, hs⟩ := hQ
  obtain ⟨w, hw⟩ := hS
  have h128 : 0 < Real.sqrt 128 := Real.sqrt_pos.mpr (by norm_num)
  have hlog : 0 < Real.log 2 := Real.log_pos (by norm_num)
  obtain ⟨k0, h0, h1⟩ := exists_top (fun k => y k * κ k) M q hq
  have e1 : (fun k => Y k * K k) = fun k => ((y k * κ k : ℝ) : EReal) := funext fun k => by rw [hy, hκ, EReal.coe_mul]
  have e2 : (fun k => Y k * Ideal.div (Q * K k) (Ideal.sqrt (Ideal.ofBits .f32 0x43000000#32)))
      = fun k => ((y k * κ k * (s * (Real.sqrt 128)⁻¹) : ℝ) : EReal) := funext fun k => by
    rw [sqrt_128, hy, hκ, hs, ← EReal.coe_mul]
    unfold Ideal.div
    rw [if_neg (by exact_mod_cast h128.ne'), ← EReal.coe_inv, ← EReal.coe_mul, ← EReal.coe_mul]
    congr 1
    ring
  have e3 : Q * Cert.KernelIdeal.Gen.sigma = ((s * ((Real.sqrt 128)⁻¹ * (Real.log 2)⁻¹) : ℝ) : EReal) := by rw [hs, sigma_real, EReal.coe_mul s]
  have e4 : V = fun k => (v k : EReal) := funext hv
  rw [e1, e2, e3, e4, hw, att_eq (fun k => y k * κ k) M k0 h0 h1 (s * ((Real.sqrt 128)⁻¹ * (Real.log 2)⁻¹)) (by positivity) v w a b hb hM,
    ratt_eq (fun k => y k * κ k) M k0 h0 h1 (s * (Real.sqrt 128)⁻¹) (by positivity) v w]
  congr 2
  field_simp

end Cert.Join

end
-- ==== Proof.VFrame.Last.lean ====
/- What the attention's array holds after the run: each write-back is the block, at its place, of one function of the arguments, and
   the write-backs cover the array. -/
module

public import proofs.«01_k».proof.Proof.VFrame.Final
public import proofs.«01_k».proof.Proof.VFrame.Tab
public import proofs.«01_k».proof.Proof.VFrame.Join

@[expose] public section

set_option maxRecDepth 16384

noncomputable section

namespace Cert.KernelIdeal.Val

open Idealize.ShloMosaic Idealize.ShloMosaic.TcCoe Idealize.ShloMosaic.Tactic
open Idealize.SL.Sem Cert.Scale Cert.Spec Cert.Words Cert.Soft Cert.Join
open Idealize.ShloMosaic.Pipeline (Dat Cfg Window)
open Cert.KernelIdeal Cert.KernelIdeal.Gen
open Cert.ReferenceIdeal.Val (OUT outO scoreO dotO maskO Bdd fold_bdd)

variable (m : (ℓ : Loc nD τ sig) → Buf (Elt Ideal) ℓ)

theorem map_3 : ∀ t : Fin grid0.N, cc0_transform_3 (grid0.coords t) = ![(tb t).val, (ti t).val, (th t).val] := by decide +kernel

theorem emb_3 (hO : Ok m) (t : Fin grid0.N) (y : S1x128x512.Idx) :
    ((((cfgM m hO).win 3).blk t).view.emb y : S2x16384x4096.Idx) = ix3 (tb t) ⟨128 * (ti t).val + (y 1).val, by have h : (y 1).val < 128 := (y 1).isLt; omega⟩ ⟨512 * (th t).val + (y 2).val, by have h : (y 2).val < 512 := (y 2).isLt; omega⟩ := by
  have hm := map_3 t
  have h0 : (y 0).val < 1 := (y 0).isLt
  funext a; apply Fin.ext
  match a with
  | ⟨0, _⟩ =>
    show cc0_transform_3 (grid0.coords t) 0 * 1 + 1 * (y 0).val = _
    rw [hm]
    show (tb t).val * 1 + 1 * (y 0).val = (tb t).val
    omega
  | ⟨1, _⟩ =>
    show cc0_transform_3 (grid0.coords t) 1 * 128 + 1 * (y 1).val = _
    rw [hm]
    show (ti t).val * 128 + 1 * (y 1).val = 128 * (ti t).val + (y 1).val
    omega
  | ⟨2, _⟩ =>
    show cc0_transform_3 (grid0.coords t) 2 * 512 + 1 * (y 2).val = _
    rw [hm]
    show (th t).val * 512 + 1 * (y 2).val = 512 * (th t).val + (y 2).val
    omega

theorem cover_3 (hO : Ok m) (i : S2x16384x4096.Idx) : ∃ t : Fin (cfgM m hO).N, ((cfgM m hO).win 3).flush t = true ∧ i ∈ (((cfgM m hO).win 3).blk t).view.set := by
  have h0 : (i 0).val < 2 := (i 0).isLt
  have h1 : (i 1).val < 16384 := (i 1).isLt
  have h2 : (i 2).val < 4096 := (i 2).isLt
  have ht : (i 0).val * 1024 + (i 2).val / 512 * 128 + (i 1).val / 128 < grid0.N := by show _ < 2048; omega
  refine ⟨⟨(i 0).val * 1024 + (i 2).val / 512 * 128 + (i 1).val / 128, ht⟩, flush0_3 (adm m hO) _, ?_⟩
  have e := emb_3 m hO ⟨(i 0).val * 1024 + (i 2).val / 512 * 128 + (i 1).val / 128, ht⟩ (ix3 0 ⟨(i 1).val % 128, by omega⟩ ⟨(i 2).val % 512, by omega⟩)
  have e' : ((((cfgM m hO).win 3).blk (⟨(i 0).val * 1024 + (i 2).val / 512 * 128 + (i 1).val / 128, ht⟩ : Fin grid0.N)).view.emb (ix3 0 ⟨(i 1).val % 128, by omega⟩ ⟨(i 2).val % 512, by omega⟩) : S2x16384x4096.Idx) = i := by
    refine e.trans ?_
    funext a; apply Fin.ext
    match a with
    | ⟨0, _⟩ => show ((i 0).val * 1024 + (i 2).val / 512 * 128 + (i 1).val / 128) / 1024 = (i 0).val; omega
    | ⟨1, _⟩ => show 128 * (((i 0).val * 1024 + (i 2).val / 512 * 128 + (i 1).val / 128) % 128) + (i 1).val % 128 = (i 1).val; omega
    | ⟨2, _⟩ => show 512 * (((i 0).val * 1024 + (i 2).val / 512 * 128 + (i 1).val / 128) / 128 % 8) + (i 2).val % 512 = (i 2).val; omega
  exact mem_of_emb e'

/-- The row of the queries a lane of a point's tile is. -/
def tp (t : Fin grid0.N) (r : Fin 128) : Fin 16384 := ⟨128 * (ti t).val + r.val, by omega⟩

theorem posW_eq (t : Fin 128) (r : Fin 128) : posW t.val r = BitVec.ofNat 32 (128 * t.val + r.val) := by
  unfold posW rowW
  apply BitVec.eq_of_toNat_eq
  show ((BitVec.ofNat 32 t.val * 128#32) + BitVec.ofNat 32 r.val).toNat = _
  simp
  omega

theorem mask_eq (hO : Ok m) (c : Dev nD) (t : Fin grid0.N) (r : Fin 128) :
    MK (firstOf (posW (ti t).val r) (fun j => X3' m c (ix2 (tb t) j))) (posW (ti t).val r) = maskO (X3' m c) (tb t) (tp t r) := by
  funext k
  exact mask_same (fun j => X3' m c (ix2 (tb t) j)) (tp t r) k _ (posW_eq (ti t) r)

/-- The keys a row sees lie in the blocks the kernel walks. -/
theorem mask_range (W : Fin 17 → BitVec 32) (t r : Fin 128) (k : Fin 16384) (hk : MK (firstOf (posW t.val r) W) (posW t.val r) k = 1#1) :
    128 * ((firstOf (rowW t.val) W).toNat / 128) ≤ k.val ∧ k.val < 128 * (t.val + 1) := by
  obtain ⟨h1, h2⟩ := (andi_one _ _).mp hk
  have hp : (posW t.val r).toInt = ((128 * t.val + r.val : ℕ) : ℤ) := by rw [posW_eq]; exact toInt_small _ (by omega)
  have hkk := toInt_small k.val (by omega)
  have e1 : (firstOf (posW t.val r) W).toInt ≤ k.val := by
    rw [← hkk]
    unfold IntOp.cmpi at h1
    simpa [BitVec.sle, ofBool_one] using h1
  have e2 : (k.val : ℤ) ≤ ((128 * t.val + r.val : ℕ) : ℤ) := by
    rw [← hp, ← hkk]
    unfold IntOp.cmpi at h2
    simpa [BitVec.sle, ofBool_one] using h2
  have hr := rowW_toInt t
  have e3 : (firstOf (rowW t.val) W).toInt ≤ k.val := by
    by_cases hlt : 128 * t.val ≤ k.val
    · obtain ⟨_, hb⟩ := firstW_bounds (rowW t.val) (W 0) (W 1) (W 2) (W 3) (W 4) (W 5) (W 6) (W 7) (W 8) (W 9) (W 10) (W 11) (W 12) (W 13) (W 14) (W 15) (W 16) (by rw [hr]; omega)
      exact hb.trans (by rw [hr]; exact_mod_cast hlt)
    · exact (firstW_le W _ _ (Int.natCast_nonneg _)).mpr fun j hj => (firstW_le W _ _ (Int.natCast_nonneg _)).mp e1 j (by rw [hp]; rw [hr] at hj; push_cast; omega)
  have hn : 0 ≤ (firstOf (rowW t.val) W).toInt := (firstW_bounds (rowW t.val) (W 0) (W 1) (W 2) (W 3) (W 4) (W 5) (W 6) (W 7) (W 8) (W 9) (W 10) (W 11) (W 12) (W 13) (W 14) (W 15) (W 16) (by rw [hr]; omega)).1
  have ht : ((firstOf (rowW t.val) W).toNat : ℤ) = (firstOf (rowW t.val) W).toInt := by
    rw [BitVec.toInt_eq_toNat_cond] at hn ⊢
    have := (firstOf (rowW t.val) W).isLt
    split_ifs at hn ⊢ <;> omega
  constructor <;> omega

theorem scale_real' (q : EReal) (hq : ∃ r : ℝ, q = (r : EReal) ∧ 0 ≤ r ∧ r < 2 ^ (120 : ℤ)) : ∃ s : ℝ, kscale (kb q) = (s : EReal) := by
  obtain ⟨s, _, hs⟩ := scale_real q hq
  exact ⟨s, hs⟩

/-- A query sees itself. -/
theorem mask_self (T : Vec Ideal S2x17 .i32) (b : Fin 2) (p : Fin 16384) : maskO T b p p = 1#1 := by
  unfold maskO
  rw [andi_one]
  constructor
  · unfold IntOp.cmpi; simp
  · unfold IntOp.cmpi; simp [BitVec.sle]

/-- The attention's output of the arguments. -/
abbrev kOUT (c : Dev nD) : Vec Ideal S2x16384x4096 .bf16 :=
  OUT (X3' m c) (codesQ (fun q => kinv (kb q)) (X0 m c)) (scalesQ (fun q => kscale (kb q)) (X0 m c)) (codesK (fun q => kinv (kb q)) (X1 m c))
    (scalesK (fun q => kscale (kb q)) (X1 m c)) (codesV (fun q => kinv (kb q)) (X2 m c)) (scalesV (fun q => kscale (kb q)) (X2 m c))

theorem tword_eq (c : Dev nD) (t : Fin grid0.N) : tword c (grid0.coords t) (tbl m 0) = fun j => X3' m c (ix2 (tb t) j) := by
  funext j
  refine (tword_at c (grid0.coords t) (tbl m 0) j).trans ?_
  refine (congrFun (tbl_eq m c) _).trans (congrArg (X3' m c) ?_)
  funext a; apply Fin.ext
  match a with
  | ⟨0, _⟩ => exact coords_0 t
  | ⟨1, _⟩ => rfl

section

variable (hO : Ok m) (c : Dev nD) (t : Fin grid0.N)

theorem xk_eq (h : Fin 4) (r : Fin 128) : XK (KC (iblk m hO c 1 t)) (KSB (iblk m hO c 1 t)) (XQL (iblk m hO c 0 t)) h r
    = fun k => dotO (codesQ (fun q => kinv (kb q)) (X0 m c)) (codesK (fun q => kinv (kb q)) (X1 m c)) (tb t) (tp t r) (th t) h k
      * scalesK (fun q => kscale (kb q)) (X1 m c) (ix4 (tb t) (th t) ⟨k.val / 128, by omega⟩ ⟨k.val % 128, by omega⟩) := by
  funext k
  unfold XK dotO
  refine congrArg₂ (fun a b : EReal => a * b) (Finset.sum_congr rfl fun d _ => congrArg₂ (fun a b : EReal => a * b) (KC_blk m hO c t _) ?_) ?_
  · refine (XQL_lane (iblk m hO c 0 t) h r d).trans ?_
    refine (QC_blk m hO c t _).trans (congrArg (codesQ (fun q => kinv (kb q)) (X0 m c)) ?_)
    funext a; apply Fin.ext
    match a with
    | ⟨0, _⟩ => rfl
    | ⟨1, _⟩ => rfl
    | ⟨2, _⟩ => exact (Nat.add_assoc _ _ _).symm
  · refine congrArg (fun q => kscale (kb (q * c448))) ((krow_blk m hO c t k).trans (congrArg (fun k => rowK (X1 m c) (tb t) k (th t)) (Fin.ext ?_)))
    exact (Nat.div_add_mod k.val 128).symm

theorem vt_eq (e : Fin 128) : (fun k : Fin 16384 => VT (iblk m hO c 2 t) (ix3 ⟨k.val / 128, by omega⟩ e ⟨k.val % 128, by omega⟩))
    = fun k => codesV (fun q => kinv (kb q)) (X2 m c) (ix3 (tb t) k ⟨128 * (th t).val + e.val, by omega⟩) := by
  funext k
  refine (VC_blk m hO c t _).trans (congrArg (codesV (fun q => kinv (kb q)) (X2 m c)) ?_)
  funext a; apply Fin.ext
  match a with
  | ⟨0, _⟩ => rfl
  | ⟨1, _⟩ => exact Nat.div_add_mod k.val 128
  | ⟨2, _⟩ => rfl

theorem vs_eq (e r : Fin 128) : VSB (iblk m hO c 2 t) (ix2 e r) = scalesV (fun q => kscale (kb q)) (X2 m c) (ix4 (tb t) (th t) 0 e) :=
  congrArg (fun q => kscale (kb (q * c448))) (vcol_blk m hO c t e)

variable (h0 : ∀ y, Bdd (X0 m c y)) (h1 : ∀ y, Bdd (X1 m c y)) (h2 : ∀ y, Bdd (X2 m c y))
include h0 h1 h2

/-- A point's block of the output is the output's. -/
theorem attB_at (r : Fin 128) (n : Fin 512) : attB m hO c t (ix3 0 r n) = kOUT m c (ix3 (tb t) (tp t r) ⟨512 * (th t).val + n.val, by omega⟩) := by
  have hr : attB m hO c t (ix3 0 r n) = outO (X3' m c) (codesQ (fun q => kinv (kb q)) (X0 m c)) (scalesQ (fun q => kscale (kb q)) (X0 m c)) (codesK (fun q => kinv (kb q)) (X1 m c))
      (scalesK (fun q => kscale (kb q)) (X1 m c)) (codesV (fun q => kinv (kb q)) (X2 m c)) (scalesV (fun q => kscale (kb q)) (X2 m c))
      (tb t) (tp t r) (th t) ⟨n.val / 128, by omega⟩ ⟨n.val % 128, by omega⟩ := by
    have e0 : attB m hO c t = ATT (ti t).val (fun j => X3' m c (ix2 (tb t) j)) (iblk m hO c 0 t) (KC (iblk m hO c 1 t)) (KSB (iblk m hO c 1 t)) (VT (iblk m hO c 2 t)) (VSB (iblk m hO c 2 t)) := by
      unfold attB
      rw [tword_eq, show ((grid0.coords t) 2).val = (ti t).val from coords_2 t]
    rw [e0]
    generalize hw : (firstOf (rowW (ti t).val) (fun j => X3' m c (ix2 (tb t) j))).toNat = w
    have e1 : ATT (ti t).val (fun j => X3' m c (ix2 (tb t) j)) (iblk m hO c 0 t) (KC (iblk m hO c 1 t)) (KSB (iblk m hO c 1 t)) (VT (iblk m hO c 2 t)) (VSB (iblk m hO c 2 t)) (ix3 0 r n)
      = att (XK (KC (iblk m hO c 1 t)) (KSB (iblk m hO c 1 t)) (XQL (iblk m hO c 0 t)) ⟨n.val / 128, by omega⟩ r)
        (MK (firstOf (posW (ti t).val r) (fun j => X3' m c (ix2 (tb t) j))) (posW (ti t).val r))
        (QS (iblk m hO c 0 t) (ix4 0 0 ⟨n.val / 128, by omega⟩ r) * sigma)
        (fun k : Fin 16384 => VT (iblk m hO c 2 t) (ix3 ⟨k.val / 128, by omega⟩ ⟨n.val % 128, by omega⟩ ⟨k.val % 128, by omega⟩))
        (VSB (iblk m hO c 2 t) (ix2 ⟨n.val % 128, by omega⟩ r)) (128 * ((firstOf (rowW (ti t).val) (fun j => X3' m c (ix2 (tb t) j))).toNat / 128)) (128 * ((ti t).val + 1)) := rfl
    rw [e1, xk_eq, vt_eq, vs_eq, QS_blk]
    have hrange := mask_range (fun j => X3' m c (ix2 (tb t) j)) (ti t) r
    rw [mask_eq m hO] at hrange ⊢
    refine join _ _ _ (tp t r) (mask_self _ _ _) _ _ _ _ _ (by omega) hrange (fun k => sum_real _ _ (fun d => code_real _ _) (fun d => code_real _ _))
      (fun k => ?_) ?_ (fun k => code_real _ _) ?_
    · exact scale_real' _ (fold_bdd (n := 128) 0 _ fun _ => h1 _)
    · exact scale_real _ (fold_bdd (n := 128) 0 _ fun _ => h0 _)
    · exact scale_real' _ (fold_bdd (n := 16384) 0 _ fun _ => h2 _)
  rw [hr]
  have a1 : (⟨(512 * (th t).val + n.val) / 512, by omega⟩ : Fin 8) = th t := Fin.ext (by show (512 * (th t).val + n.val) / 512 = (th t).val; omega)
  have a2 : (⟨(512 * (th t).val + n.val) / 128 % 4, by omega⟩ : Fin 4) = ⟨n.val / 128, by omega⟩ := Fin.ext (by show (512 * (th t).val + n.val) / 128 % 4 = n.val / 128; omega)
  have a3 : (⟨(512 * (th t).val + n.val) % 128, by omega⟩ : Fin 128) = ⟨n.val % 128, by omega⟩ := Fin.ext (by show (512 * (th t).val + n.val) % 128 = n.val % 128; omega)
  refine Eq.symm (Eq.trans (b := outO (X3' m c) (codesQ (fun q => kinv (kb q)) (X0 m c)) (scalesQ (fun q => kscale (kb q)) (X0 m c)) (codesK (fun q => kinv (kb q)) (X1 m c))
      (scalesK (fun q => kscale (kb q)) (X1 m c)) (codesV (fun q => kinv (kb q)) (X2 m c)) (scalesV (fun q => kscale (kb q)) (X2 m c))
      (tb t) (tp t r) ⟨(512 * (th t).val + n.val) / 512, by omega⟩ ⟨(512 * (th t).val + n.val) / 128 % 4, by omega⟩ ⟨(512 * (th t).val + n.val) % 128, by omega⟩) rfl ?_)
  rw [a1, a2, a3]

theorem attB_emb (y : S1x128x512.Idx) : attB m hO c t y = kOUT m c (ix3 (tb t) ⟨128 * (ti t).val + (y 1).val, by have h : (y 1).val < 128 := (y 1).isLt; omega⟩ ⟨512 * (th t).val + (y 2).val, by have h : (y 2).val < 512 := (y 2).isLt; omega⟩) := by
  obtain ⟨a, r, n, rfl⟩ := Cert.ReferenceIdeal.Val.ex3 y
  obtain rfl : a = 0 := Subsingleton.elim _ _
  exact attB_at m hO c t h0 h1 h2 r n

/-- The attention's array after the run. -/
theorem final_3 : (dats m hO 0 c).arrAt 3 (cfgM m hO).N = kOUT m c :=
  (dats m hO 0 c).arrAt_eq_of_emb 3 (kOUT m c) (fun t hf y => (attB_emb m hO c t h0 h1 h2 y).trans (congrArg (kOUT m c) (emb_3 m hO t y)).symm) (cover_3 m hO)

end

end Cert.KernelIdeal.Val

end
-- ==== Proof.VFrame.RefFinal.lean ====
/- The reference's attention output as a function of its codes and scales. -/
module

public import proofs.«01_k».proof.Proof.VFrame.RefOut

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Scale Cert.Spec Cert.Soft
open Cert.KernelIdeal.Gen (kcode c448)

theorem wV_at (e : FVec Ideal S2x1x8x128 .f32) (b : Fin 2) (h : Fin 8) (l : Fin 128) : k0_pay14 (F := Ideal) e (ix3 b h l) = Ideal.exp2 (e (ix4 b 0 h l)) := by
  pointwise [k0_pay14]
  rfl

theorem codesQ_at (x : AQ) (b : Fin 2) (r : Fin 16384) (h : Fin 8) (g : Fin 4) (d : Fin 128) :
    k0_pay3 (F := Ideal) x (ix5 b r h g d) = codesQ invR x (ix3 b r ⟨512 * h.val + 128 * g.val + d.val, head_lt h.isLt g.isLt d.isLt⟩) := by
  rw [pay9_at]
  refine congrArg₂ (fun k h => kcode (x (ix3 b r k)) (invR (rowQ x b r h * c448))) (Fin.ext ?_) (Fin.ext ?_)
  · show 128 * (4 * h.val + g.val) + d.val = 512 * h.val + 128 * g.val + d.val
    omega
  · show 4 * h.val + g.val = (512 * h.val + 128 * g.val + d.val) / 128
    omega

theorem scalesQ_at (x : AQ) (b : Fin 2) (r : Fin 16384) (h : Fin 8) (g : Fin 4) :
    k0_pay4 (F := Ideal) x (ix5 b r h g 0) = scalesQ scaleR x (ix4 b h g r) := by
  rw [pay10_eq, exp2_at, pay8_at]
  rfl

theorem codesK_at (x : AK) (b : Fin 2) (k : Fin 16384) (h : Fin 8) (d : Fin 128) :
    k0_pay8 (F := Ideal) (k0_pay5 x) (k0_pay6 x) (Scalar.ofBits .f32 0x3B124925#32) (ix4 b k h d) = codesK invR x (ix3 b k ⟨128 * h.val + d.val, lane_lt h.isLt d.isLt⟩) := by
  rw [pay14_at]
  have e : (⟨(128 * h.val + d.val) / 128, by omega⟩ : Fin 8) = h := Fin.ext (by show (128 * h.val + d.val) / 128 = h.val; omega)
  show _ = kcode (x (ix3 b k ⟨128 * h.val + d.val, lane_lt h.isLt d.isLt⟩)) (invR (rowK x b k ⟨(128 * h.val + d.val) / 128, by omega⟩ * c448))
  rw [e]

theorem scalesK_at (x : AK) (b : Fin 2) (k : Fin 16384) (h : Fin 8) :
    k0_pay9 (F := Ideal) (k0_pay6 x) (Scalar.ofBits .f32 0x3B124925#32) (ix4 b k h 0) = scalesK scaleR x (ix4 b h ⟨k.val / 128, by omega⟩ ⟨k.val % 128, by omega⟩) := by
  rw [pay15_eq, exp2_at, expK_at]
  refine congrArg (fun k => scaleR (rowK x b k h * c448)) (Fin.ext ?_)
  exact (Nat.div_add_mod k.val 128).symm

theorem codesV_at' (x : AK) (b : Fin 2) (k : Fin 16384) (h : Fin 8) (d : Fin 128) :
    k0_pay13 (F := Ideal) (k0_pay10 x) (k0_pay12 x) (ix4 b k h d) = codesV invR x (ix3 b k ⟨128 * h.val + d.val, lane_lt h.isLt d.isLt⟩) :=
  codesV_at x b k h d

theorem scalesV_at (x : AK) (b : Fin 2) (h : Fin 8) (l : Fin 128) :
    k0_pay14 (F := Ideal) (k0_pay11 x) (ix3 b h l) = scalesV scaleR x (ix4 b h 0 l) := by
  rw [wV_at, pay17_at]
  rfl

/-- The reference's output of its arguments. -/
theorem res_out (t : Vec Ideal S2x17 .i32) (x : AQ) (k v : AK) :
    k0_pay18 (F := Ideal) (k0_pay13 (k0_pay10 v) (k0_pay12 v)) (k0_pay14 (k0_pay11 v))
      (k0_pay17 t (k0_pay3 x) (k0_pay4 x) (k0_pay8 (k0_pay5 k) (k0_pay6 k) (Scalar.ofBits .f32 0x3B124925#32)) (k0_pay9 (k0_pay6 k) (Scalar.ofBits .f32 0x3B124925#32)))
    = OUT t (codesQ invR x) (scalesQ scaleR x) (codesK invR k) (scalesK scaleR k) (codesV invR v) (scalesV scaleR v) := funext fun y => by
  obtain ⟨b, r, n, rfl⟩ := ex3 y
  exact pay_out t _ _ _ _ _ _ b r n _ _ _ _ _ _ (codesQ_at x) (scalesQ_at x) (codesK_at k) (scalesK_at k) (codesV_at' v) (scalesV_at v)

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.PFrame.Frame
public import proofs.«01_k».proof.Proof.PFrame.Hyps
public import proofs.«01_k».proof.Proof.IFrame.Frame
public import proofs.«01_k».proof.Proof.IFrame.Hyps
public import proofs.«01_k».proof.Proof.VFrame.Last
public import proofs.«01_k».proof.Proof.VFrame.RefFinal
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.ShloMosaic.TcCoe Idealize.SL.Sem Cert.Spec Cert.ReferenceIdeal.Val

/-- The shape relations the precondition states. -/
theorem preFacts : Cert.Pre_finite.Facts := ⟨by decide, by decide, by decide⟩

theorem c_top : Ideal.ofBits .f32 0x7F7F0000#32 ≤ (((2 : ℝ) ^ (128 : ℤ) : ℝ) : EReal) := by
  have e : Ideal.ofBits .f32 0x7F7F0000#32 = ((255 * (2 : ℝ) ^ (120 : ℤ) : ℝ) : EReal) := by
    simp [Ideal.ofBits, Ideal.ieee, -EReal.coe_mul]; norm_num
  rw [e]
  exact EReal.coe_le_coe_iff.mpr (by norm_num)

/-- What the precondition says of one value. -/
theorem bdd_of (a : EReal) (h : FloatOps.cmpf (F := Ideal) (φ := .f32) .ole (max a (-a)) (Ideal.ofBits .f32 0x7F7F0000#32) = 1#1) : Bdd a := by
  refine le_trans ?_ c_top
  by_contra hn
  have e : FloatOps.cmpf (F := Ideal) (φ := .f32) .ole (max a (-a)) (Ideal.ofBits .f32 0x7F7F0000#32) = BitVec.ofBool (decide (max a (-a) ≤ Ideal.ofBits .f32 0x7F7F0000#32)) := rfl
  rw [e, decide_eq_false hn] at h
  exact absurd h (by decide)

section

variable (m : (ℓ : Loc Cert.KernelIdeal.nD Cert.KernelIdeal.τ Cert.KernelIdeal.sig) → Buf (Elt Ideal) ℓ)
variable (hm : Cert.Pre_KernelIdeal_finite (hPre_finite := preFacts) m) (c : Dev Cert.KernelIdeal.nD)
include hm

theorem bdd0 (y) : Bdd (Cert.KernelIdeal.Val.X0 m c y) := bdd_of _ (congrFun (hm c).1 y)
theorem bdd1 (y) : Bdd (Cert.KernelIdeal.Val.X1 m c y) := bdd_of _ (congrFun (hm c).2.1 y)
theorem bdd2 (y) : Bdd (Cert.KernelIdeal.Val.X2 m c y) := bdd_of _ (congrFun (hm c).2.2 y)

end

/-! ## The reference's results, each argument loaded whole -/

section

variable (a0 : Vec Ideal Cert.ReferenceIdeal.S2x17 .i32) (a1 : Vec Ideal Cert.ReferenceIdeal.S2x16384x4096 .bf16) (a2 a3 : Vec Ideal Cert.ReferenceIdeal.S2x16384x1024 .bf16)

open Cert.ReferenceIdeal.Gen

theorem p24 : k0_pay24 a0 a1 a2 a3 = k0_pay3 a1 := by
  unfold k0_pay24; rw [View.ld_unit_zero (S := Cert.ReferenceIdeal.S2x16384x4096) (by decide) _ a1]
theorem p25 : k0_pay25 a0 a1 a2 a3 = k0_pay4 a1 := by
  unfold k0_pay25; rw [View.ld_unit_zero (S := Cert.ReferenceIdeal.S2x16384x4096) (by decide) _ a1]
theorem p26 : k0_pay26 a0 a1 a2 a3 = k0_pay6 a2 := by
  unfold k0_pay26; rw [View.ld_unit_zero (S := Cert.ReferenceIdeal.S2x16384x1024) (by decide) _ a2]
theorem p27 : k0_pay27 a0 a1 a2 a3 = k0_pay8 (k0_pay5 a2) (k0_pay6 a2) (Scalar.ofBits .f32 0x3B124925#32) := by
  unfold k0_pay27; rw [p26, View.ld_unit_zero (S := Cert.ReferenceIdeal.S2x16384x1024) (by decide) _ a2]
theorem p28 : k0_pay28 a0 a1 a2 a3 = k0_pay9 (k0_pay6 a2) (Scalar.ofBits .f32 0x3B124925#32) := by
  unfold k0_pay28; rw [p26]
theorem p29 : k0_pay29 a0 a1 a2 a3 = k0_pay13 (k0_pay10 a3) (k0_pay12 a3) := by
  unfold k0_pay29; rw [View.ld_unit_zero (S := Cert.ReferenceIdeal.S2x16384x1024) (by decide) _ a3]
theorem p30 : k0_pay30 a0 a1 a2 a3 = k0_pay14 (k0_pay11 a3) := by
  unfold k0_pay30; rw [View.ld_unit_zero (S := Cert.ReferenceIdeal.S2x16384x1024) (by decide) _ a3]

theorem g4 : Cert.ReferenceIdeal.Value.G4 a0 a1 a2 a3
    = OUT a0 (codesQ invR a1) (scalesQ scaleR a1) (codesK invR a2) (scalesK scaleR a2) (codesV invR a3) (scalesV scaleR a3) := by
  unfold Cert.ReferenceIdeal.Value.G4
  rw [p24, p25, p27, p28, p29, p30]
  exact res_out a0 a1 a2 a3
theorem g5 : Cert.ReferenceIdeal.Value.G5 a0 a1 a2 a3 = codesQ invR a1 := by
  unfold Cert.ReferenceIdeal.Value.G5; rw [p24]; exact res_q a1
theorem g6 : Cert.ReferenceIdeal.Value.G6 a0 a1 a2 a3 = scalesQ scaleR a1 := by
  unfold Cert.ReferenceIdeal.Value.G6; rw [p25]; exact res_qs a1
theorem g7 : Cert.ReferenceIdeal.Value.G7 a0 a1 a2 a3 = codesK invR a2 := by
  unfold Cert.ReferenceIdeal.Value.G7; rw [p27]; exact res_k a2
theorem g8 : Cert.ReferenceIdeal.Value.G8 a0 a1 a2 a3 = scalesK scaleR a2 := by
  unfold Cert.ReferenceIdeal.Value.G8; rw [p28]; exact res_ks a2
theorem g9 : Cert.ReferenceIdeal.Value.G9 a0 a1 a2 a3 = codesV invR a3 := by
  unfold Cert.ReferenceIdeal.Value.G9; rw [p29]; exact res_v a3
theorem g10 : Cert.ReferenceIdeal.Value.G10 a0 a1 a2 a3 = scalesV scaleR a3 := by
  unfold Cert.ReferenceIdeal.Value.G10; rw [p30]; exact res_vs a3

end

/-- The output, the codes and the scales of the kernel are the reference's. -/
theorem values : Cert.algebraic_KernelIdeal_ReferenceIdeal_pre_finite (hKernelIdeal := Cert.KernelIdeal.Gen.facts)
    (hReferenceIdeal := Cert.ReferenceIdeal.Gen.facts) (hPre_finite := preFacts) := by
  intro m g m' g' hm hargs
  refine ⟨fun c => OUT (Cert.KernelIdeal.Val.X3' m c) (codesQ invR (Cert.KernelIdeal.Val.X0 m c)) (scalesQ scaleR (Cert.KernelIdeal.Val.X0 m c))
      (codesK invR (Cert.KernelIdeal.Val.X1 m c)) (scalesK scaleR (Cert.KernelIdeal.Val.X1 m c)) (codesV invR (Cert.KernelIdeal.Val.X2 m c)) (scalesV scaleR (Cert.KernelIdeal.Val.X2 m c)),
    fun c => codesQ invR (Cert.KernelIdeal.Val.X0 m c), fun c => scalesQ scaleR (Cert.KernelIdeal.Val.X0 m c),
    fun c => codesK invR (Cert.KernelIdeal.Val.X1 m c), fun c => scalesK scaleR (Cert.KernelIdeal.Val.X1 m c),
    fun c => codesV invR (Cert.KernelIdeal.Val.X2 m c), fun c => scalesV scaleR (Cert.KernelIdeal.Val.X2 m c), ?_, ?_⟩
  · have hO := Cert.KernelIdeal.Gen.ok m
    have hH := Cert.KernelIdeal.Gen.hyps m
    refine (θ_run _ _ _).mono (fun r h c => ?_) (θ_run_and (Cert.KernelIdeal.Val.run_blocks m g hO hH) (Cert.KernelIdeal.Val.unchanged m g hO hH))
    obtain ⟨h3, h4, h5, h6, h7, h8, h9⟩ := h.1 c
    have e3 := Cert.KernelIdeal.Val.final_3 m hO c (bdd0 m hm c) (bdd1 m hm c) (bdd2 m hm c)
    unfold Cert.KernelIdeal.Val.kOUT at e3
    rw [same_q _ (bdd0 m hm c), same_qs _ (bdd0 m hm c), same_k _ (bdd1 m hm c), same_ks _ (bdd1 m hm c), same_v _ (bdd2 m hm c), same_vs _ (bdd2 m hm c)] at e3
    exact ⟨h3.trans e3,
      h4.trans ((Cert.KernelIdeal.Val.final_4 m hO c).trans (same_q _ (bdd0 m hm c))),
      h5.trans ((Cert.KernelIdeal.Val.final_5 m hO c).trans (same_qs _ (bdd0 m hm c))),
      h6.trans ((Cert.KernelIdeal.Val.final_6 m hO c).trans (same_k _ (bdd1 m hm c))),
      h7.trans ((Cert.KernelIdeal.Val.final_7 m hO c).trans (same_ks _ (bdd1 m hm c))),
      h8.trans ((Cert.KernelIdeal.Val.final_8 m hO c).trans (same_v _ (bdd2 m hm c))),
      h9.trans ((Cert.KernelIdeal.Val.final_9 m hO c).trans (same_vs _ (bdd2 m hm c))), h.2 c⟩
  · refine (θ_run _ _ _).mono (fun r h c => ?_) (Cert.ReferenceIdeal.Value.run m' g')
    obtain ⟨h0, h1, h2, h3, h4, h5, h6, ha⟩ := h c
    obtain ⟨a0, a1, a2, a3⟩ := hargs c
    rw [g4, a0, a1, a2, a3] at h0
    exact ⟨h0, h1.trans ((g5 _ _ _ _).trans (congrArg (codesQ invR) a0)), h2.trans ((g6 _ _ _ _).trans (congrArg (scalesQ scaleR) a0)),
      h3.trans ((g7 _ _ _ _).trans (congrArg (codesK invR) a1)), h4.trans ((g8 _ _ _ _).trans (congrArg (scalesK scaleR) a1)),
      h5.trans ((g9 _ _ _ _).trans (congrArg (codesV invR) a2)), h6.trans ((g10 _ _ _ _).trans (congrArg (scalesV scaleR) a2)), ha⟩

theorem claim : Cert.Claim := ⟨Cert.Kernel.Gen.facts, Cert.KernelIdeal.Gen.facts, Cert.ReferenceIdeal.Gen.facts, preFacts,
  fun m g _ => Cert.Kernel.Gen.frame m g (Cert.Kernel.Gen.ok m) (Cert.Kernel.Gen.hyps m),
  fun m g _ => Cert.KernelIdeal.Gen.frame m g (Cert.KernelIdeal.Gen.ok m) (Cert.KernelIdeal.Gen.hyps m),
  fun m g _ => Cert.KernelIdeal.Gen.frame m g (Cert.KernelIdeal.Gen.ok m) (Cert.KernelIdeal.Gen.hyps m),
  fun m g _ => Cert.ReferenceIdeal.Gen.frame m g,
  fun m g _ => Cert.ReferenceIdeal.Gen.frame m g,
  IdealRules.named_const.statement Cert.KernelIdeal.κ "softmax_scale" .f32 0x3E0293EE#32 _ rfl,
  values⟩

end Cert.Proof

end
